-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10)
      ∧ r.2.mem ((c.tc : Thread Cert.Kernel21.nD Cert.Kernel21.τ).loc Cert.Kernel21.main_arg11) = m ((c.tc : Thread Cert.Kernel21.nD Cert.Kernel21.τ).loc Cert.Kernel21.main_arg11)
      ∧ r.2.mem ((c.tc : Thread Cert.Kernel21.nD Cert.Kernel21.τ).loc Cert.Kernel21.main_arg12) = m ((c.tc : Thread Cert.Kernel21.nD Cert.Kernel21.τ).loc Cert.Kernel21.main_arg12)
      ∧ r.2.mem ((c.tc : Thread Cert.Kernel21.nD Cert.Kernel21.τ).loc Cert.Kernel21.main_arg13) = m ((c.tc : Thread Cert.Kernel21.nD Cert.Kernel21.τ).loc Cert.Kernel21.main_arg13)
      ∧ r.2.mem ((c.tc : Thread Cert.Kernel21.nD Cert.Kernel21.τ).loc Cert.Kernel21.main_arg14) = m ((c.tc : Thread Cert.Kernel21.nD Cert.Kernel21.τ).loc Cert.Kernel21.main_arg14)
      ∧ r.2.mem ((c.tc : Thread Cert.Kernel21.nD Cert.Kernel21.τ).loc Cert.Kernel21.main_arg15) = m ((c.tc : Thread Cert.Kernel21.nD Cert.Kernel21.τ).loc Cert.Kernel21.main_arg15)
      ∧ r.2.mem ((c.tc : Thread Cert.Kernel21.nD Cert.Kernel21.τ).loc Cert.Kernel21.main_arg16) = m ((c.tc : Thread Cert.Kernel21.nD Cert.Kernel21.τ).loc Cert.Kernel21.main_arg16)
      ∧ r.2.mem ((c.tc : Thread Cert.Kernel21.nD Cert.Kernel21.τ).loc Cert.Kernel21.main_arg17) = m ((c.tc : Thread Cert.Kernel21.nD Cert.Kernel21.τ).loc Cert.Kernel21.main_arg17)
      ∧ r.2.mem ((c.tc : Thread Cert.Kernel21.nD Cert.Kernel21.τ).loc Cert.Kernel21.main_arg18) = m ((c.tc : Thread Cert.Kernel21.nD Cert.Kernel21.τ).loc Cert.Kernel21.main_arg18)
      ∧ r.2.mem ((c.tc : Thread Cert.Kernel21.nD Cert.Kernel21.τ).loc Cert.Kernel21.main_arg19) = m ((c.tc : Thread Cert.Kernel21.nD Cert.Kernel21.τ).loc Cert.Kernel21.main_arg19)
      ∧ r.2.mem ((c.tc : Thread Cert.Kernel21.nD Cert.Kernel21.τ).loc Cert.Kernel21.main_arg20) = m ((c.tc : Thread Cert.Kernel21.nD Cert.Kernel21.τ).loc Cert.Kernel21.main_arg20)
      ∧ r.2.mem ((c.tc : Thread Cert.Kernel21.nD Cert.Kernel21.τ).loc Cert.Kernel21.main_arg21) = m ((c.tc : Thread Cert.Kernel21.nD Cert.Kernel21.τ).loc Cert.Kernel21.main_arg21)
      ∧ r.2.mem ((c.tc : Thread Cert.Kernel21.nD Cert.Kernel21.τ).loc Cert.Kernel21.main_arg22) = m ((c.tc : Thread Cert.Kernel21.nD Cert.Kernel21.τ).loc Cert.Kernel21.main_arg22)
      ∧ r.2.mem ((c.tc : Thread Cert.Kernel21.nD Cert.Kernel21.τ).loc Cert.Kernel21.main_arg23) = m ((c.tc : Thread Cert.Kernel21.nD Cert.Kernel21.τ).loc Cert.Kernel21.main_arg23)
      ∧ r.2.mem ((c.tc : Thread Cert.Kernel21.nD Cert.Kernel21.τ).loc Cert.Kernel21.main_arg24) = m ((c.tc : Thread Cert.Kernel21.nD Cert.Kernel21.τ).loc Cert.Kernel21.main_arg24))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
      ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
      ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
      ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
      ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
      ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15)
      ∧ r.2.mem ((c.tc : Thread Cert.Kernel21Ideal.nD Cert.Kernel21Ideal.τ).loc Cert.Kernel21Ideal.main_arg16) = m ((c.tc : Thread Cert.Kernel21Ideal.nD Cert.Kernel21Ideal.τ).loc Cert.Kernel21Ideal.main_arg16)
      ∧ r.2.mem ((c.tc : Thread Cert.Kernel21Ideal.nD Cert.Kernel21Ideal.τ).loc Cert.Kernel21Ideal.main_arg17) = m ((c.tc : Thread Cert.Kernel21Ideal.nD Cert.Kernel21Ideal.τ).loc Cert.Kernel21Ideal.main_arg17)
      ∧ r.2.mem ((c.tc : Thread Cert.Kernel21Ideal.nD Cert.Kernel21Ideal.τ).loc Cert.Kernel21Ideal.main_arg18) = m ((c.tc : Thread Cert.Kernel21Ideal.nD Cert.Kernel21Ideal.τ).loc Cert.Kernel21Ideal.main_arg18)
      ∧ r.2.mem ((c.tc : Thread Cert.Kernel21Ideal.nD Cert.Kernel21Ideal.τ).loc Cert.Kernel21Ideal.main_arg19) = m ((c.tc : Thread Cert.Kernel21Ideal.nD Cert.Kernel21Ideal.τ).loc Cert.Kernel21Ideal.main_arg19)
      ∧ r.2.mem ((c.tc : Thread Cert.Kernel21Ideal.nD Cert.Kernel21Ideal.τ).loc Cert.Kernel21Ideal.main_arg20) = m ((c.tc : Thread Cert.Kernel21Ideal.nD Cert.Kernel21Ideal.τ).loc Cert.Kernel21Ideal.main_arg20)
      ∧ r.2.mem ((c.tc : Thread Cert.Kernel21Ideal.nD Cert.Kernel21Ideal.τ).loc Cert.Kernel21Ideal.main_arg21) = m ((c.tc : Thread Cert.Kernel21Ideal.nD Cert.Kernel21Ideal.τ).loc Cert.Kernel21Ideal.main_arg21)
      ∧ r.2.mem ((c.tc : Thread Cert.Kernel21Ideal.nD Cert.Kernel21Ideal.τ).loc Cert.Kernel21Ideal.main_arg22) = m ((c.tc : Thread Cert.Kernel21Ideal.nD Cert.Kernel21Ideal.τ).loc Cert.Kernel21Ideal.main_arg22)
      ∧ r.2.mem ((c.tc : Thread Cert.Kernel21Ideal.nD Cert.Kernel21Ideal.τ).loc Cert.Kernel21Ideal.main_arg23) = m ((c.tc : Thread Cert.Kernel21Ideal.nD Cert.Kernel21Ideal.τ).loc Cert.Kernel21Ideal.main_arg23)
      ∧ r.2.mem ((c.tc : Thread Cert.Kernel21Ideal.nD Cert.Kernel21Ideal.τ).loc Cert.Kernel21Ideal.main_arg24) = m ((c.tc : Thread Cert.Kernel21Ideal.nD Cert.Kernel21Ideal.τ).loc Cert.Kernel21Ideal.main_arg24))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10)
      ∧ r.2.mem ((c.tc : Thread Cert.Reference21Ideal.nD Cert.Reference21Ideal.τ).loc Cert.Reference21Ideal.main_arg11) = m ((c.tc : Thread Cert.Reference21Ideal.nD Cert.Reference21Ideal.τ).loc Cert.Reference21Ideal.main_arg11)
      ∧ r.2.mem ((c.tc : Thread Cert.Reference21Ideal.nD Cert.Reference21Ideal.τ).loc Cert.Reference21Ideal.main_arg12) = m ((c.tc : Thread Cert.Reference21Ideal.nD Cert.Reference21Ideal.τ).loc Cert.Reference21Ideal.main_arg12)
      ∧ r.2.mem ((c.tc : Thread Cert.Reference21Ideal.nD Cert.Reference21Ideal.τ).loc Cert.Reference21Ideal.main_arg13) = m ((c.tc : Thread Cert.Reference21Ideal.nD Cert.Reference21Ideal.τ).loc Cert.Reference21Ideal.main_arg13)
      ∧ r.2.mem ((c.tc : Thread Cert.Reference21Ideal.nD Cert.Reference21Ideal.τ).loc Cert.Reference21Ideal.main_arg14) = m ((c.tc : Thread Cert.Reference21Ideal.nD Cert.Reference21Ideal.τ).loc Cert.Reference21Ideal.main_arg14)
      ∧ r.2.mem ((c.tc : Thread Cert.Reference21Ideal.nD Cert.Reference21Ideal.τ).loc Cert.Reference21Ideal.main_arg15) = m ((c.tc : Thread Cert.Reference21Ideal.nD Cert.Reference21Ideal.τ).loc Cert.Reference21Ideal.main_arg15)
      ∧ r.2.mem ((c.tc : Thread Cert.Reference21Ideal.nD Cert.Reference21Ideal.τ).loc Cert.Reference21Ideal.main_arg16) = m ((c.tc : Thread Cert.Reference21Ideal.nD Cert.Reference21Ideal.τ).loc Cert.Reference21Ideal.main_arg16)
      ∧ r.2.mem ((c.tc : Thread Cert.Reference21Ideal.nD Cert.Reference21Ideal.τ).loc Cert.Reference21Ideal.main_arg17) = m ((c.tc : Thread Cert.Reference21Ideal.nD Cert.Reference21Ideal.τ).loc Cert.Reference21Ideal.main_arg17)
      ∧ r.2.mem ((c.tc : Thread Cert.Reference21Ideal.nD Cert.Reference21Ideal.τ).loc Cert.Reference21Ideal.main_arg18) = m ((c.tc : Thread Cert.Reference21Ideal.nD Cert.Reference21Ideal.τ).loc Cert.Reference21Ideal.main_arg18)
      ∧ r.2.mem ((c.tc : Thread Cert.Reference21Ideal.nD Cert.Reference21Ideal.τ).loc Cert.Reference21Ideal.main_arg19) = m ((c.tc : Thread Cert.Reference21Ideal.nD Cert.Reference21Ideal.τ).loc Cert.Reference21Ideal.main_arg19)
      ∧ r.2.mem ((c.tc : Thread Cert.Reference21Ideal.nD Cert.Reference21Ideal.τ).loc Cert.Reference21Ideal.main_arg20) = m ((c.tc : Thread Cert.Reference21Ideal.nD Cert.Reference21Ideal.τ).loc Cert.Reference21Ideal.main_arg20)
      ∧ r.2.mem ((c.tc : Thread Cert.Reference21Ideal.nD Cert.Reference21Ideal.τ).loc Cert.Reference21Ideal.main_arg21) = m ((c.tc : Thread Cert.Reference21Ideal.nD Cert.Reference21Ideal.τ).loc Cert.Reference21Ideal.main_arg21)
      ∧ r.2.mem ((c.tc : Thread Cert.Reference21Ideal.nD Cert.Reference21Ideal.τ).loc Cert.Reference21Ideal.main_arg22) = m ((c.tc : Thread Cert.Reference21Ideal.nD Cert.Reference21Ideal.τ).loc Cert.Reference21Ideal.main_arg22)
      ∧ r.2.mem ((c.tc : Thread Cert.Reference21Ideal.nD Cert.Reference21Ideal.τ).loc Cert.Reference21Ideal.main_arg23) = m ((c.tc : Thread Cert.Reference21Ideal.nD Cert.Reference21Ideal.τ).loc Cert.Reference21Ideal.main_arg23)
      ∧ r.2.mem ((c.tc : Thread Cert.Reference21Ideal.nD Cert.Reference21Ideal.τ).loc Cert.Reference21Ideal.main_arg24) = m ((c.tc : Thread Cert.Reference21Ideal.nD Cert.Reference21Ideal.τ).loc Cert.Reference21Ideal.main_arg24))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v115)) (v1 : (c : Dev Cert.KernelIdeal.nD) → Buf (Elt Ideal) ((c.tc : Thread Cert.KernelIdeal.nD Cert.KernelIdeal.τ).loc Cert.KernelIdeal.main_v118)) (v2 : (c : Dev Cert.KernelIdeal.nD) → Buf (Elt Ideal) ((c.tc : Thread Cert.KernelIdeal.nD Cert.KernelIdeal.τ).loc Cert.KernelIdeal.main_v121)) (v3 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_v121) = v2 c
          ∧ r.2.mem ((c.tc : Thread Cert.KernelIdeal.nD Cert.KernelIdeal.τ).loc Cert.KernelIdeal.main_v122) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v37) = v0 c
          ∧ r.2.mem ((c.tc : Thread Cert.Reference11Ideal.nD Cert.Reference11Ideal.τ).loc Cert.Reference11Ideal.main_v20) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v35) = v0 c
          ∧ r.2.mem ((c.tc : Thread Cert.Reference12Ideal.nD Cert.Reference12Ideal.τ).loc Cert.Reference12Ideal.main_v70) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_v53) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_v20) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)
      ∧ m' ((c.tc : Thread Cert.Reference21Ideal.nD Cert.Reference21Ideal.τ).loc Cert.Reference21Ideal.main_arg10) = m ((c.tc : Thread Cert.Kernel21Ideal.nD Cert.Kernel21Ideal.τ).loc Cert.Kernel21Ideal.main_arg10)
      ∧ m' ((c.tc : Thread Cert.Reference21Ideal.nD Cert.Reference21Ideal.τ).loc Cert.Reference21Ideal.main_arg11) = m ((c.tc : Thread Cert.Kernel21Ideal.nD Cert.Kernel21Ideal.τ).loc Cert.Kernel21Ideal.main_arg11)
      ∧ m' ((c.tc : Thread Cert.Reference21Ideal.nD Cert.Reference21Ideal.τ).loc Cert.Reference21Ideal.main_arg12) = m ((c.tc : Thread Cert.Kernel21Ideal.nD Cert.Kernel21Ideal.τ).loc Cert.Kernel21Ideal.main_arg12)
      ∧ m' ((c.tc : Thread Cert.Reference21Ideal.nD Cert.Reference21Ideal.τ).loc Cert.Reference21Ideal.main_arg13) = m ((c.tc : Thread Cert.Kernel21Ideal.nD Cert.Kernel21Ideal.τ).loc Cert.Kernel21Ideal.main_arg13)
      ∧ m' ((c.tc : Thread Cert.Reference21Ideal.nD Cert.Reference21Ideal.τ).loc Cert.Reference21Ideal.main_arg14) = m ((c.tc : Thread Cert.Kernel21Ideal.nD Cert.Kernel21Ideal.τ).loc Cert.Kernel21Ideal.main_arg14)
      ∧ m' ((c.tc : Thread Cert.Reference21Ideal.nD Cert.Reference21Ideal.τ).loc Cert.Reference21Ideal.main_arg15) = m ((c.tc : Thread Cert.Kernel21Ideal.nD Cert.Kernel21Ideal.τ).loc Cert.Kernel21Ideal.main_arg15)
      ∧ m' ((c.tc : Thread Cert.Reference21Ideal.nD Cert.Reference21Ideal.τ).loc Cert.Reference21Ideal.main_arg16) = m ((c.tc : Thread Cert.Kernel21Ideal.nD Cert.Kernel21Ideal.τ).loc Cert.Kernel21Ideal.main_arg16)
      ∧ m' ((c.tc : Thread Cert.Reference21Ideal.nD Cert.Reference21Ideal.τ).loc Cert.Reference21Ideal.main_arg17) = m ((c.tc : Thread Cert.Kernel21Ideal.nD Cert.Kernel21Ideal.τ).loc Cert.Kernel21Ideal.main_arg17)
      ∧ m' ((c.tc : Thread Cert.Reference21Ideal.nD Cert.Reference21Ideal.τ).loc Cert.Reference21Ideal.main_arg18) = m ((c.tc : Thread Cert.Kernel21Ideal.nD Cert.Kernel21Ideal.τ).loc Cert.Kernel21Ideal.main_arg18)
      ∧ m' ((c.tc : Thread Cert.Reference21Ideal.nD Cert.Reference21Ideal.τ).loc Cert.Reference21Ideal.main_arg19) = m ((c.tc : Thread Cert.Kernel21Ideal.nD Cert.Kernel21Ideal.τ).loc Cert.Kernel21Ideal.main_arg19)
      ∧ m' ((c.tc : Thread Cert.Reference21Ideal.nD Cert.Reference21Ideal.τ).loc Cert.Reference21Ideal.main_arg20) = m ((c.tc : Thread Cert.Kernel21Ideal.nD Cert.Kernel21Ideal.τ).loc Cert.Kernel21Ideal.main_arg20)
      ∧ m' ((c.tc : Thread Cert.Reference21Ideal.nD Cert.Reference21Ideal.τ).loc Cert.Reference21Ideal.main_arg21) = m ((c.tc : Thread Cert.Kernel21Ideal.nD Cert.Kernel21Ideal.τ).loc Cert.Kernel21Ideal.main_arg21)
      ∧ m' ((c.tc : Thread Cert.Reference21Ideal.nD Cert.Reference21Ideal.τ).loc Cert.Reference21Ideal.main_arg22) = m ((c.tc : Thread Cert.Kernel21Ideal.nD Cert.Kernel21Ideal.τ).loc Cert.Kernel21Ideal.main_arg22)
      ∧ m' ((c.tc : Thread Cert.Reference21Ideal.nD Cert.Reference21Ideal.τ).loc Cert.Reference21Ideal.main_arg23) = m ((c.tc : Thread Cert.Kernel21Ideal.nD Cert.Kernel21Ideal.τ).loc Cert.Kernel21Ideal.main_arg23)
      ∧ m' ((c.tc : Thread Cert.Reference21Ideal.nD Cert.Reference21Ideal.τ).loc Cert.Reference21Ideal.main_arg24) = m ((c.tc : Thread Cert.Kernel21Ideal.nD Cert.Kernel21Ideal.τ).loc Cert.Kernel21Ideal.main_arg24)) →
    ∃ (v0 : (c : Dev Cert.Kernel21Ideal.nD) → Buf (Elt Ideal) ((c.tc : Thread Cert.Kernel21Ideal.nD Cert.Kernel21Ideal.τ).loc Cert.Kernel21Ideal.main_v0_24)) (v1 : (c : Dev Cert.Kernel21Ideal.nD) → Buf (Elt Ideal) ((c.tc : Thread Cert.Kernel21Ideal.nD Cert.Kernel21Ideal.τ).loc Cert.Kernel21Ideal.main_v0_0)) (v2 : (c : Dev Cert.Kernel21Ideal.nD) → Buf (Elt Ideal) ((c.tc : Thread Cert.Kernel21Ideal.nD Cert.Kernel21Ideal.τ).loc Cert.Kernel21Ideal.main_v0_1)) (v3 : (c : Dev Cert.Kernel21Ideal.nD) → Buf (Elt Ideal) ((c.tc : Thread Cert.Kernel21Ideal.nD Cert.Kernel21Ideal.τ).loc Cert.Kernel21Ideal.main_v0_2)) (v4 : (c : Dev Cert.Kernel21Ideal.nD) → Buf (Elt Ideal) ((c.tc : Thread Cert.Kernel21Ideal.nD Cert.Kernel21Ideal.τ).loc Cert.Kernel21Ideal.main_v0_3)) (v5 : (c : Dev Cert.Kernel21Ideal.nD) → Buf (Elt Ideal) ((c.tc : Thread Cert.Kernel21Ideal.nD Cert.Kernel21Ideal.τ).loc Cert.Kernel21Ideal.main_v0_4)) (v6 : (c : Dev Cert.Kernel21Ideal.nD) → Buf (Elt Ideal) ((c.tc : Thread Cert.Kernel21Ideal.nD Cert.Kernel21Ideal.τ).loc Cert.Kernel21Ideal.main_v0_5)) (v7 : (c : Dev Cert.Kernel21Ideal.nD) → Buf (Elt Ideal) ((c.tc : Thread Cert.Kernel21Ideal.nD Cert.Kernel21Ideal.τ).loc Cert.Kernel21Ideal.main_v0_6)) (v8 : (c : Dev Cert.Kernel21Ideal.nD) → Buf (Elt Ideal) ((c.tc : Thread Cert.Kernel21Ideal.nD Cert.Kernel21Ideal.τ).loc Cert.Kernel21Ideal.main_v0_7)) (v9 : (c : Dev Cert.Kernel21Ideal.nD) → Buf (Elt Ideal) ((c.tc : Thread Cert.Kernel21Ideal.nD Cert.Kernel21Ideal.τ).loc Cert.Kernel21Ideal.main_v0_8)) (v10 : (c : Dev Cert.Kernel21Ideal.nD) → Buf (Elt Ideal) ((c.tc : Thread Cert.Kernel21Ideal.nD Cert.Kernel21Ideal.τ).loc Cert.Kernel21Ideal.main_v0_9)) (v11 : (c : Dev Cert.Kernel21Ideal.nD) → Buf (Elt Ideal) ((c.tc : Thread Cert.Kernel21Ideal.nD Cert.Kernel21Ideal.τ).loc Cert.Kernel21Ideal.main_v0_10)) (v12 : (c : Dev Cert.Kernel21Ideal.nD) → Buf (Elt Ideal) ((c.tc : Thread Cert.Kernel21Ideal.nD Cert.Kernel21Ideal.τ).loc Cert.Kernel21Ideal.main_v0_11)) (v13 : (c : Dev Cert.Kernel21Ideal.nD) → Buf (Elt Ideal) ((c.tc : Thread Cert.Kernel21Ideal.nD Cert.Kernel21Ideal.τ).loc Cert.Kernel21Ideal.main_v0_12)) (v14 : (c : Dev Cert.Kernel21Ideal.nD) → Buf (Elt Ideal) ((c.tc : Thread Cert.Kernel21Ideal.nD Cert.Kernel21Ideal.τ).loc Cert.Kernel21Ideal.main_v0_13)) (v15 : (c : Dev Cert.Kernel21Ideal.nD) → Buf (Elt Ideal) ((c.tc : Thread Cert.Kernel21Ideal.nD Cert.Kernel21Ideal.τ).loc Cert.Kernel21Ideal.main_v0_14)) (v16 : (c : Dev Cert.Kernel21Ideal.nD) → Buf (Elt Ideal) ((c.tc : Thread Cert.Kernel21Ideal.nD Cert.Kernel21Ideal.τ).loc Cert.Kernel21Ideal.main_v0_15)) (v17 : (c : Dev Cert.Kernel21Ideal.nD) → Buf (Elt Ideal) ((c.tc : Thread Cert.Kernel21Ideal.nD Cert.Kernel21Ideal.τ).loc Cert.Kernel21Ideal.main_v0_16)) (v18 : (c : Dev Cert.Kernel21Ideal.nD) → Buf (Elt Ideal) ((c.tc : Thread Cert.Kernel21Ideal.nD Cert.Kernel21Ideal.τ).loc Cert.Kernel21Ideal.main_v0_17)) (v19 : (c : Dev Cert.Kernel21Ideal.nD) → Buf (Elt Ideal) ((c.tc : Thread Cert.Kernel21Ideal.nD Cert.Kernel21Ideal.τ).loc Cert.Kernel21Ideal.main_v0_18)) (v20 : (c : Dev Cert.Kernel21Ideal.nD) → Buf (Elt Ideal) ((c.tc : Thread Cert.Kernel21Ideal.nD Cert.Kernel21Ideal.τ).loc Cert.Kernel21Ideal.main_v0_19)) (v21 : (c : Dev Cert.Kernel21Ideal.nD) → Buf (Elt Ideal) ((c.tc : Thread Cert.Kernel21Ideal.nD Cert.Kernel21Ideal.τ).loc Cert.Kernel21Ideal.main_v0_20)) (v22 : (c : Dev Cert.Kernel21Ideal.nD) → Buf (Elt Ideal) ((c.tc : Thread Cert.Kernel21Ideal.nD Cert.Kernel21Ideal.τ).loc Cert.Kernel21Ideal.main_v0_21)) (v23 : (c : Dev Cert.Kernel21Ideal.nD) → Buf (Elt Ideal) ((c.tc : Thread Cert.Kernel21Ideal.nD Cert.Kernel21Ideal.τ).loc Cert.Kernel21Ideal.main_v0_22)) (v24 : (c : Dev Cert.Kernel21Ideal.nD) → Buf (Elt Ideal) ((c.tc : Thread Cert.Kernel21Ideal.nD Cert.Kernel21Ideal.τ).loc Cert.Kernel21Ideal.main_v0_23)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_24) = v0 c
          ∧ r.2.mem ((c.tc : Thread Cert.Kernel21Ideal.nD Cert.Kernel21Ideal.τ).loc Cert.Kernel21Ideal.main_v0_0) = v1 c
          ∧ r.2.mem ((c.tc : Thread Cert.Kernel21Ideal.nD Cert.Kernel21Ideal.τ).loc Cert.Kernel21Ideal.main_v0_1) = v2 c
          ∧ r.2.mem ((c.tc : Thread Cert.Kernel21Ideal.nD Cert.Kernel21Ideal.τ).loc Cert.Kernel21Ideal.main_v0_2) = v3 c
          ∧ r.2.mem ((c.tc : Thread Cert.Kernel21Ideal.nD Cert.Kernel21Ideal.τ).loc Cert.Kernel21Ideal.main_v0_3) = v4 c
          ∧ r.2.mem ((c.tc : Thread Cert.Kernel21Ideal.nD Cert.Kernel21Ideal.τ).loc Cert.Kernel21Ideal.main_v0_4) = v5 c
          ∧ r.2.mem ((c.tc : Thread Cert.Kernel21Ideal.nD Cert.Kernel21Ideal.τ).loc Cert.Kernel21Ideal.main_v0_5) = v6 c
          ∧ r.2.mem ((c.tc : Thread Cert.Kernel21Ideal.nD Cert.Kernel21Ideal.τ).loc Cert.Kernel21Ideal.main_v0_6) = v7 c
          ∧ r.2.mem ((c.tc : Thread Cert.Kernel21Ideal.nD Cert.Kernel21Ideal.τ).loc Cert.Kernel21Ideal.main_v0_7) = v8 c
          ∧ r.2.mem ((c.tc : Thread Cert.Kernel21Ideal.nD Cert.Kernel21Ideal.τ).loc Cert.Kernel21Ideal.main_v0_8) = v9 c
          ∧ r.2.mem ((c.tc : Thread Cert.Kernel21Ideal.nD Cert.Kernel21Ideal.τ).loc Cert.Kernel21Ideal.main_v0_9) = v10 c
          ∧ r.2.mem ((c.tc : Thread Cert.Kernel21Ideal.nD Cert.Kernel21Ideal.τ).loc Cert.Kernel21Ideal.main_v0_10) = v11 c
          ∧ r.2.mem ((c.tc : Thread Cert.Kernel21Ideal.nD Cert.Kernel21Ideal.τ).loc Cert.Kernel21Ideal.main_v0_11) = v12 c
          ∧ r.2.mem ((c.tc : Thread Cert.Kernel21Ideal.nD Cert.Kernel21Ideal.τ).loc Cert.Kernel21Ideal.main_v0_12) = v13 c
          ∧ r.2.mem ((c.tc : Thread Cert.Kernel21Ideal.nD Cert.Kernel21Ideal.τ).loc Cert.Kernel21Ideal.main_v0_13) = v14 c
          ∧ r.2.mem ((c.tc : Thread Cert.Kernel21Ideal.nD Cert.Kernel21Ideal.τ).loc Cert.Kernel21Ideal.main_v0_14) = v15 c
          ∧ r.2.mem ((c.tc : Thread Cert.Kernel21Ideal.nD Cert.Kernel21Ideal.τ).loc Cert.Kernel21Ideal.main_v0_15) = v16 c
          ∧ r.2.mem ((c.tc : Thread Cert.Kernel21Ideal.nD Cert.Kernel21Ideal.τ).loc Cert.Kernel21Ideal.main_v0_16) = v17 c
          ∧ r.2.mem ((c.tc : Thread Cert.Kernel21Ideal.nD Cert.Kernel21Ideal.τ).loc Cert.Kernel21Ideal.main_v0_17) = v18 c
          ∧ r.2.mem ((c.tc : Thread Cert.Kernel21Ideal.nD Cert.Kernel21Ideal.τ).loc Cert.Kernel21Ideal.main_v0_18) = v19 c
          ∧ r.2.mem ((c.tc : Thread Cert.Kernel21Ideal.nD Cert.Kernel21Ideal.τ).loc Cert.Kernel21Ideal.main_v0_19) = v20 c
          ∧ r.2.mem ((c.tc : Thread Cert.Kernel21Ideal.nD Cert.Kernel21Ideal.τ).loc Cert.Kernel21Ideal.main_v0_20) = v21 c
          ∧ r.2.mem ((c.tc : Thread Cert.Kernel21Ideal.nD Cert.Kernel21Ideal.τ).loc Cert.Kernel21Ideal.main_v0_21) = v22 c
          ∧ r.2.mem ((c.tc : Thread Cert.Kernel21Ideal.nD Cert.Kernel21Ideal.τ).loc Cert.Kernel21Ideal.main_v0_22) = v23 c
          ∧ r.2.mem ((c.tc : Thread Cert.Kernel21Ideal.nD Cert.Kernel21Ideal.τ).loc Cert.Kernel21Ideal.main_v0_23) = v24 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
          ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
          ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
          ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
          ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
          ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
          ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15)
          ∧ r.2.mem ((c.tc : Thread Cert.Kernel21Ideal.nD Cert.Kernel21Ideal.τ).loc Cert.Kernel21Ideal.main_arg16) = m ((c.tc : Thread Cert.Kernel21Ideal.nD Cert.Kernel21Ideal.τ).loc Cert.Kernel21Ideal.main_arg16)
          ∧ r.2.mem ((c.tc : Thread Cert.Kernel21Ideal.nD Cert.Kernel21Ideal.τ).loc Cert.Kernel21Ideal.main_arg17) = m ((c.tc : Thread Cert.Kernel21Ideal.nD Cert.Kernel21Ideal.τ).loc Cert.Kernel21Ideal.main_arg17)
          ∧ r.2.mem ((c.tc : Thread Cert.Kernel21Ideal.nD Cert.Kernel21Ideal.τ).loc Cert.Kernel21Ideal.main_arg18) = m ((c.tc : Thread Cert.Kernel21Ideal.nD Cert.Kernel21Ideal.τ).loc Cert.Kernel21Ideal.main_arg18)
          ∧ r.2.mem ((c.tc : Thread Cert.Kernel21Ideal.nD Cert.Kernel21Ideal.τ).loc Cert.Kernel21Ideal.main_arg19) = m ((c.tc : Thread Cert.Kernel21Ideal.nD Cert.Kernel21Ideal.τ).loc Cert.Kernel21Ideal.main_arg19)
          ∧ r.2.mem ((c.tc : Thread Cert.Kernel21Ideal.nD Cert.Kernel21Ideal.τ).loc Cert.Kernel21Ideal.main_arg20) = m ((c.tc : Thread Cert.Kernel21Ideal.nD Cert.Kernel21Ideal.τ).loc Cert.Kernel21Ideal.main_arg20)
          ∧ r.2.mem ((c.tc : Thread Cert.Kernel21Ideal.nD Cert.Kernel21Ideal.τ).loc Cert.Kernel21Ideal.main_arg21) = m ((c.tc : Thread Cert.Kernel21Ideal.nD Cert.Kernel21Ideal.τ).loc Cert.Kernel21Ideal.main_arg21)
          ∧ r.2.mem ((c.tc : Thread Cert.Kernel21Ideal.nD Cert.Kernel21Ideal.τ).loc Cert.Kernel21Ideal.main_arg22) = m ((c.tc : Thread Cert.Kernel21Ideal.nD Cert.Kernel21Ideal.τ).loc Cert.Kernel21Ideal.main_arg22)
          ∧ r.2.mem ((c.tc : Thread Cert.Kernel21Ideal.nD Cert.Kernel21Ideal.τ).loc Cert.Kernel21Ideal.main_arg23) = m ((c.tc : Thread Cert.Kernel21Ideal.nD Cert.Kernel21Ideal.τ).loc Cert.Kernel21Ideal.main_arg23)
          ∧ r.2.mem ((c.tc : Thread Cert.Kernel21Ideal.nD Cert.Kernel21Ideal.τ).loc Cert.Kernel21Ideal.main_arg24) = m ((c.tc : Thread Cert.Kernel21Ideal.nD Cert.Kernel21Ideal.τ).loc Cert.Kernel21Ideal.main_arg24))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_v5) = v1 c
          ∧ r.2.mem ((c.tc : Thread Cert.Reference21Ideal.nD Cert.Reference21Ideal.τ).loc Cert.Reference21Ideal.main_v29) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_v16) = v4 c
          ∧ r.2.mem ((c.tc : Thread Cert.Reference21Ideal.nD Cert.Reference21Ideal.τ).loc Cert.Reference21Ideal.main_v30) = v5 c
          ∧ r.2.mem ((c.tc : Thread Cert.Reference21Ideal.nD Cert.Reference21Ideal.τ).loc Cert.Reference21Ideal.main_v54) = v6 c
          ∧ r.2.mem ((c.tc : Thread Cert.Reference21Ideal.nD Cert.Reference21Ideal.τ).loc Cert.Reference21Ideal.main_v35) = v7 c
          ∧ r.2.mem ((c.tc : Thread Cert.Reference21Ideal.nD Cert.Reference21Ideal.τ).loc Cert.Reference21Ideal.main_v41) = v8 c
          ∧ r.2.mem ((c.tc : Thread Cert.Reference21Ideal.nD Cert.Reference21Ideal.τ).loc Cert.Reference21Ideal.main_v55) = v9 c
          ∧ r.2.mem ((c.tc : Thread Cert.Reference21Ideal.nD Cert.Reference21Ideal.τ).loc Cert.Reference21Ideal.main_v79) = v10 c
          ∧ r.2.mem ((c.tc : Thread Cert.Reference21Ideal.nD Cert.Reference21Ideal.τ).loc Cert.Reference21Ideal.main_v60) = v11 c
          ∧ r.2.mem ((c.tc : Thread Cert.Reference21Ideal.nD Cert.Reference21Ideal.τ).loc Cert.Reference21Ideal.main_v66) = v12 c
          ∧ r.2.mem ((c.tc : Thread Cert.Reference21Ideal.nD Cert.Reference21Ideal.τ).loc Cert.Reference21Ideal.main_v80) = v13 c
          ∧ r.2.mem ((c.tc : Thread Cert.Reference21Ideal.nD Cert.Reference21Ideal.τ).loc Cert.Reference21Ideal.main_v104) = v14 c
          ∧ r.2.mem ((c.tc : Thread Cert.Reference21Ideal.nD Cert.Reference21Ideal.τ).loc Cert.Reference21Ideal.main_v85) = v15 c
          ∧ r.2.mem ((c.tc : Thread Cert.Reference21Ideal.nD Cert.Reference21Ideal.τ).loc Cert.Reference21Ideal.main_v91) = v16 c
          ∧ r.2.mem ((c.tc : Thread Cert.Reference21Ideal.nD Cert.Reference21Ideal.τ).loc Cert.Reference21Ideal.main_v105) = v17 c
          ∧ r.2.mem ((c.tc : Thread Cert.Reference21Ideal.nD Cert.Reference21Ideal.τ).loc Cert.Reference21Ideal.main_v129) = v18 c
          ∧ r.2.mem ((c.tc : Thread Cert.Reference21Ideal.nD Cert.Reference21Ideal.τ).loc Cert.Reference21Ideal.main_v110) = v19 c
          ∧ r.2.mem ((c.tc : Thread Cert.Reference21Ideal.nD Cert.Reference21Ideal.τ).loc Cert.Reference21Ideal.main_v116) = v20 c
          ∧ r.2.mem ((c.tc : Thread Cert.Reference21Ideal.nD Cert.Reference21Ideal.τ).loc Cert.Reference21Ideal.main_v130) = v21 c
          ∧ r.2.mem ((c.tc : Thread Cert.Reference21Ideal.nD Cert.Reference21Ideal.τ).loc Cert.Reference21Ideal.main_v154) = v22 c
          ∧ r.2.mem ((c.tc : Thread Cert.Reference21Ideal.nD Cert.Reference21Ideal.τ).loc Cert.Reference21Ideal.main_v135) = v23 c
          ∧ r.2.mem ((c.tc : Thread Cert.Reference21Ideal.nD Cert.Reference21Ideal.τ).loc Cert.Reference21Ideal.main_v141) = v24 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9)
          ∧ r.2.mem ((c.tc : Thread Cert.Reference21Ideal.nD Cert.Reference21Ideal.τ).loc Cert.Reference21Ideal.main_arg10) = m' ((c.tc : Thread Cert.Reference21Ideal.nD Cert.Reference21Ideal.τ).loc Cert.Reference21Ideal.main_arg10)
          ∧ r.2.mem ((c.tc : Thread Cert.Reference21Ideal.nD Cert.Reference21Ideal.τ).loc Cert.Reference21Ideal.main_arg11) = m' ((c.tc : Thread Cert.Reference21Ideal.nD Cert.Reference21Ideal.τ).loc Cert.Reference21Ideal.main_arg11)
          ∧ r.2.mem ((c.tc : Thread Cert.Reference21Ideal.nD Cert.Reference21Ideal.τ).loc Cert.Reference21Ideal.main_arg12) = m' ((c.tc : Thread Cert.Reference21Ideal.nD Cert.Reference21Ideal.τ).loc Cert.Reference21Ideal.main_arg12)
          ∧ r.2.mem ((c.tc : Thread Cert.Reference21Ideal.nD Cert.Reference21Ideal.τ).loc Cert.Reference21Ideal.main_arg13) = m' ((c.tc : Thread Cert.Reference21Ideal.nD Cert.Reference21Ideal.τ).loc Cert.Reference21Ideal.main_arg13)
          ∧ r.2.mem ((c.tc : Thread Cert.Reference21Ideal.nD Cert.Reference21Ideal.τ).loc Cert.Reference21Ideal.main_arg14) = m' ((c.tc : Thread Cert.Reference21Ideal.nD Cert.Reference21Ideal.τ).loc Cert.Reference21Ideal.main_arg14)
          ∧ r.2.mem ((c.tc : Thread Cert.Reference21Ideal.nD Cert.Reference21Ideal.τ).loc Cert.Reference21Ideal.main_arg15) = m' ((c.tc : Thread Cert.Reference21Ideal.nD Cert.Reference21Ideal.τ).loc Cert.Reference21Ideal.main_arg15)
          ∧ r.2.mem ((c.tc : Thread Cert.Reference21Ideal.nD Cert.Reference21Ideal.τ).loc Cert.Reference21Ideal.main_arg16) = m' ((c.tc : Thread Cert.Reference21Ideal.nD Cert.Reference21Ideal.τ).loc Cert.Reference21Ideal.main_arg16)
          ∧ r.2.mem ((c.tc : Thread Cert.Reference21Ideal.nD Cert.Reference21Ideal.τ).loc Cert.Reference21Ideal.main_arg17) = m' ((c.tc : Thread Cert.Reference21Ideal.nD Cert.Reference21Ideal.τ).loc Cert.Reference21Ideal.main_arg17)
          ∧ r.2.mem ((c.tc : Thread Cert.Reference21Ideal.nD Cert.Reference21Ideal.τ).loc Cert.Reference21Ideal.main_arg18) = m' ((c.tc : Thread Cert.Reference21Ideal.nD Cert.Reference21Ideal.τ).loc Cert.Reference21Ideal.main_arg18)
          ∧ r.2.mem ((c.tc : Thread Cert.Reference21Ideal.nD Cert.Reference21Ideal.τ).loc Cert.Reference21Ideal.main_arg19) = m' ((c.tc : Thread Cert.Reference21Ideal.nD Cert.Reference21Ideal.τ).loc Cert.Reference21Ideal.main_arg19)
          ∧ r.2.mem ((c.tc : Thread Cert.Reference21Ideal.nD Cert.Reference21Ideal.τ).loc Cert.Reference21Ideal.main_arg20) = m' ((c.tc : Thread Cert.Reference21Ideal.nD Cert.Reference21Ideal.τ).loc Cert.Reference21Ideal.main_arg20)
          ∧ r.2.mem ((c.tc : Thread Cert.Reference21Ideal.nD Cert.Reference21Ideal.τ).loc Cert.Reference21Ideal.main_arg21) = m' ((c.tc : Thread Cert.Reference21Ideal.nD Cert.Reference21Ideal.τ).loc Cert.Reference21Ideal.main_arg21)
          ∧ r.2.mem ((c.tc : Thread Cert.Reference21Ideal.nD Cert.Reference21Ideal.τ).loc Cert.Reference21Ideal.main_arg22) = m' ((c.tc : Thread Cert.Reference21Ideal.nD Cert.Reference21Ideal.τ).loc Cert.Reference21Ideal.main_arg22)
          ∧ r.2.mem ((c.tc : Thread Cert.Reference21Ideal.nD Cert.Reference21Ideal.τ).loc Cert.Reference21Ideal.main_arg23) = m' ((c.tc : Thread Cert.Reference21Ideal.nD Cert.Reference21Ideal.τ).loc Cert.Reference21Ideal.main_arg23)
          ∧ r.2.mem ((c.tc : Thread Cert.Reference21Ideal.nD Cert.Reference21Ideal.τ).loc Cert.Reference21Ideal.main_arg24) = m' ((c.tc : Thread Cert.Reference21Ideal.nD Cert.Reference21Ideal.τ).loc Cert.Reference21Ideal.main_arg24))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  bcast_S_S4096x8 : S_.BroadcastsInDim S4096x8 (![] : Fin 0 → Fin S4096x8.rank)

variable [Facts]

def fn {F : FTy → Type} [FloatOps F] (main_arg0 : FVec F S4096x512 .bf16) (main_arg1 : FVec F S4096x512 .bf16) (main_arg2 : FVec F S4096x512 .bf16) (main_arg3 : FVec F S4096x8 .f32) (main_arg4 : FVec F S4096x512 .bf16) : IVec S4096x512 1 × IVec S4096x512 1 × IVec S4096x512 1 × IVec S4096x8 1 × IVec S4096x512 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_v3 : FVec F S4096x512 .bf16 := Host.absf main_arg1
  let main_cst_0 : FVec F S_ .bf16 := constant S_ .bf16 0x7F80#16
  let main_v4 : FVec F S4096x512 .bf16 := broadcastInDim S4096x512 ![] bcast_S_S4096x512 main_cst_0
  let main_v5 : IVec S4096x512 1 := cmpf .olt main_v3 main_v4
  let main_v6 : FVec F S4096x512 .bf16 := Host.absf main_arg2
  let main_cst_1 : FVec F S_ .bf16 := constant S_ .bf16 0x7F80#16
  let main_v7 : FVec F S4096x512 .bf16 := broadcastInDim S4096x512 ![] bcast_S_S4096x512 main_cst_1
  let main_v8 : IVec S4096x512 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_v12 : FVec F S4096x512 .bf16 := Host.absf main_arg4
  let main_cst_3 : FVec F S_ .bf16 := constant S_ .bf16 0x7F80#16
  let main_v13 : FVec F S4096x512 .bf16 := broadcastInDim S4096x512 ![] bcast_S_S4096x512 main_cst_3
  let main_v14 : IVec S4096x512 1 := cmpf .olt main_v12 main_v13
  (main_v2, main_v5, main_v8, main_v11, main_v14)
-- ==== Kernel.lean ====
abbrev S4096x512 : Shape := ⟨2, ![4096, 512]⟩
abbrev S4096x8 : Shape := ⟨2, ![4096, 8]⟩
abbrev S36 : Shape := ⟨1, ![36]⟩
abbrev S4096x8x64 : Shape := ⟨3, ![4096, 8, 64]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x64x4096 : Shape := ⟨3, ![8, 64, 4096]⟩
abbrev S4096x8x1 : Shape := ⟨3, ![4096, 8, 1]⟩
abbrev S4096x8x3 : Shape := ⟨3, ![4096, 8, 3]⟩
abbrev S4096x8x58 : Shape := ⟨3, ![4096, 8, 58]⟩
abbrev S4096x8x128 : Shape := ⟨3, ![4096, 8, 128]⟩
abbrev S4096x1024 : Shape := ⟨2, ![4096, 1024]⟩
abbrev S4096x8x61 : Shape := ⟨3, ![4096, 8, 61]⟩
abbrev S512x512 : Shape := ⟨2, ![512, 512]⟩
abbrev S1 : Shape := ⟨1, ![1]⟩
abbrev S512x128 : Shape := ⟨2, ![512, 128]⟩
abbrev S256x128 : Shape := ⟨2, ![256, 128]⟩
abbrev S256x256 : Shape := ⟨2, ![256, 256]⟩
abbrev S256x512 : Shape := ⟨2, ![256, 512]⟩

abbrev nBuf : Space → Nat
  | .hbm => 150
  | .vmem => 14
  | .smem => 2
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x8, .f32⟩
  | 4 => ⟨S4096x512, .bf16⟩
  | 5 => ⟨S4096x8x64, .bf16⟩
  | 6 => ⟨S4096x8x64, .bf16⟩
  | 7 => ⟨S4096x8x64, .bf16⟩
  | 8 => ⟨S4096x8x64, .bf16⟩
  | 9 => ⟨S_, .f32⟩
  | 10 => ⟨S_, .f32⟩
  | 11 => ⟨S4096x8, .f32⟩
  | 12 => ⟨S8x4096x4096, .f32⟩
  | 13 => ⟨S_, .f32⟩
  | 14 => ⟨S8x4096x4096, .f32⟩
  | 15 => ⟨S8x4096x4096, .f32⟩
  | 16 => ⟨S8x4096, .f32⟩
  | 17 => ⟨S8x4096x1, .f32⟩
  | 18 => ⟨S8x4096x4096, .f32⟩
  | 19 => ⟨S8x4096x4096, .f32⟩
  | 20 => ⟨S8x4096, .f32⟩
  | 21 => ⟨S8x1x4096, .f32⟩
  | 22 => ⟨S8x4096x4096, .f32⟩
  | 23 => ⟨S8x4096x4096, .f32⟩
  | 24 => ⟨S4096, .i32⟩
  | 25 => ⟨S1x4096, .i32⟩
  | 26 => ⟨S4096x1, .i32⟩
  | 27 => ⟨S4096x4096, .i32⟩
  | 28 => ⟨S4096x4096, .i32⟩
  | 29 => ⟨S4096x4096, .i1⟩
  | 30 => ⟨S1x4096x4096, .i1⟩
  | 31 => ⟨S_, .f32⟩
  | 32 => ⟨S_, .f32⟩
  | 33 => ⟨S8x4096x4096, .i1⟩
  | 34 => ⟨S8x4096x4096, .f32⟩
  | 35 => ⟨S8x4096x4096, .f32⟩
  | 36 => ⟨S_, .f32⟩
  | 37 => ⟨S8x4096, .f32⟩
  | 38 => ⟨S8x4096x1, .f32⟩
  | 39 => ⟨S8x4096x4096, .f32⟩
  | 40 => ⟨S8x4096x4096, .f32⟩
  | 41 => ⟨S8x4096x4096, .f32⟩
  | 42 => ⟨S_, .f32⟩
  | 43 => ⟨S8x4096, .f32⟩
  | 44 => ⟨S8x4096x1, .f32⟩
  | 45 => ⟨S8x4096x4096, .f32⟩
  | 46 => ⟨S8x4096x4096, .f32⟩
  | 47 => ⟨S4096x8x64, .f32⟩
  | 48 => ⟨S8x64x4096, .f32⟩
  | 49 => ⟨S4096x8x64, .f32⟩
  | 50 => ⟨S8x4096, .f32⟩
  | 51 => ⟨S8x4096, .f32⟩
  | 52 => ⟨S4096x8, .f32⟩
  | 53 => ⟨S4096x8x64, .f32⟩
  | 54 => ⟨S4096x8x64, .f32⟩
  | 55 => ⟨S_, .f32⟩
  | 56 => ⟨S4096x8, .f32⟩
  | 57 => ⟨S4096x8x64, .f32⟩
  | 58 => ⟨S_, .f32⟩
  | 59 => ⟨S4096x8x64, .f32⟩
  | 60 => ⟨S4096x8x64, .f32⟩
  | 61 => ⟨S4096x8x64, .bf16⟩
  | 62 => ⟨S4096x8, .f32⟩
  | 63 => ⟨S4096x8, .bf16⟩
  | 64 => ⟨S4096x8, .f32⟩
  | 65 => ⟨S4096x8, .f32⟩
  | 66 => ⟨S4096x8, .bf16⟩
  | 67 => ⟨S4096x8, .f32⟩
  | 68 => ⟨S4096x8, .f32⟩
  | 69 => ⟨S4096x8, .bf16⟩
  | 70 => ⟨S4096x8, .f32⟩
  | 71 => ⟨S4096x8x1, .f32⟩
  | 72 => ⟨S4096x8x1, .f32⟩
  | 73 => ⟨S4096x8x1, .f32⟩
  | 74 => ⟨S4096x8x3, .f32⟩
  | 75 => ⟨S4096x8x3, .bf16⟩
  | 76 => ⟨S_, .bf16⟩
  | 77 => ⟨S4096x8x3, .bf16⟩
  | 78 => ⟨S_, .bf16⟩
  | 79 => ⟨S4096x8x58, .bf16⟩
  | 80 => ⟨S4096x8x128, .bf16⟩
  | 81 => ⟨S4096x1024, .bf16⟩
  | 82 => ⟨S_, .bf16⟩
  | 83 => ⟨S4096x8x3, .bf16⟩
  | 84 => ⟨S4096x8, .bf16⟩
  | 85 => ⟨S4096x8, .f32⟩
  | 86 => ⟨S4096x8, .f32⟩
  | 87 => ⟨S4096x8, .bf16⟩
  | 88 => ⟨S4096x8, .f32⟩
  | 89 => ⟨S4096x8, .f32⟩
  | 90 => ⟨S4096x8, .bf16⟩
  | 91 => ⟨S4096x8, .f32⟩
  | 92 => ⟨S4096x8x1, .f32⟩
  | 93 => ⟨S4096x8x1, .f32⟩
  | 94 => ⟨S4096x8x1, .f32⟩
  | 95 => ⟨S4096x8x3, .f32⟩
  | 96 => ⟨S4096x8x3, .f32⟩
  | 97 => ⟨S4096x8x3, .bf16⟩
  | 98 => ⟨S_, .bf16⟩
  | 99 => ⟨S4096x8x58, .bf16⟩
  | 100 => ⟨S4096x8x128, .bf16⟩
  | 101 => ⟨S4096x1024, .bf16⟩
  | 102 => ⟨S_, .bf16⟩
  | 103 => ⟨S4096x8x64, .bf16⟩
  | 104 => ⟨S4096x8x128, .bf16⟩
  | 105 => ⟨S4096x1024, .bf16⟩
  | 106 => ⟨S4096x8, .f32⟩
  | 107 => ⟨S4096x8, .bf16⟩
  | 108 => ⟨S4096x8, .f32⟩
  | 109 => ⟨S4096x8, .f32⟩
  | 110 => ⟨S4096x8, .bf16⟩
  | 111 => ⟨S4096x8, .f32⟩
  | 112 => ⟨S4096x8, .f32⟩
  | 113 => ⟨S4096x8, .bf16⟩
  | 114 => ⟨S4096x8, .f32⟩
  | 115 => ⟨S4096x8x1, .f32⟩
  | 116 => ⟨S4096x8x1, .f32⟩
  | 117 => ⟨S4096x8x1, .f32⟩
  | 118 => ⟨S4096x8x3, .f32⟩
  | 119 => ⟨S4096x8x3, .bf16⟩
  | 120 => ⟨S_, .bf16⟩
  | 121 => ⟨S4096x8x61, .bf16⟩
  | 122 => ⟨S4096x8x128, .bf16⟩
  | 123 => ⟨S4096x1024, .bf16⟩
  | 124 => ⟨S4096x1024, .f32⟩
  | 125 => ⟨S4096x1024, .f32⟩
  | 126 => ⟨S4096x1024, .f32⟩
  | 127 => ⟨S4096x8x128, .f32⟩
  | _ => ⟨S4096x512, .bf16⟩

abbrev hbmTy0_1 (i : Nat) : BufTy := match i % 128 with
  | 0 => ⟨S4096x8x128, .f32⟩
  | 1 => ⟨S4096x8x128, .f32⟩
  | 2 => ⟨S4096x8x1, .f32⟩
  | 3 => ⟨S4096x8, .f32⟩
  | 4 => ⟨S4096x8x1, .f32⟩
  | 5 => ⟨S4096x8, .f32⟩
  | 6 => ⟨S4096x8, .f32⟩
  | 7 => ⟨S4096x8x64, .f32⟩
  | 8 => ⟨S_, .f32⟩
  | 9 => ⟨S4096x8x64, .f32⟩
  | 10 => ⟨S4096x8x64, .f32⟩
  | 11 => ⟨S4096x512, .f32⟩
  | 12 => ⟨S4096x512, .bf16⟩
  | 13 => ⟨S4096x8x64, .f32⟩
  | 14 => ⟨S4096x512, .f32⟩
  | 15 => ⟨S4096x512, .bf16⟩
  | 16 => ⟨S4096x8x64, .f32⟩
  | 17 => ⟨S4096x512, .f32⟩
  | 18 => ⟨S4096x512, .bf16⟩
  | 19 => ⟨S_, .f32⟩
  | 20 => ⟨S_, .f32⟩
  | 21 => ⟨S4096x8, .f32⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4096x512, .f32⟩
  | .local _ .vmem, ⟨9, _⟩ => ⟨S4096x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .smem, ⟨0, _⟩ => ⟨S36, .i32⟩
  | .local _ .smem, ⟨1, _⟩ => ⟨S36, .i32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_9 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_11 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102_0 : Ref sig .tc := ⟨.hbm, 124, rfl⟩
abbrev main_v102_1 : Ref sig .tc := ⟨.hbm, 125, rfl⟩
abbrev main_v102_2 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_12 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_call2_cst : Ref sig .tc := ⟨.hbm, 147, rfl⟩
abbrev main_call2_v0 : Ref sig .tc := ⟨.hbm, 148, rfl⟩
abbrev main_v122 : Ref sig .tc := ⟨.hbm, 149, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v72 : BitVec 32 := Scalar.muli v1 c512_i32
  let c0_i32_39 : BitVec 32 := 0#32
  let v73 : BitVec 32 := Scalar.addi v72 c0_i32_39
  v73
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c512_i32 : BitVec 32 := 512#32
  let v72 : BitVec 32 := Scalar.muli v1 c512_i32
  let c0_i32_39 : BitVec 32 := 0#32
  let v73 : BitVec 32 := Scalar.addi v72 c0_i32_39
  let v74 : BitVec 32 := v73
  let v89 : Index := Scalar.indexCast v74
  let c0_54 : Index := 0#32
  ![v89.toNat, 0]
def k0_mult2 (v1 : BitVec 32) : BitVec 32 :=
  let c512_i32_59 : BitVec 32 := 512#32
  let v98 : BitVec 32 := Scalar.muli v1 c512_i32_59
  let c0_i32_60 : BitVec 32 := 0#32
  let v99 : BitVec 32 := Scalar.addi v98 c0_i32_60
  v99
def k0_off3 (v1 : BitVec 32) : Fin 2 → Nat :=
  let c512_i32_59 : BitVec 32 := 512#32
  let v98 : BitVec 32 := Scalar.muli v1 c512_i32_59
  let c0_i32_60 : BitVec 32 := 0#32
  let v99 : BitVec 32 := Scalar.addi v98 c0_i32_60
  let v100 : BitVec 32 := v99
  let v115 : Index := Scalar.indexCast v100
  let c128_75 : Index := 128#32
  ![v115.toNat, 128]
def k0_mult3 (v1 : BitVec 32) : BitVec 32 :=
  let c512_i32_80 : BitVec 32 := 512#32
  let v124 : BitVec 32 := Scalar.muli v1 c512_i32_80
  let c0_i32_81 : BitVec 32 := 0#32
  let v125 : BitVec 32 := Scalar.addi v124 c0_i32_81
  v125
def k0_off4 (v1 : BitVec 32) : Fin 2 → Nat :=
  let c512_i32_80 : BitVec 32 := 512#32
  let v124 : BitVec 32 := Scalar.muli v1 c512_i32_80
  let c0_i32_81 : BitVec 32 := 0#32
  let v125 : BitVec 32 := Scalar.addi v124 c0_i32_81
  let v126 : BitVec 32 := v125
  let v141 : Index := Scalar.indexCast v126
  let c256_96 : Index := 256#32
  ![v141.toNat, 256]
def k0_mult4 (v1 : BitVec 32) : BitVec 32 :=
  let c512_i32_101 : BitVec 32 := 512#32
  let v150 : BitVec 32 := Scalar.muli v1 c512_i32_101
  let c0_i32_102 : BitVec 32 := 0#32
  let v151 : BitVec 32 := Scalar.addi v150 c0_i32_102
  v151
def k0_off5 (v1 : BitVec 32) : Fin 2 → Nat :=
  let c512_i32_101 : BitVec 32 := 512#32
  let v150 : BitVec 32 := Scalar.muli v1 c512_i32_101
  let c0_i32_102 : BitVec 32 := 0#32
  let v151 : BitVec 32 := Scalar.addi v150 c0_i32_102
  let v152 : BitVec 32 := v151
  let v167 : Index := Scalar.indexCast v152
  let c384_117 : Index := 384#32
  ![v167.toNat, 384]
def k0_mult5 (v1 : BitVec 32) : BitVec 32 :=
  let c512_i32 : BitVec 32 := 512#32
  let v184 : BitVec 32 := Scalar.muli v1 c512_i32
  let c0_i32_94 : BitVec 32 := 0#32
  let v185 : BitVec 32 := Scalar.addi v184 c0_i32_94
  v185
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off6 (v1 : BitVec 32) (c0_i32_94 : BitVec 32) : Fin 2 → Nat :=
  let c512_i32 : BitVec 32 := 512#32
  let v184 : BitVec 32 := Scalar.muli v1 c512_i32
  let v185 : BitVec 32 := Scalar.addi v184 c0_i32_94
  let v186 : BitVec 32 := v185
  let v201 : Index := Scalar.indexCast v186
  let c0_109 : Index := 0#32
  ![v201.toNat, 0]
def k0_mult6 (v1 : BitVec 32) : BitVec 32 :=
  let c512_i32_114 : BitVec 32 := 512#32
  let v210 : BitVec 32 := Scalar.muli v1 c512_i32_114
  let c256_i32_115 : BitVec 32 := 256#32
  let v211 : BitVec 32 := Scalar.addi v210 c256_i32_115
  v211
def k0_mult7 (v1 : BitVec 32) : BitVec 32 :=
  let c512_i32_135 : BitVec 32 := 512#32
  let v236 : BitVec 32 := Scalar.muli v1 c512_i32_135
  let c0_i32_136 : BitVec 32 := 0#32
  let v237 : BitVec 32 := Scalar.addi v236 c0_i32_136
  v237
def k0_off7 (v1 : BitVec 32) (c0_i32_136 : BitVec 32) : Fin 2 → Nat :=
  let c512_i32_135 : BitVec 32 := 512#32
  let v236 : BitVec 32 := Scalar.muli v1 c512_i32_135
  let v237 : BitVec 32 := Scalar.addi v236 c0_i32_136
  let v238 : BitVec 32 := v237
  let v253 : Index := Scalar.indexCast v238
  let c128_151 : Index := 128#32
  ![v253.toNat, 128]
def k0_mult8 (v1 : BitVec 32) : BitVec 32 :=
  let c512_i32_156 : BitVec 32 := 512#32
  let v262 : BitVec 32 := Scalar.muli v1 c512_i32_156
  let c256_i32_157 : BitVec 32 := 256#32
  let v263 : BitVec 32 := Scalar.addi v262 c256_i32_157
  v263
def k0_mult9 (v1 : BitVec 32) : BitVec 32 :=
  let c512_i32_177 : BitVec 32 := 512#32
  let v288 : BitVec 32 := Scalar.muli v1 c512_i32_177
  let c0_i32_178 : BitVec 32 := 0#32
  let v289 : BitVec 32 := Scalar.addi v288 c0_i32_178
  v289
def k0_off8 (v1 : BitVec 32) (c0_i32_178 : BitVec 32) : Fin 2 → Nat :=
  let c512_i32_177 : BitVec 32 := 512#32
  let v288 : BitVec 32 := Scalar.muli v1 c512_i32_177
  let v289 : BitVec 32 := Scalar.addi v288 c0_i32_178
  let v290 : BitVec 32 := v289
  let v305 : Index := Scalar.indexCast v290
  let c256_193 : Index := 256#32
  ![v305.toNat, 256]
def k0_mult10 (v1 : BitVec 32) : BitVec 32 :=
  let c512_i32_198 : BitVec 32 := 512#32
  let v314 : BitVec 32 := Scalar.muli v1 c512_i32_198
  let c256_i32_199 : BitVec 32 := 256#32
  let v315 : BitVec 32 := Scalar.addi v314 c256_i32_199
  v315
def k0_mult11 (v1 : BitVec 32) : BitVec 32 :=
  let c512_i32_219 : BitVec 32 := 512#32
  let v340 : BitVec 32 := Scalar.muli v1 c512_i32_219
  let c0_i32_220 : BitVec 32 := 0#32
  let v341 : BitVec 32 := Scalar.addi v340 c0_i32_220
  v341
def k0_off9 (v1 : BitVec 32) (c0_i32_220 : BitVec 32) : Fin 2 → Nat :=
  let c512_i32_219 : BitVec 32 := 512#32
  let v340 : BitVec 32 := Scalar.muli v1 c512_i32_219
  let v341 : BitVec 32 := Scalar.addi v340 c0_i32_220
  let v342 : BitVec 32 := v341
  let v357 : Index := Scalar.indexCast v342
  let c384_235 : Index := 384#32
  ![v357.toNat, 384]
def k0_mult12 (v1 : BitVec 32) : BitVec 32 :=
  let c512_i32_240 : BitVec 32 := 512#32
  let v366 : BitVec 32 := Scalar.muli v1 c512_i32_240
  let c256_i32_241 : BitVec 32 := 256#32
  let v367 : BitVec 32 := Scalar.addi v366 c256_i32_241
  v367

def k0_chk1 (v1 : BitVec 32) (v3 : BitVec 32) : Prop :=
  (∀ (k0_h3 : k0_cond3 v1 v3 = 1#1), 256 ∣ (k0_mult1 v1).toNat) ∧
  (∀ (k0_h3 : k0_cond3 v1 v3 = 1#1), ∀ a, (k0_off2 v1) a + S512x128.size a ≤ S4096x512.size a) ∧
  (∀ (k0_h3 : k0_cond3 v1 v3 = 1#1), 256 ∣ (k0_mult2 v1).toNat) ∧
  (∀ (k0_h3 : k0_cond3 v1 v3 = 1#1), ∀ a, (k0_off3 v1) a + S512x128.size a ≤ S4096x512.size a) ∧
  (∀ (k0_h3 : k0_cond3 v1 v3 = 1#1), 256 ∣ (k0_mult3 v1).toNat) ∧
  (∀ (k0_h3 : k0_cond3 v1 v3 = 1#1), ∀ a, (k0_off4 v1) a + S512x128.size a ≤ S4096x512.size a) ∧
  (∀ (k0_h3 : k0_cond3 v1 v3 = 1#1), 256 ∣ (k0_mult4 v1).toNat) ∧
  (∀ (k0_h3 : k0_cond3 v1 v3 = 1#1), ∀ a, (k0_off5 v1) a + S512x128.size a ≤ S4096x512.size a) ∧
  (∀ (k0_h4 : k0_cond4 v1 v3 = 1#1), 256 ∣ (k0_mult5 v1).toNat) ∧
  (∀ (k0_h4 : k0_cond4 v1 v3 = 1#1), ∀ (r : Fin 2), ∀ a, (k0_off6 v1 (BitVec.ofNat 32 (256 * r.val))) a + S256x128.size a ≤ S4096x512.size a) ∧
  (∀ (k0_h4 : k0_cond4 v1 v3 = 1#1), 256 ∣ (k0_mult6 v1).toNat) ∧
  (∀ (k0_h4 : k0_cond4 v1 v3 = 1#1), 256 ∣ (k0_mult7 v1).toNat) ∧
  (∀ (k0_h4 : k0_cond4 v1 v3 = 1#1), ∀ (r : Fin 2), ∀ a, (k0_off7 v1 (BitVec.ofNat 32 (256 * r.val))) a + S256x128.size a ≤ S4096x512.size a) ∧
  (∀ (k0_h4 : k0_cond4 v1 v3 = 1#1), 256 ∣ (k0_mult8 v1).toNat) ∧
  (∀ (k0_h4 : k0_cond4 v1 v3 = 1#1), 256 ∣ (k0_mult9 v1).toNat) ∧
  (∀ (k0_h4 : k0_cond4 v1 v3 = 1#1), ∀ (r : Fin 2), ∀ a, (k0_off8 v1 (BitVec.ofNat 32 (256 * r.val))) a + S256x128.size a ≤ S4096x512.size a) ∧
  (∀ (k0_h4 : k0_cond4 v1 v3 = 1#1), 256 ∣ (k0_mult10 v1).toNat) ∧
  (∀ (k0_h4 : k0_cond4 v1 v3 = 1#1), 256 ∣ (k0_mult11 v1).toNat) ∧
  (∀ (k0_h4 : k0_cond4 v1 v3 = 1#1), ∀ (r : Fin 2), ∀ a, (k0_off9 v1 (BitVec.ofNat 32 (256 * r.val))) a + S256x128.size a ≤ S4096x512.size a) ∧
  (∀ (k0_h4 : k0_cond4 v1 v3 = 1#1), 256 ∣ (k0_mult12 v1).toNat)
theorem k0_mult1_dvd : ∀ (v1 : BitVec 32) (v3 : BitVec 32) (k0_hw1 : k0_chk1 v1 v3), ∀ (k0_h3 : k0_cond3 v1 v3 = 1#1), 256 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S512x128.size a ≤ S4096x512.size a := fun v1 v3 k0_hw1 k0_h3 => k0_hw1.2.1 k0_h3
theorem k0_mult2_dvd : ∀ (v1 : BitVec 32) (v3 : BitVec 32) (k0_hw1 : k0_chk1 v1 v3), ∀ (k0_h3 : k0_cond3 v1 v3 = 1#1), 256 ∣ (k0_mult2 v1).toNat := fun v1 v3 k0_hw1 k0_h3 => k0_hw1.2.2.1 k0_h3
theorem k0_off3_inb : ∀ (v1 : BitVec 32) (v3 : BitVec 32) (k0_hw1 : k0_chk1 v1 v3), ∀ (k0_h3 : k0_cond3 v1 v3 = 1#1), ∀ a, (k0_off3 v1) a + S512x128.size a ≤ S4096x512.size a := fun v1 v3 k0_hw1 k0_h3 => k0_hw1.2.2.2.1 k0_h3
theorem k0_mult3_dvd : ∀ (v1 : BitVec 32) (v3 : BitVec 32) (k0_hw1 : k0_chk1 v1 v3), ∀ (k0_h3 : k0_cond3 v1 v3 = 1#1), 256 ∣ (k0_mult3 v1).toNat := fun v1 v3 k0_hw1 k0_h3 => k0_hw1.2.2.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S512x128.size a ≤ S4096x512.size a := fun v1 v3 k0_hw1 k0_h3 => k0_hw1.2.2.2.2.2.1 k0_h3
theorem k0_mult4_dvd : ∀ (v1 : BitVec 32) (v3 : BitVec 32) (k0_hw1 : k0_chk1 v1 v3), ∀ (k0_h3 : k0_cond3 v1 v3 = 1#1), 256 ∣ (k0_mult4 v1).toNat := fun v1 v3 k0_hw1 k0_h3 => k0_hw1.2.2.2.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S512x128.size a ≤ S4096x512.size a := fun v1 v3 k0_hw1 k0_h3 => k0_hw1.2.2.2.2.2.2.2.1 k0_h3
theorem k0_mult5_dvd : ∀ (v1 : BitVec 32) (v3 : BitVec 32) (k0_hw1 : k0_chk1 v1 v3), ∀ (k0_h4 : k0_cond4 v1 v3 = 1#1), 256 ∣ (k0_mult5 v1).toNat := fun v1 v3 k0_hw1 k0_h4 => k0_hw1.2.2.2.2.2.2.2.2.1 k0_h4
theorem k0_off6_inb : ∀ (v1 : BitVec 32) (v3 : BitVec 32) (k0_hw1 : k0_chk1 v1 v3), ∀ (k0_h4 : k0_cond4 v1 v3 = 1#1), ∀ (r : Fin 2), ∀ a, (k0_off6 v1 (BitVec.ofNat 32 (256 * r.val))) a + S256x128.size a ≤ S4096x512.size a := fun v1 v3 k0_hw1 k0_h4 r => k0_hw1.2.2.2.2.2.2.2.2.2.1 k0_h4 r
theorem k0_mult6_dvd : ∀ (v1 : BitVec 32) (v3 : BitVec 32) (k0_hw1 : k0_chk1 v1 v3), ∀ (k0_h4 : k0_cond4 v1 v3 = 1#1), 256 ∣ (k0_mult6 v1).toNat := fun v1 v3 k0_hw1 k0_h4 => k0_hw1.2.2.2.2.2.2.2.2.2.2.1 k0_h4
theorem k0_mult7_dvd : ∀ (v1 : BitVec 32) (v3 : BitVec 32) (k0_hw1 : k0_chk1 v1 v3), ∀ (k0_h4 : k0_cond4 v1 v3 = 1#1), 256 ∣ (k0_mult7 v1).toNat := fun v1 v3 k0_hw1 k0_h4 => k0_hw1.2.2.2.2.2.2.2.2.2.2.2.1 k0_h4
theorem k0_off7_inb : ∀ (v1 : BitVec 32) (v3 : BitVec 32) (k0_hw1 : k0_chk1 v1 v3), ∀ (k0_h4 : k0_cond4 v1 v3 = 1#1), ∀ (r : Fin 2), ∀ a, (k0_off7 v1 (BitVec.ofNat 32 (256 * r.val))) a + S256x128.size a ≤ S4096x512.size a := fun v1 v3 k0_hw1 k0_h4 r => k0_hw1.2.2.2.2.2.2.2.2.2.2.2.2.1 k0_h4 r
theorem k0_mult8_dvd : ∀ (v1 : BitVec 32) (v3 : BitVec 32) (k0_hw1 : k0_chk1 v1 v3), ∀ (k0_h4 : k0_cond4 v1 v3 = 1#1), 256 ∣ (k0_mult8 v1).toNat := fun v1 v3 k0_hw1 k0_h4 => k0_hw1.2.2.2.2.2.2.2.2.2.2.2.2.2.1 k0_h4
theorem k0_mult9_dvd : ∀ (v1 : BitVec 32) (v3 : BitVec 32) (k0_hw1 : k0_chk1 v1 v3), ∀ (k0_h4 : k0_cond4 v1 v3 = 1#1), 256 ∣ (k0_mult9 v1).toNat := fun v1 v3 k0_hw1 k0_h4 => k0_hw1.2.2.2.2.2.2.2.2.2.2.2.2.2.2.1 k0_h4
theorem k0_off8_inb : ∀ (v1 : BitVec 32) (v3 : BitVec 32) (k0_hw1 : k0_chk1 v1 v3), ∀ (k0_h4 : k0_cond4 v1 v3 = 1#1), ∀ (r : Fin 2), ∀ a, (k0_off8 v1 (BitVec.ofNat 32 (256 * r.val))) a + S256x128.size a ≤ S4096x512.size a := fun v1 v3 k0_hw1 k0_h4 r => k0_hw1.2.2.2.2.2.2.2.2.2.2.2.2.2.2.2.1 k0_h4 r
theorem k0_mult10_dvd : ∀ (v1 : BitVec 32) (v3 : BitVec 32) (k0_hw1 : k0_chk1 v1 v3), ∀ (k0_h4 : k0_cond4 v1 v3 = 1#1), 256 ∣ (k0_mult10 v1).toNat := fun v1 v3 k0_hw1 k0_h4 => k0_hw1.2.2.2.2.2.2.2.2.2.2.2.2.2.2.2.2.1 k0_h4
theorem k0_mult11_dvd : ∀ (v1 : BitVec 32) (v3 : BitVec 32) (k0_hw1 : k0_chk1 v1 v3), ∀ (k0_h4 : k0_cond4 v1 v3 = 1#1), 256 ∣ (k0_mult11 v1).toNat := fun v1 v3 k0_hw1 k0_h4 => k0_hw1.2.2.2.2.2.2.2.2.2.2.2.2.2.2.2.2.2.1 k0_h4
theorem k0_off9_inb : ∀ (v1 : BitVec 32) (v3 : BitVec 32) (k0_hw1 : k0_chk1 v1 v3), ∀ (k0_h4 : k0_cond4 v1 v3 = 1#1), ∀ (r : Fin 2), ∀ a, (k0_off9 v1 (BitVec.ofNat 32 (256 * r.val))) a + S256x128.size a ≤ S4096x512.size a := fun v1 v3 k0_hw1 k0_h4 r => k0_hw1.2.2.2.2.2.2.2.2.2.2.2.2.2.2.2.2.2.2.1 k0_h4 r
theorem k0_mult12_dvd : ∀ (v1 : BitVec 32) (v3 : BitVec 32) (k0_hw1 : k0_chk1 v1 v3), ∀ (k0_h4 : k0_cond4 v1 v3 = 1#1), 256 ∣ (k0_mult12 v1).toNat := fun v1 v3 k0_hw1 k0_h4 => k0_hw1.2.2.2.2.2.2.2.2.2.2.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4096x512 : Shape := ⟨2, ![4096, 512]⟩
abbrev S4096x8 : Shape := ⟨2, ![4096, 8]⟩
abbrev S4096x8x64 : Shape := ⟨3, ![4096, 8, 64]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x64x4096 : Shape := ⟨3, ![8, 64, 4096]⟩
abbrev S8x4096x64 : Shape := ⟨3, ![8, 4096, 64]⟩

abbrev nBuf : Space → Nat
  | .hbm => 133
  | .vmem => 0
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x8, .f32⟩
  | 4 => ⟨S4096x512, .bf16⟩
  | 5 => ⟨S4096x8x64, .bf16⟩
  | 6 => ⟨S4096x8x64, .bf16⟩
  | 7 => ⟨S4096x8x64, .bf16⟩
  | 8 => ⟨S_, .f32⟩
  | 9 => ⟨S_, .f32⟩
  | 10 => ⟨S4096x8, .f32⟩
  | 11 => ⟨S8x4096, .f32⟩
  | 12 => ⟨S8x4096x4096, .f32⟩
  | 13 => ⟨S_, .f32⟩
  | 14 => ⟨S8x4096x4096, .f32⟩
  | 15 => ⟨S8x4096x4096, .f32⟩
  | 16 => ⟨S8x4096x1, .f32⟩
  | 17 => ⟨S8x4096x4096, .f32⟩
  | 18 => ⟨S8x4096x4096, .f32⟩
  | 19 => ⟨S8x1x4096, .f32⟩
  | 20 => ⟨S8x4096x4096, .f32⟩
  | 21 => ⟨S8x4096x4096, .f32⟩
  | 22 => ⟨S4096, .i32⟩
  | 23 => ⟨S1x4096, .i32⟩
  | 24 => ⟨S4096x1, .i32⟩
  | 25 => ⟨S4096x4096, .i32⟩
  | 26 => ⟨S4096x4096, .i32⟩
  | 27 => ⟨S4096x4096, .i1⟩
  | 28 => ⟨S1x4096x4096, .i1⟩
  | 29 => ⟨S_, .f32⟩
  | 30 => ⟨S_, .f32⟩
  | 31 => ⟨S8x4096x4096, .i1⟩
  | 32 => ⟨S8x4096x4096, .f32⟩
  | 33 => ⟨S8x4096x4096, .f32⟩
  | 34 => ⟨S_, .f32⟩
  | 35 => ⟨S8x4096x4096, .f32⟩
  | 36 => ⟨S_, .f32⟩
  | 37 => ⟨S8x4096, .f32⟩
  | 38 => ⟨S8x4096x1, .f32⟩
  | 39 => ⟨S8x4096x4096, .f32⟩
  | 40 => ⟨S8x4096x4096, .i1⟩
  | 41 => ⟨S8x4096x4096, .f32⟩
  | 42 => ⟨S_, .f32⟩
  | 43 => ⟨S8x4096, .f32⟩
  | 44 => ⟨S_, .f32⟩
  | 45 => ⟨S8x4096, .f32⟩
  | 46 => ⟨S8x4096, .f32⟩
  | 47 => ⟨S_, .f32⟩
  | 48 => ⟨S8x4096, .f32⟩
  | 49 => ⟨S8x4096, .i1⟩
  | 50 => ⟨S_, .f32⟩
  | 51 => ⟨S8x4096, .f32⟩
  | 52 => ⟨S8x4096, .i1⟩
  | 53 => ⟨S_, .f32⟩
  | 54 => ⟨S8x4096, .f32⟩
  | 55 => ⟨S_, .f32⟩
  | 56 => ⟨S8x4096, .f32⟩
  | 57 => ⟨S_, .f32⟩
  | 58 => ⟨S8x4096, .f32⟩
  | 59 => ⟨S8x4096, .f32⟩
  | 60 => ⟨S8x4096, .f32⟩
  | 61 => ⟨S8x4096x1, .f32⟩
  | 62 => ⟨S8x4096x4096, .f32⟩
  | 63 => ⟨S8x4096x4096, .f32⟩
  | 64 => ⟨S8x4096x4096, .f32⟩
  | 65 => ⟨S_, .f32⟩
  | 66 => ⟨S8x4096, .f32⟩
  | 67 => ⟨S8x4096x1, .f32⟩
  | 68 => ⟨S8x4096x4096, .f32⟩
  | 69 => ⟨S8x4096x4096, .f32⟩
  | 70 => ⟨S8x4096x1, .f32⟩
  | 71 => ⟨S_, .f32⟩
  | 72 => ⟨S8x4096x1, .f32⟩
  | 73 => ⟨S8x4096x1, .f32⟩
  | 74 => ⟨S8x4096x4096, .bf16⟩
  | 75 => ⟨S8x64x4096, .f32⟩
  | 76 => ⟨S4096x8x64, .f32⟩
  | 77 => ⟨S4096x8x64, .bf16⟩
  | 78 => ⟨S4096x512, .bf16⟩
  | 79 => ⟨S4096x8x64, .bf16⟩
  | 80 => ⟨S4096x8x64, .f32⟩
  | 81 => ⟨S8x64x4096, .f32⟩
  | 82 => ⟨S8x4096x4096, .f32⟩
  | 83 => ⟨S8x4096x4096, .bf16⟩
  | 84 => ⟨S8x64x4096, .f32⟩
  | 85 => ⟨S4096x8x64, .f32⟩
  | 86 => ⟨S4096x8x64, .bf16⟩
  | 87 => ⟨S8x4096x4096, .f32⟩
  | 88 => ⟨S8x4096x4096, .f32⟩
  | 89 => ⟨S8x4096x4096, .f32⟩
  | 90 => ⟨S8x4096x4096, .f32⟩
  | 91 => ⟨S_, .f32⟩
  | 92 => ⟨S8x4096, .f32⟩
  | 93 => ⟨S8x4096x1, .f32⟩
  | 94 => ⟨S8x4096x1, .f32⟩
  | 95 => ⟨S8x4096x4096, .f32⟩
  | 96 => ⟨S8x4096x4096, .f32⟩
  | 97 => ⟨S_, .f32⟩
  | 98 => ⟨S8x4096, .f32⟩
  | 99 => ⟨S8x4096x4096, .f32⟩
  | 100 => ⟨S8x4096x4096, .f32⟩
  | 101 => ⟨S8x4096x4096, .f32⟩
  | 102 => ⟨S_, .f32⟩
  | 103 => ⟨S8x4096x4096, .f32⟩
  | 104 => ⟨S8x4096x4096, .f32⟩
  | 105 => ⟨S8x4096x4096, .f32⟩
  | 106 => ⟨S_, .f32⟩
  | 107 => ⟨S8x4096, .f32⟩
  | 108 => ⟨S8x1x4096, .f32⟩
  | 109 => ⟨S_, .f32⟩
  | 110 => ⟨S8x4096, .f32⟩
  | 111 => ⟨S_, .f32⟩
  | 112 => ⟨S8x4096, .f32⟩
  | 113 => ⟨S8x4096x1, .f32⟩
  | 114 => ⟨S_, .f32⟩
  | 115 => ⟨S8x4096, .f32⟩
  | 116 => ⟨S8x4096, .f32⟩
  | 117 => ⟨S_, .f32⟩
  | 118 => ⟨S8x4096x4096, .f32⟩
  | 119 => ⟨S8x4096x4096, .f32⟩
  | 120 => ⟨S8x4096x64, .f32⟩
  | 121 => ⟨S4096x8x64, .f32⟩
  | 122 => ⟨S4096x8x64, .bf16⟩
  | 123 => ⟨S8x4096x64, .f32⟩
  | 124 => ⟨S4096x8x64, .f32⟩
  | 125 => ⟨S4096x8x64, .bf16⟩
  | 126 => ⟨S4096x8, .f32⟩
  | 127 => ⟨S_, .f32⟩
  | _ => ⟨S4096x512, .bf16⟩

abbrev hbmTy0_1 (i : Nat) : BufTy := match i % 128 with
  | 0 => ⟨S_, .f32⟩
  | 1 => ⟨S4096x8, .f32⟩
  | 2 => ⟨S4096x512, .bf16⟩
  | 3 => ⟨S4096x512, .bf16⟩
  | 4 => ⟨S4096x512, .bf16⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_call1_v0 : Ref sig .tc := ⟨.hbm, 30, rfl⟩
abbrev main_v21_1 : Ref sig .tc := ⟨.hbm, 31, rfl⟩
abbrev main_call1_v2 : Ref sig .tc := ⟨.hbm, 32, rfl⟩
abbrev main_v21_0 : Ref sig .tc := ⟨.hbm, 33, rfl⟩
abbrev main_call1_cst : Ref sig .tc := ⟨.hbm, 34, rfl⟩
abbrev main_v21_2 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_call2_cst : Ref sig .tc := ⟨.hbm, 102, rfl⟩
abbrev main_call2_v0 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call3_call0_cst : Ref sig .tc := ⟨.hbm, 127, rfl⟩
abbrev main_call3_call0_v0 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩

abbrev nD : Nat := 1
abbrev τ : Topo := Topo.v7x

variable {F : FTy → Type} [FloatOps F]
-- ==== Kernel2.lean ====
abbrev S1024x5632 : Shape := ⟨2, ![1024, 5632]⟩
abbrev S4096x5632 : Shape := ⟨2, ![4096, 5632]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x5632, .bf16⟩
  | .hbm, ⟨1, _⟩ => ⟨S4096x5632, .bf16⟩
  | .hbm, ⟨2, _⟩ => ⟨S4096x1024, .bf16⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .bf16⟩
  | .local _ .vmem, ⟨4, _⟩ => ⟨S512x1024, .bf16⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S1024x5632 : Shape := ⟨2, ![1024, 5632]⟩
abbrev S4096x5632 : Shape := ⟨2, ![4096, 5632]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S4096x5632, .bf16⟩
  | .hbm, ⟨2, _⟩ => ⟨S_, .bf16⟩
  | .hbm, ⟨3, _⟩ => ⟨S4096x1024, .bf16⟩
  | .hbm, ⟨4, _⟩ => ⟨S4096x5632, .f32⟩
  | .hbm, ⟨5, _⟩ => ⟨S4096x5632, .bf16⟩
  | .hbm, ⟨6, _⟩ => ⟨S4096x5632, .f32⟩
  | .hbm, ⟨7, _⟩ => ⟨S4096x1024, .f32⟩
  | .hbm, ⟨8, _⟩ => ⟨S4096x1024, .bf16⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S1024x5632 : Shape := ⟨2, ![1024, 5632]⟩
abbrev S4096x1408 : Shape := ⟨2, ![4096, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x1408, .bf16⟩
  | .local _ .vmem, ⟨2, _⟩ => ⟨S4096x1408, .bf16⟩
  | .local _ .vmem, ⟨3, _⟩ => ⟨S1024x1408, .bf16⟩
  | .local _ .vmem, ⟨4, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .bf16⟩
  | .hbm, ⟨3, _⟩ => ⟨S1024x5632, .bf16⟩
  | .hbm, ⟨4, _⟩ => ⟨S4096x5632, .f32⟩
  | .hbm, ⟨5, _⟩ => ⟨S4096x5632, .bf16⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S1024x5120 : Shape := ⟨2, ![1024, 5120]⟩
abbrev S4096x5120 : Shape := ⟨2, ![4096, 5120]⟩
abbrev S4096x1024 : Shape := ⟨2, ![4096, 1024]⟩
abbrev S512x5120 : Shape := ⟨2, ![512, 5120]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x5120, .bf16⟩
  | .hbm, ⟨1, _⟩ => ⟨S4096x5120, .bf16⟩
  | .hbm, ⟨2, _⟩ => ⟨S4096x1024, .bf16⟩
  | .local _ .vmem, ⟨0, _⟩ => ⟨S512x5120, .bf16⟩
  | .local _ .vmem, ⟨1, _⟩ => ⟨S512x5120, .bf16⟩
  | .local _ .vmem, ⟨2, _⟩ => ⟨S1024x5120, .bf16⟩
  | .local _ .vmem, ⟨3, _⟩ => ⟨S512x1024, .bf16⟩
  | .local _ .vmem, ⟨4, _⟩ => ⟨S512x1024, .bf16⟩
  | _, _ => ⟨S1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x5120 : Shape := ⟨2, ![1024, 5120]⟩
abbrev S4096x5120 : Shape := ⟨2, ![4096, 5120]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x5120, .bf16⟩
  | .hbm, ⟨1, _⟩ => ⟨S4096x5120, .bf16⟩
  | .hbm, ⟨2, _⟩ => ⟨S_, .bf16⟩
  | .hbm, ⟨3, _⟩ => ⟨S4096x1024, .bf16⟩
  | .hbm, ⟨4, _⟩ => ⟨S4096x5120, .f32⟩
  | .hbm, ⟨5, _⟩ => ⟨S4096x5120, .bf16⟩
  | .hbm, ⟨6, _⟩ => ⟨S4096x5120, .f32⟩
  | .hbm, ⟨7, _⟩ => ⟨S4096x1024, .f32⟩
  | .hbm, ⟨8, _⟩ => ⟨S4096x1024, .bf16⟩
  | _, _ => ⟨S1024x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S4096x5120 : Shape := ⟨2, ![4096, 5120]⟩
abbrev S1024x5120 : Shape := ⟨2, ![1024, 5120]⟩
abbrev S4096x1280 : Shape := ⟨2, ![4096, 1280]⟩
abbrev S1024x1280 : Shape := ⟨2, ![1024, 1280]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S1024x5120, .bf16⟩
  | .local _ .vmem, ⟨0, _⟩ => ⟨S4096x1024, .bf16⟩
  | .local _ .vmem, ⟨1, _⟩ => ⟨S4096x1280, .bf16⟩
  | .local _ .vmem, ⟨2, _⟩ => ⟨S4096x1280, .bf16⟩
  | .local _ .vmem, ⟨3, _⟩ => ⟨S1024x1280, .bf16⟩
  | .local _ .vmem, ⟨4, _⟩ => ⟨S1024x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S_, .bf16⟩
  | .hbm, ⟨3, _⟩ => ⟨S1024x5120, .bf16⟩
  | .hbm, ⟨4, _⟩ => ⟨S4096x5120, .f32⟩
  | .hbm, ⟨5, _⟩ => ⟨S4096x5120, .bf16⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .bf16⟩
  | .hbm, ⟨3, _⟩ => ⟨S2816x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S1024x1024 : Shape := ⟨2, ![1024, 1024]⟩
abbrev S4096x1024 : Shape := ⟨2, ![4096, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S4096x1024, .bf16⟩
  | .hbm, ⟨2, _⟩ => ⟨S_, .bf16⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .bf16⟩
  | .hbm, ⟨3, _⟩ => ⟨S1024x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x5120 : Shape := ⟨2, ![1024, 5120]⟩
abbrev S4096x5120 : Shape := ⟨2, ![4096, 5120]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x5120 : Shape := ⟨2, ![1024, 5120]⟩
abbrev S4096x5120 : Shape := ⟨2, ![4096, 5120]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x5120, .f32⟩
  | .hbm, ⟨3, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S512x1024 : Shape := ⟨2, ![512, 1024]⟩
abbrev S4096x1024 : Shape := ⟨2, ![4096, 1024]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S4096x1024, .bf16⟩
  | .hbm, ⟨2, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S512x1024 : Shape := ⟨2, ![512, 1024]⟩
abbrev S4096x1024 : Shape := ⟨2, ![4096, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S4096x1024, .bf16⟩
  | .hbm, ⟨2, _⟩ => ⟨S_, .bf16⟩
  | .hbm, ⟨3, _⟩ => ⟨S4096x512, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference12Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Kernel13.lean ====
abbrev S4096x1024 : Shape := ⟨2, ![4096, 1024]⟩
abbrev S4096x5120 : Shape := ⟨2, ![4096, 5120]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S4096x1024, .bf16⟩
  | .hbm, ⟨3, _⟩ => ⟨S4096x5120, .bf16⟩
  | .hbm, ⟨4, _⟩ => ⟨S4096x1024, .bf16⟩
  | .hbm, ⟨5, _⟩ => ⟨S4096x5120, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S4096x1024 : Shape := ⟨2, ![4096, 1024]⟩
abbrev S4096x5120 : Shape := ⟨2, ![4096, 5120]⟩
abbrev S_ : Shape := ⟨0, ![]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5120, .bf16⟩
  | .hbm, ⟨2, _⟩ => ⟨S4096x1024, .bf16⟩
  | .hbm, ⟨3, _⟩ => ⟨S4096x5120, .bf16⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x4096, .bf16⟩
  | .hbm, ⟨26, _⟩ => ⟨S4096x1024, .bf16⟩
  | .hbm, ⟨27, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel14.lean ====
abbrev S4096x512 : Shape := ⟨2, ![4096, 512]⟩
abbrev S4096x1024 : Shape := ⟨2, ![4096, 1024]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S8x512x128, .bf16⟩
  | .local _ .vmem, ⟨0, _⟩ => ⟨S4096x512, .bf16⟩
  | .local _ .vmem, ⟨1, _⟩ => ⟨S4096x1024, .bf16⟩
  | .local _ .vmem, ⟨2, _⟩ => ⟨S8x512x128, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== Reference14Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x128 : Shape := ⟨2, ![512, 128]⟩
abbrev S1x512x128 : Shape := ⟨3, ![1, 512, 128]⟩
abbrev S8x512x128 : Shape := ⟨3, ![8, 512, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .bf16⟩
  | .hbm, ⟨3, _⟩ => ⟨S512x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S512x128, .bf16⟩
  | .hbm, ⟨11, _⟩ => ⟨S512x128, .bf16⟩
  | .hbm, ⟨12, _⟩ => ⟨S512x128, .bf16⟩
  | .hbm, ⟨13, _⟩ => ⟨S512x128, .bf16⟩
  | .hbm, ⟨14, _⟩ => ⟨S512x128, .bf16⟩
  | .hbm, ⟨15, _⟩ => ⟨S512x128, .bf16⟩
  | .hbm, ⟨16, _⟩ => ⟨S512x128, .bf16⟩
  | .hbm, ⟨17, _⟩ => ⟨S512x128, .bf16⟩
  | .hbm, ⟨18, _⟩ => ⟨S1x512x128, .bf16⟩
  | .hbm, ⟨19, _⟩ => ⟨S1x512x128, .bf16⟩
  | .hbm, ⟨20, _⟩ => ⟨S1x512x128, .bf16⟩
  | .hbm, ⟨21, _⟩ => ⟨S1x512x128, .bf16⟩
  | .hbm, ⟨22, _⟩ => ⟨S1x512x128, .bf16⟩
  | .hbm, ⟨23, _⟩ => ⟨S1x512x128, .bf16⟩
  | .hbm, ⟨24, _⟩ => ⟨S1x512x128, .bf16⟩
  | .hbm, ⟨25, _⟩ => ⟨S1x512x128, .bf16⟩
  | .hbm, ⟨26, _⟩ => ⟨S8x512x128, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Kernel15.lean ====
abbrev S4x1024x641 : Shape := ⟨3, ![4, 1024, 641]⟩
abbrev S1024x641 : Shape := ⟨2, ![1024, 641]⟩
abbrev S4x256x641 : Shape := ⟨3, ![4, 256, 641]⟩
abbrev S256x641 : Shape := ⟨2, ![256, 641]⟩
abbrev S1x256x641 : Shape := ⟨3, ![1, 256, 641]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x641, .bf16⟩
  | .hbm, ⟨1, _⟩ => ⟨S1024x641, .f32⟩
  | .hbm, ⟨2, _⟩ => ⟨S1024x641, .f32⟩
  | .hbm, ⟨3, _⟩ => ⟨S1024x641, .f32⟩
  | .hbm, ⟨4, _⟩ => ⟨S1024x641, .f32⟩
  | .hbm, ⟨5, _⟩ => ⟨S1024x641, .f32⟩
  | .hbm, ⟨6, _⟩ => ⟨S1024x641, .f32⟩
  | .hbm, ⟨7, _⟩ => ⟨S1024x641, .f32⟩
  | .local _ .vmem, ⟨0, _⟩ => ⟨S4x256x641, .bf16⟩
  | .local _ .vmem, ⟨1, _⟩ => ⟨S4x256x641, .bf16⟩
  | .local _ .vmem, ⟨2, _⟩ => ⟨S256x641, .f32⟩
  | .local _ .vmem, ⟨3, _⟩ => ⟨S256x641, .f32⟩
  | .local _ .vmem, ⟨4, _⟩ => ⟨S256x641, .f32⟩
  | .local _ .vmem, ⟨5, _⟩ => ⟨S256x641, .f32⟩
  | .local _ .vmem, ⟨6, _⟩ => ⟨S256x641, .f32⟩
  | .local _ .vmem, ⟨7, _⟩ => ⟨S256x641, .f32⟩
  | .local _ .vmem, ⟨8, _⟩ => ⟨S256x641, .f32⟩
  | .local _ .vmem, ⟨9, _⟩ => ⟨S256x641, .f32⟩
  | .local _ .vmem, ⟨10, _⟩ => ⟨S256x641, .f32⟩
  | .local _ .vmem, ⟨11, _⟩ => ⟨S256x641, .f32⟩
  | .local _ .vmem, ⟨12, _⟩ => ⟨S256x641, .f32⟩
  | .local _ .vmem, ⟨13, _⟩ => ⟨S256x641, .f32⟩
  | .local _ .vmem, ⟨14, _⟩ => ⟨S256x641, .f32⟩
  | .local _ .vmem, ⟨15, _⟩ => ⟨S256x641, .f32⟩
  | _, _ => ⟨S4x1024x641, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x641 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x641 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x641 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x641 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x641 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x641 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x641 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x641 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S4x1024x641 : Shape := ⟨3, ![4, 1024, 641]⟩
abbrev S1024x641 : Shape := ⟨2, ![1024, 641]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x641, .bf16⟩
  | .hbm, ⟨1, _⟩ => ⟨S1024x641, .f32⟩
  | .hbm, ⟨2, _⟩ => ⟨S1024x641, .f32⟩
  | .hbm, ⟨3, _⟩ => ⟨S1024x641, .f32⟩
  | .hbm, ⟨4, _⟩ => ⟨S4x1024x641, .f32⟩
  | .hbm, ⟨5, _⟩ => ⟨S_, .f32⟩
  | .hbm, ⟨6, _⟩ => ⟨S1024x641, .f32⟩
  | .hbm, ⟨7, _⟩ => ⟨S_, .f32⟩
  | .hbm, ⟨8, _⟩ => ⟨S1024x641, .f32⟩
  | .hbm, ⟨9, _⟩ => ⟨S1024x641, .f32⟩
  | .hbm, ⟨10, _⟩ => ⟨S_, .f32⟩
  | .hbm, ⟨11, _⟩ => ⟨S1024x641, .f32⟩
  | .hbm, ⟨12, _⟩ => ⟨S1024x641, .f32⟩
  | .hbm, ⟨13, _⟩ => ⟨S1024x641, .f32⟩
  | .hbm, ⟨14, _⟩ => ⟨S_, .f32⟩
  | .hbm, ⟨15, _⟩ => ⟨S1024x641, .f32⟩
  | .hbm, ⟨16, _⟩ => ⟨S1024x641, .f32⟩
  | .hbm, ⟨17, _⟩ => ⟨S1024x641, .f32⟩
  | .hbm, ⟨18, _⟩ => ⟨S_, .f32⟩
  | .hbm, ⟨19, _⟩ => ⟨S1024x641, .f32⟩
  | .hbm, ⟨20, _⟩ => ⟨S1024x641, .f32⟩
  | .hbm, ⟨21, _⟩ => ⟨S1024x641, .f32⟩
  | .hbm, ⟨22, _⟩ => ⟨S_, .f32⟩
  | .hbm, ⟨23, _⟩ => ⟨S1024x641, .f32⟩
  | .hbm, ⟨24, _⟩ => ⟨S1024x641, .f32⟩
  | .hbm, ⟨25, _⟩ => ⟨S_, .f32⟩
  | .hbm, ⟨26, _⟩ => ⟨S1024x641, .f32⟩
  | .hbm, ⟨27, _⟩ => ⟨S1024x641, .f32⟩
  | .hbm, ⟨28, _⟩ => ⟨S1024x641, .f32⟩
  | .hbm, ⟨29, _⟩ => ⟨S_, .f32⟩
  | .hbm, ⟨30, _⟩ => ⟨S1024x641, .f32⟩
  | .hbm, ⟨31, _⟩ => ⟨S1024x641, .f32⟩
  | .hbm, ⟨32, _⟩ => ⟨S1024x641, .f32⟩
  | .hbm, ⟨33, _⟩ => ⟨S_, .f32⟩
  | .hbm, ⟨34, _⟩ => ⟨S1024x641, .f32⟩
  | .hbm, ⟨35, _⟩ => ⟨S1024x641, .f32⟩
  | .hbm, ⟨36, _⟩ => ⟨S1024x641, .f32⟩
  | .hbm, ⟨37, _⟩ => ⟨S_, .f32⟩
  | .hbm, ⟨38, _⟩ => ⟨S1024x641, .f32⟩
  | .hbm, ⟨39, _⟩ => ⟨S1024x641, .f32⟩
  | _, _ => ⟨S4x1024x641, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x1x1024 : Shape := ⟨3, ![8, 1, 1024]⟩
abbrev S8x1x8 : Shape := ⟨3, ![8, 1, 8]⟩
abbrev S8x1x5632 : Shape := ⟨3, ![8, 1, 5632]⟩
abbrev S1x1024 : Shape := ⟨2, ![1, 1024]⟩
abbrev S1x8 : Shape := ⟨2, ![1, 8]⟩
abbrev S1x5632 : Shape := ⟨2, ![1, 5632]⟩
abbrev S8x1x128 : Shape := ⟨3, ![8, 1, 128]⟩
abbrev S1x128 : Shape := ⟨2, ![1, 128]⟩
abbrev S1x1x1024 : Shape := ⟨3, ![1, 1, 1024]⟩
abbrev S1x1x8 : Shape := ⟨3, ![1, 1, 8]⟩
abbrev S1x1x5632 : Shape := ⟨3, ![1, 1, 5632]⟩
abbrev S1x1x128 : Shape := ⟨3, ![1, 1, 128]⟩

abbrev nBuf : Space → Nat
  | .hbm => 50
  | .vmem => 50
  | .smem => 0
  | _ => 0

abbrev bufTy : (tb : Table) → Fin (tcTables nBuf tb) → BufTy
  | .hbm, ⟨0, _⟩ => ⟨S8x1x1024, .f32⟩
  | .hbm, ⟨1, _⟩ => ⟨S8x1x8, .f32⟩
  | .hbm, ⟨2, _⟩ => ⟨S8x1x1024, .f32⟩
  | .hbm, ⟨3, _⟩ => ⟨S8x1x1024, .f32⟩
  | .hbm, ⟨4, _⟩ => ⟨S8x1x5632, .f32⟩
  | .hbm, ⟨5, _⟩ => ⟨S8x1x1024, .f32⟩
  | .hbm, ⟨6, _⟩ => ⟨S1x1024, .f32⟩
  | .hbm, ⟨7, _⟩ => ⟨S1x8, .f32⟩
  | .hbm, ⟨8, _⟩ => ⟨S1x1024, .f32⟩
  | .hbm, ⟨9, _⟩ => ⟨S1x1024, .f32⟩
  | .hbm, ⟨10, _⟩ => ⟨S1x5632, .f32⟩
  | .hbm, ⟨11, _⟩ => ⟨S1x1024, .f32⟩
  | .hbm, ⟨12, _⟩ => ⟨S1x1024, .f32⟩
  | .hbm, ⟨13, _⟩ => ⟨S1x8, .f32⟩
  | .hbm, ⟨14, _⟩ => ⟨S1x1024, .f32⟩
  | .hbm, ⟨15, _⟩ => ⟨S1x1024, .f32⟩
  | .hbm, ⟨16, _⟩ => ⟨S1x5632, .f32⟩
  | .hbm, ⟨17, _⟩ => ⟨S1x1024, .f32⟩
  | .hbm, ⟨18, _⟩ => ⟨S1x1024, .f32⟩
  | .hbm, ⟨19, _⟩ => ⟨S1x8, .f32⟩
  | .hbm, ⟨20, _⟩ => ⟨S1x1024, .f32⟩
  | .hbm, ⟨21, _⟩ => ⟨S1x1024, .f32⟩
  | .hbm, ⟨22, _⟩ => ⟨S1x5632, .f32⟩
  | .hbm, ⟨23, _⟩ => ⟨S1x1024, .f32⟩
  | .hbm, ⟨24, _⟩ => ⟨S8x1x128, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x8, .f32⟩
  | .hbm, ⟨30, _⟩ => ⟨S1x8, .f32⟩
  | .hbm, ⟨31, _⟩ => ⟨S1x8, .f32⟩
  | .hbm, ⟨32, _⟩ => ⟨S1x8, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x5632, .f32⟩
  | .hbm, ⟨42, _⟩ => ⟨S1x5632, .f32⟩
  | .hbm, ⟨43, _⟩ => ⟨S1x5632, .f32⟩
  | .hbm, ⟨44, _⟩ => ⟨S1x5632, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x128, .f32⟩
  | .local _ .vmem, ⟨0, _⟩ => ⟨S8x1x1024, .f32⟩
  | .local _ .vmem, ⟨1, _⟩ => ⟨S8x1x8, .f32⟩
  | .local _ .vmem, ⟨2, _⟩ => ⟨S8x1x1024, .f32⟩
  | .local _ .vmem, ⟨3, _⟩ => ⟨S8x1x1024, .f32⟩
  | .local _ .vmem, ⟨4, _⟩ => ⟨S8x1x5632, .f32⟩
  | .local _ .vmem, ⟨5, _⟩ => ⟨S8x1x1024, .f32⟩
  | .local _ .vmem, ⟨6, _⟩ => ⟨S1x1024, .f32⟩
  | .local _ .vmem, ⟨7, _⟩ => ⟨S1x8, .f32⟩
  | .local _ .vmem, ⟨8, _⟩ => ⟨S1x1024, .f32⟩
  | .local _ .vmem, ⟨9, _⟩ => ⟨S1x1024, .f32⟩
  | .local _ .vmem, ⟨10, _⟩ => ⟨S1x5632, .f32⟩
  | .local _ .vmem, ⟨11, _⟩ => ⟨S1x1024, .f32⟩
  | .local _ .vmem, ⟨12, _⟩ => ⟨S1x1024, .f32⟩
  | .local _ .vmem, ⟨13, _⟩ => ⟨S1x8, .f32⟩
  | .local _ .vmem, ⟨14, _⟩ => ⟨S1x1024, .f32⟩
  | .local _ .vmem, ⟨15, _⟩ => ⟨S1x1024, .f32⟩
  | .local _ .vmem, ⟨16, _⟩ => ⟨S1x5632, .f32⟩
  | .local _ .vmem, ⟨17, _⟩ => ⟨S1x1024, .f32⟩
  | .local _ .vmem, ⟨18, _⟩ => ⟨S1x1024, .f32⟩
  | .local _ .vmem, ⟨19, _⟩ => ⟨S1x8, .f32⟩
  | .local _ .vmem, ⟨20, _⟩ => ⟨S1x1024, .f32⟩
  | .local _ .vmem, ⟨21, _⟩ => ⟨S1x1024, .f32⟩
  | .local _ .vmem, ⟨22, _⟩ => ⟨S1x5632, .f32⟩
  | .local _ .vmem, ⟨23, _⟩ => ⟨S1x1024, .f32⟩
  | .local _ .vmem, ⟨24, _⟩ => ⟨S8x1x128, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x8, .f32⟩
  | .local _ .vmem, ⟨30, _⟩ => ⟨S1x8, .f32⟩
  | .local _ .vmem, ⟨31, _⟩ => ⟨S1x8, .f32⟩
  | .local _ .vmem, ⟨32, _⟩ => ⟨S1x8, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x5632, .f32⟩
  | .local _ .vmem, ⟨42, _⟩ => ⟨S1x5632, .f32⟩
  | .local _ .vmem, ⟨43, _⟩ => ⟨S1x5632, .f32⟩
  | .local _ .vmem, ⟨44, _⟩ => ⟨S1x5632, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x128, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0_0 : Ref sig .tc := ⟨.hbm, 25, rfl⟩
abbrev main_v0_1 : Ref sig .tc := ⟨.hbm, 26, rfl⟩
abbrev main_v0_2 : Ref sig .tc := ⟨.hbm, 27, rfl⟩
abbrev main_v0_3 : Ref sig .tc := ⟨.hbm, 28, rfl⟩
abbrev main_v0_4 : Ref sig .tc := ⟨.hbm, 29, rfl⟩
abbrev main_v0_5 : Ref sig .tc := ⟨.hbm, 30, rfl⟩
abbrev main_v0_6 : Ref sig .tc := ⟨.hbm, 31, rfl⟩
abbrev main_v0_7 : Ref sig .tc := ⟨.hbm, 32, rfl⟩
abbrev main_v0_8 : Ref sig .tc := ⟨.hbm, 33, rfl⟩
abbrev main_v0_9 : Ref sig .tc := ⟨.hbm, 34, rfl⟩
abbrev main_v0_10 : Ref sig .tc := ⟨.hbm, 35, rfl⟩
abbrev main_v0_11 : Ref sig .tc := ⟨.hbm, 36, rfl⟩
abbrev main_v0_12 : Ref sig .tc := ⟨.hbm, 37, rfl⟩
abbrev main_v0_13 : Ref sig .tc := ⟨.hbm, 38, rfl⟩
abbrev main_v0_14 : Ref sig .tc := ⟨.hbm, 39, rfl⟩
abbrev main_v0_15 : Ref sig .tc := ⟨.hbm, 40, rfl⟩
abbrev main_v0_16 : Ref sig .tc := ⟨.hbm, 41, rfl⟩
abbrev main_v0_17 : Ref sig .tc := ⟨.hbm, 42, rfl⟩
abbrev main_v0_18 : Ref sig .tc := ⟨.hbm, 43, rfl⟩
abbrev main_v0_19 : Ref sig .tc := ⟨.hbm, 44, rfl⟩
abbrev main_v0_20 : Ref sig .tc := ⟨.hbm, 45, rfl⟩
abbrev main_v0_21 : Ref sig .tc := ⟨.hbm, 46, rfl⟩
abbrev main_v0_22 : Ref sig .tc := ⟨.hbm, 47, rfl⟩
abbrev main_v0_23 : Ref sig .tc := ⟨.hbm, 48, rfl⟩
abbrev main_v0_24 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x5632 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S8x1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x8 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x8 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x8 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x8 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x5632 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x5632 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x5632 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x5632 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))
-- ==== Reference21Ideal.lean ====
abbrev S8x1x1024 : Shape := ⟨3, ![8, 1, 1024]⟩
abbrev S8x1x8 : Shape := ⟨3, ![8, 1, 8]⟩
abbrev S8x1x5632 : Shape := ⟨3, ![8, 1, 5632]⟩
abbrev S1x1024 : Shape := ⟨2, ![1, 1024]⟩
abbrev S1x8 : Shape := ⟨2, ![1, 8]⟩
abbrev S1x5632 : Shape := ⟨2, ![1, 5632]⟩
abbrev S8x1x128 : Shape := ⟨3, ![8, 1, 128]⟩
abbrev S_ : Shape := ⟨0, ![]⟩
abbrev S1x128 : Shape := ⟨2, ![1, 128]⟩

abbrev nBuf : Space → Nat
  | .hbm => 243
  | .vmem => 0
  | .smem => 0
  | _ => 0

abbrev hbmTy0_0 (i : Nat) : BufTy := match i % 128 with
  | 0 => ⟨S8x1x1024, .f32⟩
  | 1 => ⟨S8x1x8, .f32⟩
  | 2 => ⟨S8x1x1024, .f32⟩
  | 3 => ⟨S8x1x1024, .f32⟩
  | 4 => ⟨S8x1x5632, .f32⟩
  | 5 => ⟨S8x1x1024, .f32⟩
  | 6 => ⟨S1x1024, .f32⟩
  | 7 => ⟨S1x8, .f32⟩
  | 8 => ⟨S1x1024, .f32⟩
  | 9 => ⟨S1x1024, .f32⟩
  | 10 => ⟨S1x5632, .f32⟩
  | 11 => ⟨S1x1024, .f32⟩
  | 12 => ⟨S1x1024, .f32⟩
  | 13 => ⟨S1x8, .f32⟩
  | 14 => ⟨S1x1024, .f32⟩
  | 15 => ⟨S1x1024, .f32⟩
  | 16 => ⟨S1x5632, .f32⟩
  | 17 => ⟨S1x1024, .f32⟩
  | 18 => ⟨S1x1024, .f32⟩
  | 19 => ⟨S1x8, .f32⟩
  | 20 => ⟨S1x1024, .f32⟩
  | 21 => ⟨S1x1024, .f32⟩
  | 22 => ⟨S1x5632, .f32⟩
  | 23 => ⟨S1x1024, .f32⟩
  | 24 => ⟨S8x1x128, .f32⟩
  | 25 => ⟨S_, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S_, .f32⟩
  | 34 => ⟨S1x1024, .f32⟩
  | 35 => ⟨S_, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x8, .f32⟩
  | 70 => ⟨S_, .f32⟩
  | 71 => ⟨S1x8, .f32⟩
  | 72 => ⟨S1x8, .f32⟩
  | 73 => ⟨S_, .f32⟩
  | 74 => ⟨S1x8, .f32⟩
  | 75 => ⟨S1x8, .f32⟩
  | 76 => ⟨S1x8, .f32⟩
  | 77 => ⟨S_, .f32⟩
  | 78 => ⟨S1x8, .f32⟩
  | 79 => ⟨S1x8, .f32⟩
  | 80 => ⟨S1x8, .f32⟩
  | 81 => ⟨S_, .f32⟩
  | 82 => ⟨S1x8, .f32⟩
  | 83 => ⟨S1x8, .f32⟩
  | 84 => ⟨S1x8, .f32⟩
  | 85 => ⟨S_, .f32⟩
  | 86 => ⟨S1x8, .f32⟩
  | 87 => ⟨S1x8, .f32⟩
  | 88 => ⟨S_, .f32⟩
  | 89 => ⟨S1x8, .f32⟩
  | 90 => ⟨S1x8, .f32⟩
  | 91 => ⟨S1x8, .f32⟩
  | 92 => ⟨S_, .f32⟩
  | 93 => ⟨S1x8, .f32⟩
  | 94 => ⟨S1x8, .f32⟩
  | 95 => ⟨S1x8, .f32⟩
  | 96 => ⟨S_, .f32⟩
  | 97 => ⟨S1x8, .f32⟩
  | 98 => ⟨S1x8, .f32⟩
  | 99 => ⟨S1x8, .f32⟩
  | 100 => ⟨S_, .f32⟩
  | 101 => ⟨S1x8, .f32⟩
  | 102 => ⟨S1x8, .f32⟩
  | 103 => ⟨S_, .f32⟩
  | 104 => ⟨S1x1024, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S8x1x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S_, .f32⟩
  | 46 => ⟨S1x5632, .f32⟩
  | 47 => ⟨S_, .f32⟩
  | 48 => ⟨S1x5632, .f32⟩
  | 49 => ⟨S1x5632, .f32⟩
  | 50 => ⟨S_, .f32⟩
  | 51 => ⟨S1x5632, .f32⟩
  | 52 => ⟨S1x5632, .f32⟩
  | 53 => ⟨S1x5632, .f32⟩
  | 54 => ⟨S_, .f32⟩
  | 55 => ⟨S1x5632, .f32⟩
  | 56 => ⟨S1x5632, .f32⟩
  | 57 => ⟨S1x5632, .f32⟩
  | 58 => ⟨S_, .f32⟩
  | 59 => ⟨S1x5632, .f32⟩
  | 60 => ⟨S1x5632, .f32⟩
  | 61 => ⟨S1x5632, .f32⟩
  | 62 => ⟨S_, .f32⟩
  | 63 => ⟨S1x5632, .f32⟩
  | 64 => ⟨S1x5632, .f32⟩
  | 65 => ⟨S_, .f32⟩
  | 66 => ⟨S1x5632, .f32⟩
  | 67 => ⟨S1x5632, .f32⟩
  | 68 => ⟨S1x5632, .f32⟩
  | 69 => ⟨S_, .f32⟩
  | 70 => ⟨S1x5632, .f32⟩
  | 71 => ⟨S1x5632, .f32⟩
  | 72 => ⟨S1x5632, .f32⟩
  | 73 => ⟨S_, .f32⟩
  | 74 => ⟨S1x5632, .f32⟩
  | 75 => ⟨S1x5632, .f32⟩
  | 76 => ⟨S1x5632, .f32⟩
  | 77 => ⟨S_, .f32⟩
  | 78 => ⟨S1x5632, .f32⟩
  | 79 => ⟨S1x5632, .f32⟩
  | 80 => ⟨S_, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | _ => ⟨S8x1x1024, .f32⟩

abbrev hbmTy (i : Nat) : BufTy := match i / 128 with
  | 0 => hbmTy0_0 i
  | 1 => hbmTy0_1 i
  | _ => ⟨S8x1x1024, .f32⟩

abbrev bufTy : (tb : Table) → Fin (tcTables nBuf tb) → BufTy
  | .hbm, ⟨i, _⟩ => hbmTy i
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_cst_1 : Ref sig .tc := ⟨.hbm, 30, rfl⟩
abbrev main_v3 : Ref sig .tc := ⟨.hbm, 31, rfl⟩
abbrev main_v4 : Ref sig .tc := ⟨.hbm, 32, rfl⟩
abbrev main_cst_2 : Ref sig .tc := ⟨.hbm, 33, rfl⟩
abbrev main_v5 : Ref sig .tc := ⟨.hbm, 34, rfl⟩
abbrev main_cst_3 : Ref sig .tc := ⟨.hbm, 35, rfl⟩
abbrev main_v6 : Ref sig .tc := ⟨.hbm, 36, rfl⟩
abbrev main_v7 : Ref sig .tc := ⟨.hbm, 37, rfl⟩
abbrev main_cst_4 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_5 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_6 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_7 : Ref sig .tc := ⟨.hbm, 50, rfl⟩
abbrev main_v17 : Ref sig .tc := ⟨.hbm, 51, rfl⟩
abbrev main_v18 : Ref sig .tc := ⟨.hbm, 52, rfl⟩
abbrev main_cst_8 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_9 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_10 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_11 : Ref sig .tc := ⟨.hbm, 65, rfl⟩
abbrev main_v28 : Ref sig .tc := ⟨.hbm, 66, rfl⟩
abbrev main_v29 : Ref sig .tc := ⟨.hbm, 67, rfl⟩
abbrev main_cst_12 : Ref sig .tc := ⟨.hbm, 68, rfl⟩
abbrev main_v30 : Ref sig .tc := ⟨.hbm, 69, rfl⟩
abbrev main_cst_13 : Ref sig .tc := ⟨.hbm, 70, rfl⟩
abbrev main_v31 : Ref sig .tc := ⟨.hbm, 71, rfl⟩
abbrev main_v32 : Ref sig .tc := ⟨.hbm, 72, rfl⟩
abbrev main_cst_14 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_15 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_16 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_17 : Ref sig .tc := ⟨.hbm, 85, rfl⟩
abbrev main_v42 : Ref sig .tc := ⟨.hbm, 86, rfl⟩
abbrev main_v43 : Ref sig .tc := ⟨.hbm, 87, rfl⟩
abbrev main_cst_18 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_19 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_20 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_21 : Ref sig .tc := ⟨.hbm, 100, rfl⟩
abbrev main_v53 : Ref sig .tc := ⟨.hbm, 101, rfl⟩
abbrev main_v54 : Ref sig .tc := ⟨.hbm, 102, rfl⟩
abbrev main_cst_22 : Ref sig .tc := ⟨.hbm, 103, rfl⟩
abbrev main_v55 : Ref sig .tc := ⟨.hbm, 104, rfl⟩
abbrev main_cst_23 : Ref sig .tc := ⟨.hbm, 105, rfl⟩
abbrev main_v56 : Ref sig .tc := ⟨.hbm, 106, rfl⟩
abbrev main_v57 : Ref sig .tc := ⟨.hbm, 107, rfl⟩
abbrev main_cst_24 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_25 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_26 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_27 : Ref sig .tc := ⟨.hbm, 120, rfl⟩
abbrev main_v67 : Ref sig .tc := ⟨.hbm, 121, rfl⟩
abbrev main_v68 : Ref sig .tc := ⟨.hbm, 122, rfl⟩
abbrev main_cst_28 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_29 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_30 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_cst_31 : Ref sig .tc := ⟨.hbm, 135, rfl⟩
abbrev main_v78 : Ref sig .tc := ⟨.hbm, 136, rfl⟩
abbrev main_v79 : Ref sig .tc := ⟨.hbm, 137, rfl⟩
abbrev main_cst_32 : Ref sig .tc := ⟨.hbm, 138, rfl⟩
abbrev main_v80 : Ref sig .tc := ⟨.hbm, 139, rfl⟩
abbrev main_cst_33 : Ref sig .tc := ⟨.hbm, 140, rfl⟩
abbrev main_v81 : Ref sig .tc := ⟨.hbm, 141, rfl⟩
abbrev main_v82 : Ref sig .tc := ⟨.hbm, 142, rfl⟩
abbrev main_cst_34 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_cst_35 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_36 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_37 : Ref sig .tc := ⟨.hbm, 155, rfl⟩
abbrev main_v92 : Ref sig .tc := ⟨.hbm, 156, rfl⟩
abbrev main_v93 : Ref sig .tc := ⟨.hbm, 157, rfl⟩
abbrev main_cst_38 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_cst_39 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_40 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_41 : Ref sig .tc := ⟨.hbm, 170, rfl⟩
abbrev main_v103 : Ref sig .tc := ⟨.hbm, 171, rfl⟩
abbrev main_v104 : Ref sig .tc := ⟨.hbm, 172, rfl⟩
abbrev main_cst_42 : Ref sig .tc := ⟨.hbm, 173, rfl⟩
abbrev main_v105 : Ref sig .tc := ⟨.hbm, 174, rfl⟩
abbrev main_cst_43 : Ref sig .tc := ⟨.hbm, 175, rfl⟩
abbrev main_v106 : Ref sig .tc := ⟨.hbm, 176, rfl⟩
abbrev main_v107 : Ref sig .tc := ⟨.hbm, 177, rfl⟩
abbrev main_cst_44 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_45 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_46 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_47 : Ref sig .tc := ⟨.hbm, 190, rfl⟩
abbrev main_v117 : Ref sig .tc := ⟨.hbm, 191, rfl⟩
abbrev main_v118 : Ref sig .tc := ⟨.hbm, 192, rfl⟩
abbrev main_cst_48 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_cst_49 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_cst_50 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_cst_51 : Ref sig .tc := ⟨.hbm, 205, rfl⟩
abbrev main_v128 : Ref sig .tc := ⟨.hbm, 206, rfl⟩
abbrev main_v129 : Ref sig .tc := ⟨.hbm, 207, rfl⟩
abbrev main_cst_52 : Ref sig .tc := ⟨.hbm, 208, rfl⟩
abbrev main_v130 : Ref sig .tc := ⟨.hbm, 209, rfl⟩
abbrev main_cst_53 : Ref sig .tc := ⟨.hbm, 210, rfl⟩
abbrev main_v131 : Ref sig .tc := ⟨.hbm, 211, rfl⟩
abbrev main_v132 : Ref sig .tc := ⟨.hbm, 212, rfl⟩
abbrev main_cst_54 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_cst_55 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_cst_56 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_cst_57 : Ref sig .tc := ⟨.hbm, 225, rfl⟩
abbrev main_v142 : Ref sig .tc := ⟨.hbm, 226, rfl⟩
abbrev main_v143 : Ref sig .tc := ⟨.hbm, 227, rfl⟩
abbrev main_cst_58 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_cst_59 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_cst_60 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_cst_61 : Ref sig .tc := ⟨.hbm, 240, rfl⟩
abbrev main_v153 : Ref sig .tc := ⟨.hbm, 241, rfl⟩
abbrev main_v154 : Ref sig .tc := ⟨.hbm, 242, rfl⟩

abbrev nD : Nat := 1
abbrev τ : Topo := Topo.v7x

variable {F : FTy → Type} [FloatOps F]
-- ==== Proof.SmallBlocks.lean ====
/-
  The optimiser's call for the small weights and the loss: its blocks, and what its body leaves in each output's buffer.
-/
module

public import proofs.«01_k».proof.Proof.Gen.Kernel21Ideal.Launch
public import proofs.«01_k».proof.Proof.Gen.Kernel21Ideal.Skeleton
public import proofs.«01_k».proof.Proof.Gen.Kernel21Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.Small

open Cert.Kernel21Ideal Cert.Kernel21Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- A device's buffers when the call starts: as given. -/
abbrev V (c : Dev nD) (b : Ref sig .tc) : Buf (Elt F) ((c : Thread nD τ).loc b) := m ((c : Thread nD τ).loc b)

set_option maxHeartbeats 800000 in
/-- The host program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl
theorem V_main_arg24 (c : Dev nD) : V m c main_arg24 = m ((c : Thread nD τ).loc main_arg24) := rfl

/-! ## The windows' blocks -/

/-- The block of a window at a point of the grid, read from its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 3000000 in
/-- The argument arrays end as they were, once the run ends as the library describes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c))),
      ((h c).1 21).trans (((dats 0 c).arrAt_in 21 rfl _).trans ((hA c 21).trans (V_main_arg21 m c))),
      ((h c).1 22).trans (((dats 0 c).arrAt_in 22 rfl _).trans ((hA c 22).trans (V_main_arg22 m c))),
      ((h c).1 23).trans (((dats 0 c).arrAt_in 23 rfl _).trans ((hA c 23).trans (V_main_arg23 m c))),
      ((h c).1 24).trans (((dats 0 c).arrAt_in 24 rfl _).trans ((hA c 24).trans (V_main_arg24 m c)))⟩) h

/-! ## The body's accesses -/

abbrev r0_0 : Rect S8x1x1024 := Rect.unit (s := S8x1x1024) ![0, 0, 0] S1x1x1024.size inb_S8x1x1024_S1x1x1024_0_0_0
abbrev r0_1 : Rect S8x1x1024 := Rect.unit (s := S8x1x1024) ![1, 0, 0] S1x1x1024.size inb_S8x1x1024_S1x1x1024_1_0_0
abbrev r0_2 : Rect S8x1x1024 := Rect.unit (s := S8x1x1024) ![2, 0, 0] S1x1x1024.size inb_S8x1x1024_S1x1x1024_2_0_0
abbrev r0_3 : Rect S8x1x1024 := Rect.unit (s := S8x1x1024) ![3, 0, 0] S1x1x1024.size inb_S8x1x1024_S1x1x1024_3_0_0
abbrev r0_4 : Rect S8x1x1024 := Rect.unit (s := S8x1x1024) ![4, 0, 0] S1x1x1024.size inb_S8x1x1024_S1x1x1024_4_0_0
abbrev r0_5 : Rect S8x1x1024 := Rect.unit (s := S8x1x1024) ![5, 0, 0] S1x1x1024.size inb_S8x1x1024_S1x1x1024_5_0_0
abbrev r0_6 : Rect S8x1x1024 := Rect.unit (s := S8x1x1024) ![6, 0, 0] S1x1x1024.size inb_S8x1x1024_S1x1x1024_6_0_0
abbrev r0_7 : Rect S8x1x1024 := Rect.unit (s := S8x1x1024) ![7, 0, 0] S1x1x1024.size inb_S8x1x1024_S1x1x1024_7_0_0
abbrev r0_8 : Rect S1x1024 := Rect.unit (s := S1x1024) ![0, 0] S1x1024.size inb_S1x1024_S1x1024_0_0
abbrev r0_9 : Rect S8x1x8 := Rect.unit (s := S8x1x8) ![0, 0, 0] S1x1x8.size inb_S8x1x8_S1x1x8_0_0_0
abbrev r0_10 : Rect S8x1x8 := Rect.unit (s := S8x1x8) ![1, 0, 0] S1x1x8.size inb_S8x1x8_S1x1x8_1_0_0
abbrev r0_11 : Rect S8x1x8 := Rect.unit (s := S8x1x8) ![2, 0, 0] S1x1x8.size inb_S8x1x8_S1x1x8_2_0_0
abbrev r0_12 : Rect S8x1x8 := Rect.unit (s := S8x1x8) ![3, 0, 0] S1x1x8.size inb_S8x1x8_S1x1x8_3_0_0
abbrev r0_13 : Rect S8x1x8 := Rect.unit (s := S8x1x8) ![4, 0, 0] S1x1x8.size inb_S8x1x8_S1x1x8_4_0_0
abbrev r0_14 : Rect S8x1x8 := Rect.unit (s := S8x1x8) ![5, 0, 0] S1x1x8.size inb_S8x1x8_S1x1x8_5_0_0
abbrev r0_15 : Rect S8x1x8 := Rect.unit (s := S8x1x8) ![6, 0, 0] S1x1x8.size inb_S8x1x8_S1x1x8_6_0_0
abbrev r0_16 : Rect S8x1x8 := Rect.unit (s := S8x1x8) ![7, 0, 0] S1x1x8.size inb_S8x1x8_S1x1x8_7_0_0
abbrev r0_17 : Rect S1x8 := Rect.unit (s := S1x8) ![0, 0] S1x8.size inb_S1x8_S1x8_0_0
abbrev r0_18 : Rect S8x1x5632 := Rect.unit (s := S8x1x5632) ![0, 0, 0] S1x1x5632.size inb_S8x1x5632_S1x1x5632_0_0_0
abbrev r0_19 : Rect S8x1x5632 := Rect.unit (s := S8x1x5632) ![1, 0, 0] S1x1x5632.size inb_S8x1x5632_S1x1x5632_1_0_0
abbrev r0_20 : Rect S8x1x5632 := Rect.unit (s := S8x1x5632) ![2, 0, 0] S1x1x5632.size inb_S8x1x5632_S1x1x5632_2_0_0
abbrev r0_21 : Rect S8x1x5632 := Rect.unit (s := S8x1x5632) ![3, 0, 0] S1x1x5632.size inb_S8x1x5632_S1x1x5632_3_0_0
abbrev r0_22 : Rect S8x1x5632 := Rect.unit (s := S8x1x5632) ![4, 0, 0] S1x1x5632.size inb_S8x1x5632_S1x1x5632_4_0_0
abbrev r0_23 : Rect S8x1x5632 := Rect.unit (s := S8x1x5632) ![5, 0, 0] S1x1x5632.size inb_S8x1x5632_S1x1x5632_5_0_0
abbrev r0_24 : Rect S8x1x5632 := Rect.unit (s := S8x1x5632) ![6, 0, 0] S1x1x5632.size inb_S8x1x5632_S1x1x5632_6_0_0
abbrev r0_25 : Rect S8x1x5632 := Rect.unit (s := S8x1x5632) ![7, 0, 0] S1x1x5632.size inb_S8x1x5632_S1x1x5632_7_0_0
abbrev r0_26 : Rect S1x5632 := Rect.unit (s := S1x5632) ![0, 0] S1x5632.size inb_S1x5632_S1x5632_0_0
abbrev r0_27 : Rect S8x1x128 := Rect.unit (s := S8x1x128) ![0, 0, 0] S1x1x128.size inb_S8x1x128_S1x1x128_0_0_0
abbrev r0_28 : Rect S8x1x128 := Rect.unit (s := S8x1x128) ![1, 0, 0] S1x1x128.size inb_S8x1x128_S1x1x128_1_0_0
abbrev r0_29 : Rect S8x1x128 := Rect.unit (s := S8x1x128) ![2, 0, 0] S1x1x128.size inb_S8x1x128_S1x1x128_2_0_0
abbrev r0_30 : Rect S8x1x128 := Rect.unit (s := S8x1x128) ![3, 0, 0] S1x1x128.size inb_S8x1x128_S1x1x128_3_0_0
abbrev r0_31 : Rect S8x1x128 := Rect.unit (s := S8x1x128) ![4, 0, 0] S1x1x128.size inb_S8x1x128_S1x1x128_4_0_0
abbrev r0_32 : Rect S8x1x128 := Rect.unit (s := S8x1x128) ![5, 0, 0] S1x1x128.size inb_S8x1x128_S1x1x128_5_0_0
abbrev r0_33 : Rect S8x1x128 := Rect.unit (s := S8x1x128) ![6, 0, 0] S1x1x128.size inb_S8x1x128_S1x1x128_6_0_0
abbrev r0_34 : Rect S8x1x128 := Rect.unit (s := S8x1x128) ![7, 0, 0] S1x1x128.size inb_S8x1x128_S1x1x128_7_0_0
abbrev r0_35 : Rect S1x128 := Rect.unit (s := S1x128) ![0, 0] S1x128.size inb_S1x128_S1x128_0_0

/-! ## What the body leaves in each output window's buffer -/

/-! ### Values of the body that several stores use -/

def k0_pay37 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x1024 .f32 :=
  k0_pay2 (View.ld x0 r0_0) (View.ld x0 r0_1) (View.ld x0 r0_2) (View.ld x0 r0_3) (View.ld x0 r0_4) (View.ld x0 r0_5) (View.ld x0 r0_6) (View.ld x0 r0_7)
def k0_pay38 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x1024 .f32 :=
  k0_pay3 (View.ld x12 r0_8)
def k0_pay39 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x1024 .f32 :=
  k0_pay4 (View.ld x0 r0_0) (View.ld x0 r0_1) (View.ld x0 r0_2) (View.ld x0 r0_3) (View.ld x0 r0_4) (View.ld x0 r0_5) (View.ld x0 r0_6) (View.ld x0 r0_7)
def k0_pay40 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x8 .f32 :=
  k0_pay8 (View.ld x1 r0_9) (View.ld x1 r0_10)
def k0_pay41 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x8 .f32 :=
  k0_pay10 (k0_pay40 x0 x1 x2 x3 x4 x5 x6 x7 x8 x9 x10 x11 x12 x13 x14 x15 x16 x17 x18 x19 x20 x21 x22 x23 x24) (View.ld x1 r0_11) (View.ld x1 r0_12) (View.ld x1 r0_13) (View.ld x1 r0_14) (View.ld x1 r0_15) (View.ld x1 r0_16) (View.ld x13 r0_17)
def k0_pay42 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x8 .f32 :=
  k0_pay11 (k0_pay40 x0 x1 x2 x3 x4 x5 x6 x7 x8 x9 x10 x11 x12 x13 x14 x15 x16 x17 x18 x19 x20 x21 x22 x23 x24) (View.ld x1 r0_11) (View.ld x1 r0_12) (View.ld x1 r0_13) (View.ld x1 r0_14) (View.ld x1 r0_15) (View.ld x1 r0_16) (View.ld x19 r0_17)
def k0_pay43 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x1024 .f32 :=
  k0_pay13 (View.ld x2 r0_0) (View.ld x2 r0_1) (View.ld x2 r0_2) (View.ld x2 r0_3) (View.ld x2 r0_4)
def k0_pay44 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x1024 .f32 :=
  k0_pay20 (View.ld x3 r0_0) (View.ld x3 r0_1) (View.ld x3 r0_2) (View.ld x3 r0_3) (View.ld x3 r0_4) (View.ld x3 r0_5) (View.ld x3 r0_6)
def k0_pay45 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x5632 .f32 :=
  k0_pay25 (View.ld x4 r0_18) (View.ld x4 r0_19) (View.ld x4 r0_20) (View.ld x4 r0_21) (View.ld x4 r0_22) (View.ld x4 r0_23) (View.ld x4 r0_24) (View.ld x4 r0_25)
def k0_pay46 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x5632 .f32 :=
  k0_pay26 (View.ld x16 r0_26)
def k0_pay47 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x5632 .f32 :=
  k0_pay27 (View.ld x4 r0_18) (View.ld x4 r0_19) (View.ld x4 r0_20) (View.ld x4 r0_21) (View.ld x4 r0_22) (View.ld x4 r0_23) (View.ld x4 r0_24) (View.ld x4 r0_25)
def k0_pay48 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x1024 .f32 :=
  k0_pay31 (View.ld x5 r0_0) (View.ld x5 r0_1)
def k0_pay49 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x1024 .f32 :=
  k0_pay33 (k0_pay48 x0 x1 x2 x3 x4 x5 x6 x7 x8 x9 x10 x11 x12 x13 x14 x15 x16 x17 x18 x19 x20 x21 x22 x23 x24) (View.ld x5 r0_2) (View.ld x5 r0_3) (View.ld x5 r0_4) (View.ld x5 r0_5) (View.ld x5 r0_6) (View.ld x5 r0_7) (View.ld x17 r0_8)
def k0_pay50 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : FVec F S1x1024 .f32 :=
  k0_pay34 (k0_pay48 x0 x1 x2 x3 x4 x5 x6 x7 x8 x9 x10 x11 x12 x13 x14 x15 x16 x17 x18 x19 x20 x21 x22 x23 x24) (View.ld x5 r0_2) (View.ld x5 r0_3) (View.ld x5 r0_4) (View.ld x5 r0_5) (View.ld x5 r0_6) (View.ld x5 r0_7) (View.ld x23 r0_8)

/-- What the body leaves in each output's buffer, from the inputs' blocks. -/
def out0_25 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay2 (View.ld x0 r0_0) (View.ld x0 r0_1) (View.ld x0 r0_2) (View.ld x0 r0_3) (View.ld x0 r0_4) (View.ld x0 r0_5) (View.ld x0 r0_6) (View.ld x0 r0_7)⟩]

/-- The stores cover the buffer. -/
theorem cover0_25 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_26 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay7 (k0_pay37 x0 x1 x2 x3 x4 x5 x6 x7 x8 x9 x10 x11 x12 x13 x14 x15 x16 x17 x18 x19 x20 x21 x22 x23 x24) (k0_pay38 x0 x1 x2 x3 x4 x5 x6 x7 x8 x9 x10 x11 x12 x13 x14 x15 x16 x17 x18 x19 x20 x21 x22 x23 x24) (k0_pay39 x0 x1 x2 x3 x4 x5 x6 x7 x8 x9 x10 x11 x12 x13 x14 x15 x16 x17 x18 x19 x20 x21 x22 x23 x24) (View.ld x18 r0_8) (View.ld x6 r0_8)⟩]

theorem cover0_26 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_27 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay5 (k0_pay38 x0 x1 x2 x3 x4 x5 x6 x7 x8 x9 x10 x11 x12 x13 x14 x15 x16 x17 x18 x19 x20 x21 x22 x23 x24) (k0_pay39 x0 x1 x2 x3 x4 x5 x6 x7 x8 x9 x10 x11 x12 x13 x14 x15 x16 x17 x18 x19 x20 x21 x22 x23 x24)⟩]

theorem cover0_27 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_28 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay6 (k0_pay37 x0 x1 x2 x3 x4 x5 x6 x7 x8 x9 x10 x11 x12 x13 x14 x15 x16 x17 x18 x19 x20 x21 x22 x23 x24) (View.ld x18 r0_8)⟩]

theorem cover0_28 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_29 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x8 .f32 :=
  View.canon [⟨r0_17, k0_pay9 (k0_pay40 x0 x1 x2 x3 x4 x5 x6 x7 x8 x9 x10 x11 x12 x13 x14 x15 x16 x17 x18 x19 x20 x21 x22 x23 x24) (View.ld x1 r0_11) (View.ld x1 r0_12) (View.ld x1 r0_13) (View.ld x1 r0_14) (View.ld x1 r0_15) (View.ld x1 r0_16)⟩]

theorem cover0_29 (p0 : Vec F S1x8 .f32) (y : S1x8.Idx) :
    ∃ pc ∈ ([⟨r0_17, p0⟩] : List (View.Piece (Elt F) S1x8 .f32)), y ∈ pc.1.set :=
  View.cover_of_tiled [⟨r0_17, p0⟩] S1x8.size (by rfl) y

def out0_30 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x8 .f32 :=
  View.canon [⟨r0_17, k0_pay12 (k0_pay41 x0 x1 x2 x3 x4 x5 x6 x7 x8 x9 x10 x11 x12 x13 x14 x15 x16 x17 x18 x19 x20 x21 x22 x23 x24) (k0_pay42 x0 x1 x2 x3 x4 x5 x6 x7 x8 x9 x10 x11 x12 x13 x14 x15 x16 x17 x18 x19 x20 x21 x22 x23 x24) (View.ld x7 r0_17)⟩]

theorem cover0_30 (p0 : Vec F S1x8 .f32) (y : S1x8.Idx) :
    ∃ pc ∈ ([⟨r0_17, p0⟩] : List (View.Piece (Elt F) S1x8 .f32)), y ∈ pc.1.set :=
  View.cover_of_tiled [⟨r0_17, p0⟩] S1x8.size (by rfl) y

def out0_31 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x8 .f32 :=
  View.canon [⟨r0_17, k0_pay41 x0 x1 x2 x3 x4 x5 x6 x7 x8 x9 x10 x11 x12 x13 x14 x15 x16 x17 x18 x19 x20 x21 x22 x23 x24⟩]

theorem cover0_31 (p0 : Vec F S1x8 .f32) (y : S1x8.Idx) :
    ∃ pc ∈ ([⟨r0_17, p0⟩] : List (View.Piece (Elt F) S1x8 .f32)), y ∈ pc.1.set :=
  View.cover_of_tiled [⟨r0_17, p0⟩] S1x8.size (by rfl) y

def out0_32 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x8 .f32 :=
  View.canon [⟨r0_17, k0_pay42 x0 x1 x2 x3 x4 x5 x6 x7 x8 x9 x10 x11 x12 x13 x14 x15 x16 x17 x18 x19 x20 x21 x22 x23 x24⟩]

theorem cover0_32 (p0 : Vec F S1x8 .f32) (y : S1x8.Idx) :
    ∃ pc ∈ ([⟨r0_17, p0⟩] : List (View.Piece (Elt F) S1x8 .f32)), y ∈ pc.1.set :=
  View.cover_of_tiled [⟨r0_17, p0⟩] S1x8.size (by rfl) y

def out0_33 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay14 (k0_pay43 x0 x1 x2 x3 x4 x5 x6 x7 x8 x9 x10 x11 x12 x13 x14 x15 x16 x17 x18 x19 x20 x21 x22 x23 x24) (View.ld x2 r0_5) (View.ld x2 r0_6) (View.ld x2 r0_7)⟩]

theorem cover0_33 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_34 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay19 (k0_pay17 (k0_pay43 x0 x1 x2 x3 x4 x5 x6 x7 x8 x9 x10 x11 x12 x13 x14 x15 x16 x17 x18 x19 x20 x21 x22 x23 x24) (View.ld x2 r0_5) (View.ld x2 r0_6) (View.ld x2 r0_7) (View.ld x14 r0_8)) (k0_pay18 (k0_pay43 x0 x1 x2 x3 x4 x5 x6 x7 x8 x9 x10 x11 x12 x13 x14 x15 x16 x17 x18 x19 x20 x21 x22 x23 x24) (View.ld x2 r0_5) (View.ld x2 r0_6) (View.ld x2 r0_7) (View.ld x20 r0_8)) (View.ld x8 r0_8)⟩]

theorem cover0_34 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_35 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay15 (k0_pay43 x0 x1 x2 x3 x4 x5 x6 x7 x8 x9 x10 x11 x12 x13 x14 x15 x16 x17 x18 x19 x20 x21 x22 x23 x24) (View.ld x2 r0_5) (View.ld x2 r0_6) (View.ld x2 r0_7) (View.ld x14 r0_8)⟩]

theorem cover0_35 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_36 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay16 (k0_pay43 x0 x1 x2 x3 x4 x5 x6 x7 x8 x9 x10 x11 x12 x13 x14 x15 x16 x17 x18 x19 x20 x21 x22 x23 x24) (View.ld x2 r0_5) (View.ld x2 r0_6) (View.ld x2 r0_7) (View.ld x20 r0_8)⟩]

theorem cover0_36 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_37 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay21 (k0_pay44 x0 x1 x2 x3 x4 x5 x6 x7 x8 x9 x10 x11 x12 x13 x14 x15 x16 x17 x18 x19 x20 x21 x22 x23 x24) (View.ld x3 r0_7)⟩]

theorem cover0_37 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_38 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay24 (k0_pay44 x0 x1 x2 x3 x4 x5 x6 x7 x8 x9 x10 x11 x12 x13 x14 x15 x16 x17 x18 x19 x20 x21 x22 x23 x24) (View.ld x3 r0_7) (View.ld x15 r0_8) (View.ld x21 r0_8) (View.ld x9 r0_8)⟩]

theorem cover0_38 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_39 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay22 (k0_pay44 x0 x1 x2 x3 x4 x5 x6 x7 x8 x9 x10 x11 x12 x13 x14 x15 x16 x17 x18 x19 x20 x21 x22 x23 x24) (View.ld x3 r0_7) (View.ld x15 r0_8)⟩]

theorem cover0_39 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_40 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay23 (k0_pay44 x0 x1 x2 x3 x4 x5 x6 x7 x8 x9 x10 x11 x12 x13 x14 x15 x16 x17 x18 x19 x20 x21 x22 x23 x24) (View.ld x3 r0_7) (View.ld x21 r0_8)⟩]

theorem cover0_40 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_41 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x5632 .f32 :=
  View.canon [⟨r0_26, k0_pay25 (View.ld x4 r0_18) (View.ld x4 r0_19) (View.ld x4 r0_20) (View.ld x4 r0_21) (View.ld x4 r0_22) (View.ld x4 r0_23) (View.ld x4 r0_24) (View.ld x4 r0_25)⟩]

theorem cover0_41 (p0 : Vec F S1x5632 .f32) (y : S1x5632.Idx) :
    ∃ pc ∈ ([⟨r0_26, p0⟩] : List (View.Piece (Elt F) S1x5632 .f32)), y ∈ pc.1.set :=
  View.cover_of_tiled [⟨r0_26, p0⟩] S1x5632.size (by rfl) y

def out0_42 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x5632 .f32 :=
  View.canon [⟨r0_26, k0_pay30 (k0_pay45 x0 x1 x2 x3 x4 x5 x6 x7 x8 x9 x10 x11 x12 x13 x14 x15 x16 x17 x18 x19 x20 x21 x22 x23 x24) (k0_pay46 x0 x1 x2 x3 x4 x5 x6 x7 x8 x9 x10 x11 x12 x13 x14 x15 x16 x17 x18 x19 x20 x21 x22 x23 x24) (k0_pay47 x0 x1 x2 x3 x4 x5 x6 x7 x8 x9 x10 x11 x12 x13 x14 x15 x16 x17 x18 x19 x20 x21 x22 x23 x24) (View.ld x22 r0_26) (View.ld x10 r0_26)⟩]

theorem cover0_42 (p0 : Vec F S1x5632 .f32) (y : S1x5632.Idx) :
    ∃ pc ∈ ([⟨r0_26, p0⟩] : List (View.Piece (Elt F) S1x5632 .f32)), y ∈ pc.1.set :=
  View.cover_of_tiled [⟨r0_26, p0⟩] S1x5632.size (by rfl) y

def out0_43 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x5632 .f32 :=
  View.canon [⟨r0_26, k0_pay28 (k0_pay46 x0 x1 x2 x3 x4 x5 x6 x7 x8 x9 x10 x11 x12 x13 x14 x15 x16 x17 x18 x19 x20 x21 x22 x23 x24) (k0_pay47 x0 x1 x2 x3 x4 x5 x6 x7 x8 x9 x10 x11 x12 x13 x14 x15 x16 x17 x18 x19 x20 x21 x22 x23 x24)⟩]

theorem cover0_43 (p0 : Vec F S1x5632 .f32) (y : S1x5632.Idx) :
    ∃ pc ∈ ([⟨r0_26, p0⟩] : List (View.Piece (Elt F) S1x5632 .f32)), y ∈ pc.1.set :=
  View.cover_of_tiled [⟨r0_26, p0⟩] S1x5632.size (by rfl) y

def out0_44 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x5632 .f32 :=
  View.canon [⟨r0_26, k0_pay29 (k0_pay45 x0 x1 x2 x3 x4 x5 x6 x7 x8 x9 x10 x11 x12 x13 x14 x15 x16 x17 x18 x19 x20 x21 x22 x23 x24) (View.ld x22 r0_26)⟩]

theorem cover0_44 (p0 : Vec F S1x5632 .f32) (y : S1x5632.Idx) :
    ∃ pc ∈ ([⟨r0_26, p0⟩] : List (View.Piece (Elt F) S1x5632 .f32)), y ∈ pc.1.set :=
  View.cover_of_tiled [⟨r0_26, p0⟩] S1x5632.size (by rfl) y

def out0_45 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay32 (k0_pay48 x0 x1 x2 x3 x4 x5 x6 x7 x8 x9 x10 x11 x12 x13 x14 x15 x16 x17 x18 x19 x20 x21 x22 x23 x24) (View.ld x5 r0_2) (View.ld x5 r0_3) (View.ld x5 r0_4) (View.ld x5 r0_5) (View.ld x5 r0_6) (View.ld x5 r0_7)⟩]

theorem cover0_45 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_46 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay35 (k0_pay49 x0 x1 x2 x3 x4 x5 x6 x7 x8 x9 x10 x11 x12 x13 x14 x15 x16 x17 x18 x19 x20 x21 x22 x23 x24) (k0_pay50 x0 x1 x2 x3 x4 x5 x6 x7 x8 x9 x10 x11 x12 x13 x14 x15 x16 x17 x18 x19 x20 x21 x22 x23 x24) (View.ld x11 r0_8)⟩]

theorem cover0_46 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_47 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay49 x0 x1 x2 x3 x4 x5 x6 x7 x8 x9 x10 x11 x12 x13 x14 x15 x16 x17 x18 x19 x20 x21 x22 x23 x24⟩]

theorem cover0_47 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_48 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x1024 .f32 :=
  View.canon [⟨r0_8, k0_pay50 x0 x1 x2 x3 x4 x5 x6 x7 x8 x9 x10 x11 x12 x13 x14 x15 x16 x17 x18 x19 x20 x21 x22 x23 x24⟩]

theorem cover0_48 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_49 (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) : Vec F S1x128 .f32 :=
  View.canon [⟨r0_35, k0_pay1 (k0_pay36 (View.ld x24 r0_27) (View.ld x24 r0_28) (View.ld x24 r0_29) (View.ld x24 r0_30) (View.ld x24 r0_31)) (View.ld x24 r0_32) (View.ld x24 r0_33) (View.ld x24 r0_34)⟩]

theorem cover0_49 (p0 : Vec F S1x128 .f32) (y : S1x128.Idx) :
    ∃ pc ∈ ([⟨r0_35, p0⟩] : List (View.Piece (Elt F) S1x128 .f32)), y ∈ pc.1.set :=
  View.cover_of_tiled [⟨r0_35, p0⟩] S1x128.size (by rfl) y
end Cert.Proof.Small

end
-- ==== Proof.SmallRun.lean ====
/-
  The run of the optimiser's call for the small weights and the loss.
-/
module

public import proofs.«01_k».proof.Proof.SmallBlocks
public import proofs.«01_k».proof.Proof.Gen.Kernel21Ideal.Launch
public import proofs.«01_k».proof.Proof.Gen.Kernel21Ideal.Skeleton
public import proofs.«01_k».proof.Proof.Gen.Kernel21Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.Small

open Cert.Kernel21Ideal Cert.Kernel21Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's triple -/

set_option maxHeartbeats 1000000 in
/-- The body, on buffers that hold the inputs' blocks, leaves each output's at `out0_W` of them and the inputs' as they were. -/
theorem sound_kernel (c : Dev nD) (E : Set ℕ) (arg0 : Memref sig .tc .vmem S8x1x1024 .f32) (harg0 : arg0.IsWhole) (arg1 : Memref sig .tc .vmem S8x1x8 .f32) (harg1 : arg1.IsWhole) (arg2 : Memref sig .tc .vmem S8x1x1024 .f32) (harg2 : arg2.IsWhole) (arg3 : Memref sig .tc .vmem S8x1x1024 .f32) (harg3 : arg3.IsWhole) (arg4 : Memref sig .tc .vmem S8x1x5632 .f32) (harg4 : arg4.IsWhole) (arg5 : Memref sig .tc .vmem S8x1x1024 .f32) (harg5 : arg5.IsWhole) (arg6 : Memref sig .tc .vmem S1x1024 .f32) (harg6 : arg6.IsWhole) (arg7 : Memref sig .tc .vmem S1x8 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x5632 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x8 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x5632 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x8 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x5632 .f32) (harg22 : arg22.IsWhole) (arg23 : Memref sig .tc .vmem S1x1024 .f32) (harg23 : arg23.IsWhole) (arg24 : Memref sig .tc .vmem S8x1x128 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x8 .f32) (harg29 : arg29.IsWhole) (arg30 : Memref sig .tc .vmem S1x8 .f32) (harg30 : arg30.IsWhole) (arg31 : Memref sig .tc .vmem S1x8 .f32) (harg31 : arg31.IsWhole) (arg32 : Memref sig .tc .vmem S1x8 .f32) (harg32 : arg32.IsWhole) (arg33 : Memref sig .tc .vmem S1x1024 .f32) (harg33 : arg33.IsWhole) (arg34 : Memref sig .tc .vmem S1x1024 .f32) (harg34 : arg34.IsWhole) (arg35 : Memref sig .tc .vmem S1x1024 .f32) (harg35 : arg35.IsWhole) (arg36 : Memref sig .tc .vmem S1x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S1x1024 .f32) (harg39 : arg39.IsWhole) (arg40 : Memref sig .tc .vmem S1x1024 .f32) (harg40 : arg40.IsWhole) (arg41 : Memref sig .tc .vmem S1x5632 .f32) (harg41 : arg41.IsWhole) (arg42 : Memref sig .tc .vmem S1x5632 .f32) (harg42 : arg42.IsWhole) (arg43 : Memref sig .tc .vmem S1x5632 .f32) (harg43 : arg43.IsWhole) (arg44 : Memref sig .tc .vmem S1x5632 .f32) (harg44 : arg44.IsWhole) (arg45 : Memref sig .tc .vmem S1x1024 .f32) (harg45 : arg45.IsWhole) (arg46 : Memref sig .tc .vmem S1x1024 .f32) (harg46 : arg46.IsWhole) (arg47 : Memref sig .tc .vmem S1x1024 .f32) (harg47 : arg47.IsWhole) (arg48 : Memref sig .tc .vmem S1x1024 .f32) (harg48 : arg48.IsWhole) (arg49 : Memref sig .tc .vmem S1x128 .f32) (harg49 : arg49.IsWhole)
    (x0 : Vec F S8x1x1024 .f32) (x1 : Vec F S8x1x8 .f32) (x2 : Vec F S8x1x1024 .f32) (x3 : Vec F S8x1x1024 .f32) (x4 : Vec F S8x1x5632 .f32) (x5 : Vec F S8x1x1024 .f32) (x6 : Vec F S1x1024 .f32) (x7 : Vec F S1x8 .f32) (x8 : Vec F S1x1024 .f32) (x9 : Vec F S1x1024 .f32) (x10 : Vec F S1x5632 .f32) (x11 : Vec F S1x1024 .f32) (x12 : Vec F S1x1024 .f32) (x13 : Vec F S1x8 .f32) (x14 : Vec F S1x1024 .f32) (x15 : Vec F S1x1024 .f32) (x16 : Vec F S1x5632 .f32) (x17 : Vec F S1x1024 .f32) (x18 : Vec F S1x1024 .f32) (x19 : Vec F S1x8 .f32) (x20 : Vec F S1x1024 .f32) (x21 : Vec F S1x1024 .f32) (x22 : Vec F S1x5632 .f32) (x23 : Vec F S1x1024 .f32) (x24 : Vec F S8x1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare (out0_25 x0 x1 x2 x3 x4 x5 x6 x7 x8 x9 x10 x11 x12 x13 x14 x15 x16 x17 x18 x19 x20 x21 x22 x23 x24) ∗ owns (c : Thread nD τ) arg26 fullShare (out0_26 x0 x1 x2 x3 x4 x5 x6 x7 x8 x9 x10 x11 x12 x13 x14 x15 x16 x17 x18 x19 x20 x21 x22 x23 x24) ∗ owns (c : Thread nD τ) arg27 fullShare (out0_27 x0 x1 x2 x3 x4 x5 x6 x7 x8 x9 x10 x11 x12 x13 x14 x15 x16 x17 x18 x19 x20 x21 x22 x23 x24) ∗ owns (c : Thread nD τ) arg28 fullShare (out0_28 x0 x1 x2 x3 x4 x5 x6 x7 x8 x9 x10 x11 x12 x13 x14 x15 x16 x17 x18 x19 x20 x21 x22 x23 x24) ∗ owns (c : Thread nD τ) arg29 fullShare (out0_29 x0 x1 x2 x3 x4 x5 x6 x7 x8 x9 x10 x11 x12 x13 x14 x15 x16 x17 x18 x19 x20 x21 x22 x23 x24) ∗ owns (c : Thread nD τ) arg30 fullShare (out0_30 x0 x1 x2 x3 x4 x5 x6 x7 x8 x9 x10 x11 x12 x13 x14 x15 x16 x17 x18 x19 x20 x21 x22 x23 x24) ∗ owns (c : Thread nD τ) arg31 fullShare (out0_31 x0 x1 x2 x3 x4 x5 x6 x7 x8 x9 x10 x11 x12 x13 x14 x15 x16 x17 x18 x19 x20 x21 x22 x23 x24) ∗ owns (c : Thread nD τ) arg32 fullShare (out0_32 x0 x1 x2 x3 x4 x5 x6 x7 x8 x9 x10 x11 x12 x13 x14 x15 x16 x17 x18 x19 x20 x21 x22 x23 x24) ∗ owns (c : Thread nD τ) arg33 fullShare (out0_33 x0 x1 x2 x3 x4 x5 x6 x7 x8 x9 x10 x11 x12 x13 x14 x15 x16 x17 x18 x19 x20 x21 x22 x23 x24) ∗ owns (c : Thread nD τ) arg34 fullShare (out0_34 x0 x1 x2 x3 x4 x5 x6 x7 x8 x9 x10 x11 x12 x13 x14 x15 x16 x17 x18 x19 x20 x21 x22 x23 x24) ∗ owns (c : Thread nD τ) arg35 fullShare (out0_35 x0 x1 x2 x3 x4 x5 x6 x7 x8 x9 x10 x11 x12 x13 x14 x15 x16 x17 x18 x19 x20 x21 x22 x23 x24) ∗ owns (c : Thread nD τ) arg36 fullShare (out0_36 x0 x1 x2 x3 x4 x5 x6 x7 x8 x9 x10 x11 x12 x13 x14 x15 x16 x17 x18 x19 x20 x21 x22 x23 x24) ∗ owns (c : Thread nD τ) arg37 fullShare (out0_37 x0 x1 x2 x3 x4 x5 x6 x7 x8 x9 x10 x11 x12 x13 x14 x15 x16 x17 x18 x19 x20 x21 x22 x23 x24) ∗ owns (c : Thread nD τ) arg38 fullShare (out0_38 x0 x1 x2 x3 x4 x5 x6 x7 x8 x9 x10 x11 x12 x13 x14 x15 x16 x17 x18 x19 x20 x21 x22 x23 x24) ∗ owns (c : Thread nD τ) arg39 fullShare (out0_39 x0 x1 x2 x3 x4 x5 x6 x7 x8 x9 x10 x11 x12 x13 x14 x15 x16 x17 x18 x19 x20 x21 x22 x23 x24) ∗ owns (c : Thread nD τ) arg40 fullShare (out0_40 x0 x1 x2 x3 x4 x5 x6 x7 x8 x9 x10 x11 x12 x13 x14 x15 x16 x17 x18 x19 x20 x21 x22 x23 x24) ∗ owns (c : Thread nD τ) arg41 fullShare (out0_41 x0 x1 x2 x3 x4 x5 x6 x7 x8 x9 x10 x11 x12 x13 x14 x15 x16 x17 x18 x19 x20 x21 x22 x23 x24) ∗ owns (c : Thread nD τ) arg42 fullShare (out0_42 x0 x1 x2 x3 x4 x5 x6 x7 x8 x9 x10 x11 x12 x13 x14 x15 x16 x17 x18 x19 x20 x21 x22 x23 x24) ∗ owns (c : Thread nD τ) arg43 fullShare (out0_43 x0 x1 x2 x3 x4 x5 x6 x7 x8 x9 x10 x11 x12 x13 x14 x15 x16 x17 x18 x19 x20 x21 x22 x23 x24) ∗ owns (c : Thread nD τ) arg44 fullShare (out0_44 x0 x1 x2 x3 x4 x5 x6 x7 x8 x9 x10 x11 x12 x13 x14 x15 x16 x17 x18 x19 x20 x21 x22 x23 x24) ∗ owns (c : Thread nD τ) arg45 fullShare (out0_45 x0 x1 x2 x3 x4 x5 x6 x7 x8 x9 x10 x11 x12 x13 x14 x15 x16 x17 x18 x19 x20 x21 x22 x23 x24) ∗ owns (c : Thread nD τ) arg46 fullShare (out0_46 x0 x1 x2 x3 x4 x5 x6 x7 x8 x9 x10 x11 x12 x13 x14 x15 x16 x17 x18 x19 x20 x21 x22 x23 x24) ∗ owns (c : Thread nD τ) arg47 fullShare (out0_47 x0 x1 x2 x3 x4 x5 x6 x7 x8 x9 x10 x11 x12 x13 x14 x15 x16 x17 x18 x19 x20 x21 x22 x23 x24) ∗ owns (c : Thread nD τ) arg48 fullShare (out0_48 x0 x1 x2 x3 x4 x5 x6 x7 x8 x9 x10 x11 x12 x13 x14 x15 x16 x17 x18 x19 x20 x21 x22 x23 x24) ∗ owns (c : Thread nD τ) arg49 fullShare (out0_49 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _)).trans ?_
    rfl
  isplitl [H36]
  · iexists _; isplitr
    swap; · iexact H36
    ipureintro
    refine (View.read_writes_eq_canon _ _ _ (cover0_36 _)).trans ?_
    rfl
  isplitl [H37]
  · iexists _; isplitr
    swap; · iexact H37
    ipureintro
    refine (View.read_writes_eq_canon _ _ _ (cover0_37 _)).trans ?_
    rfl
  isplitl [H38]
  · iexists _; isplitr
    swap; · iexact H38
    ipureintro
    refine (View.read_writes_eq_canon _ _ _ (cover0_38 _)).trans ?_
    rfl
  isplitl [H39]
  · iexists _; isplitr
    swap; · iexact H39
    ipureintro
    refine (View.read_writes_eq_canon _ _ _ (cover0_39 _)).trans ?_
    rfl
  isplitl [H40]
  · iexists _; isplitr
    swap; · iexact H40
    ipureintro
    refine (View.read_writes_eq_canon _ _ _ (cover0_40 _)).trans ?_
    rfl
  isplitl [H41]
  · iexists _; isplitr
    swap; · iexact H41
    ipureintro
    refine (View.read_writes_eq_canon _ _ _ (cover0_41 _)).trans ?_
    rfl
  isplitl [H42]
  · iexists _; isplitr
    swap; · iexact H42
    ipureintro
    refine (View.read_writes_eq_canon _ _ _ (cover0_42 _)).trans ?_
    rfl
  isplitl [H43]
  · iexists _; isplitr
    swap; · iexact H43
    ipureintro
    refine (View.read_writes_eq_canon _ _ _ (cover0_43 _)).trans ?_
    rfl
  isplitl [H44]
  · iexists _; isplitr
    swap; · iexact H44
    ipureintro
    refine (View.read_writes_eq_canon _ _ _ (cover0_44 _)).trans ?_
    rfl
  isplitl [H45]
  · iexists _; isplitr
    swap; · iexact H45
    ipureintro
    refine (View.read_writes_eq_canon _ _ _ (cover0_45 _)).trans ?_
    rfl
  isplitl [H46]
  · iexists _; isplitr
    swap; · iexact H46
    ipureintro
    refine (View.read_writes_eq_canon _ _ _ (cover0_46 _)).trans ?_
    rfl
  isplitl [H47]
  · iexists _; isplitr
    swap; · iexact H47
    ipureintro
    refine (View.read_writes_eq_canon _ _ _ (cover0_47 _)).trans ?_
    rfl
  isplitl [H48]
  · iexists _; isplitr
    swap; · iexact H48
    ipureintro
    refine (View.read_writes_eq_canon _ _ _ (cover0_48 _)).trans ?_
    rfl
  iexists _; isplitr
  swap; · iexact H49
  ipureintro
  refine (View.read_writes_eq_canon _ _ _ (cover0_49 _)).trans ?_
  rfl

/-! ## The pipeline's proof data -/

/-- What the pipeline's arrays and buffers hold on a device, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨36, _⟩ => out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨37, _⟩ => out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨38, _⟩ => out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨39, _⟩ => out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨40, _⟩ => out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨41, _⟩ => out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨42, _⟩ => out0_42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨43, _⟩ => out0_43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨44, _⟩ => out0_44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨45, _⟩ => out0_45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨46, _⟩ => out0_46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨47, _⟩ => out0_47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨48, _⟩ => out0_48 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨49, _⟩ => out0_49 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨_ + 50, h⟩ => absurd h (Nat.not_lt.2 (Nat.le_add_left _ _))
  Φ _ := Pipeline.ΦA spec0 c
  q _ := fullShare
  owed _ := 0

/-- The arrays hold what they were given. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_36 (c : Dev nD) (t : Fin cfg0.N) : (dats m 0 c).after 36 t = out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_37 (c : Dev nD) (t : Fin cfg0.N) : (dats m 0 c).after 37 t = out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_38 (c : Dev nD) (t : Fin cfg0.N) : (dats m 0 c).after 38 t = out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_39 (c : Dev nD) (t : Fin cfg0.N) : (dats m 0 c).after 39 t = out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_40 (c : Dev nD) (t : Fin cfg0.N) : (dats m 0 c).after 40 t = out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_41 (c : Dev nD) (t : Fin cfg0.N) : (dats m 0 c).after 41 t = out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_42 (c : Dev nD) (t : Fin cfg0.N) : (dats m 0 c).after 42 t = out0_42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_43 (c : Dev nD) (t : Fin cfg0.N) : (dats m 0 c).after 43 t = out0_43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_44 (c : Dev nD) (t : Fin cfg0.N) : (dats m 0 c).after 44 t = out0_44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_45 (c : Dev nD) (t : Fin cfg0.N) : (dats m 0 c).after 45 t = out0_45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_46 (c : Dev nD) (t : Fin cfg0.N) : (dats m 0 c).after 46 t = out0_46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_47 (c : Dev nD) (t : Fin cfg0.N) : (dats m 0 c).after 47 t = out0_47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_48 (c : Dev nD) (t : Fin cfg0.N) : (dats m 0 c).after 48 t = out0_48 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_49 (c : Dev nD) (t : Fin cfg0.N) : (dats m 0 c).after 49 t = out0_49 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t))

set_option maxHeartbeats 2000000 in
/-- The body at any point: from the inputs' blocks to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  iexact H49

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends, with the arrays at what the pipeline leaves and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the arrays at what the pipeline leaves. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

/-- The argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (unchanged m ρ) ((θ_run defs _ _).mono (fun _ h => h.2) (run_main_quiescent m ρ))
end Cert.Proof.Small

end
-- ==== Proof.SmallKernel.lean ====
/-
  The frame of the optimiser's call for the small weights, from the run of its ideal reading: the two programs have the same text.
-/
module

public import proofs.«01_k».proof.Defs
public import proofs.«01_k».proof.Proof.SmallRun
public import proofs.«01_k».proof.Proof.Gen.Kernel21

@[expose] public section

set_option maxRecDepth 16384

noncomputable section

open Idealize.ShloMosaic Idealize.ShloMosaic.TcCoe Idealize.SL.Sem

namespace Cert.Proof.Small

/-- A run of one program is a run of an equal one. -/
theorem carry {nD : ℕ} {τ : Topo} {sig : RefSig} {Val : EltTy → Type} {Λ : Labels} {d e : Defs nD τ sig Val Λ}
    {p q : (c : Thread nD τ) → Prog (TpuEff nD τ sig Val Λ c.2) PUnit} (hd : d = e) (hp : p = q) {s : MemSt nD τ sig Val}
    {Q : PUnit × MemSt nD τ sig Val → Prop} (h : θ_run e q s Q) : θ_run d p s Q := by
  rw [hd, hp]
  exact h

-- fifty windows on each side are compared
set_option maxHeartbeats 0 in
/-- The bodies are one body. -/
theorem body_eq : @Cert.Kernel21.defs₀ Bits _ _ = @Cert.Kernel21Ideal.defs₀ Bits _ _ := by
  unfold Cert.Kernel21.defs₀ Cert.Kernel21Ideal.defs₀
  refine congrArg Defs.onTc ?_
  funext l a
  match l, a with
  | 0, (t, s) => rfl
  | ⟨_ + 1, h⟩, _ => exact absurd h (Nat.not_lt.2 (Nat.le_add_left _ _))

set_option maxHeartbeats 0 in
/-- The calls are one call. -/
theorem call_eq : @Cert.Kernel21.defs Bits _ _ = @Cert.Kernel21Ideal.defs Bits _ _ :=
  congrArg (Pipeline.defs (Cert.Kernel21Ideal.pcfgs (F := Bits))) body_eq

set_option maxHeartbeats 0 in
/-- The host programs are one program. -/
theorem host_eq : (onTc (Cert.Kernel21.main (F := Bits)) : (c : Thread Cert.Kernel21.nD Cert.Kernel21.τ) → _)
    = onTc (Cert.Kernel21Ideal.main (F := Bits)) := rfl

set_option maxHeartbeats 0 in
theorem frame_kernel : Cert.quiescent_Kernel21 := fun m ρ _ => carry call_eq host_eq (frame (F := Bits) m ρ)

end Cert.Proof.Small

end
-- ==== Proof.Products.lean ====
/-
  Products of matrices over the extended reals, entry by entry, and when a tile of a product is the product of two tiles.
-/
module

public import Idealize.ShloMosaic.Lib.Pointwise
public import Idealize.ShloMosaic.Lib.ValueIdx
public import Idealize.ShloMosaic.Lib.Claim
public import Idealize.ShloMosaic.Lib.Tactic
public import Idealize.ShloMosaic.Lib.Pipeline.ValueKit

@[expose] public section

noncomputable section

namespace Cert.Proof.Products

open Idealize.ShloMosaic

/-- The matrices of `p` rows and `q` columns. -/
abbrev Mat (p q : ℕ) : Type := (⟨2, ![p, q]⟩ : Shape).Idx → EReal

variable {p q n p' q' : ℕ}

/-- `a · b`. -/
def mul (a : Mat p n) (b : Mat n q) : Mat p q := fun y => ∑ k : Fin n, a (ix2 (y 0) k) * b (ix2 k (y 1))
/-- `a · bᵀ`: rows against rows. -/
def mulRows (a : Mat p n) (b : Mat q n) : Mat p q := fun y => ∑ k : Fin n, a (ix2 (y 0) k) * b (ix2 (y 1) k)
/-- `aᵀ · b`: columns against columns. -/
def mulCols (a : Mat n p) (b : Mat n q) : Mat p q := fun y => ∑ k : Fin n, a (ix2 k (y 0)) * b (ix2 k (y 1))

/-- An entry of `a · b` needs a row of `a` and a column of `b` only. -/
theorem mul_at {a : Mat p n} {b : Mat n q} {A : Mat p' n} {B : Mat n q'} {y : (⟨2, ![p, q]⟩ : Shape).Idx} {z : (⟨2, ![p', q']⟩ : Shape).Idx}
    (ha : ∀ k, a (ix2 (y 0) k) = A (ix2 (z 0) k)) (hb : ∀ k, b (ix2 k (y 1)) = B (ix2 k (z 1))) : mul a b y = mul A B z :=
  Finset.sum_congr rfl fun k _ => congrArg₂ _ (ha k) (hb k)
/-- An entry of `a · bᵀ` needs a row of each only. -/
theorem mulRows_at {a : Mat p n} {b : Mat q n} {A : Mat p' n} {B : Mat q' n} {y : (⟨2, ![p, q]⟩ : Shape).Idx} {z : (⟨2, ![p', q']⟩ : Shape).Idx}
    (ha : ∀ k, a (ix2 (y 0) k) = A (ix2 (z 0) k)) (hb : ∀ k, b (ix2 (y 1) k) = B (ix2 (z 1) k)) : mulRows a b y = mulRows A B z :=
  Finset.sum_congr rfl fun k _ => congrArg₂ _ (ha k) (hb k)
/-- An entry of `aᵀ · b` needs a column of each only. -/
theorem mulCols_at {a : Mat n p} {b : Mat n q} {A : Mat n p'} {B : Mat n q'} {y : (⟨2, ![p, q]⟩ : Shape).Idx} {z : (⟨2, ![p', q']⟩ : Shape).Idx}
    (ha : ∀ k, a (ix2 k (y 0)) = A (ix2 k (z 0))) (hb : ∀ k, b (ix2 k (y 1)) = B (ix2 k (z 1))) : mulCols a b y = mulCols A B z :=
  Finset.sum_congr rfl fun k _ => congrArg₂ _ (ha k) (hb k)

/-- `bᵀ · a` is `aᵀ · b` read across. -/
theorem mulCols_comm (a : Mat n p) (b : Mat n q) (y : (⟨2, ![p, q]⟩ : Shape).Idx) : mulCols a b y = ∑ k, b (ix2 k (y 1)) * a (ix2 k (y 0)) :=
  Finset.sum_congr rfl fun k _ => mul_comm _ _

/-- Two places of an array with the same row and column. -/
theorem same_place {i j : (⟨2, ![p, q]⟩ : Shape).Idx} (h0 : (i 0).val = (j 0).val) (h1 : (i 1).val = (j 1).val) : i = j :=
  funext fun a => Fin.ext (match a with | ⟨0, _⟩ => h0 | ⟨1, _⟩ => h1)

/-- A tile that spans the array starts at its edge. -/
theorem spanning {s w k : ℕ} (h : s = 0) : s * w + 1 * k = k := by subst h; omega
/-- Two tiles of one width at one step start together. -/
theorem abreast {s s' w k : ℕ} (h : s = s') : s * w + 1 * k = s' * w + 1 * k := by rw [h]

end Cert.Proof.Products

end
-- ==== Proof.Adam.lean ====
/-
  One step of the optimiser on one entry: the mean gradient, the mean square and the weight's change.
-/
module

public import proofs.«01_k».proof.Proof.Products

@[expose] public section

noncomputable section

namespace Cert.Proof.Adam

open Idealize.ShloMosaic Products

/-- The sum of the devices' parts. -/
def total {n p q : ℕ} (x : (⟨3, ![n, p, q]⟩ : Shape).Idx → EReal) : Mat p q := fun y => ∑ s : Fin n, x (ix3 s (y 0) (y 1))
/-- The mean gradient after the step. -/
def mean (g m : EReal) : EReal := Ideal.ofBits .f32 0x3F666666#32 * m + Ideal.ofBits .f32 0x3DCCCCCD#32 * g
/-- The mean square after the step. -/
def meanSquare (g v : EReal) : EReal := Ideal.ofBits .f32 0x3F7FBE77#32 * v + Ideal.ofBits .f32 0x3A83126F#32 * (g * g)
/-- The weight's change, from the two means after the step. -/
def change (m v w : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- The four arrays that a step leaves: the gradient, the change, and the two means. -/
def means {p q : ℕ} (g m : Mat p q) : Mat p q := fun y => mean (g y) (m y)
def meanSquares {p q : ℕ} (g v : Mat p q) : Mat p q := fun y => meanSquare (g y) (v y)
def changes {p q : ℕ} (g w m v : Mat p q) : Mat p q := fun y => change (means g m y) (meanSquares g v y) (w y)

/-- Entry `y` of a tile is entry `z` of the array. -/
theorem means_at {p q r s : ℕ} {g m : Mat p q} {g' m' : Mat r s} {y : (⟨2, ![p, q]⟩ : Shape).Idx} {z : (⟨2, ![r, s]⟩ : Shape).Idx}
    (hg : g y = g' z) (hm : m y = m' z) : means g m y = means g' m' z := by unfold means; rw [hg, hm]
theorem meanSquares_at {p q r s : ℕ} {g v : Mat p q} {g' v' : Mat r s} {y : (⟨2, ![p, q]⟩ : Shape).Idx} {z : (⟨2, ![r, s]⟩ : Shape).Idx}
    (hg : g y = g' z) (hv : v y = v' z) : meanSquares g v y = meanSquares g' v' z := by unfold meanSquares; rw [hg, hv]
theorem changes_at {p q r s : ℕ} {g w m v : Mat p q} {g' w' m' v' : Mat r s} {y : (⟨2, ![p, q]⟩ : Shape).Idx} {z : (⟨2, ![r, s]⟩ : Shape).Idx}
    (hg : g y = g' z) (hw : w y = w' z) (hm : m y = m' z) (hv : v y = v' z) : changes g w m v y = changes g' w' m' v' z := by
  unfold changes
  rw [means_at hg hm, meanSquares_at hg hv, hw]

/-- Entries of the same place in three dimensions. -/
theorem same_place3 {p q r : ℕ} {i j : (⟨3, ![p, q, r]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

end Cert.Proof.Adam

end
-- ==== Proof.SmallStep.lean ====
/-
  What the body of the optimiser's call for the small weights leaves in each output's buffer: the step of each weight, and the loss.
-/
module

public import proofs.«01_k».proof.Proof.SmallBlocks
public import proofs.«01_k».proof.Proof.Adam

@[expose] public section

set_option maxRecDepth 16384

noncomputable section

open Idealize.ShloMosaic Idealize.ShloMosaic.TcCoe Idealize.ShloMosaic.Tactic Idealize.SL.Sem

namespace Cert.Proof.Small

open Cert.Kernel21Ideal Cert.Kernel21Ideal.Gen Products Adam

variable {x0 x2 x3 x5 : Vec Ideal S8x1x1024 .f32} {x1 : Vec Ideal S8x1x8 .f32} {x4 : Vec Ideal S8x1x5632 .f32}
  {x6 x8 x9 x11 x12 x14 x15 x17 x18 x20 x21 x23 : Vec Ideal S1x1024 .f32} {x7 x13 x19 : Vec Ideal S1x8 .f32}
  {x10 x16 x22 : Vec Ideal S1x5632 .f32} {x24 : Vec Ideal S8x1x128 .f32}

/-! ## The sums of the parts -/

theorem eight {n : ℕ} (x : (⟨3, ![8, 1, n]⟩ : Shape).Idx → EReal) (i : Fin 1) (j : Fin n) :
    x (ix3 0 0 j) + x (ix3 1 0 j) + x (ix3 2 0 j) + x (ix3 3 0 j) + x (ix3 4 0 j) + x (ix3 5 0 j) + x (ix3 6 0 j) + x (ix3 7 0 j)
      = ∑ s, x (ix3 s i j) := by
  rw [Subsingleton.elim i 0]
  exact (Fin.sum_univ_eight (M := EReal) fun s => x (ix3 s 0 j)).symm

theorem sum0 (x : Vec Ideal S8x1x1024 .f32) :
    k0_pay2 (F := Ideal) (View.ld x r0_0) (View.ld x r0_1) (View.ld x r0_2) (View.ld x r0_3) (View.ld x r0_4) (View.ld x r0_5) (View.ld x r0_6) (View.ld x r0_7) = total x := by
  funext y
  rw [ValueIdx.eq_ix2 y]
  unfold k0_pay2 total
  pointwise
  exact eight x (y 0) (y 1)
theorem sum1 (x : Vec Ideal S8x1x8 .f32) :
    k0_pay9 (F := Ideal) (k0_pay8 (View.ld x r0_9) (View.ld x r0_10)) (View.ld x r0_11) (View.ld x r0_12) (View.ld x r0_13) (View.ld x r0_14) (View.ld x r0_15) (View.ld x r0_16) = total x := by
  funext y
  rw [ValueIdx.eq_ix2 y]
  unfold k0_pay9 k0_pay8 total
  pointwise
  exact eight x (y 0) (y 1)
theorem sum2 (x : Vec Ideal S8x1x1024 .f32) :
    k0_pay14 (F := Ideal) (k0_pay13 (View.ld x r0_0) (View.ld x r0_1) (View.ld x r0_2) (View.ld x r0_3) (View.ld x r0_4)) (View.ld x r0_5) (View.ld x r0_6) (View.ld x r0_7) = total x := by
  funext y
  rw [ValueIdx.eq_ix2 y]
  unfold k0_pay14 k0_pay13 total
  pointwise
  exact eight x (y 0) (y 1)
theorem sum3 (x : Vec Ideal S8x1x1024 .f32) :
    k0_pay21 (F := Ideal) (k0_pay20 (View.ld x r0_0) (View.ld x r0_1) (View.ld x r0_2) (View.ld x r0_3) (View.ld x r0_4) (View.ld x r0_5) (View.ld x r0_6)) (View.ld x r0_7) = total x := by
  funext y
  rw [ValueIdx.eq_ix2 y]
  unfold k0_pay21 k0_pay20 total
  pointwise
  exact eight x (y 0) (y 1)
theorem sum4 (x : Vec Ideal S8x1x5632 .f32) :
    k0_pay25 (F := Ideal) (View.ld x r0_18) (View.ld x r0_19) (View.ld x r0_20) (View.ld x r0_21) (View.ld x r0_22) (View.ld x r0_23) (View.ld x r0_24) (View.ld x r0_25) = total x := by
  funext y
  rw [ValueIdx.eq_ix2 y]
  unfold k0_pay25 total
  pointwise
  exact eight x (y 0) (y 1)
theorem sum5 (x : Vec Ideal S8x1x1024 .f32) :
    k0_pay32 (F := Ideal) (k0_pay31 (View.ld x r0_0) (View.ld x r0_1)) (View.ld x r0_2) (View.ld x r0_3) (View.ld x r0_4) (View.ld x r0_5) (View.ld x r0_6) (View.ld x r0_7) = total x := by
  funext y
  rw [ValueIdx.eq_ix2 y]
  unfold k0_pay32 k0_pay31 total
  pointwise
  exact eight x (y 0) (y 1)
/-- The loss of the step: the devices' sums of squared errors, averaged and halved. -/
def loss {p q : ℕ} (e : Mat p q) : Mat p q := fun y => e y * Ideal.ofBits .f32 0x3A000000#32

theorem sum6 (x : Vec Ideal S8x1x128 .f32) :
    k0_pay1 (F := Ideal) (k0_pay36 (View.ld x r0_27) (View.ld x r0_28) (View.ld x r0_29) (View.ld x r0_30) (View.ld x r0_31)) (View.ld x r0_32) (View.ld x r0_33) (View.ld x r0_34) = loss (total x) := by
  funext y
  rw [ValueIdx.eq_ix2 y]
  unfold k0_pay1 k0_pay36 loss total
  pointwise
  exact congrArg (fun e : EReal => e * Ideal.ofBits .f32 0x3A000000#32) (eight x (y 0) (y 1))

/-! ## What the body leaves -/

theorem read0 (v : Vec Ideal S1x1024 .f32) : View.ld v r0_8 = v := View.ld_unit_lit _ _ (by decide)
theorem read1 (v : Vec Ideal S1x8 .f32) : View.ld v r0_17 = v := View.ld_unit_lit _ _ (by decide)
theorem read4 (v : Vec Ideal S1x5632 .f32) : View.ld v r0_26 = v := View.ld_unit_lit _ _ (by decide)

theorem changes_eq {p q : ℕ} {g w m v g' w' m' v' : Mat p q} (hg : g = g') (hw : w = w') (hm : m = m') (hv : v = v') :
    changes g w m v = changes g' w' m' v' := by rw [hg, hw, hm, hv]

theorem tile_25 : out0_25 (F := Ideal) x0 x1 x2 x3 x4 x5 x6 x7 x8 x9 x10 x11 x12 x13 x14 x15 x16 x17 x18 x19 x20 x21 x22 x23 x24 = total x0 :=
  (View.canon_cons_unit_lit _ _ _ (by decide)).trans (sum0 x0)
theorem tile_26 : out0_26 (F := Ideal) x0 x1 x2 x3 x4 x5 x6 x7 x8 x9 x10 x11 x12 x13 x14 x15 x16 x17 x18 x19 x20 x21 x22 x23 x24 = changes (total x0) x6 x12 x18 :=
  (View.canon_cons_unit_lit _ _ _ (by decide)).trans (changes_eq (sum0 x0) (read0 x6) (read0 x12) (read0 x18))
theorem tile_27 : out0_27 (F := Ideal) x0 x1 x2 x3 x4 x5 x6 x7 x8 x9 x10 x11 x12 x13 x14 x15 x16 x17 x18 x19 x20 x21 x22 x23 x24 = means (total x0) x12 :=
  (View.canon_cons_unit_lit _ _ _ (by decide)).trans (congrArg₂ means (sum0 x0) (read0 x12))
theorem tile_28 : out0_28 (F := Ideal) x0 x1 x2 x3 x4 x5 x6 x7 x8 x9 x10 x11 x12 x13 x14 x15 x16 x17 x18 x19 x20 x21 x22 x23 x24 = meanSquares (total x0) x18 :=
  (View.canon_cons_unit_lit _ _ _ (by decide)).trans (congrArg₂ meanSquares (sum0 x0) (read0 x18))
theorem tile_29 : out0_29 (F := Ideal) x0 x1 x2 x3 x4 x5 x6 x7 x8 x9 x10 x11 x12 x13 x14 x15 x16 x17 x18 x19 x20 x21 x22 x23 x24 = total x1 :=
  (View.canon_cons_unit_lit _ _ _ (by decide)).trans (sum1 x1)
theorem tile_30 : out0_30 (F := Ideal) x0 x1 x2 x3 x4 x5 x6 x7 x8 x9 x10 x11 x12 x13 x14 x15 x16 x17 x18 x19 x20 x21 x22 x23 x24 = changes (total x1) x7 x13 x19 :=
  (View.canon_cons_unit_lit _ _ _ (by decide)).trans (changes_eq (sum1 x1) (read1 x7) (read1 x13) (read1 x19))
theorem tile_31 : out0_31 (F := Ideal) x0 x1 x2 x3 x4 x5 x6 x7 x8 x9 x10 x11 x12 x13 x14 x15 x16 x17 x18 x19 x20 x21 x22 x23 x24 = means (total x1) x13 :=
  (View.canon_cons_unit_lit _ _ _ (by decide)).trans (congrArg₂ means (sum1 x1) (read1 x13))
theorem tile_32 : out0_32 (F := Ideal) x0 x1 x2 x3 x4 x5 x6 x7 x8 x9 x10 x11 x12 x13 x14 x15 x16 x17 x18 x19 x20 x21 x22 x23 x24 = meanSquares (total x1) x19 :=
  (View.canon_cons_unit_lit _ _ _ (by decide)).trans (congrArg₂ meanSquares (sum1 x1) (read1 x19))
theorem tile_33 : out0_33 (F := Ideal) x0 x1 x2 x3 x4 x5 x6 x7 x8 x9 x10 x11 x12 x13 x14 x15 x16 x17 x18 x19 x20 x21 x22 x23 x24 = total x2 :=
  (View.canon_cons_unit_lit _ _ _ (by decide)).trans (sum2 x2)
theorem tile_34 : out0_34 (F := Ideal) x0 x1 x2 x3 x4 x5 x6 x7 x8 x9 x10 x11 x12 x13 x14 x15 x16 x17 x18 x19 x20 x21 x22 x23 x24 = changes (total x2) x8 x14 x20 :=
  (View.canon_cons_unit_lit _ _ _ (by decide)).trans (changes_eq (sum2 x2) (read0 x8) (read0 x14) (read0 x20))
theorem tile_35 : out0_35 (F := Ideal) x0 x1 x2 x3 x4 x5 x6 x7 x8 x9 x10 x11 x12 x13 x14 x15 x16 x17 x18 x19 x20 x21 x22 x23 x24 = means (total x2) x14 :=
  (View.canon_cons_unit_lit _ _ _ (by decide)).trans (congrArg₂ means (sum2 x2) (read0 x14))
theorem tile_36 : out0_36 (F := Ideal) x0 x1 x2 x3 x4 x5 x6 x7 x8 x9 x10 x11 x12 x13 x14 x15 x16 x17 x18 x19 x20 x21 x22 x23 x24 = meanSquares (total x2) x20 :=
  (View.canon_cons_unit_lit _ _ _ (by decide)).trans (congrArg₂ meanSquares (sum2 x2) (read0 x20))
theorem tile_37 : out0_37 (F := Ideal) x0 x1 x2 x3 x4 x5 x6 x7 x8 x9 x10 x11 x12 x13 x14 x15 x16 x17 x18 x19 x20 x21 x22 x23 x24 = total x3 :=
  (View.canon_cons_unit_lit _ _ _ (by decide)).trans (sum3 x3)
theorem tile_38 : out0_38 (F := Ideal) x0 x1 x2 x3 x4 x5 x6 x7 x8 x9 x10 x11 x12 x13 x14 x15 x16 x17 x18 x19 x20 x21 x22 x23 x24 = changes (total x3) x9 x15 x21 :=
  (View.canon_cons_unit_lit _ _ _ (by decide)).trans (changes_eq (sum3 x3) (read0 x9) (read0 x15) (read0 x21))
theorem tile_39 : out0_39 (F := Ideal) x0 x1 x2 x3 x4 x5 x6 x7 x8 x9 x10 x11 x12 x13 x14 x15 x16 x17 x18 x19 x20 x21 x22 x23 x24 = means (total x3) x15 :=
  (View.canon_cons_unit_lit _ _ _ (by decide)).trans (congrArg₂ means (sum3 x3) (read0 x15))
theorem tile_40 : out0_40 (F := Ideal) x0 x1 x2 x3 x4 x5 x6 x7 x8 x9 x10 x11 x12 x13 x14 x15 x16 x17 x18 x19 x20 x21 x22 x23 x24 = meanSquares (total x3) x21 :=
  (View.canon_cons_unit_lit _ _ _ (by decide)).trans (congrArg₂ meanSquares (sum3 x3) (read0 x21))
theorem tile_41 : out0_41 (F := Ideal) x0 x1 x2 x3 x4 x5 x6 x7 x8 x9 x10 x11 x12 x13 x14 x15 x16 x17 x18 x19 x20 x21 x22 x23 x24 = total x4 :=
  (View.canon_cons_unit_lit _ _ _ (by decide)).trans (sum4 x4)
theorem tile_42 : out0_42 (F := Ideal) x0 x1 x2 x3 x4 x5 x6 x7 x8 x9 x10 x11 x12 x13 x14 x15 x16 x17 x18 x19 x20 x21 x22 x23 x24 = changes (total x4) x10 x16 x22 :=
  (View.canon_cons_unit_lit _ _ _ (by decide)).trans (changes_eq (sum4 x4) (read4 x10) (read4 x16) (read4 x22))
theorem tile_43 : out0_43 (F := Ideal) x0 x1 x2 x3 x4 x5 x6 x7 x8 x9 x10 x11 x12 x13 x14 x15 x16 x17 x18 x19 x20 x21 x22 x23 x24 = means (total x4) x16 :=
  (View.canon_cons_unit_lit _ _ _ (by decide)).trans (congrArg₂ means (sum4 x4) (read4 x16))
theorem tile_44 : out0_44 (F := Ideal) x0 x1 x2 x3 x4 x5 x6 x7 x8 x9 x10 x11 x12 x13 x14 x15 x16 x17 x18 x19 x20 x21 x22 x23 x24 = meanSquares (total x4) x22 :=
  (View.canon_cons_unit_lit _ _ _ (by decide)).trans (congrArg₂ meanSquares (sum4 x4) (read4 x22))
theorem tile_45 : out0_45 (F := Ideal) x0 x1 x2 x3 x4 x5 x6 x7 x8 x9 x10 x11 x12 x13 x14 x15 x16 x17 x18 x19 x20 x21 x22 x23 x24 = total x5 :=
  (View.canon_cons_unit_lit _ _ _ (by decide)).trans (sum5 x5)
theorem tile_46 : out0_46 (F := Ideal) x0 x1 x2 x3 x4 x5 x6 x7 x8 x9 x10 x11 x12 x13 x14 x15 x16 x17 x18 x19 x20 x21 x22 x23 x24 = changes (total x5) x11 x17 x23 :=
  (View.canon_cons_unit_lit _ _ _ (by decide)).trans (changes_eq (sum5 x5) (read0 x11) (read0 x17) (read0 x23))
theorem tile_47 : out0_47 (F := Ideal) x0 x1 x2 x3 x4 x5 x6 x7 x8 x9 x10 x11 x12 x13 x14 x15 x16 x17 x18 x19 x20 x21 x22 x23 x24 = means (total x5) x17 :=
  (View.canon_cons_unit_lit _ _ _ (by decide)).trans (congrArg₂ means (sum5 x5) (read0 x17))
theorem tile_48 : out0_48 (F := Ideal) x0 x1 x2 x3 x4 x5 x6 x7 x8 x9 x10 x11 x12 x13 x14 x15 x16 x17 x18 x19 x20 x21 x22 x23 x24 = meanSquares (total x5) x23 :=
  (View.canon_cons_unit_lit _ _ _ (by decide)).trans (congrArg₂ meanSquares (sum5 x5) (read0 x23))
theorem tile_49 : out0_49 (F := Ideal) x0 x1 x2 x3 x4 x5 x6 x7 x8 x9 x10 x11 x12 x13 x14 x15 x16 x17 x18 x19 x20 x21 x22 x23 x24 = loss (total x24) :=
  (View.canon_cons_unit_lit _ _ _ (by decide)).trans (sum6 x24)

end Cert.Proof.Small

end
-- ==== Proof.Small.lean ====
/-
  The optimiser's call for the small weights: what its arrays hold after the run, and the reference's.
-/
module

public import proofs.«01_k».proof.Defs
public import proofs.«01_k».proof.Proof.SmallRun
public import proofs.«01_k».proof.Proof.SmallStep
public import proofs.«01_k».proof.Proof.Gen.Reference21Ideal.Run

@[expose] public section

set_option maxRecDepth 16384

noncomputable section

open Idealize.ShloMosaic Idealize.ShloMosaic.TcCoe Idealize.ShloMosaic.Tactic Idealize.SL.Sem

namespace Cert.Proof.Small

open Cert.Kernel21Ideal Cert.Kernel21Ideal.Gen Products Adam

variable (m : (ℓ : Loc nD τ sig) → Buf (Elt Ideal) ℓ) (c : Dev nD)

/-! ## The one point's blocks are the arrays -/

theorem blk_0 (t : Fin cfg0.N) : (iblk m c 0 t : Vec Ideal S8x1x1024 .f32) = m ((c : Thread nD τ).loc main_arg0) :=
  funext fun y => (congrFun (V_main_arg0 m c) _).trans (congrArg _ (same_place3 (spanning rfl) (spanning rfl) (spanning rfl)))
theorem blk_1 (t : Fin cfg0.N) : (iblk m c 1 t : Vec Ideal S8x1x8 .f32) = m ((c : Thread nD τ).loc main_arg1) :=
  funext fun y => (congrFun (V_main_arg1 m c) _).trans (congrArg _ (same_place3 (spanning rfl) (spanning rfl) (spanning rfl)))
theorem blk_2 (t : Fin cfg0.N) : (iblk m c 2 t : Vec Ideal S8x1x1024 .f32) = m ((c : Thread nD τ).loc main_arg2) :=
  funext fun y => (congrFun (V_main_arg2 m c) _).trans (congrArg _ (same_place3 (spanning rfl) (spanning rfl) (spanning rfl)))
theorem blk_3 (t : Fin cfg0.N) : (iblk m c 3 t : Vec Ideal S8x1x1024 .f32) = m ((c : Thread nD τ).loc main_arg3) :=
  funext fun y => (congrFun (V_main_arg3 m c) _).trans (congrArg _ (same_place3 (spanning rfl) (spanning rfl) (spanning rfl)))
theorem blk_4 (t : Fin cfg0.N) : (iblk m c 4 t : Vec Ideal S8x1x5632 .f32) = m ((c : Thread nD τ).loc main_arg4) :=
  funext fun y => (congrFun (V_main_arg4 m c) _).trans (congrArg _ (same_place3 (spanning rfl) (spanning rfl) (spanning rfl)))
theorem blk_5 (t : Fin cfg0.N) : (iblk m c 5 t : Vec Ideal S8x1x1024 .f32) = m ((c : Thread nD τ).loc main_arg5) :=
  funext fun y => (congrFun (V_main_arg5 m c) _).trans (congrArg _ (same_place3 (spanning rfl) (spanning rfl) (spanning rfl)))
theorem blk_6 (t : Fin cfg0.N) : (iblk m c 6 t : Vec Ideal S1x1024 .f32) = m ((c : Thread nD τ).loc main_arg6) :=
  funext fun y => (congrFun (V_main_arg6 m c) _).trans (congrArg _ (same_place (spanning rfl) (spanning rfl)))
theorem blk_7 (t : Fin cfg0.N) : (iblk m c 7 t : Vec Ideal S1x8 .f32) = m ((c : Thread nD τ).loc main_arg7) :=
  funext fun y => (congrFun (V_main_arg7 m c) _).trans (congrArg _ (same_place (spanning rfl) (spanning rfl)))
theorem blk_8 (t : Fin cfg0.N) : (iblk m c 8 t : Vec Ideal S1x1024 .f32) = m ((c : Thread nD τ).loc main_arg8) :=
  funext fun y => (congrFun (V_main_arg8 m c) _).trans (congrArg _ (same_place (spanning rfl) (spanning rfl)))
theorem blk_9 (t : Fin cfg0.N) : (iblk m c 9 t : Vec Ideal S1x1024 .f32) = m ((c : Thread nD τ).loc main_arg9) :=
  funext fun y => (congrFun (V_main_arg9 m c) _).trans (congrArg _ (same_place (spanning rfl) (spanning rfl)))
theorem blk_10 (t : Fin cfg0.N) : (iblk m c 10 t : Vec Ideal S1x5632 .f32) = m ((c : Thread nD τ).loc main_arg10) :=
  funext fun y => (congrFun (V_main_arg10 m c) _).trans (congrArg _ (same_place (spanning rfl) (spanning rfl)))
theorem blk_11 (t : Fin cfg0.N) : (iblk m c 11 t : Vec Ideal S1x1024 .f32) = m ((c : Thread nD τ).loc main_arg11) :=
  funext fun y => (congrFun (V_main_arg11 m c) _).trans (congrArg _ (same_place (spanning rfl) (spanning rfl)))
theorem blk_12 (t : Fin cfg0.N) : (iblk m c 12 t : Vec Ideal S1x1024 .f32) = m ((c : Thread nD τ).loc main_arg12) :=
  funext fun y => (congrFun (V_main_arg12 m c) _).trans (congrArg _ (same_place (spanning rfl) (spanning rfl)))
theorem blk_13 (t : Fin cfg0.N) : (iblk m c 13 t : Vec Ideal S1x8 .f32) = m ((c : Thread nD τ).loc main_arg13) :=
  funext fun y => (congrFun (V_main_arg13 m c) _).trans (congrArg _ (same_place (spanning rfl) (spanning rfl)))
theorem blk_14 (t : Fin cfg0.N) : (iblk m c 14 t : Vec Ideal S1x1024 .f32) = m ((c : Thread nD τ).loc main_arg14) :=
  funext fun y => (congrFun (V_main_arg14 m c) _).trans (congrArg _ (same_place (spanning rfl) (spanning rfl)))
theorem blk_15 (t : Fin cfg0.N) : (iblk m c 15 t : Vec Ideal S1x1024 .f32) = m ((c : Thread nD τ).loc main_arg15) :=
  funext fun y => (congrFun (V_main_arg15 m c) _).trans (congrArg _ (same_place (spanning rfl) (spanning rfl)))
theorem blk_16 (t : Fin cfg0.N) : (iblk m c 16 t : Vec Ideal S1x5632 .f32) = m ((c : Thread nD τ).loc main_arg16) :=
  funext fun y => (congrFun (V_main_arg16 m c) _).trans (congrArg _ (same_place (spanning rfl) (spanning rfl)))
theorem blk_17 (t : Fin cfg0.N) : (iblk m c 17 t : Vec Ideal S1x1024 .f32) = m ((c : Thread nD τ).loc main_arg17) :=
  funext fun y => (congrFun (V_main_arg17 m c) _).trans (congrArg _ (same_place (spanning rfl) (spanning rfl)))
theorem blk_18 (t : Fin cfg0.N) : (iblk m c 18 t : Vec Ideal S1x1024 .f32) = m ((c : Thread nD τ).loc main_arg18) :=
  funext fun y => (congrFun (V_main_arg18 m c) _).trans (congrArg _ (same_place (spanning rfl) (spanning rfl)))
theorem blk_19 (t : Fin cfg0.N) : (iblk m c 19 t : Vec Ideal S1x8 .f32) = m ((c : Thread nD τ).loc main_arg19) :=
  funext fun y => (congrFun (V_main_arg19 m c) _).trans (congrArg _ (same_place (spanning rfl) (spanning rfl)))
theorem blk_20 (t : Fin cfg0.N) : (iblk m c 20 t : Vec Ideal S1x1024 .f32) = m ((c : Thread nD τ).loc main_arg20) :=
  funext fun y => (congrFun (V_main_arg20 m c) _).trans (congrArg _ (same_place (spanning rfl) (spanning rfl)))
theorem blk_21 (t : Fin cfg0.N) : (iblk m c 21 t : Vec Ideal S1x1024 .f32) = m ((c : Thread nD τ).loc main_arg21) :=
  funext fun y => (congrFun (V_main_arg21 m c) _).trans (congrArg _ (same_place (spanning rfl) (spanning rfl)))
theorem blk_22 (t : Fin cfg0.N) : (iblk m c 22 t : Vec Ideal S1x5632 .f32) = m ((c : Thread nD τ).loc main_arg22) :=
  funext fun y => (congrFun (V_main_arg22 m c) _).trans (congrArg _ (same_place (spanning rfl) (spanning rfl)))
theorem blk_23 (t : Fin cfg0.N) : (iblk m c 23 t : Vec Ideal S1x1024 .f32) = m ((c : Thread nD τ).loc main_arg23) :=
  funext fun y => (congrFun (V_main_arg23 m c) _).trans (congrArg _ (same_place (spanning rfl) (spanning rfl)))
theorem blk_24 (t : Fin cfg0.N) : (iblk m c 24 t : Vec Ideal S8x1x128 .f32) = m ((c : Thread nD τ).loc main_arg24) :=
  funext fun y => (congrFun (V_main_arg24 m c) _).trans (congrArg _ (same_place3 (spanning rfl) (spanning rfl) (spanning rfl)))

/-! ## What the call leaves -/

theorem result_25 : (dats m 0 c).arrAt 25 cfg0.N = total (m ((c : Thread nD τ).loc main_arg0)) := by
  refine (dats m 0 c).arrAt_eq_of_covers 25 _ (by decide +kernel) fun t hf y => ?_
  blk_simp
  rw [after0_25, tile_25, blk_0]
  exact congrArg _ (same_place (spanning rfl) (spanning rfl)).symm
theorem result_26 : (dats m 0 c).arrAt 26 cfg0.N = changes (total (m ((c : Thread nD τ).loc main_arg0))) (m ((c : Thread nD τ).loc main_arg6)) (m ((c : Thread nD τ).loc main_arg12)) (m ((c : Thread nD τ).loc main_arg18)) := by
  refine (dats m 0 c).arrAt_eq_of_covers 26 _ (by decide +kernel) fun t hf y => ?_
  blk_simp
  rw [after0_26, tile_26, blk_0, blk_6, blk_12, blk_18]
  exact congrArg _ (same_place (spanning rfl) (spanning rfl)).symm
theorem result_27 : (dats m 0 c).arrAt 27 cfg0.N = means (total (m ((c : Thread nD τ).loc main_arg0))) (m ((c : Thread nD τ).loc main_arg12)) := by
  refine (dats m 0 c).arrAt_eq_of_covers 27 _ (by decide +kernel) fun t hf y => ?_
  blk_simp
  rw [after0_27, tile_27, blk_0, blk_12]
  exact congrArg _ (same_place (spanning rfl) (spanning rfl)).symm
theorem result_28 : (dats m 0 c).arrAt 28 cfg0.N = meanSquares (total (m ((c : Thread nD τ).loc main_arg0))) (m ((c : Thread nD τ).loc main_arg18)) := by
  refine (dats m 0 c).arrAt_eq_of_covers 28 _ (by decide +kernel) fun t hf y => ?_
  blk_simp
  rw [after0_28, tile_28, blk_0, blk_18]
  exact congrArg _ (same_place (spanning rfl) (spanning rfl)).symm
theorem result_29 : (dats m 0 c).arrAt 29 cfg0.N = total (m ((c : Thread nD τ).loc main_arg1)) := by
  refine (dats m 0 c).arrAt_eq_of_covers 29 _ (by decide +kernel) fun t hf y => ?_
  blk_simp
  rw [after0_29, tile_29, blk_1]
  exact congrArg _ (same_place (spanning rfl) (spanning rfl)).symm
theorem result_30 : (dats m 0 c).arrAt 30 cfg0.N = changes (total (m ((c : Thread nD τ).loc main_arg1))) (m ((c : Thread nD τ).loc main_arg7)) (m ((c : Thread nD τ).loc main_arg13)) (m ((c : Thread nD τ).loc main_arg19)) := by
  refine (dats m 0 c).arrAt_eq_of_covers 30 _ (by decide +kernel) fun t hf y => ?_
  blk_simp
  rw [after0_30, tile_30, blk_1, blk_7, blk_13, blk_19]
  exact congrArg _ (same_place (spanning rfl) (spanning rfl)).symm
theorem result_31 : (dats m 0 c).arrAt 31 cfg0.N = means (total (m ((c : Thread nD τ).loc main_arg1))) (m ((c : Thread nD τ).loc main_arg13)) := by
  refine (dats m 0 c).arrAt_eq_of_covers 31 _ (by decide +kernel) fun t hf y => ?_
  blk_simp
  rw [after0_31, tile_31, blk_1, blk_13]
  exact congrArg _ (same_place (spanning rfl) (spanning rfl)).symm
theorem result_32 : (dats m 0 c).arrAt 32 cfg0.N = meanSquares (total (m ((c : Thread nD τ).loc main_arg1))) (m ((c : Thread nD τ).loc main_arg19)) := by
  refine (dats m 0 c).arrAt_eq_of_covers 32 _ (by decide +kernel) fun t hf y => ?_
  blk_simp
  rw [after0_32, tile_32, blk_1, blk_19]
  exact congrArg _ (same_place (spanning rfl) (spanning rfl)).symm
theorem result_33 : (dats m 0 c).arrAt 33 cfg0.N = total (m ((c : Thread nD τ).loc main_arg2)) := by
  refine (dats m 0 c).arrAt_eq_of_covers 33 _ (by decide +kernel) fun t hf y => ?_
  blk_simp
  rw [after0_33, tile_33, blk_2]
  exact congrArg _ (same_place (spanning rfl) (spanning rfl)).symm
theorem result_34 : (dats m 0 c).arrAt 34 cfg0.N = changes (total (m ((c : Thread nD τ).loc main_arg2))) (m ((c : Thread nD τ).loc main_arg8)) (m ((c : Thread nD τ).loc main_arg14)) (m ((c : Thread nD τ).loc main_arg20)) := by
  refine (dats m 0 c).arrAt_eq_of_covers 34 _ (by decide +kernel) fun t hf y => ?_
  blk_simp
  rw [after0_34, tile_34, blk_2, blk_8, blk_14, blk_20]
  exact congrArg _ (same_place (spanning rfl) (spanning rfl)).symm
theorem result_35 : (dats m 0 c).arrAt 35 cfg0.N = means (total (m ((c : Thread nD τ).loc main_arg2))) (m ((c : Thread nD τ).loc main_arg14)) := by
  refine (dats m 0 c).arrAt_eq_of_covers 35 _ (by decide +kernel) fun t hf y => ?_
  blk_simp
  rw [after0_35, tile_35, blk_2, blk_14]
  exact congrArg _ (same_place (spanning rfl) (spanning rfl)).symm
theorem result_36 : (dats m 0 c).arrAt 36 cfg0.N = meanSquares (total (m ((c : Thread nD τ).loc main_arg2))) (m ((c : Thread nD τ).loc main_arg20)) := by
  refine (dats m 0 c).arrAt_eq_of_covers 36 _ (by decide +kernel) fun t hf y => ?_
  blk_simp
  rw [after0_36, tile_36, blk_2, blk_20]
  exact congrArg _ (same_place (spanning rfl) (spanning rfl)).symm
theorem result_37 : (dats m 0 c).arrAt 37 cfg0.N = total (m ((c : Thread nD τ).loc main_arg3)) := by
  refine (dats m 0 c).arrAt_eq_of_covers 37 _ (by decide +kernel) fun t hf y => ?_
  blk_simp
  rw [after0_37, tile_37, blk_3]
  exact congrArg _ (same_place (spanning rfl) (spanning rfl)).symm
theorem result_38 : (dats m 0 c).arrAt 38 cfg0.N = changes (total (m ((c : Thread nD τ).loc main_arg3))) (m ((c : Thread nD τ).loc main_arg9)) (m ((c : Thread nD τ).loc main_arg15)) (m ((c : Thread nD τ).loc main_arg21)) := by
  refine (dats m 0 c).arrAt_eq_of_covers 38 _ (by decide +kernel) fun t hf y => ?_
  blk_simp
  rw [after0_38, tile_38, blk_3, blk_9, blk_15, blk_21]
  exact congrArg _ (same_place (spanning rfl) (spanning rfl)).symm
theorem result_39 : (dats m 0 c).arrAt 39 cfg0.N = means (total (m ((c : Thread nD τ).loc main_arg3))) (m ((c : Thread nD τ).loc main_arg15)) := by
  refine (dats m 0 c).arrAt_eq_of_covers 39 _ (by decide +kernel) fun t hf y => ?_
  blk_simp
  rw [after0_39, tile_39, blk_3, blk_15]
  exact congrArg _ (same_place (spanning rfl) (spanning rfl)).symm
theorem result_40 : (dats m 0 c).arrAt 40 cfg0.N = meanSquares (total (m ((c : Thread nD τ).loc main_arg3))) (m ((c : Thread nD τ).loc main_arg21)) := by
  refine (dats m 0 c).arrAt_eq_of_covers 40 _ (by decide +kernel) fun t hf y => ?_
  blk_simp
  rw [after0_40, tile_40, blk_3, blk_21]
  exact congrArg _ (same_place (spanning rfl) (spanning rfl)).symm
theorem result_41 : (dats m 0 c).arrAt 41 cfg0.N = total (m ((c : Thread nD τ).loc main_arg4)) := by
  refine (dats m 0 c).arrAt_eq_of_covers 41 _ (by decide +kernel) fun t hf y => ?_
  blk_simp
  rw [after0_41, tile_41, blk_4]
  exact congrArg _ (same_place (spanning rfl) (spanning rfl)).symm
theorem result_42 : (dats m 0 c).arrAt 42 cfg0.N = changes (total (m ((c : Thread nD τ).loc main_arg4))) (m ((c : Thread nD τ).loc main_arg10)) (m ((c : Thread nD τ).loc main_arg16)) (m ((c : Thread nD τ).loc main_arg22)) := by
  refine (dats m 0 c).arrAt_eq_of_covers 42 _ (by decide +kernel) fun t hf y => ?_
  blk_simp
  rw [after0_42, tile_42, blk_4, blk_10, blk_16, blk_22]
  exact congrArg _ (same_place (spanning rfl) (spanning rfl)).symm
theorem result_43 : (dats m 0 c).arrAt 43 cfg0.N = means (total (m ((c : Thread nD τ).loc main_arg4))) (m ((c : Thread nD τ).loc main_arg16)) := by
  refine (dats m 0 c).arrAt_eq_of_covers 43 _ (by decide +kernel) fun t hf y => ?_
  blk_simp
  rw [after0_43, tile_43, blk_4, blk_16]
  exact congrArg _ (same_place (spanning rfl) (spanning rfl)).symm
theorem result_44 : (dats m 0 c).arrAt 44 cfg0.N = meanSquares (total (m ((c : Thread nD τ).loc main_arg4))) (m ((c : Thread nD τ).loc main_arg22)) := by
  refine (dats m 0 c).arrAt_eq_of_covers 44 _ (by decide +kernel) fun t hf y => ?_
  blk_simp
  rw [after0_44, tile_44, blk_4, blk_22]
  exact congrArg _ (same_place (spanning rfl) (spanning rfl)).symm
theorem result_45 : (dats m 0 c).arrAt 45 cfg0.N = total (m ((c : Thread nD τ).loc main_arg5)) := by
  refine (dats m 0 c).arrAt_eq_of_covers 45 _ (by decide +kernel) fun t hf y => ?_
  blk_simp
  rw [after0_45, tile_45, blk_5]
  exact congrArg _ (same_place (spanning rfl) (spanning rfl)).symm
theorem result_46 : (dats m 0 c).arrAt 46 cfg0.N = changes (total (m ((c : Thread nD τ).loc main_arg5))) (m ((c : Thread nD τ).loc main_arg11)) (m ((c : Thread nD τ).loc main_arg17)) (m ((c : Thread nD τ).loc main_arg23)) := by
  refine (dats m 0 c).arrAt_eq_of_covers 46 _ (by decide +kernel) fun t hf y => ?_
  blk_simp
  rw [after0_46, tile_46, blk_5, blk_11, blk_17, blk_23]
  exact congrArg _ (same_place (spanning rfl) (spanning rfl)).symm
theorem result_47 : (dats m 0 c).arrAt 47 cfg0.N = means (total (m ((c : Thread nD τ).loc main_arg5))) (m ((c : Thread nD τ).loc main_arg17)) := by
  refine (dats m 0 c).arrAt_eq_of_covers 47 _ (by decide +kernel) fun t hf y => ?_
  blk_simp
  rw [after0_47, tile_47, blk_5, blk_17]
  exact congrArg _ (same_place (spanning rfl) (spanning rfl)).symm
theorem result_48 : (dats m 0 c).arrAt 48 cfg0.N = meanSquares (total (m ((c : Thread nD τ).loc main_arg5))) (m ((c : Thread nD τ).loc main_arg23)) := by
  refine (dats m 0 c).arrAt_eq_of_covers 48 _ (by decide +kernel) fun t hf y => ?_
  blk_simp
  rw [after0_48, tile_48, blk_5, blk_23]
  exact congrArg _ (same_place (spanning rfl) (spanning rfl)).symm
theorem result_49 : (dats m 0 c).arrAt 49 cfg0.N = loss (total (m ((c : Thread nD τ).loc main_arg24))) := by
  refine (dats m 0 c).arrAt_eq_of_covers 49 _ (by decide +kernel) fun t hf y => ?_
  blk_simp
  rw [after0_49, tile_49, blk_24]
  exact congrArg _ (same_place (spanning rfl) (spanning rfl)).symm

end Cert.Proof.Small

end
-- ==== Proof.Norms.lean ====
/-
  The backward pass of a root-mean-square norm along one row, as the kernels compute it and as its derivative comes out.
-/
module

public import proofs.«01_k».proof.Proof.Products

@[expose] public section

noncomputable section

namespace Cert.Proof.Norms

open Idealize.ShloMosaic

variable {n : ℕ}

/-- The width of a row and the norm's small constant, as the programs have them. -/
abbrev width : EReal := Ideal.ofBits .f32 0x44800000#32
abbrev small : EReal := Ideal.ofBits .f32 0x358637BD#32
abbrev minusHalf : EReal := Ideal.ofBits .f32 0xBF000000#32

theorem width_eq : width = ((1024 : ℝ) : EReal) := by
  simp [width, Ideal.ofBits, Ideal.ieee]
  norm_cast
  norm_num
theorem minusHalf_eq : minusHalf = ((-(1/2) : ℝ) : EReal) := by
  simp [minusHalf, Ideal.ofBits, Ideal.ieee]
  norm_cast
  norm_num
theorem small_pos : ∃ e : ℝ, 0 < e ∧ small = (e : EReal) := by
  refine ⟨8796093 * (2 ^ 43 : ℝ)⁻¹, by positivity, ?_⟩
  simp [small, Ideal.ofBits, Ideal.ieee]

/-- A sum of reals. -/
theorem sum_real (f : Fin n → ℝ) : (∑ k, (f k : EReal)) = ((∑ k, f k : ℝ) : EReal) :=
  (map_sum (⟨⟨Real.toEReal, EReal.coe_zero⟩, EReal.coe_add⟩ : ℝ →+ EReal) f Finset.univ).symm

/-- The mean square of a row, kept from zero. -/
def square (x : Fin n → EReal) : EReal := Ideal.div (∑ k, x k * x k) width + small
/-- What the norm multiplies the row by. -/
def scale (x : Fin n → EReal) : EReal := Ideal.rsqrt (square x)
/-- The norm's backward pass at one entry, as the kernels have it: `y` is the gradient times the norm's weight. -/
def back (x y : Fin n → EReal) (j : Fin n) : EReal := scale x * (y j - x j * scale x * Ideal.div (∑ k, y k * (x k * scale x)) width)
/-- What the derivative of the scale adds to an entry, up to the entry. -/
def along (x y : Fin n → EReal) : EReal :=
  Ideal.div ((∑ k, x k * y k) * (minusHalf * Ideal.div (scale x) (square x))) width

/-- The mean square is not below the small constant: it is infinite, or real and positive, and then the row is real. -/
theorem square_cases (x : Fin n → EReal) : square x = ⊤ ∨ ∃ s : ℝ, 0 < s ∧ square x = (s : EReal) ∧ ∃ z : Fin n → ℝ, ∀ k, x k = (z k : EReal) := by
  by_cases h : ∀ k, ∃ r : ℝ, x k = (r : EReal)
  · right
    choose z hz using h
    obtain ⟨e, he, hs⟩ := small_pos
    refine ⟨(∑ k, z k * z k) * 1024⁻¹ + e, ?_, ?_, z, hz⟩
    · have : 0 ≤ ∑ k, z k * z k := Finset.sum_nonneg fun k _ => mul_self_nonneg _
      positivity
    · unfold square
      rw [hs, width_eq, show (∑ k, x k * x k) = ((∑ k, z k * z k : ℝ) : EReal) by
        rw [← sum_real]; exact Finset.sum_congr rfl fun k _ => by rw [hz k, EReal.coe_mul]]
      unfold Ideal.div
      rw [if_neg (by norm_num), ← EReal.coe_inv]
      norm_cast
  · left
    push Not at h
    obtain ⟨k, hk⟩ := h
    have hx : x k * x k = ⊤ := by
      induction h : x k with
      | bot => rfl
      | top => rfl
      | coe r => exact absurd h (hk r)
    have h0 : ∀ j, 0 ≤ x j * x j := fun j => by
      induction h : x j with
      | bot => simp
      | top => simp
      | coe r => exact_mod_cast mul_self_nonneg r
    have hsum : (∑ j, x j * x j) = ⊤ := top_le_iff.mp (hx ▸ Finset.single_le_sum (f := fun j => x j * x j) (fun j _ => h0 j) (Finset.mem_univ k))
    obtain ⟨e, he, hs⟩ := small_pos
    unfold square
    rw [hsum, hs, width_eq]
    unfold Ideal.div
    rw [if_neg (by norm_num), ← EReal.coe_inv, EReal.top_mul_coe_of_pos (by norm_num)]
    rfl

/-- A real factor that is not negative goes through a sum. -/
theorem sum_mul_real (f : Fin n → EReal) {r : ℝ} (hr : 0 ≤ r) : (∑ k, f k) * (r : EReal) = ∑ k, f k * (r : EReal) := by
  refine Finset.induction_on (Finset.univ : Finset (Fin n)) (by simp) fun a t ha ih => ?_
  rw [Finset.sum_insert ha, Finset.sum_insert ha, EReal.right_distrib_of_nonneg_of_ne_top (by exact_mod_cast hr) (EReal.coe_ne_top r), ih]

/-- Twice the same number times a real. -/
theorem twice (a : EReal) (b : ℝ) : a * (b : EReal) + a * (b : EReal) = a * ((2 * b : ℝ) : EReal) := by
  induction a with
  | coe a => norm_cast; ring
  | top =>
    rcases lt_trichotomy b 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy b 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The two forms of the backward pass agree. -/
theorem back_eq (x y : Fin n → EReal) (j : Fin n) : y j * scale x + x j * along x y + along x y * x j = back x y j := by
  have w : ∀ a : EReal, Ideal.div a width = a * ((1024⁻¹ : ℝ) : EReal) := fun a => by
    rw [width_eq, Ideal.div, if_neg (by norm_num), ← EReal.coe_inv]
  unfold back along
  rcases square_cases x with h | ⟨s, hs, h, z, hz⟩
  · have h0 : scale x = 0 := by unfold scale; rw [h]; rfl
    have hq : Ideal.div (0 : EReal) ⊤ = 0 := by unfold Ideal.div; rw [if_neg (by decide)]; simp
    rw [h0, h, hq, w]
    simp
  · set ρ : ℝ := (Real.sqrt s)⁻¹ with hρ
    have hr : scale x = (ρ : EReal) := by
      unfold scale; rw [h]
      show (if s < 0 then (⊥ : EReal) else if s = 0 then ⊤ else (((Real.sqrt s)⁻¹ : ℝ) : EReal)) = _
      rw [if_neg (by linarith), if_neg (by linarith)]
    have hρ0 : 0 ≤ ρ := by positivity
    have hρs : ρ * ρ = s⁻¹ := by rw [hρ, ← mul_inv, Real.mul_self_sqrt hs.le]
    have hd : Ideal.div (ρ : EReal) (s : EReal) = ((ρ * s⁻¹ : ℝ) : EReal) := by
      rw [Ideal.div, if_neg (by exact_mod_cast hs.ne'), ← EReal.coe_inv, EReal.coe_mul]
    set A : EReal := ∑ k, x k * y k with hA
    have hsum : (∑ k, y k * (x k * (ρ : EReal))) = A * (ρ : EReal) := by
      rw [hA, sum_mul_real _ hρ0]
      exact Finset.sum_congr rfl fun k _ => by rw [← mul_assoc, mul_comm (y k)]
    rw [hr, h, hd, w, w, hsum, minusHalf_eq, hz j, mul_comm (_ * _) (z j : EReal), add_assoc]
    have e1 : (z j : EReal) * (A * (((-(1 / 2) : ℝ) : EReal) * ((ρ * s⁻¹ : ℝ) : EReal)) * ((1024⁻¹ : ℝ) : EReal))
        = A * ((z j * (-(1 / 2) * (ρ * s⁻¹)) * 1024⁻¹ : ℝ) : EReal) := by
      simp only [EReal.coe_mul]; ac_rfl
    have e2 : (z j : EReal) * (ρ : EReal) * (A * (ρ : EReal) * ((1024⁻¹ : ℝ) : EReal)) = A * ((z j * ρ * ρ * 1024⁻¹ : ℝ) : EReal) := by
      simp only [EReal.coe_mul]; ac_rfl
    rw [e1, twice, e2, sub_eq_add_neg, EReal.left_distrib_of_nonneg_of_ne_top (by exact_mod_cast hρ0) (EReal.coe_ne_top ρ), mul_comm (y j),
      ← mul_neg, ← EReal.coe_neg, mul_left_comm (ρ : EReal), ← EReal.coe_mul, ← hρs]
    congr 3
    ring

/-! ## Arrays of rows -/

open Products

variable {p p' : ℕ}

/-- A row. -/
abbrev row (x : Mat p n) (i : Fin p) : Fin n → EReal := fun k => x (ix2 i k)
/-- The gradient times the norm's weight. -/
def weighted (d : Mat p n) (g : Mat 1 n) : Mat p n := fun y => d y * g (ix2 0 (y 1))
/-- The gradient of the norm's input. -/
def grad (x d : Mat p n) (g : Mat 1 n) : Mat p n := fun y => back (row x (y 0)) (row (weighted d g) (y 0)) (y 1)
/-- What a row adds to the gradient of the norm's weight. -/
def term (x d : Mat p n) (i : Fin p) (j : Fin n) : EReal := d (ix2 i j) * (x (ix2 i j) * scale (row x i))
/-- The gradient of the norm's weight. -/
def gradWeight (x d : Mat p n) : Mat 1 n := fun y => ∑ i, term x d i (y 1)

/-- A row's backward pass needs that row only. -/
theorem grad_at {x d : Mat p n} {X D : Mat p' n} {g G : Mat 1 n} {y : (⟨2, ![p, n]⟩ : Shape).Idx} {z : (⟨2, ![p', n]⟩ : Shape).Idx}
    (hx : row x (y 0) = row X (z 0)) (hd : row d (y 0) = row D (z 0)) (hg : g = G) (hj : (y 1 : Fin n) = z 1) : grad x d g y = grad X D G z := by
  have hw : row (weighted d g) (y 0) = row (weighted D G) (z 0) := by
    funext k
    exact congrArg₂ (· * ·) (congrFun hd k) (congrFun hg _)
  unfold grad
  rw [hx, hw, hj]
/-- A row's part of the weight's gradient needs that row only. -/
theorem term_at {x d : Mat p n} {X D : Mat p' n} {i : Fin p} {i' : Fin p'} {j j' : Fin n}
    (hx : row x i = row X i') (hd : row d i = row D i') (hj : j = j') : term x d i j = term X D i' j' := by
  subst hj
  unfold term
  rw [show x (ix2 i j) = X (ix2 i' j) from congrFun hx j, show d (ix2 i j) = D (ix2 i' j) from congrFun hd j, hx]

/-- An accumulated sum, tile after tile, is the sum over the rows so far. -/
theorem sum_tiles (w : ℕ) (f : ℕ → EReal) (T : ℕ) (a : (t : ℕ) → t < T → EReal) (h0 : ∀ h, a 0 h = ∑ r : Fin w, f (0 * w + r))
    (hs : ∀ t h, a (t + 1) h = a t (Nat.lt_of_succ_lt h) + ∑ r : Fin w, f ((t + 1) * w + r)) :
    ∀ t h, a t h = ∑ i ∈ Finset.range ((t + 1) * w), f i := by
  intro t
  induction t with
  | zero => intro h; rw [h0, Nat.zero_add, Nat.one_mul, Finset.sum_range]; simp
  | succ t ih =>
    intro h
    rw [hs, ih, Nat.succ_mul (t + 1) w, Finset.sum_range_add, Finset.sum_range (fun x => f ((t + 1) * w + x))]

end Cert.Proof.Norms

end
-- ==== Proof.SmallValue.lean ====
/-
  The claims about the optimiser's call for the small weights.
-/
module

public import proofs.«01_k».proof.Proof.Small
public import proofs.«01_k».proof.Proof.Norms

@[expose] public section

set_option maxRecDepth 16384

noncomputable section

open Idealize.ShloMosaic Idealize.ShloMosaic.TcCoe Idealize.ShloMosaic.Tactic Idealize.SL.Sem

namespace Cert.Proof.Small

open Cert.Kernel21Ideal Cert.Kernel21Ideal.Gen Products Adam

/-! ## The reference -/

theorem whole0 (x : FVec Ideal S8x1x1024 .f32) :
    Host.reduceAdd x (constant Cert.Reference21Ideal.S_ .f32 0x00000000#32)
      Cert.Reference21Ideal.Gen.reducesTo_S8x1x1024_S1x1024_d0 Cert.Reference21Ideal.Gen.h_S_ = total x := by
  funext y
  rw [ValueIdx.eq_ix2 y]
  unfold total
  pointwise
  exact Finset.sum_congr rfl fun s _ => congrArg (fun i : Fin 1 => x (ix3 s i (y 1))) (Subsingleton.elim (0 : Fin 1) (y 0 : Fin 1))
theorem whole1 (x : FVec Ideal S8x1x8 .f32) :
    Host.reduceAdd x (constant Cert.Reference21Ideal.S_ .f32 0x00000000#32)
      Cert.Reference21Ideal.Gen.reducesTo_S8x1x8_S1x8_d0 Cert.Reference21Ideal.Gen.h_S_ = total x := by
  funext y
  rw [ValueIdx.eq_ix2 y]
  unfold total
  pointwise
  exact Finset.sum_congr rfl fun s _ => congrArg (fun i : Fin 1 => x (ix3 s i (y 1))) (Subsingleton.elim (0 : Fin 1) (y 0 : Fin 1))
theorem whole4 (x : FVec Ideal S8x1x5632 .f32) :
    Host.reduceAdd x (constant Cert.Reference21Ideal.S_ .f32 0x00000000#32)
      Cert.Reference21Ideal.Gen.reducesTo_S8x1x5632_S1x5632_d0 Cert.Reference21Ideal.Gen.h_S_ = total x := by
  funext y
  rw [ValueIdx.eq_ix2 y]
  unfold total
  pointwise
  exact Finset.sum_congr rfl fun s _ => congrArg (fun i : Fin 1 => x (ix3 s i (y 1))) (Subsingleton.elim (0 : Fin 1) (y 0 : Fin 1))
theorem whole6 (x : FVec Ideal S8x1x128 .f32) :
    Host.reduceAdd x (constant Cert.Reference21Ideal.S_ .f32 0x00000000#32)
      Cert.Reference21Ideal.Gen.reducesTo_S8x1x128_S1x128_d0 Cert.Reference21Ideal.Gen.h_S_ = total x := by
  funext y
  rw [ValueIdx.eq_ix2 y]
  unfold total
  pointwise
  exact Finset.sum_congr rfl fun s _ => congrArg (fun i : Fin 1 => x (ix3 s i (y 1))) (Subsingleton.elim (0 : Fin 1) (y 0 : Fin 1))

/-- Half of a mean of 1024 is one multiple of the sum. -/
theorem half_eq : Ideal.ofBits .f32 0x3F000000#32 = (((1 : ℝ) / 2 : ℝ) : EReal) := by
  simp [Ideal.ofBits, Ideal.ieee, -EReal.coe_mul]; norm_num
theorem part_eq : Ideal.ofBits .f32 0x3A000000#32 = (((1 : ℝ) / 2048 : ℝ) : EReal) := by
  simp [Ideal.ofBits, Ideal.ieee, -EReal.coe_mul]; norm_num
theorem half_mean (e : EReal) :
    Ideal.ofBits .f32 0x3F000000#32 * Ideal.div e Norms.width = e * Ideal.ofBits .f32 0x3A000000#32 := by
  rw [half_eq, part_eq, Norms.width_eq, Ideal.div, if_neg (by norm_num), ← EReal.coe_inv, mul_left_comm (G := EReal), ← EReal.coe_mul]
  norm_num
theorem loss_eq {x : Mat 1 128} {e : Mat 1 128} (h : x = e) :
    (fun y => Ideal.ofBits .f32 0x3F000000#32 * Ideal.div (x y) Norms.width) = loss e :=
  h ▸ funext fun y => half_mean (x y)

/-! ## The frames -/

theorem frame_ideal : Cert.quiescent_Kernel21Ideal := fun m ρ _ => frame m ρ
theorem frame_reference : Cert.quiescent_Reference21Ideal := fun m g _ =>
  (θ_run Cert.Reference21Ideal.defs _ _).mono (fun r h => ⟨fun c => (h c).2.2.2.2.2.2.2.2.2.2.2.2.2.2.2.2.2.2.2.2.2.2.2.2.2,
    sem_eq_zero_of_no_sems (by decide) r.2⟩) (Cert.Reference21Ideal.Value.run (F := Ideal) m g)

/-! ## The values -/

set_option maxHeartbeats 4000000 in
/-- Each result of the kernel is the reference's. -/
theorem value : Cert.algebraic_Kernel21Ideal_Reference21Ideal := by
  intro m g m' g' _ hagree
  refine ⟨fun c => loss (total (m ((c : Thread nD τ).loc main_arg24))),
    fun c => total (m ((c : Thread nD τ).loc main_arg0)),
    fun c => changes (total (m ((c : Thread nD τ).loc main_arg0))) (m ((c : Thread nD τ).loc main_arg6)) (m ((c : Thread nD τ).loc main_arg12)) (m ((c : Thread nD τ).loc main_arg18)),
    fun c => means (total (m ((c : Thread nD τ).loc main_arg0))) (m ((c : Thread nD τ).loc main_arg12)),
    fun c => meanSquares (total (m ((c : Thread nD τ).loc main_arg0))) (m ((c : Thread nD τ).loc main_arg18)),
    fun c => total (m ((c : Thread nD τ).loc main_arg1)),
    fun c => changes (total (m ((c : Thread nD τ).loc main_arg1))) (m ((c : Thread nD τ).loc main_arg7)) (m ((c : Thread nD τ).loc main_arg13)) (m ((c : Thread nD τ).loc main_arg19)),
    fun c => means (total (m ((c : Thread nD τ).loc main_arg1))) (m ((c : Thread nD τ).loc main_arg13)),
    fun c => meanSquares (total (m ((c : Thread nD τ).loc main_arg1))) (m ((c : Thread nD τ).loc main_arg19)),
    fun c => total (m ((c : Thread nD τ).loc main_arg2)),
    fun c => changes (total (m ((c : Thread nD τ).loc main_arg2))) (m ((c : Thread nD τ).loc main_arg8)) (m ((c : Thread nD τ).loc main_arg14)) (m ((c : Thread nD τ).loc main_arg20)),
    fun c => means (total (m ((c : Thread nD τ).loc main_arg2))) (m ((c : Thread nD τ).loc main_arg14)),
    fun c => meanSquares (total (m ((c : Thread nD τ).loc main_arg2))) (m ((c : Thread nD τ).loc main_arg20)),
    fun c => total (m ((c : Thread nD τ).loc main_arg3)),
    fun c => changes (total (m ((c : Thread nD τ).loc main_arg3))) (m ((c : Thread nD τ).loc main_arg9)) (m ((c : Thread nD τ).loc main_arg15)) (m ((c : Thread nD τ).loc main_arg21)),
    fun c => means (total (m ((c : Thread nD τ).loc main_arg3))) (m ((c : Thread nD τ).loc main_arg15)),
    fun c => meanSquares (total (m ((c : Thread nD τ).loc main_arg3))) (m ((c : Thread nD τ).loc main_arg21)),
    fun c => total (m ((c : Thread nD τ).loc main_arg4)),
    fun c => changes (total (m ((c : Thread nD τ).loc main_arg4))) (m ((c : Thread nD τ).loc main_arg10)) (m ((c : Thread nD τ).loc main_arg16)) (m ((c : Thread nD τ).loc main_arg22)),
    fun c => means (total (m ((c : Thread nD τ).loc main_arg4))) (m ((c : Thread nD τ).loc main_arg16)),
    fun c => meanSquares (total (m ((c : Thread nD τ).loc main_arg4))) (m ((c : Thread nD τ).loc main_arg22)),
    fun c => total (m ((c : Thread nD τ).loc main_arg5)),
    fun c => changes (total (m ((c : Thread nD τ).loc main_arg5))) (m ((c : Thread nD τ).loc main_arg11)) (m ((c : Thread nD τ).loc main_arg17)) (m ((c : Thread nD τ).loc main_arg23)),
    fun c => means (total (m ((c : Thread nD τ).loc main_arg5))) (m ((c : Thread nD τ).loc main_arg17)),
    fun c => meanSquares (total (m ((c : Thread nD τ).loc main_arg5))) (m ((c : Thread nD τ).loc main_arg23)),
    ?_, ?_⟩
  · refine (θ_run defs _ _).mono (fun r h c => ?_) (θ_run_and (run_main m g) (unchanged m g))
    have a := (h.1 c).1
    exact ⟨(a 49).trans (result_49 m c), (a 25).trans (result_25 m c), (a 26).trans (result_26 m c), (a 27).trans (result_27 m c), (a 28).trans (result_28 m c), (a 29).trans (result_29 m c), (a 30).trans (result_30 m c), (a 31).trans (result_31 m c), (a 32).trans (result_32 m c), (a 33).trans (result_33 m c), (a 34).trans (result_34 m c), (a 35).trans (result_35 m c), (a 36).trans (result_36 m c), (a 37).trans (result_37 m c), (a 38).trans (result_38 m c), (a 39).trans (result_39 m c), (a 40).trans (result_40 m c), (a 41).trans (result_41 m c), (a 42).trans (result_42 m c), (a 43).trans (result_43 m c), (a 44).trans (result_44 m c), (a 45).trans (result_45 m c), (a 46).trans (result_46 m c), (a 47).trans (result_47 m c), (a 48).trans (result_48 m c), h.2 c⟩
  · refine (θ_run Cert.Reference21Ideal.defs _ _).mono (fun r h c => ?_) (Cert.Reference21Ideal.Value.run (F := Ideal) m' g')
    obtain ⟨e0, e1, e2, e3, e4, e5, e6, e7, e8, e9, e10, e11, e12, e13, e14, e15, e16, e17, e18, e19, e20, e21, e22, e23, e24⟩ := hagree c
    obtain ⟨r49, r25, r26, r27, r28, r29, r30, r31, r32, r33, r34, r35, r36, r37, r38, r39, r40, r41, r42, r43, r44, r45, r46, r47, r48, kept⟩ := h c
    have t24 := (whole6 _).trans (congrArg total e24)
    have t0 := (whole0 _).trans (congrArg total e0)
    have t1 := (whole1 _).trans (congrArg total e1)
    have t2 := (whole0 _).trans (congrArg total e2)
    have t3 := (whole0 _).trans (congrArg total e3)
    have t4 := (whole4 _).trans (congrArg total e4)
    have t5 := (whole0 _).trans (congrArg total e5)
    exact ⟨r49.trans (loss_eq t24),
      r25.trans t0,
      r26.trans (changes_eq t0 e6 e12 e18),
      r27.trans (congrArg₂ means t0 e12),
      r28.trans (congrArg₂ meanSquares t0 e18),
      r29.trans t1,
      r30.trans (changes_eq t1 e7 e13 e19),
      r31.trans (congrArg₂ means t1 e13),
      r32.trans (congrArg₂ meanSquares t1 e19),
      r33.trans t2,
      r34.trans (changes_eq t2 e8 e14 e20),
      r35.trans (congrArg₂ means t2 e14),
      r36.trans (congrArg₂ meanSquares t2 e20),
      r37.trans t3,
      r38.trans (changes_eq t3 e9 e15 e21),
      r39.trans (congrArg₂ means t3 e15),
      r40.trans (congrArg₂ meanSquares t3 e21),
      r41.trans t4,
      r42.trans (changes_eq t4 e10 e16 e22),
      r43.trans (congrArg₂ means t4 e16),
      r44.trans (congrArg₂ meanSquares t4 e22),
      r45.trans t5,
      r46.trans (changes_eq t5 e11 e17 e23),
      r47.trans (congrArg₂ means t5 e17),
      r48.trans (congrArg₂ meanSquares t5 e23), kept⟩

end Cert.Proof.Small

end
-- ==== Proof.Step.lean ====
/-
  What one grid point of the attention's backward kernel does to its three accumulators, as functions of the four blocks
  it reads and of what the accumulators held.
-/
module

public import proofs.«01_k».proof.Proof.Gen.KernelIdeal.Launch
public import proofs.«01_k».proof.Proof.Gen.KernelIdeal.Skeleton
public import Idealize.ShloMosaic.Lib.Pipeline.FrameBody

@[expose] public section

set_option maxRecDepth 16384

noncomputable section

namespace Cert.Proof.Fox

open Cert.KernelIdeal Cert.KernelIdeal.Gen
open Idealize.ShloMosaic Idealize.ShloMosaic.TcCoe
open Idealize.ShloMosaic.View (ld)

variable {F : FTy → Type} [FloatOps F]

/-! ## Tiles -/

/-- The scores of a tile: rows of `a` against rows of `b`. -/
def sF (a b : FVec F S512x128 .bf16) : FVec F S512x512 .f32 :=
  matmul dot_S512x128_S512x128_S512x512_1_1_0_0_n_n none (shapeCast S512x128 a shapeCasts_S512x128_S512x128)
    (shapeCast S512x128 b shapeCasts_S512x128_S512x128) (constant S512x512 .f32 0x00000000#32)
def sA (a b : FVec F S256x128 .bf16) : FVec F S256x256 .f32 :=
  matmul dot_S256x128_S256x128_S256x256_1_1_0_0_n_n none (shapeCast S256x128 a shapeCasts_S256x128_S256x128)
    (shapeCast S256x128 b shapeCasts_S256x128_S256x128) (constant S256x256 .f32 0x00000000#32)
def sB (a : FVec F S256x128 .bf16) (b : FVec F S512x128 .bf16) : FVec F S256x512 .f32 :=
  matmul dot_S256x128_S512x128_S256x512_1_1_0_0_n_n none (shapeCast S256x128 a shapeCasts_S256x128_S256x128)
    (shapeCast S512x128 b shapeCasts_S512x128_S512x128) (constant S256x512 .f32 0x00000000#32)

/-- The exponentials of a tile, those past the diagonal zero where the tile meets it. -/
def eF (s : FVec F S512x512 .f32) : FVec F S512x512 .f32 := exp s
def eA (s : FVec F S256x256 .f32) : FVec F S256x256 .f32 :=
  select (cmpi .sle (iota .tc S256x256 32 [1] iota_S256x256_d1_w32)
      (addi (iota .tc S256x256 32 [0] iota_S256x256_d0_w32) (broadcast S256x256 0#32)))
    (exp s) (broadcast S256x256 (Scalar.ofBits .f32 0x00000000#32))
def eB (s : FVec F S256x512 .f32) : FVec F S256x512 .f32 :=
  select (cmpi .sle (iota .tc S256x512 32 [1] iota_S256x512_d1_w32)
      (addi (iota .tc S256x512 32 [0] iota_S256x512_d0_w32) (broadcast S256x512 256#32)))
    (exp s) (broadcast S256x512 (Scalar.ofBits .f32 0x00000000#32))

/-- The tile's weights and the gradient of its scores. -/
def pF (q : FVec F S512x128 .bf16) (k : FVec F S512x128 .bf16) : FVec F S512x512 .bf16 := truncf .bf16 (eF (sF q k)) bitsLt_bf16_f32
def dF (q : FVec F S512x128 .bf16) (k : FVec F S512x128 .bf16) (g : FVec F S512x128 .bf16) (v : FVec F S512x128 .bf16) : FVec F S512x512 .bf16 :=
  truncf .bf16 (mulf (eF (sF q k)) (sF g v)) bitsLt_bf16_f32
/-- A tile's share added along its rows (to the accumulator of the keys) and along its columns (of the queries). -/
def rF (p : FVec F S512x512 .bf16) (b : FVec F S512x128 .bf16) (X : FVec F S512x128 .f32) : FVec F S512x128 .f32 :=
  addf (shapeCast S512x128 X shapeCasts_S512x128_S512x128)
    (matmul dot_S512x512_S512x128_S512x128_0_0_1_1_n_n none p (shapeCast S512x128 b shapeCasts_S512x128_S512x128) (constant S512x128 .f32 0x00000000#32))
def cF (p : FVec F S512x512 .bf16) (b : FVec F S512x128 .bf16) (X : FVec F S512x128 .f32) : FVec F S512x128 .f32 :=
  addf (shapeCast S512x128 X shapeCasts_S512x128_S512x128)
    (matmul dot_S512x512_S512x128_S512x128_1_0_0_1_n_n none p (shapeCast S512x128 b shapeCasts_S512x128_S512x128) (constant S512x128 .f32 0x00000000#32))

/-- The tile's weights and the gradient of its scores. -/
def pA (q : FVec F S256x128 .bf16) (k : FVec F S256x128 .bf16) : FVec F S256x256 .bf16 := truncf .bf16 (eA (sA q k)) bitsLt_bf16_f32
def dA (q : FVec F S256x128 .bf16) (k : FVec F S256x128 .bf16) (g : FVec F S256x128 .bf16) (v : FVec F S256x128 .bf16) : FVec F S256x256 .bf16 :=
  truncf .bf16 (mulf (eA (sA q k)) (sA g v)) bitsLt_bf16_f32
/-- A tile's share added along its rows (to the accumulator of the keys) and along its columns (of the queries). -/
def rA (p : FVec F S256x256 .bf16) (b : FVec F S256x128 .bf16) (X : FVec F S256x128 .f32) : FVec F S256x128 .f32 :=
  addf (shapeCast S256x128 X shapeCasts_S256x128_S256x128)
    (matmul dot_S256x256_S256x128_S256x128_0_0_1_1_n_n none p (shapeCast S256x128 b shapeCasts_S256x128_S256x128) (constant S256x128 .f32 0x00000000#32))
def cA (p : FVec F S256x256 .bf16) (b : FVec F S256x128 .bf16) (X : FVec F S256x128 .f32) : FVec F S256x128 .f32 :=
  addf (shapeCast S256x128 X shapeCasts_S256x128_S256x128)
    (matmul dot_S256x256_S256x128_S256x128_1_0_0_1_n_n none p (shapeCast S256x128 b shapeCasts_S256x128_S256x128) (constant S256x128 .f32 0x00000000#32))

/-- The tile's weights and the gradient of its scores. -/
def pB (q : FVec F S256x128 .bf16) (k : FVec F S512x128 .bf16) : FVec F S256x512 .bf16 := truncf .bf16 (eB (sB q k)) bitsLt_bf16_f32
def dB (q : FVec F S256x128 .bf16) (k : FVec F S512x128 .bf16) (g : FVec F S256x128 .bf16) (v : FVec F S512x128 .bf16) : FVec F S256x512 .bf16 :=
  truncf .bf16 (mulf (eB (sB q k)) (sB g v)) bitsLt_bf16_f32
/-- A tile's share added along its rows (to the accumulator of the keys) and along its columns (of the queries). -/
def rB (p : FVec F S256x512 .bf16) (b : FVec F S256x128 .bf16) (X : FVec F S512x128 .f32) : FVec F S512x128 .f32 :=
  addf (shapeCast S512x128 X shapeCasts_S512x128_S512x128)
    (matmul dot_S256x512_S256x128_S512x128_0_0_1_1_n_n none p (shapeCast S256x128 b shapeCasts_S256x128_S256x128) (constant S512x128 .f32 0x00000000#32))
def cB (p : FVec F S256x512 .bf16) (b : FVec F S512x128 .bf16) (X : FVec F S256x128 .f32) : FVec F S256x128 .f32 :=
  addf (shapeCast S256x128 X shapeCasts_S256x128_S256x128)
    (matmul dot_S256x512_S512x128_S256x128_1_0_0_1_n_n none p (shapeCast S512x128 b shapeCasts_S512x128_S512x128) (constant S256x128 .f32 0x00000000#32))

/-! ## Rectangles of a block -/

abbrev w0 : Rect S512x512 := Rect.unit (s := S512x512) ![0, 0] S512x128.size inb_S512x512_S512x128_0_0
abbrev u0 : Rect S512x512 := Rect.unit (s := S512x512) ![0, 0] S256x128.size inb_S512x512_S256x128_0_0
abbrev l0 : Rect S512x512 := Rect.unit (s := S512x512) ![256, 0] S256x128.size inb_S512x512_S256x128_256_0

abbrev w1 : Rect S512x512 := Rect.unit (s := S512x512) ![0, 128] S512x128.size inb_S512x512_S512x128_0_128
abbrev u1 : Rect S512x512 := Rect.unit (s := S512x512) ![0, 128] S256x128.size inb_S512x512_S256x128_0_128
abbrev l1 : Rect S512x512 := Rect.unit (s := S512x512) ![256, 128] S256x128.size inb_S512x512_S256x128_256_128

abbrev w2 : Rect S512x512 := Rect.unit (s := S512x512) ![0, 256] S512x128.size inb_S512x512_S512x128_0_256
abbrev u2 : Rect S512x512 := Rect.unit (s := S512x512) ![0, 256] S256x128.size inb_S512x512_S256x128_0_256
abbrev l2 : Rect S512x512 := Rect.unit (s := S512x512) ![256, 256] S256x128.size inb_S512x512_S256x128_256_256

abbrev w3 : Rect S512x512 := Rect.unit (s := S512x512) ![0, 384] S512x128.size inb_S512x512_S512x128_0_384
abbrev u3 : Rect S512x512 := Rect.unit (s := S512x512) ![0, 384] S256x128.size inb_S512x512_S256x128_0_384
abbrev l3 : Rect S512x512 := Rect.unit (s := S512x512) ![256, 384] S256x128.size inb_S512x512_S256x128_256_384

abbrev z0 (a b : BitVec 32) (hk : k0_chk1 a b) (hc : k0_cond3 a b = 1#1) : Rect S4096x512 :=
  Rect.unit (s := S4096x512) (k0_off2 a) S512x128.size (k0_off2_inb a b hk hc)
abbrev zu0 (a b : BitVec 32) (hk : k0_chk1 a b) (hc : k0_cond4 a b = 1#1) : Rect S4096x512 :=
  Rect.unit (s := S4096x512) (k0_off6 a 0#32) S256x128.size (k0_off6_inb a b hk hc 0)
abbrev zl0 (a b : BitVec 32) (hk : k0_chk1 a b) (hc : k0_cond4 a b = 1#1) : Rect S4096x512 :=
  Rect.unit (s := S4096x512) (k0_off6 a 256#32) S256x128.size (k0_off6_inb a b hk hc 1)

abbrev z1 (a b : BitVec 32) (hk : k0_chk1 a b) (hc : k0_cond3 a b = 1#1) : Rect S4096x512 :=
  Rect.unit (s := S4096x512) (k0_off3 a) S512x128.size (k0_off3_inb a b hk hc)
abbrev zu1 (a b : BitVec 32) (hk : k0_chk1 a b) (hc : k0_cond4 a b = 1#1) : Rect S4096x512 :=
  Rect.unit (s := S4096x512) (k0_off7 a 0#32) S256x128.size (k0_off7_inb a b hk hc 0)
abbrev zl1 (a b : BitVec 32) (hk : k0_chk1 a b) (hc : k0_cond4 a b = 1#1) : Rect S4096x512 :=
  Rect.unit (s := S4096x512) (k0_off7 a 256#32) S256x128.size (k0_off7_inb a b hk hc 1)

abbrev z2 (a b : BitVec 32) (hk : k0_chk1 a b) (hc : k0_cond3 a b = 1#1) : Rect S4096x512 :=
  Rect.unit (s := S4096x512) (k0_off4 a) S512x128.size (k0_off4_inb a b hk hc)
abbrev zu2 (a b : BitVec 32) (hk : k0_chk1 a b) (hc : k0_cond4 a b = 1#1) : Rect S4096x512 :=
  Rect.unit (s := S4096x512) (k0_off8 a 0#32) S256x128.size (k0_off8_inb a b hk hc 0)
abbrev zl2 (a b : BitVec 32) (hk : k0_chk1 a b) (hc : k0_cond4 a b = 1#1) : Rect S4096x512 :=
  Rect.unit (s := S4096x512) (k0_off8 a 256#32) S256x128.size (k0_off8_inb a b hk hc 1)

abbrev z3 (a b : BitVec 32) (hk : k0_chk1 a b) (hc : k0_cond3 a b = 1#1) : Rect S4096x512 :=
  Rect.unit (s := S4096x512) (k0_off5 a) S512x128.size (k0_off5_inb a b hk hc)
abbrev zu3 (a b : BitVec 32) (hk : k0_chk1 a b) (hc : k0_cond4 a b = 1#1) : Rect S4096x512 :=
  Rect.unit (s := S4096x512) (k0_off9 a 0#32) S256x128.size (k0_off9_inb a b hk hc 0)
abbrev zl3 (a b : BitVec 32) (hk : k0_chk1 a b) (hc : k0_cond4 a b = 1#1) : Rect S4096x512 :=
  Rect.unit (s := S4096x512) (k0_off9 a 256#32) S256x128.size (k0_off9_inb a b hk hc 1)

/-- What a rectangle of a block, of a key accumulator and of the query accumulator holds. -/
abbrev lb (X : Vec F S512x512 .bf16) (r : Rect S512x512) : r.shape.Idx → Elt F .bf16 := View.ld (Val := Elt F) (e' := .bf16) X r
abbrev lx (X : Vec F S512x512 .f32) (r : Rect S512x512) : r.shape.Idx → Elt F .f32 := View.ld (Val := Elt F) (e' := .f32) X r
abbrev lz (X : Vec F S4096x512 .f32) (r : Rect S4096x512) : r.shape.Idx → Elt F .f32 := View.ld (Val := Elt F) (e' := .f32) X r
abbrev wAll : Rect S512x512 := Rect.unit (s := S512x512) ![0, 0] S512x512.size inb_S512x512_S512x512_0_0
abbrev zAll : Rect S4096x512 := Rect.unit (s := S4096x512) ![0, 0] S4096x512.size inb_S4096x512_S4096x512_0_0

/-! ## Lists of writes over prior contents -/

/-- The contents `X` with the pieces written over them, the last of the list first. -/
def lay {s : Shape} {e : EltTy} (X : s.Idx → Elt F e) : List (View.Piece (Elt F) s e) → s.Idx → Elt F e
  | [] => X
  | p :: L => p.1.overlay (lay X L) p.2

/-- A read after writes is the writes laid over the read before them. -/
theorem read_writes_eq_lay {sig : RefSig} {κ : Kind} {sp : Space} {s : Shape} {e : EltTy} (v : View sig κ sp s e)
    (f : v.ty.Contents (Elt F)) : ∀ L : List (View.Piece (Elt F) s e),
    v.read (Elt F) (v.writes (Elt F) f L) = lay (v.read (Elt F) f) L
  | [] => rfl
  | ⟨r, w⟩ :: L => by
    funext y
    by_cases hy : y ∈ r.set
    · obtain ⟨x, rfl⟩ : ∃ x, r.emb x = y := r.exists_idx_of_mem hy
      rw [View.read_writes_cons_emb]; exact (r.overlay_emb _ _ x).symm
    · rw [View.read_writes_cons_miss _ _ _ _ _ hy, read_writes_eq_lay v f L]
      exact (r.overlay_of_not_mem _ _ hy).symm

/-- A load through a rectangle after writes. -/
theorem readAt_writes_eq_lay {sig : RefSig} {κ : Kind} {sp : Space} {s : Shape} {e : EltTy} (v : View sig κ sp s e)
    (f : v.ty.Contents (Elt F)) (L : List (View.Piece (Elt F) s e)) (r : Rect s) :
    v.readAt (Elt F) r.toLoadRect (v.writes (Elt F) f L) = ld (lay (v.read (Elt F) f) L) r := by
  rw [View.readAt_eq_ld, read_writes_eq_lay]

/-! ## The query block after the key block -/

/-- What the point leaves in the accumulator of the values' gradient, of the keys' and of the queries'. -/
def fullV (q k v g : FVec F S512x512 .bf16) (X : FVec F S512x512 .f32) : FVec F S512x512 .f32 :=
  lay (F := F) (e := .f32) X [⟨w3, rF (pF (lb q w3) (lb k w3)) (lb g w3) (lx X w3)⟩, ⟨w2, rF (pF (lb q w2) (lb k w2)) (lb g w2) (lx X w2)⟩, ⟨w1, rF (pF (lb q w1) (lb k w1)) (lb g w1) (lx X w1)⟩, ⟨w0, rF (pF (lb q w0) (lb k w0)) (lb g w0) (lx X w0)⟩]
def fullK (q k v g : FVec F S512x512 .bf16) (X : FVec F S512x512 .f32) : FVec F S512x512 .f32 :=
  lay (F := F) (e := .f32) X [⟨w3, rF (dF (lb q w3) (lb k w3) (lb g w3) (lb v w3)) (lb q w3) (lx X w3)⟩, ⟨w2, rF (dF (lb q w2) (lb k w2) (lb g w2) (lb v w2)) (lb q w2) (lx X w2)⟩, ⟨w1, rF (dF (lb q w1) (lb k w1) (lb g w1) (lb v w1)) (lb q w1) (lx X w1)⟩, ⟨w0, rF (dF (lb q w0) (lb k w0) (lb g w0) (lb v w0)) (lb q w0) (lx X w0)⟩]

def fullQ0 (a b : BitVec 32) (hk : k0_chk1 a b) (hc : k0_cond3 a b = 1#1) (q k v g : FVec F S512x512 .bf16) (X : FVec F S4096x512 .f32) : FVec F S4096x512 .f32 :=
  (z0 a b hk hc).overlay X (cF (dF (lb q w0) (lb k w0) (lb g w0) (lb v w0)) (lb k w0) (lz X (z0 a b hk hc)))
def fullQ1 (a b : BitVec 32) (hk : k0_chk1 a b) (hc : k0_cond3 a b = 1#1) (q k v g : FVec F S512x512 .bf16) (X : FVec F S4096x512 .f32) : FVec F S4096x512 .f32 :=
  (z1 a b hk hc).overlay X (cF (dF (lb q w1) (lb k w1) (lb g w1) (lb v w1)) (lb k w1) (lz X (z1 a b hk hc)))
def fullQ2 (a b : BitVec 32) (hk : k0_chk1 a b) (hc : k0_cond3 a b = 1#1) (q k v g : FVec F S512x512 .bf16) (X : FVec F S4096x512 .f32) : FVec F S4096x512 .f32 :=
  (z2 a b hk hc).overlay X (cF (dF (lb q w2) (lb k w2) (lb g w2) (lb v w2)) (lb k w2) (lz X (z2 a b hk hc)))
def fullQ3 (a b : BitVec 32) (hk : k0_chk1 a b) (hc : k0_cond3 a b = 1#1) (q k v g : FVec F S512x512 .bf16) (X : FVec F S4096x512 .f32) : FVec F S4096x512 .f32 :=
  (z3 a b hk hc).overlay X (cF (dF (lb q w3) (lb k w3) (lb g w3) (lb v w3)) (lb k w3) (lz X (z3 a b hk hc)))
def fullQ (a b : BitVec 32) (hk : k0_chk1 a b) (hc : k0_cond3 a b = 1#1) (q k v g : FVec F S512x512 .bf16) (X : FVec F S4096x512 .f32) : FVec F S4096x512 .f32 :=
  fullQ3 a b hk hc q k v g (fullQ2 a b hk hc q k v g (fullQ1 a b hk hc q k v g (fullQ0 a b hk hc q k v g X)))

/-! ## The query block on the key block -/

/-- One head's two tiles on the diagonal, added to each accumulator. -/
def diagV0 (q k v g : FVec F S512x512 .bf16) (X : FVec F S512x512 .f32) : FVec F S512x512 .f32 :=
  have Y := u0.overlay X (rA (pA (lb q u0) (lb k u0)) (lb g u0) (lx X u0))
  w0.overlay Y (rB (pB (lb q l0) (lb k w0)) (lb g l0) (lx Y w0))
def diagK0 (q k v g : FVec F S512x512 .bf16) (X : FVec F S512x512 .f32) : FVec F S512x512 .f32 :=
  have Y := u0.overlay X (rA (dA (lb q u0) (lb k u0) (lb g u0) (lb v u0)) (lb q u0) (lx X u0))
  w0.overlay Y (rB (dB (lb q l0) (lb k w0) (lb g l0) (lb v w0)) (lb q l0) (lx Y w0))
def diagQ0 (a b : BitVec 32) (hk : k0_chk1 a b) (hc : k0_cond4 a b = 1#1) (q k v g : FVec F S512x512 .bf16) (X : FVec F S4096x512 .f32) : FVec F S4096x512 .f32 :=
  have Y := (zu0 a b hk hc).overlay X (cA (dA (lb q u0) (lb k u0) (lb g u0) (lb v u0)) (lb k u0) (lz X (zu0 a b hk hc)))
  (zl0 a b hk hc).overlay Y (cB (dB (lb q l0) (lb k w0) (lb g l0) (lb v w0)) (lb k w0) (lz Y (zl0 a b hk hc)))
def diagV1 (q k v g : FVec F S512x512 .bf16) (X : FVec F S512x512 .f32) : FVec F S512x512 .f32 :=
  have Y := u1.overlay X (rA (pA (lb q u1) (lb k u1)) (lb g u1) (lx X u1))
  w1.overlay Y (rB (pB (lb q l1) (lb k w1)) (lb g l1) (lx Y w1))
def diagK1 (q k v g : FVec F S512x512 .bf16) (X : FVec F S512x512 .f32) : FVec F S512x512 .f32 :=
  have Y := u1.overlay X (rA (dA (lb q u1) (lb k u1) (lb g u1) (lb v u1)) (lb q u1) (lx X u1))
  w1.overlay Y (rB (dB (lb q l1) (lb k w1) (lb g l1) (lb v w1)) (lb q l1) (lx Y w1))
def diagQ1 (a b : BitVec 32) (hk : k0_chk1 a b) (hc : k0_cond4 a b = 1#1) (q k v g : FVec F S512x512 .bf16) (X : FVec F S4096x512 .f32) : FVec F S4096x512 .f32 :=
  have Y := (zu1 a b hk hc).overlay X (cA (dA (lb q u1) (lb k u1) (lb g u1) (lb v u1)) (lb k u1) (lz X (zu1 a b hk hc)))
  (zl1 a b hk hc).overlay Y (cB (dB (lb q l1) (lb k w1) (lb g l1) (lb v w1)) (lb k w1) (lz Y (zl1 a b hk hc)))
def diagV2 (q k v g : FVec F S512x512 .bf16) (X : FVec F S512x512 .f32) : FVec F S512x512 .f32 :=
  have Y := u2.overlay X (rA (pA (lb q u2) (lb k u2)) (lb g u2) (lx X u2))
  w2.overlay Y (rB (pB (lb q l2) (lb k w2)) (lb g l2) (lx Y w2))
def diagK2 (q k v g : FVec F S512x512 .bf16) (X : FVec F S512x512 .f32) : FVec F S512x512 .f32 :=
  have Y := u2.overlay X (rA (dA (lb q u2) (lb k u2) (lb g u2) (lb v u2)) (lb q u2) (lx X u2))
  w2.overlay Y (rB (dB (lb q l2) (lb k w2) (lb g l2) (lb v w2)) (lb q l2) (lx Y w2))
def diagQ2 (a b : BitVec 32) (hk : k0_chk1 a b) (hc : k0_cond4 a b = 1#1) (q k v g : FVec F S512x512 .bf16) (X : FVec F S4096x512 .f32) : FVec F S4096x512 .f32 :=
  have Y := (zu2 a b hk hc).overlay X (cA (dA (lb q u2) (lb k u2) (lb g u2) (lb v u2)) (lb k u2) (lz X (zu2 a b hk hc)))
  (zl2 a b hk hc).overlay Y (cB (dB (lb q l2) (lb k w2) (lb g l2) (lb v w2)) (lb k w2) (lz Y (zl2 a b hk hc)))
def diagV3 (q k v g : FVec F S512x512 .bf16) (X : FVec F S512x512 .f32) : FVec F S512x512 .f32 :=
  have Y := u3.overlay X (rA (pA (lb q u3) (lb k u3)) (lb g u3) (lx X u3))
  w3.overlay Y (rB (pB (lb q l3) (lb k w3)) (lb g l3) (lx Y w3))
def diagK3 (q k v g : FVec F S512x512 .bf16) (X : FVec F S512x512 .f32) : FVec F S512x512 .f32 :=
  have Y := u3.overlay X (rA (dA (lb q u3) (lb k u3) (lb g u3) (lb v u3)) (lb q u3) (lx X u3))
  w3.overlay Y (rB (dB (lb q l3) (lb k w3) (lb g l3) (lb v w3)) (lb q l3) (lx Y w3))
def diagQ3 (a b : BitVec 32) (hk : k0_chk1 a b) (hc : k0_cond4 a b = 1#1) (q k v g : FVec F S512x512 .bf16) (X : FVec F S4096x512 .f32) : FVec F S4096x512 .f32 :=
  have Y := (zu3 a b hk hc).overlay X (cA (dA (lb q u3) (lb k u3) (lb g u3) (lb v u3)) (lb k u3) (lz X (zu3 a b hk hc)))
  (zl3 a b hk hc).overlay Y (cB (dB (lb q l3) (lb k w3) (lb g l3) (lb v w3)) (lb k w3) (lz Y (zl3 a b hk hc)))

/-- The values', the keys' and the queries' accumulators after the point; the first two start at zero. -/
def diagV (q k v g : FVec F S512x512 .bf16) : FVec F S512x512 .f32 :=
  diagV3 q k v g (diagV2 q k v g (diagV1 q k v g (diagV0 q k v g (View.canon (Val := Elt F) (e := .f32) [⟨wAll, k0_pay3⟩]))))
def diagK (q k v g : FVec F S512x512 .bf16) : FVec F S512x512 .f32 :=
  diagK3 q k v g (diagK2 q k v g (diagK1 q k v g (diagK0 q k v g (View.canon (Val := Elt F) (e := .f32) [⟨wAll, k0_pay2⟩]))))
def diagQ (a b : BitVec 32) (hk : k0_chk1 a b) (hc : k0_cond4 a b = 1#1) (q k v g : FVec F S512x512 .bf16) (X : FVec F S4096x512 .f32) : FVec F S4096x512 .f32 :=
  diagQ3 a b hk hc q k v g (diagQ2 a b hk hc q k v g (diagQ1 a b hk hc q k v g (diagQ0 a b hk hc q k v g X)))
/-- The queries' accumulator at the first point of a column of blocks: zero. -/
def zeroQ : FVec F S4096x512 .f32 := View.canon (Val := Elt F) (e := .f32) [⟨zAll, k0_pay1⟩]

end Cert.Proof.Fox

end
-- ==== Proof.Body.lean ====
/-
  The body of the attention's backward kernel, run once for each way its conditionals can fall.
-/
module

public import proofs.«01_k».proof.Proof.Step
public import Idealize.ShloMosaic.Lib.Claim
public import Idealize.ShloMosaic.Lib.Exec

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Every index lies in the whole rectangle. -/
theorem mem_wAll (y : S512x512.Idx) : y ∈ (wAll : Rect S512x512).set := by
  obtain ⟨p, hp, hy⟩ := View.cover_of_tiled (Val := fun _ => Unit) (e := .f32) [⟨wAll, fun _ => ()⟩] S512x512.size (by rfl) y
  obtain rfl := List.mem_singleton.mp hp
  exact hy
theorem mem_zAll (y : S4096x512.Idx) : y ∈ (zAll : Rect S4096x512).set := by
  obtain ⟨p, hp, hy⟩ := View.cover_of_tiled (Val := fun _ => Unit) (e := .f32) [⟨zAll, fun _ => ()⟩] S4096x512.size (by rfl) y
  obtain rfl := List.mem_singleton.mp hp
  exact hy

set_option maxHeartbeats 4000000 in
/-- Where the query block lies after the key block. -/
theorem run_full (c : Dev nD) (E : Set ℕ) (i : grid0.Coords) (arg2 : Memref sig .tc .smem S36 .i32) (harg2 : arg2.IsWhole) (arg3 : Memref sig .tc .smem S36 .i32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x512 .f32) (harg10 : arg10.IsWhole) (x2 x3 : Vec F S36 .i32) (x4 x5 x6 x7 : Vec F S512x512 .bf16) (x8 : Vec F S4096x512 .f32) (x9 x10 : Vec F S512x512 .f32)
    (a b : BitVec 32) (ha : x2 ((Rect.unit (s := S36) (k0_off1 i) S1.size (k0_off1_inb i)).toLoadRect.idx (Shape.Idx.first Nat.one_pos)) = a)
    (hb : x3 ((Rect.unit (s := S36) (k0_off1 i) S1.size (k0_off1_inb i)).toLoadRect.idx (Shape.Idx.first Nat.one_pos)) = b)
    (hk : k0_chk1 a b) (h1 : ¬ k0_cond1 i = 1#1) (hc2 : ¬ k0_cond2 a b = 1#1) (hc : k0_cond3 a b = 1#1) (hc4 : ¬ k0_cond4 a b = 1#1) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (fullQ a b hk hc x4 x5 x6 x7 x8) ∗ owns (c : Thread nD τ) arg9 fullShare (fullK x4 x5 x6 x7 x9) ∗ owns (c : Thread nD τ) arg10 fullShare (fullV x4 x5 x6 x7 x10)) -∗ K ⟨⟩))
      ⊢ wp frame (wpE (defs₀ (F := F)) Variants.none c none) E (cc0_fox_bwd (F := F) i arg2 harg2 arg3 harg3 arg4 harg4 arg5 harg5 arg6 harg6 arg7 harg7 arg8 harg8 arg9 harg9 arg10 harg10) K := by
  simp only [cc0_fox_bwd_eq_skeleton]; unfold cc0_fox_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  generalize hv1 : run_full.sl.r c i arg2 f2 = v1
  generalize hv3 : run_full.sl.r_1 c i arg3 f3 = v3
  obtain rfl : v1 = a := hv1.symm.trans ha
  obtain rfl : v3 = b := hv3.symm.trans hb
  clear hv1 hv3
  sl_exec
  sl_step
  iapply Hk

  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    simp only [read_writes_eq_lay, readAt_writes_eq_lay]
    rfl
  isplitl [H9]
  · iexists _; isplitr
    swap; · iexact H9
    ipureintro
    rw [read_writes_eq_lay]
    sl_unfold_words
    rfl
  · iexists _; isplitr
    swap; · iexact H10
    ipureintro
    rw [read_writes_eq_lay]
    sl_unfold_words
    rfl

set_option maxHeartbeats 4000000 in
/-- Where the query block is the key block. -/
theorem run_diag (c : Dev nD) (E : Set ℕ) (i : grid0.Coords) (arg2 : Memref sig .tc .smem S36 .i32) (harg2 : arg2.IsWhole) (arg3 : Memref sig .tc .smem S36 .i32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x512 .f32) (harg10 : arg10.IsWhole) (x2 x3 : Vec F S36 .i32) (x4 x5 x6 x7 : Vec F S512x512 .bf16) (x8 : Vec F S4096x512 .f32) (x9 x10 : Vec F S512x512 .f32)
    (a b : BitVec 32) (ha : x2 ((Rect.unit (s := S36) (k0_off1 i) S1.size (k0_off1_inb i)).toLoadRect.idx (Shape.Idx.first Nat.one_pos)) = a)
    (hb : x3 ((Rect.unit (s := S36) (k0_off1 i) S1.size (k0_off1_inb i)).toLoadRect.idx (Shape.Idx.first Nat.one_pos)) = b)
    (hk : k0_chk1 a b) (h1 : ¬ k0_cond1 i = 1#1) (hc2 : k0_cond2 a b = 1#1) (hc3 : ¬ k0_cond3 a b = 1#1) (hc : k0_cond4 a b = 1#1) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (diagQ a b hk hc x4 x5 x6 x7 x8) ∗ owns (c : Thread nD τ) arg9 fullShare (diagK x4 x5 x6 x7) ∗ owns (c : Thread nD τ) arg10 fullShare (diagV x4 x5 x6 x7)) -∗ K ⟨⟩))
      ⊢ wp frame (wpE (defs₀ (F := F)) Variants.none c none) E (cc0_fox_bwd (F := F) i arg2 harg2 arg3 harg3 arg4 harg4 arg5 harg5 arg6 harg6 arg7 harg7 arg8 harg8 arg9 harg9 arg10 harg10) K := by
  simp only [cc0_fox_bwd_eq_skeleton]; unfold cc0_fox_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  generalize hv1 : run_diag.sl.r c i arg2 f2 = v1
  generalize hv3 : run_diag.sl.r_1 c i arg3 f3 = v3
  obtain rfl : v1 = a := hv1.symm.trans ha
  obtain rfl : v3 = b := hv3.symm.trans hb
  clear hv1 hv3
  sl_exec
  sl_step
  iapply Hk

  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    simp only [read_writes_eq_lay, readAt_writes_eq_lay]
    rfl
  isplitl [H9]
  · iexists _; isplitr
    swap; · iexact H9
    ipureintro
    rw [View.read_writes_eq_canon]
    · sl_unfold_words
      simp only [View.readCov_eq_canon']
      rfl
    · refine fun y => ⟨⟨wAll, k0_pay2⟩, ?_, mem_wAll y⟩
      sl_unfold_words
      repeat (first | exact List.mem_cons_self | apply List.mem_cons_of_mem)
  · iexists _; isplitr
    swap; · iexact H10
    ipureintro
    rw [View.read_writes_eq_canon]
    · sl_unfold_words
      simp only [View.readCov_eq_canon']
      rfl
    · refine fun y => ⟨⟨wAll, k0_pay3⟩, ?_, mem_wAll y⟩
      sl_unfold_words
      repeat (first | exact List.mem_cons_self | apply List.mem_cons_of_mem)

set_option maxHeartbeats 4000000 in
/-- The first point of a column of blocks. -/
theorem run_first (c : Dev nD) (E : Set ℕ) (i : grid0.Coords) (arg2 : Memref sig .tc .smem S36 .i32) (harg2 : arg2.IsWhole) (arg3 : Memref sig .tc .smem S36 .i32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S4096x512 .f32) (harg8 : arg8.IsWhole) (arg9 : Memref sig .tc .vmem S512x512 .f32) (harg9 : arg9.IsWhole) (arg10 : Memref sig .tc .vmem S512x512 .f32) (harg10 : arg10.IsWhole) (x2 x3 : Vec F S36 .i32) (x4 x5 x6 x7 : Vec F S512x512 .bf16) (x8 : Vec F S4096x512 .f32) (x9 x10 : Vec F S512x512 .f32)
    (a b : BitVec 32) (ha : x2 ((Rect.unit (s := S36) (k0_off1 i) S1.size (k0_off1_inb i)).toLoadRect.idx (Shape.Idx.first Nat.one_pos)) = a)
    (hb : x3 ((Rect.unit (s := S36) (k0_off1 i) S1.size (k0_off1_inb i)).toLoadRect.idx (Shape.Idx.first Nat.one_pos)) = b)
    (hk : k0_chk1 a b) (h1 : k0_cond1 i = 1#1) (hc2 : k0_cond2 a b = 1#1) (hc3 : ¬ k0_cond3 a b = 1#1) (hc : k0_cond4 a b = 1#1) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (diagQ a b hk hc x4 x5 x6 x7 zeroQ) ∗ owns (c : Thread nD τ) arg9 fullShare (diagK x4 x5 x6 x7) ∗ owns (c : Thread nD τ) arg10 fullShare (diagV x4 x5 x6 x7)) -∗ K ⟨⟩))
      ⊢ wp frame (wpE (defs₀ (F := F)) Variants.none c none) E (cc0_fox_bwd (F := F) i arg2 harg2 arg3 harg3 arg4 harg4 arg5 harg5 arg6 harg6 arg7 harg7 arg8 harg8 arg9 harg9 arg10 harg10) K := by
  simp only [cc0_fox_bwd_eq_skeleton]; unfold cc0_fox_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf2 hf3 hf4 hf5 hf6 hf7 hf8 hf9 hf10
  sl_exec
  generalize hv1 : run_first.sl.r c i arg2 f2 = v1
  generalize hv3 : run_first.sl.r_1 c i arg3 f3 = v3
  obtain rfl : v1 = a := hv1.symm.trans ha
  obtain rfl : v3 = b := hv3.symm.trans hb
  clear hv1 hv3
  sl_exec
  sl_step
  iapply Hk

  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_junk_eq_canon]
    sl_unfold_words
    simp only [View.readAt_writes_junk_eq_canon, View.readCov_eq_canon']
    rfl
  isplitl [H9]
  · iexists _; isplitr
    swap; · iexact H9
    ipureintro
    rw [View.read_writes_eq_canon]
    · sl_unfold_words
      simp only [View.readCov_eq_canon']
      rfl
    · refine fun y => ⟨⟨wAll, k0_pay2⟩, ?_, mem_wAll y⟩
      sl_unfold_words
      repeat (first | exact List.mem_cons_self | apply List.mem_cons_of_mem)
  · iexists _; isplitr
    swap; · iexact H10
    ipureintro
    rw [View.read_writes_eq_canon]
    · sl_unfold_words
      simp only [View.readCov_eq_canon']
      rfl
    · refine fun y => ⟨⟨wAll, k0_pay3⟩, ?_, mem_wAll y⟩
      sl_unfold_words
      repeat (first | exact List.mem_cons_self | apply List.mem_cons_of_mem)

end Cert.Proof.Fox

end
-- ==== Proof.Sched.lean ====
/-
  The schedule of the attention's backward kernel: what the two prefetched tables hold, which blocks each grid point
  stages, and how the body's conditionals fall there.
-/
module

public import proofs.«01_k».proof.Proof.Body

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]

/-- The query block of the pair at a point of the triangle. -/
abbrev qw (i : grid0.Coords) : BitVec 32 := lit0 (i 1)
/-- The key block of the pair. -/
abbrev kw (i : grid0.Coords) : BitVec 32 := lit1 (i 1)

/-- The tables' contents. -/
def tabs : pre0.Contents (Elt F) := fun
  | ⟨0, _⟩ => fun i => lit0 (S36.rowMajor i)
  | ⟨1, _⟩ => fun i => lit1 (S36.rowMajor i)

/-- The one index of the tables a point reads is the point's place in the triangle. -/
theorem row_at (i : grid0.Coords) :
    S36.rowMajor ((Rect.unit (s := S36) (k0_off1 i) S1.size (k0_off1_inb i)).toLoadRect.idx (Shape.Idx.first Nat.one_pos)) = i 1 := by
  have h : ∀ i : grid0.Coords, (S36.rowMajor ((Rect.unit (s := S36) (k0_off1 i) S1.size (k0_off1_inb i)).toLoadRect.idx (Shape.Idx.first Nat.one_pos))).val = (i 1).val := by
    decide +kernel
  exact Fin.ext (h i)

/-- The lane half as the index maps compute it. -/
theorem half_at (i : grid0.Coords) : (BitVec.ofNat 32 (i 0).val).toNat = (i 0).val := by revert i; decide +kernel

theorem tabs_at0 (i : grid0.Coords) :
    (tabs (F := F)).at 0 (Rect.unit (s := S36) (k0_off1 i) S1.size (k0_off1_inb i)) numel1_S1 = qw i :=
  congrArg lit0 (row_at i)
theorem tabs_at1 (i : grid0.Coords) :
    (tabs (F := F)).at 1 (Rect.unit (s := S36) (k0_off1 i) S1.size (k0_off1_inb i)) numel1_S1 = kw i :=
  congrArg lit1 (row_at i)

theorem ix_q (i : grid0.Coords) : cc0_transform_0 k0_off1_inb numel1_S1 (tabs (F := F)) i = ![(qw i).toNat, (i 0).val] := by
  have h : cc0_transform_0 k0_off1_inb numel1_S1 (tabs (F := F)) i
      = ![((tabs (F := F)).at 0 (Rect.unit (s := S36) (k0_off1 i) S1.size (k0_off1_inb i)) numel1_S1).toNat, (BitVec.ofNat 32 (i 0).val).toNat] := rfl
  rw [h, tabs_at0, half_at]
theorem ix_k (i : grid0.Coords) : cc0_transform_1 k0_off1_inb numel1_S1 (tabs (F := F)) i = ![(kw i).toNat, (i 0).val] := by
  have h : cc0_transform_1 k0_off1_inb numel1_S1 (tabs (F := F)) i
      = ![((tabs (F := F)).at 1 (Rect.unit (s := S36) (k0_off1 i) S1.size (k0_off1_inb i)) numel1_S1).toNat, (BitVec.ofNat 32 (i 0).val).toNat] := rfl
  rw [h, tabs_at1, half_at]
theorem ix_v (i : grid0.Coords) : cc0_transform_2 k0_off1_inb numel1_S1 (tabs (F := F)) i = ![(kw i).toNat, (i 0).val] := ix_k i
theorem ix_g (i : grid0.Coords) : cc0_transform_3 k0_off1_inb numel1_S1 (tabs (F := F)) i = ![(qw i).toNat, (i 0).val] := ix_q i
theorem ix_dk (i : grid0.Coords) : cc0_transform_5 k0_off1_inb numel1_S1 (tabs (F := F)) i = ![(kw i).toNat, (i 0).val] := ix_k i
theorem ix_dv (i : grid0.Coords) : cc0_transform_6 k0_off1_inb numel1_S1 (tabs (F := F)) i = ![(kw i).toNat, (i 0).val] := ix_k i
theorem ix_dq (i : grid0.Coords) : cc0_transform_4 i = ![0, (i 0).val] := by revert i; decide +kernel

theorem qw_lt (i : grid0.Coords) : (qw i).toNat < 8 := by revert i; decide +kernel
theorem kw_lt (i : grid0.Coords) : (kw i).toNat < 8 := by revert i; decide +kernel
theorem ax_lt (i : grid0.Coords) : (i 0).val < 2 := (i 0).isLt

/-- A block of 512 rows and 512 lanes of the packed rows is inside them, and made of whole words. -/
theorem block_ok (e : EltTy) (he : e.packing ∣ 512) (f : Fin 2 → Nat) (x y : Nat) (hf : f = ![x, y]) (hx : x < 8) (hy : y < 2) :
    ∃ h : (∀ a, (f a + 1) * S512x512.size a ≤ S4096x1024.size a),
      e.bits = 32 ∨ (Rect.block (s := S4096x1024) S512x512.size f h).WholeWords e.packing := by
  subst hf
  refine ⟨fun a => ?_, .inr (.inl (.inr ⟨Nat.le_refl 2, rfl, .inl ⟨?_, he⟩⟩))⟩
  · match a with
    | ⟨0, _⟩ => show (x + 1) * 512 ≤ 4096; omega
    | ⟨1, _⟩ => show (y + 1) * 512 ≤ 1024; omega
  · show e.packing ∣ x * 512
    exact he.mul_left x

theorem tabs_ok : ok0 (tabs (F := F)) :=
  ⟨fun i => block_ok .bf16 (by decide) _ _ _ (ix_q i) (qw_lt i) (ax_lt i), fun i => block_ok .bf16 (by decide) _ _ _ (ix_k i) (kw_lt i) (ax_lt i),
   fun i => block_ok .bf16 (by decide) _ _ _ (ix_v i) (kw_lt i) (ax_lt i), fun i => block_ok .bf16 (by decide) _ _ _ (ix_g i) (qw_lt i) (ax_lt i),
   fun i => block_ok .f32 (by decide) _ _ _ (ix_dk i) (kw_lt i) (ax_lt i), fun i => block_ok .f32 (by decide) _ _ _ (ix_dv i) (kw_lt i) (ax_lt i)⟩

/-- The tables' contents, admissible. -/
abbrev adm : (p : Fin 1) → (pcfgs (F := F) p).Adm := fun _ => ⟨tabs, tabs_ok⟩

/-- The pipeline at them. -/
abbrev cfg : Cfg sig Λ₀ := cfg0 (adm (F := F) 0)

/-! ## How the conditionals fall -/

/-- Either the pair is the first of its lane half, or it is a diagonal one, or it lies below the diagonal. -/
theorem cases_at (i : grid0.Coords) : k0_chk1 (qw i) (kw i) ∧
    ((k0_cond1 i = 1#1 ∧ k0_cond2 (qw i) (kw i) = 1#1 ∧ ¬ k0_cond3 (qw i) (kw i) = 1#1 ∧ k0_cond4 (qw i) (kw i) = 1#1)
    ∨ (¬ k0_cond1 i = 1#1 ∧ k0_cond2 (qw i) (kw i) = 1#1 ∧ ¬ k0_cond3 (qw i) (kw i) = 1#1 ∧ k0_cond4 (qw i) (kw i) = 1#1)
    ∨ (¬ k0_cond1 i = 1#1 ∧ ¬ k0_cond2 (qw i) (kw i) = 1#1 ∧ k0_cond3 (qw i) (kw i) = 1#1 ∧ ¬ k0_cond4 (qw i) (kw i) = 1#1)) := by
  revert i; decide +kernel

theorem tabs_atD0 (i : grid0.Coords) : (tabs (F := F)).atD 0 (k0_off1 i) = qw i := by
  have h : ∀ i : grid0.Coords, ∀ a, k0_off1 i a + 1 ≤ S36.size a := by decide +kernel
  exact (dif_pos (h i)).trans (congrArg lit0 (row_at i))
theorem tabs_atD1 (i : grid0.Coords) : (tabs (F := F)).atD 1 (k0_off1 i) = kw i := by
  have h : ∀ i : grid0.Coords, ∀ a, k0_off1 i a + 1 ≤ S36.size a := by decide +kernel
  exact (dif_pos (h i)).trans (congrArg lit1 (row_at i))

end Cert.Proof.Fox
-- ==== Proof.Region.lean ====
/-
  The attention's backward kernel as a pipeline: what its accumulators hold after each grid point, and the body's triple
  at a generic one.
-/
module

public import proofs.«01_k».proof.Proof.Sched
public import Idealize.ShloMosaic.Lib.Pipeline.FrameBody
public import Idealize.ShloMosaic.Lib.Pipeline.RegionArraysTS

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The three accumulators: of the queries' gradient, the keys' and the values'. -/
structure Acc (F : FTy → Type) where
  dq : Vec F S4096x512 .f32
  dk : Vec F S512x512 .f32
  dv : Vec F S512x512 .f32

/-- What a grid point makes of the accumulators, from the blocks staged there. -/
def step (i : grid0.Coords) (q k v g : Vec F S512x512 .bf16) (A : Acc F) : Acc F :=
  if hc : k0_cond3 (qw i) (kw i) = 1#1 then
    ⟨fullQ (qw i) (kw i) (cases_at i).1 hc q k v g A.dq, fullK q k v g A.dk, fullV q k v g A.dv⟩
  else if hc : k0_cond4 (qw i) (kw i) = 1#1 then
    ⟨diagQ (qw i) (kw i) (cases_at i).1 hc q k v g (if k0_cond1 i = 1#1 then zeroQ else A.dq), diagK q k v g, diagV q k v g⟩
  else A

theorem step_full {i : grid0.Coords} (hc : k0_cond3 (qw i) (kw i) = 1#1) (q k v g : Vec F S512x512 .bf16) (A : Acc F) :
    step i q k v g A = ⟨fullQ (qw i) (kw i) (cases_at i).1 hc q k v g A.dq, fullK q k v g A.dk, fullV q k v g A.dv⟩ := by
  unfold step; rw [dif_pos hc]
theorem step_first {i : grid0.Coords} (h1 : k0_cond1 i = 1#1) (h3 : ¬ k0_cond3 (qw i) (kw i) = 1#1) (hc : k0_cond4 (qw i) (kw i) = 1#1)
    (q k v g : Vec F S512x512 .bf16) (A : Acc F) :
    step i q k v g A = ⟨diagQ (qw i) (kw i) (cases_at i).1 hc q k v g zeroQ, diagK q k v g, diagV q k v g⟩ := by
  unfold step; rw [dif_neg h3, dif_pos hc, if_pos h1]
theorem step_diag {i : grid0.Coords} (h1 : ¬ k0_cond1 i = 1#1) (h3 : ¬ k0_cond3 (qw i) (kw i) = 1#1) (hc : k0_cond4 (qw i) (kw i) = 1#1)
    (q k v g : Vec F S512x512 .bf16) (A : Acc F) :
    step i q k v g A = ⟨diagQ (qw i) (kw i) (cases_at i).1 hc q k v g A.dq, diagK q k v g, diagV q k v g⟩ := by
  unfold step; rw [dif_neg h3, dif_pos hc, if_neg h1]

/-- Accumulators at something: what the first point finds does not matter. -/
def anyAcc : Acc F := ⟨zeroQ, View.canon [⟨wAll, k0_pay3⟩], View.canon [⟨wAll, k0_pay2⟩]⟩

section Data

variable (W : Dev nD → Valuation τ sig (Elt F))

/-- Window `w`'s block at a point: the part of its array the pipeline stages there. -/
abbrev blk (c : Dev nD) (w : Fin 7) (t : Fin (cfg (F := F)).N) : (((cfg (F := F)).win w).xblock ((cfg (F := F)).grid.coords t)).Idx → Elt F ((cfg (F := F)).win w).elt :=
  (((cfg (F := F)).win w).blk t).view.read (Elt F) (W c (Proc.devRef .tc (Pipeline.arrRef spec0 w)))

def bq (c : Dev nD) (t : Fin (cfg (F := F)).N) : Vec F S512x512 .bf16 := blk W c 0 t
def bk (c : Dev nD) (t : Fin (cfg (F := F)).N) : Vec F S512x512 .bf16 := blk W c 1 t
def bv (c : Dev nD) (t : Fin (cfg (F := F)).N) : Vec F S512x512 .bf16 := blk W c 2 t
def bg (c : Dev nD) (t : Fin (cfg (F := F)).N) : Vec F S512x512 .bf16 := blk W c 3 t

/-- The accumulators after the point `n`. -/
def acc (c : Dev nD) : (n : ℕ) → n < (cfg (F := F)).N → Acc F
  | 0, h => step ((cfg (F := F)).grid.coords ⟨0, h⟩) (bq W c ⟨0, h⟩) (bk W c ⟨0, h⟩) (bv W c ⟨0, h⟩) (bg W c ⟨0, h⟩) anyAcc
  | n + 1, h => step ((cfg (F := F)).grid.coords ⟨n + 1, h⟩) (bq W c ⟨n + 1, h⟩) (bk W c ⟨n + 1, h⟩) (bv W c ⟨n + 1, h⟩) (bg W c ⟨n + 1, h⟩)
      (acc c n (Nat.lt_of_succ_lt h))

theorem acc_zero (c : Dev nD) (h : 0 < (cfg (F := F)).N) : acc W c 0 h
    = step ((cfg (F := F)).grid.coords ⟨0, h⟩) (bq W c ⟨0, h⟩) (bk W c ⟨0, h⟩) (bv W c ⟨0, h⟩) (bg W c ⟨0, h⟩) anyAcc := by rw [acc]
theorem acc_succ (c : Dev nD) (n : ℕ) (h : n + 1 < (cfg (F := F)).N) : acc W c (n + 1) h
    = step ((cfg (F := F)).grid.coords ⟨n + 1, h⟩) (bq W c ⟨n + 1, h⟩) (bk W c ⟨n + 1, h⟩) (bv W c ⟨n + 1, h⟩) (bg W c ⟨n + 1, h⟩)
      (acc W c n (Nat.lt_of_succ_lt h)) := by rw [acc]

/-- The pipeline's proof data: inputs stay at their blocks, outputs hold the accumulators, the tables ride in the invariant. -/
def dats (_ : Fin 1) (c : Dev nD) : Dat τ (Elt F) Unit ℕ (UR sig nD τ) ℕ (cfg (F := F)) c where
  A w := W c (Proc.devRef .tc (Pipeline.arrRef spec0 w))
  after w t := match w with
    | ⟨0, _⟩ => bq W c t
    | ⟨1, _⟩ => bk W c t
    | ⟨2, _⟩ => bv W c t
    | ⟨3, _⟩ => bg W c t
    | ⟨4, _⟩ => (acc W c t.val t.isLt).dq
    | ⟨5, _⟩ => (acc W c t.val t.isLt).dk
    | ⟨6, _⟩ => (acc W c t.val t.isLt).dv
  Φ _ := Pipeline.tablesAt (pcfgs (F := F)) adm 0 c
  q _ := fullShare
  owed _ := 0

theorem A_eq (c : Dev nD) (w : Fin (cfg (F := F)).W) : (dats W 0 c).A w = W c (Proc.devRef .tc (Pipeline.arrRef spec0 w)) := by
  dsimp only [dats]

theorem after_q (c : Dev nD) (t : Fin (cfg (F := F)).N) : (dats W 0 c).after 0 t = bq W c t := by dsimp only [dats]; rfl
theorem after_k (c : Dev nD) (t : Fin (cfg (F := F)).N) : (dats W 0 c).after 1 t = bk W c t := by dsimp only [dats]; rfl
theorem after_v (c : Dev nD) (t : Fin (cfg (F := F)).N) : (dats W 0 c).after 2 t = bv W c t := by dsimp only [dats]; rfl
theorem after_g (c : Dev nD) (t : Fin (cfg (F := F)).N) : (dats W 0 c).after 3 t = bg W c t := by dsimp only [dats]; rfl
theorem after_dq (c : Dev nD) (t : Fin (cfg (F := F)).N) : (dats W 0 c).after 4 t = (acc W c t.val t.isLt).dq := by dsimp only [dats]; rfl
theorem after_dk (c : Dev nD) (t : Fin (cfg (F := F)).N) : (dats W 0 c).after 5 t = (acc W c t.val t.isLt).dk := by dsimp only [dats]; rfl
theorem after_dv (c : Dev nD) (t : Fin (cfg (F := F)).N) : (dats W 0 c).after 6 t = (acc W c t.val t.isLt).dv := by dsimp only [dats]; rfl

/-! ## The windows along the grid -/

/-- The queries' accumulator is stored into nowhere at a point, of the two words read there. -/
def noStoreQ (i : grid0.Coords) (a b : BitVec 32) : Bool := !(k0_cond1 i == 1#1) && !(k0_cond3 a b == 1#1) && !(k0_cond4 a b == 1#1)
/-- The other two accumulators are. -/
def noStoreK (i : grid0.Coords) (a b : BitVec 32) : Bool := !(k0_cond2 a b == 1#1) && !(k0_cond3 a b == 1#1) && !(k0_cond4 a b == 1#1)

theorem noStoreQ_false (i : grid0.Coords) : noStoreQ i (qw i) (kw i) = false := by revert i; decide +kernel
theorem noStoreK_false (i : grid0.Coords) : noStoreK i (qw i) (kw i) = false := by revert i; decide +kernel

/-- The body stores into every output at every point. -/
theorem live (w : Fin 7) (i : grid0.Coords) : (cfg (F := F)).idle w i = false := by
  have h : idle0 (tabs (F := F)) w i = false :=
    match w with
    | ⟨0, _⟩ => rfl
    | ⟨1, _⟩ => rfl
    | ⟨2, _⟩ => rfl
    | ⟨3, _⟩ => rfl
    | ⟨4, _⟩ => (congrArg₂ (noStoreQ i) (tabs_atD0 (F := F) i) (tabs_atD1 (F := F) i)).trans (noStoreQ_false i)
    | ⟨5, _⟩ => (congrArg₂ (noStoreK i) (tabs_atD0 (F := F) i) (tabs_atD1 (F := F) i)).trans (noStoreK_false i)
    | ⟨6, _⟩ => (congrArg₂ (noStoreK i) (tabs_atD0 (F := F) i) (tabs_atD1 (F := F) i)).trans (noStoreK_false i)
  exact h

theorem before_q (c : Dev nD) (t : Fin (cfg (F := F)).N) (d) : (dats W 0 c).before 0 t d = bq W c t :=
  ((dats W 0 c).before_in_eq_fetched 0 rfl (live 0) (fun _ _ _ => rfl) (fun _ => rfl) t d).trans (by
    unfold Dat.fetched Dat.blockOf; dsimp only [dats]; rfl)
theorem before_k (c : Dev nD) (t : Fin (cfg (F := F)).N) (d) : (dats W 0 c).before 1 t d = bk W c t :=
  ((dats W 0 c).before_in_eq_fetched 1 rfl (live 1) (fun _ _ _ => rfl) (fun _ => rfl) t d).trans (by
    unfold Dat.fetched Dat.blockOf; dsimp only [dats]; rfl)
theorem before_v (c : Dev nD) (t : Fin (cfg (F := F)).N) (d) : (dats W 0 c).before 2 t d = bv W c t :=
  ((dats W 0 c).before_in_eq_fetched 2 rfl (live 2) (fun _ _ _ => rfl) (fun _ => rfl) t d).trans (by
    unfold Dat.fetched Dat.blockOf; dsimp only [dats]; rfl)
theorem before_g (c : Dev nD) (t : Fin (cfg (F := F)).N) (d) : (dats W 0 c).before 3 t d = bg W c t :=
  ((dats W 0 c).before_in_eq_fetched 3 rfl (live 3) (fun _ _ _ => rfl) (fun _ => rfl) t d).trans (by
    unfold Dat.fetched Dat.blockOf; dsimp only [dats]; rfl)

/-- Beyond the first point of a lane half the queries' accumulator is the one of the point before. -/
theorem stays_dq : ∀ t : Fin grid0.N, ¬ k0_cond1 (grid0.coords t) = 1#1 →
    t.val ≠ 0 ∧ (grid0.coords t 0).val = (grid0.coords ⟨t.val - 1, Nat.lt_of_le_of_lt (Nat.sub_le _ _) t.isLt⟩ 0).val := by decide +kernel
/-- Off the diagonal the keys' accumulator is the one of the point before. -/
theorem stays_dk : ∀ t : Fin grid0.N, ¬ k0_cond2 (qw (grid0.coords t)) (kw (grid0.coords t)) = 1#1 →
    t.val ≠ 0 ∧ (grid0.coords t 0).val = (grid0.coords ⟨t.val - 1, Nat.lt_of_le_of_lt (Nat.sub_le _ _) t.isLt⟩ 0).val
      ∧ (kw (grid0.coords t)).toNat = (kw (grid0.coords ⟨t.val - 1, Nat.lt_of_le_of_lt (Nat.sub_le _ _) t.isLt⟩)).toNat := by decide +kernel

theorem index_dq (t : Fin (cfg (F := F)).N) : ((cfg (F := F)).win 4).index t = ![0, (grid0.coords t 0).val] := ix_dq _
theorem index_dk (t : Fin (cfg (F := F)).N) : ((cfg (F := F)).win 5).index t = ![(kw (grid0.coords t)).toNat, (grid0.coords t 0).val] := ix_dk _
theorem index_dv (t : Fin (cfg (F := F)).N) : ((cfg (F := F)).win 6).index t = ![(kw (grid0.coords t)).toNat, (grid0.coords t 0).val] := ix_dv _

/-- A window whose block stays from one point to the next is not written back between them. -/
theorem flush_pred {G : Pipeline.Grid} (w : Window sig G) (t : Fin G.N) (ht : t.val ≠ 0)
    (h : w.index t = w.index ⟨t.val - 1, Nat.lt_of_le_of_lt (Nat.sub_le _ _) t.isLt⟩) :
    w.flush ⟨t.val - 1, Nat.lt_of_le_of_lt (Nat.sub_le _ _) t.isLt⟩ = false := by
  have ht' : t.val - 1 + 1 = t.val := Nat.succ_pred_eq_of_ne_zero ht
  unfold Window.flush
  rw [Bool.and_eq_false_iff]; right
  rw [Bool.or_eq_false_iff]
  constructor
  · exact decide_eq_false (by have := t.isLt; dsimp only; omega)
  · refine decide_eq_false ?_
    rintro ⟨hlt, hne⟩
    apply hne
    rw [← h]
    exact congrArg w.index (Fin.ext ht')

theorem before_dq (c : Dev nD) (t : Fin (cfg (F := F)).N) (h1 : ¬ k0_cond1 (grid0.coords t) = 1#1) (d) :
    (dats W 0 c).before 4 t d = (acc W c (t.val - 1) (Nat.lt_of_le_of_lt (Nat.sub_le _ _) t.isLt)).dq :=
  have hs := stays_dq t h1
  ((dats W 0 c).before_out_kept 4 rfl t hs.1
    (flush_pred _ t hs.1 (by rw [index_dq, index_dq, hs.2])) (live 4) (fun _ _ => rfl) d).trans (after_dq W c _)
theorem before_dk (c : Dev nD) (t : Fin (cfg (F := F)).N) (h2 : ¬ k0_cond2 (qw (grid0.coords t)) (kw (grid0.coords t)) = 1#1) (d) :
    (dats W 0 c).before 5 t d = (acc W c (t.val - 1) (Nat.lt_of_le_of_lt (Nat.sub_le _ _) t.isLt)).dk :=
  have hs := stays_dk t h2
  ((dats W 0 c).before_out_kept 5 rfl t hs.1
    (flush_pred _ t hs.1 (by rw [index_dk, index_dk, hs.2.1, hs.2.2])) (live 5) (fun _ _ => rfl) d).trans (after_dk W c _)
theorem before_dv (c : Dev nD) (t : Fin (cfg (F := F)).N) (h2 : ¬ k0_cond2 (qw (grid0.coords t)) (kw (grid0.coords t)) = 1#1) (d) :
    (dats W 0 c).before 6 t d = (acc W c (t.val - 1) (Nat.lt_of_le_of_lt (Nat.sub_le _ _) t.isLt)).dv :=
  have hs := stays_dk t h2
  ((dats W 0 c).before_out_kept 6 rfl t hs.1
    (flush_pred _ t hs.1 (by rw [index_dv, index_dv, hs.2.1, hs.2.2])) (live 6) (fun _ _ => rfl) d).trans (after_dv W c _)

/-- The accumulators after a point that is not the first, from those after the point before. -/
theorem acc_pred (c : Dev nD) (t : Fin (cfg (F := F)).N) (ht : t.val ≠ 0) : acc W c t.val t.isLt
    = step (grid0.coords t) (bq W c t) (bk W c t) (bv W c t) (bg W c t) (acc W c (t.val - 1) (Nat.lt_of_le_of_lt (Nat.sub_le _ _) t.isLt)) := by
  obtain ⟨n, hn⟩ := t
  match n, hn, ht with
  | n + 1, hn, _ => exact acc_succ W c n hn

/-- The accumulators after the first point of a lane half, of those before. -/
theorem acc_first (c : Dev nD) (t : Fin (cfg (F := F)).N) : ∃ A : Acc F, acc W c t.val t.isLt
    = step (grid0.coords t) (bq W c t) (bk W c t) (bv W c t) (bg W c t) A := by
  obtain ⟨n, hn⟩ := t
  match n, hn with
  | 0, hn => exact ⟨_, acc_zero W c hn⟩
  | n + 1, hn => exact ⟨_, acc_succ W c n hn⟩

/-! ## The body obligation -/

/-- Window `w`'s staging buffer at a point. -/
abbrev sq (t : Fin (cfg (F := F)).N) (w : Fin 7) := (spec0 w).stage ((cfg (F := F)).slots t w)

/-- The body at a point, on the tables and the staging buffers there. -/
def bodyAt (t : Fin (cfg (F := F)).N) : Prog (TpuEff nD τ sig (Elt F) Λ₀ .tc) PUnit :=
  cc0_fox_bwd (F := F) (grid0.coords t) (Memref.whole main_c) (Memref.isWhole_whole _) (Memref.whole main_c_0) (Memref.isWhole_whole _)
    (spec0_0.stage ((cfg (F := F)).slots t 0)) (hstage0_0 (((cfg (F := F)).slots t 0).cast nbuf0_0))
    (spec0_1.stage ((cfg (F := F)).slots t 1)) (hstage0_1 (((cfg (F := F)).slots t 1).cast nbuf0_1))
    (spec0_2.stage ((cfg (F := F)).slots t 2)) (hstage0_2 (((cfg (F := F)).slots t 2).cast nbuf0_2))
    (spec0_3.stage ((cfg (F := F)).slots t 3)) (hstage0_3 (((cfg (F := F)).slots t 3).cast nbuf0_3))
    (spec0_4.stage ((cfg (F := F)).slots t 4)) (hstage0_4 (((cfg (F := F)).slots t 4).cast nbuf0_4))
    (spec0_5.stage ((cfg (F := F)).slots t 5)) (hstage0_5 (((cfg (F := F)).slots t 5).cast nbuf0_5))
    (spec0_6.stage ((cfg (F := F)).slots t 6)) (hstage0_6 (((cfg (F := F)).slots t 6).cast nbuf0_6))

/-- The two tables as the body reads them. -/
def tab0 : Vec F S36 .i32 := fun i => lit0 (S36.rowMajor i)
def tab1 : Vec F S36 .i32 := fun i => lit1 (S36.rowMajor i)

/-- The tables, as the two buffers the body reads. -/
theorem tables_eq (c : Dev nD) : (Pipeline.tablesAt (Ix := Unit) (Name := ℕ) (U := UR sig nD τ) (Lvl := ℕ) (pcfgs (F := F)) adm 0 c : sProp 𝕄)
    = iprop(owns (c : Thread nD τ) (Memref.whole main_c) fullShare tab0 ∗ owns (c : Thread nD τ) (Memref.whole main_c_0) fullShare tab1) := by
  refine (bigSep_univ_eq_bigSepL [(0 : Fin 2), (1 : Fin 2)] (by decide) (by decide) _).trans ?_
  exact congrArg₂ BIBase.sep (owns_whole (c : Thread nD τ) main_c fullShare tab0).symm (owns_whole (c : Thread nD τ) main_c_0 fullShare tab1).symm

/-- What the body is called with at a point, -/
def bodyPre (c : Dev nD) (t : Fin (cfg (F := F)).N) : sProp 𝕄 :=
  iprop((dats W 0 c).Φ t.castSucc ∗ (dats W 0 c).owesAt () t.castSucc
    ∗ (∃ d, owns (c : Thread nD τ) (sq t 0) fullShare ((dats W 0 c).before 0 t d))
    ∗ (∃ d, owns (c : Thread nD τ) (sq t 1) fullShare ((dats W 0 c).before 1 t d))
    ∗ (∃ d, owns (c : Thread nD τ) (sq t 2) fullShare ((dats W 0 c).before 2 t d))
    ∗ (∃ d, owns (c : Thread nD τ) (sq t 3) fullShare ((dats W 0 c).before 3 t d))
    ∗ (∃ d, owns (c : Thread nD τ) (sq t 4) fullShare ((dats W 0 c).before 4 t d))
    ∗ (∃ d, owns (c : Thread nD τ) (sq t 5) fullShare ((dats W 0 c).before 5 t d))
    ∗ (∃ d, owns (c : Thread nD τ) (sq t 6) fullShare ((dats W 0 c).before 6 t d)))

/-- and what it returns. -/
def bodyPost (c : Dev nD) (t : Fin (cfg (F := F)).N) : sProp 𝕄 :=
  iprop((dats W 0 c).Φ t.succ ∗ (dats W 0 c).owesAt () t.succ
    ∗ owns (c : Thread nD τ) (sq t 0) fullShare ((dats W 0 c).after 0 t)
    ∗ owns (c : Thread nD τ) (sq t 1) fullShare ((dats W 0 c).after 1 t)
    ∗ owns (c : Thread nD τ) (sq t 2) fullShare ((dats W 0 c).after 2 t)
    ∗ owns (c : Thread nD τ) (sq t 3) fullShare ((dats W 0 c).after 3 t)
    ∗ owns (c : Thread nD τ) (sq t 4) fullShare ((dats W 0 c).after 4 t)
    ∗ owns (c : Thread nD τ) (sq t 5) fullShare ((dats W 0 c).after 5 t)
    ∗ owns (c : Thread nD τ) (sq t 6) fullShare ((dats W 0 c).after 6 t))

/-- The body at any point. -/
theorem sound_body (c : Dev nD) (t : Fin (cfg (F := F)).N) :
    bodyPre W c t ⊢ wp frame (wpE (defs₀ (F := F)) Variants.none c none) Set.univ (bodyAt t) (fun _ => bodyPost W c t) := by
  unfold bodyPre bodyPost bodyAt
  simp only [before_q, before_k, before_v, before_g]
  rw [show (dats W 0 c).Φ t.succ = (dats W 0 c).Φ t.castSucc from rfl,
    show (dats W 0 c).owesAt () t.succ = (dats W 0 c).owesAt () t.castSucc from rfl,
    after_q, after_k, after_v, after_g, after_dq, after_dk, after_dv,
    show (dats W 0 c).Φ t.castSucc = Pipeline.tablesAt (pcfgs (F := F)) adm 0 c from rfl, tables_eq]
  obtain ⟨hk, h⟩ := cases_at (grid0.coords t)
  have ha : tab0 (F := F) ((Rect.unit (s := S36) (k0_off1 (grid0.coords t)) S1.size (k0_off1_inb (grid0.coords t))).toLoadRect.idx (Shape.Idx.first Nat.one_pos)) = qw (grid0.coords t) :=
    tabs_at0 (F := F) (grid0.coords t)
  have hb : tab1 (F := F) ((Rect.unit (s := S36) (k0_off1 (grid0.coords t)) S1.size (k0_off1_inb (grid0.coords t))).toLoadRect.idx (Shape.Idx.first Nat.one_pos)) = kw (grid0.coords t) :=
    tabs_at1 (F := F) (grid0.coords t)
  rcases h with ⟨h1, h2, h3, h4⟩ | ⟨h1, h2, h3, h4⟩ | ⟨h1, h2, h3, h4⟩
  · obtain ⟨A, hA⟩ := acc_first W c t
    rw [hA, step_first h1 h3 h4]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩⟩
    iapply (run_first c Set.univ (grid0.coords t) _ _ _ _ _ _ _ _ _ _ _ _ _ _ _ _ _ _ tab0 tab1 (bq W c t) (bk W c t) (bv W c t) (bg W c t) _ _ _
      (qw (grid0.coords t)) (kw (grid0.coords t)) ha hb hk h1 h2 h3 h4 _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨HT0, HT1, H0, H1, H2, H3, H4, H5, H6⟩
    isplitl [HT0 HT1]
    · isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc_pred W c t (stays_dq t h1).1, step_diag h1 h3 h4]
    simp only [before_dq W c t h1]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩⟩
    iapply (run_diag c Set.univ (grid0.coords t) _ _ _ _ _ _ _ _ _ _ _ _ _ _ _ _ _ _ tab0 tab1 (bq W c t) (bk W c t) (bv W c t) (bg W c t) _ _ _
      (qw (grid0.coords t)) (kw (grid0.coords t)) ha hb hk h1 h2 h3 h4 _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨HT0, HT1, H0, H1, H2, H3, H4, H5, H6⟩
    isplitl [HT0 HT1]
    · isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc_pred W c t (stays_dq t h1).1, step_full h3]
    simp only [before_dq W c t h1, before_dk W c t h2, before_dv W c t h2]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩⟩
    iapply (run_full c Set.univ (grid0.coords t) _ _ _ _ _ _ _ _ _ _ _ _ _ _ _ _ _ _ tab0 tab1 (bq W c t) (bk W c t) (bv W c t) (bg W c t) _ _ _
      (qw (grid0.coords t)) (kw (grid0.coords t)) ha hb hk h1 h2 h3 h4 _)
    isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨HT0, HT1, H0, H1, H2, H3, H4, H5, H6⟩
    isplitl [HT0 HT1]
    · isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point's slots is the body there. -/
theorem row_eq (t : Fin (cfg (F := F)).N) :
    defs₀ (F := F) .tc (cfg (F := F)).body ((cfg (F := F)).bodyArgs t ((cfg (F := F)).slots t)) = bodyAt t := by
  unfold defs₀; rw [Defs.onTc_tc]; rfl

/-- A choice on a flag that is down. -/
theorem of_down {b : Bool} (hb : b = false) (P Q : sProp 𝕄) : Q ⊢ (match (generalizing := false) b with | true => P | false => Q) := by
  subst hb; exact .rfl

/-- The pipeline's body obligation, at every point. -/
theorem body_obligation (c : Dev nD) : BodyObligation (dats W 0 c) (defs₀ (F := F)) Variants.none () Set.univ := fun t => by
  rw [bigSep_W0, bigSep_W0, row_eq]
  refine triple_restated (sound_body W c t) rfl .rfl fun _ => ?_
  unfold bodyPost
  refine sep_mono .rfl (sep_mono .rfl (sep_mono .rfl (sep_mono .rfl (sep_mono .rfl (sep_mono .rfl (sep_mono ?_ (sep_mono ?_ ?_)))))))
  · exact of_down (live (F := F) 4 (grid0.coords t)) _ _
  · exact of_down (live (F := F) 5 (grid0.coords t)) _ _
  · exact of_down (live (F := F) 6 (grid0.coords t)) _ _

end Data

end Cert.Proof.Fox
-- ==== Proof.Run.lean ====
/-
  The kernel program's run: its host lines and the attention's backward call, from launch to the last buffer.
-/
module

public import proofs.«01_k».proof.Proof.Region
public import Idealize.ShloMosaic.Lib.Pipeline.FrameTail
public import Idealize.ShloMosaic.Lib.StableHlo.RunRead

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-- The buffers at launch. -/
def V0 (c : Dev nD) : Valuation τ sig (Elt F) := fun b => m (c, b)
/-- After each stretch of host lines, -/
def V1 (c : Dev nD) : Valuation τ sig (Elt F) := StableHlo.after hostOps0 (V0 m c)
def V2 (c : Dev nD) : Valuation τ sig (Elt F) := StableHlo.after hostOps0_1 (V1 m c)
def V3 (c : Dev nD) : Valuation τ sig (Elt F) := StableHlo.after hostOps0_2 (V2 m c)
def V4 (c : Dev nD) : Valuation τ sig (Elt F) := StableHlo.after hostOps0_3 (V3 m c)
/-- at the call's entry, -/
def V5 (c : Dev nD) : Valuation τ sig (Elt F) := StableHlo.after hostOps0_4 (V4 m c)
/-- as the call leaves them, -/
def V6 (c : Dev nD) : Valuation τ sig (Elt F) := Pipeline.afterRegion (dats (V5 m) 0 c) (V5 m c)
/-- and after the lines that follow it. -/
def V7 (c : Dev nD) : Valuation τ sig (Elt F) := StableHlo.after hostOps1 (V6 m c)
def V8 (c : Dev nD) : Valuation τ sig (Elt F) := StableHlo.after hostOps1_1 (V7 m c)

theorem V5_def (c : Dev nD) : V5 m c = StableHlo.after hostOps0_4 (StableHlo.after hostOps0_3 (StableHlo.after hostOps0_2
    (StableHlo.after hostOps0_1 (StableHlo.after hostOps0 (V0 m c))))) := rfl

/-- The tables at the call's entry. -/
theorem V5_tab0 (c : Dev nD) : V5 m c (Proc.devRef .tc main_c) = fun i => lit0 (S36.rowMajor i) := by
  rw [V5_def]; after_reads_simp; rfl
theorem V5_tab1 (c : Dev nD) : V5 m c (Proc.devRef .tc main_c_0) = fun i => lit1 (S36.rowMajor i) := by
  rw [V5_def]; after_reads_simp; rfl

theorem V5_tabs (c : Dev nD) (k : Fin pre0.K) : tabs (F := F) k = V5 m c (Proc.devRef .tc (pre0.ref k)) := by
  match k with
  | ⟨0, _⟩ => exact (V5_tab0 m c).symm
  | ⟨1, _⟩ => exact (V5_tab1 m c).symm

/-- Where the pipeline's waits are levelled: at every cell of a core. -/
def L : GSem nD τ sig → Finset Unit := fun g => if g.1.2 = .tc then {()} else ∅
/-- One level. -/
def lv : GSem nD τ sig → Unit → ℕ := fun _ _ => 0

/-- What a core holds besides its buffers: it owes nothing. -/
def Rs (c : Dev nD) : sProp 𝕄 := iprop(∃ Wd, owes (c : Thread nD τ) (0 : CellTallies nD τ sig Unit) Wd)

/-- A stretch of host lines over the unscoped buffers. -/
def seg (ops : List (HloOp τ sig (Elt F))) (hsub : ops.Forall fun op => op.bufs ⊆ StableHlo.tcRefs τ sig)
    (hf : ∀ op ∈ ops, op.fresh = ∅) (V : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h)) hf V Rs

theorem cut : Pipeline.LevelCut (pcfgs (F := F)) adm () L lv (0 : Fin 1) (fun _ => (0 : CellTallies nD τ sig Unit)) (fun _ => (0 : ℕ)) where
  hι c w s := by unfold L; rw [if_pos rfl]; exact Finset.mem_singleton_self _
  hιb c w s := le_rfl
  hD c g i h := absurd h (lt_irrefl _)

/-- The call's invariant is its tables; it keeps no buffer of its own. -/
theorem call_in (c : Dev nD) : iprop(iprop((Pipeline.scopedRest (Pipeline.pin (pcfgs (F := F)) adm 0).spec c : sProp 𝕄) ∗ emp)
      ∗ Pipeline.tablesAt (pcfgs (F := F)) adm 0 c) ⊢ (dats (V5 m) 0 c).Φ 0 := by
  rw [show (dats (V5 m) 0 c).Φ 0 = Pipeline.tablesAt (pcfgs (F := F)) adm 0 c from rfl]
  generalize (Pipeline.tablesAt (pcfgs (F := F)) adm 0 c : sProp 𝕄) = T
  iintro ⟨-, H⟩
  iexact H
theorem call_out (c : Dev nD) : (dats (V5 m) 0 c).Φ (Fin.last _) ⊢ iprop(iprop((Pipeline.scopedRest (Pipeline.pin (pcfgs (F := F)) adm 0).spec c : sProp 𝕄) ∗ emp)
      ∗ Pipeline.tablesAt (pcfgs (F := F)) adm 0 c) := by
  rw [show (dats (V5 m) 0 c).Φ (Fin.last _) = Pipeline.tablesAt (pcfgs (F := F)) adm 0 c from rfl]
  generalize (Pipeline.tablesAt (pcfgs (F := F)) adm 0 c : sProp 𝕄) = T
  have h : (Pipeline.scopedRest (Pipeline.pin (pcfgs (F := F)) adm 0).spec c : sProp 𝕄) = (BI.emp : sProp 𝕄) := scopedRest0_eq c
  rw [h]
  iintro H
  isplitr
  · isplitl <;> iempintro
  iexact H

set_option backward.isDefEq.respectTransparency.types false in
/-- The call. -/
def reg0 : Pipeline.RegionSeg (pcfgs (F := F)) adm (dats (V5 m)) () defs₀ Variants.none L lv 0 :=
  Pipeline.RegionSeg.ofHeldInT (pcfgs (F := F)) adm (dats (V5 m)) () defs₀ Variants.none L lv 0 (fun _ => 0)
    (Pipeline.ucRefs τ sig) (fun _ => iprop(emp)) (fun _ => iprop(emp)) launch0
    (fun c => (body_obligation (V5 m) c).loose) (fun _ _ => rfl) (fun _ => rfl)
    (fun c => (dats (V5 m) 0 c).share_full fun _ => rfl)
    (call_in m) (call_out m)
    (fun _ => 0) cut (fun _ => iprop(emp)) (V5 m) (fun _ _ => rfl) (V5_tabs m)

theorem arrs_sub : Pipeline.arrRefs (τ := τ) spec0 ⊆ Pipeline.ucRefs τ sig := Pipeline.arrRefs_sub_ucRefs spec0 (by decide)
theorem tbls_sub : Pipeline.tblRefs (τ := τ) pre0 ⊆ Pipeline.ucRefs τ sig := Pipeline.tblRefs_sub_ucRefs pre0 (by decide)
theorem arrs_sub' : Pipeline.arrRefs (τ := τ) (pcfgs (F := F) 0).spec ⊆ Pipeline.ucRefs τ sig := arrs_sub
theorem tbls_sub' : Pipeline.tblRefs (τ := τ) (pcfgs (F := F) 0).pre ⊆ Pipeline.ucRefs τ sig := tbls_sub

set_option backward.isDefEq.respectTransparency.types false in
theorem reg0_pre (c : Dev nD) : iprop(StableHlo.held (c.tc : Thread nD τ) (Pipeline.ucRefs τ sig) (V5 m c) ∗ Rs (F := F) c) ⊢ (reg0 m).pre c := by
  refine BIBase.Entails.trans (Q := iprop(StableHlo.held (c.tc : Thread nD τ) (Pipeline.ucRefs τ sig) (V5 m c)
        ∗ ((∃ Wd, owes (c : Thread nD τ) (0 : CellTallies nD τ sig Unit) Wd) ∗ emp ∗ emp))) ?_ ?_
  · unfold Rs
    iintro ⟨Hh, HO⟩
    isplitl [Hh]; · iexact Hh
    isplitl [HO]; · iexact HO
    isplitl <;> iempintro
  · unfold reg0
    exact Pipeline.RegionSeg.ofHeldInT_pre (pcs := pcfgs (F := F)) (a := adm) (pdats := dats (V5 m)) (D := fun _ => 0) (p := 0) (X := fun _ => iprop(emp)) (R := fun _ => iprop(emp)) (W := V5 m) arrs_sub' tbls_sub' c

set_option backward.isDefEq.respectTransparency.types false in
theorem reg0_post (c : Dev nD) : (reg0 m).post c ⊢ iprop(StableHlo.held (c.tc : Thread nD τ) (Pipeline.ucRefs τ sig) (V6 m c) ∗ Rs (F := F) c) := by
  refine BIBase.Entails.trans (Q := iprop(StableHlo.held (c.tc : Thread nD τ) (Pipeline.ucRefs τ sig) (V6 m c)
        ∗ ((∃ Wd, owes (c : Thread nD τ) (0 : CellTallies nD τ sig Unit) Wd) ∗ emp ∗ emp))) ?_ ?_
  · unfold reg0
    exact Pipeline.RegionSeg.ofHeldInT_post (p := 0) arrs_sub' tbls_sub' c
  · unfold Rs
    iintro ⟨Hh, HO, -, -⟩
    isplitl [Hh]; · iexact Hh
    iexact HO

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh0_3 : ∀ op ∈ (hostOps0_3 : List (HloOp τ sig (Elt F))), op.fresh = ∅ := by
  intro _ h; (repeat (cases h with | head => rfl | tail _ h => ?_)); exact nomatch h
theorem fresh0_4 : ∀ op ∈ (hostOps0_4 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h

/-- @main's stretches. -/
abbrev segs : List (Pipeline.Seg (pcfgs (F := F)) adm (dats (V5 m)) () defs₀ Variants.none L lv) :=
  [.host (seg hostOps0 hostOps0_sub fresh0 (V0 m)), .host (seg hostOps0_1 hostOps0_1_sub fresh0_1 (V1 m)),
    .host (seg hostOps0_2 hostOps0_2_sub fresh0_2 (V2 m)), .host (seg hostOps0_3 hostOps0_3_sub fresh0_3 (V3 m)),
    .host (seg hostOps0_4 hostOps0_4_sub fresh0_4 (V4 m)), .region (reg0 m),
    .host (seg hostOps1 hostOps1_sub fresh1 (V6 m)), .host (seg hostOps1_1 hostOps1_1_sub fresh1_1 (V7 m))]

theorem seg_prog (ops : List (HloOp τ sig (Elt F))) (hsub hf V) :
    Pipeline.Seg.prog (.host (seg ops hsub hf V) : Pipeline.Seg (pcfgs (F := F)) adm (dats (V5 m)) () defs₀ Variants.none L lv) = StableHlo.seq ops := rfl
theorem reg_prog : Pipeline.Seg.prog (.region (reg0 m) : Pipeline.Seg (pcfgs (F := F)) adm (dats (V5 m)) () defs₀ Variants.none L lv)
    = Prog.lift (.customCall (Pipeline.entry 0) ()) := rfl
theorem segs_prog : (segs m).map Pipeline.Seg.prog = [StableHlo.seq hostOps0, StableHlo.seq hostOps0_1, StableHlo.seq hostOps0_2, StableHlo.seq hostOps0_3,
    StableHlo.seq hostOps0_4, Prog.lift (.customCall (Pipeline.entry 0) ()), StableHlo.seq hostOps1, StableHlo.seq hostOps1_1] := by
  simp only [List.map_cons, List.map_nil, seg_prog, reg_prog]

/-- What holds at the end: every buffer outside the call's own memory has the last line's contents, and every counter is zero. -/
def QC (r : PUnit × MemSt nD τ sig (Elt F)) : Prop :=
  (∀ (c : Dev nD), ∀ b ∈ Pipeline.ucRefs τ sig, r.2.mem (c, b) = V8 m c b) ∧ r.2.sem = fun _ => 0

variable (g : Dev nD → PrngReg)

open Idealize.ShloMosaic.Rounds in
set_option backward.isDefEq.respectTransparency.types false in
/-- The run from launch. -/
theorem run_main : θ_run defs (onTc (τ := τ) (main (F := F))) ⟨m, fun _ => 0, g⟩ (QC m) :=
  Pipeline.θ_run_regions_kit_sems (pcfgs (F := F)) adm (dats (V5 m)) () (cellOf_inj adm) emb₁ defs₀ Variants.none L lv m g main (segs m)
    (fun c Q => by rw [main_chain, Pipeline.Seg.run_eq_chain, segs_prog])
    (by simp only [Pipeline.Seg.pipes_host, Pipeline.Seg.pipes_region, Pipeline.Seg.pipes_nil]; exact List.nodup_singleton _)
    (O₀ := 0) (hL := fun _ h => if_neg h) (G := fun _ => iprop(emp))
    (u₀ := initOf (Pipeline.cells (Pipeline.pin pcfgs adm) (cellOf_inj adm)) (Pipeline.launchToks (Pipeline.pin pcfgs adm) (cellOf_inj adm)))
    (hu₀ := by
      iintro Hu; imodintro
      isplitl [Hu]
      · iapply (show (ownU _ : sProp 𝕄) ⊢ BI.own (emb₁ (initOf (Pipeline.cells (Pipeline.pin pcfgs adm) (cellOf_inj adm)) (Pipeline.launchToks (Pipeline.pin pcfgs adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ Rs c))
    (Tₙ := fun c => StableHlo.held (c.tc : Thread nD τ) (Pipeline.ucRefs τ sig) (V8 m c))
    (hch := ⟨fun _ => .rfl, fun _ => .rfl, fun _ => .rfl, fun _ => .rfl, fun _ => .rfl, reg0_pre m, reg0_post m, fun _ => .rfl, fun _ => .rfl⟩)
    (hinit := by
      refine Pipeline.initEach L lv fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      unfold Rs
      iexists ∅; iexact HO)
    (QY := fun c s => ∀ b ∈ Pipeline.ucRefs τ sig, s.mem ((c.tc : Thread nD τ).1, b) = V8 m c b)
    (hfin := fun c s' => by
      unfold StableHlo.held
      iintro ⟨Hh, HSI⟩
      ihave Hr := (pointsTo_read_all (Pipeline.ucRefs τ sig) (fun b => ((c.tc : Thread nD τ).1, b)) (V8 m c) s') $$ [Hh HSI]
      · isplitl [Hh] <;> iassumption
      imodintro; iexact Hr)
    (hQ := fun _ h hz => ⟨h, funext fun g => hz g (.inr (by revert g; decide))⟩)

end Cert.Proof.Fox

end
-- ==== Proof.Same.lean ====
/-
  The two kernel programs have one text: their tables and their lines are equal, over any float values.
-/
module

public import proofs.«01_k».proof.Defs
public import proofs.«01_k».proof.Proof.Gen.Kernel
public import proofs.«01_k».proof.Proof.Gen.KernelIdeal

@[expose] public section

set_option maxRecDepth 16384

noncomputable section

namespace Cert.Proof.Same

open Idealize.ShloMosaic

variable {F : FTy → Type} [FloatOps F]

set_option maxHeartbeats 0 in
/-- The kernel's body. -/
theorem body_eq : @Cert.Kernel.cc0_fox_bwd F _ _ = @Cert.KernelIdeal.cc0_fox_bwd F _ _ := rfl

/-- The body table. -/
theorem defs₀_eq : Cert.Kernel.defs₀ (F := F) = Cert.KernelIdeal.defs₀ (F := F) := by
  unfold Cert.Kernel.defs₀ Cert.KernelIdeal.defs₀
  congr 1
  funext p x
  match p, x with
  | 0, (t, s) => rfl

/-- Every label's program. -/
theorem defs_eq : Cert.Kernel.defs (F := F) = Cert.KernelIdeal.defs (F := F) :=
  congrArg (Pipeline.defs Cert.KernelIdeal.pcfgs) defs₀_eq

end Cert.Proof.Same

end
-- ==== Proof.SameLinesA.lean ====
/-
  The two kernel programs' host lines are equal.
-/
module

public import proofs.«01_k».proof.Proof.Same

@[expose] public section

set_option maxRecDepth 16384

noncomputable section

namespace Cert.Proof.Same

open Idealize.ShloMosaic

variable {F : FTy → Type} [FloatOps F]

set_option maxHeartbeats 0 in
/-- The first sixty lines. -/
theorem part0_eq : Cert.Kernel.main_part0 (F := F) = Cert.KernelIdeal.main_part0 (F := F) := rfl

end Cert.Proof.Same

end
-- ==== Proof.SameLinesB.lean ====
/-
  The two kernel programs' host lines are equal.
-/
module

public import proofs.«01_k».proof.Proof.Same

@[expose] public section

set_option maxRecDepth 16384

noncomputable section

namespace Cert.Proof.Same

open Idealize.ShloMosaic

variable {F : FTy → Type} [FloatOps F]

set_option maxHeartbeats 0 in
/-- The next sixty lines, with the call among them. -/
theorem part1_eq : Cert.Kernel.main_part1 (F := F) = Cert.KernelIdeal.main_part1 (F := F) := rfl

set_option maxHeartbeats 0 in
/-- The last lines. -/
theorem part2_eq : Cert.Kernel.main_part2 (F := F) = Cert.KernelIdeal.main_part2 (F := F) := rfl

end Cert.Proof.Same

end
-- ==== Proof.SameLines.lean ====
/-
  The two kernel programs are one text: their main programs are equal.
-/
module

public import proofs.«01_k».proof.Proof.SameLinesA
public import proofs.«01_k».proof.Proof.SameLinesB

@[expose] public section

set_option maxRecDepth 16384

noncomputable section

namespace Cert.Proof.Same

open Idealize.ShloMosaic

variable {F : FTy → Type} [FloatOps F]

set_option maxHeartbeats 0 in
/-- The main programs of the two are equal. -/
theorem main_eq : Cert.Kernel.main (F := F) = Cert.KernelIdeal.main (F := F) := by
  funext d
  unfold Cert.Kernel.main Cert.KernelIdeal.main
  rw [part0_eq, part1_eq, part2_eq]
  generalize Cert.KernelIdeal.main_part0 (F := F) d = a
  generalize Cert.KernelIdeal.main_part1 (F := F) d = b
  generalize Cert.KernelIdeal.main_part2 (F := F) d = e
  rfl

end Cert.Proof.Same

end
-- ==== Proof.Frames.lean ====
/-
  The frames: the kernel program's two runs leave the arguments as they were and every counter at zero.
-/
module

public import proofs.«01_k».proof.Defs
public import proofs.«01_k».proof.Proof.Run
public import proofs.«01_k».proof.Proof.SameLines
public import proofs.«01_k».proof.Proof.Gen.Kernel
public import proofs.«01_k».proof.Proof.Gen.ReferenceIdeal.Run

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

theorem V8_def (c : Dev nD) : V8 m c = StableHlo.after hostOps1_1 (StableHlo.after hostOps1 (V6 m c)) := rfl

/-- A buffer outside the call's arrays is as it was at the call's entry. -/
theorem V6_of (c : Dev nD) (b : Ref sig .tc) (hb : ∀ w, b ≠ Pipeline.arrRef spec0 w) :
    V6 m c (Proc.devRef .tc b) = V5 m c (Proc.devRef .tc b) :=
  Pipeline.afterRegion_of_not_arr (dats (V5 m) 0 c) (V5 m c) hb

/-- No line writes an argument. -/
theorem V8_arg0 (c : Dev nD) : V8 m c (Proc.devRef .tc main_arg0) = m (c, Proc.devRef .tc main_arg0) := by
  rw [V8_def]; after_reads_simp; rw [V6_of m c _ (by decide), V5_def]; after_reads_simp; rfl
theorem V8_arg1 (c : Dev nD) : V8 m c (Proc.devRef .tc main_arg1) = m (c, Proc.devRef .tc main_arg1) := by
  rw [V8_def]; after_reads_simp; rw [V6_of m c _ (by decide), V5_def]; after_reads_simp; rfl
theorem V8_arg2 (c : Dev nD) : V8 m c (Proc.devRef .tc main_arg2) = m (c, Proc.devRef .tc main_arg2) := by
  rw [V8_def]; after_reads_simp; rw [V6_of m c _ (by decide), V5_def]; after_reads_simp; rfl
theorem V8_arg3 (c : Dev nD) : V8 m c (Proc.devRef .tc main_arg3) = m (c, Proc.devRef .tc main_arg3) := by
  rw [V8_def]; after_reads_simp; rw [V6_of m c _ (by decide), V5_def]; after_reads_simp; rfl
theorem V8_arg4 (c : Dev nD) : V8 m c (Proc.devRef .tc main_arg4) = m (c, Proc.devRef .tc main_arg4) := by
  rw [V8_def]; after_reads_simp; rw [V6_of m c _ (by decide), V5_def]; after_reads_simp; rfl

/-- What a run keeps. -/
theorem kept {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h.1 c _ (Pipeline.devRef_mem_ucRefs rfl)).trans (V8_arg0 m c), (h.1 c _ (Pipeline.devRef_mem_ucRefs rfl)).trans (V8_arg1 m c),
    (h.1 c _ (Pipeline.devRef_mem_ucRefs rfl)).trans (V8_arg2 m c), (h.1 c _ (Pipeline.devRef_mem_ucRefs rfl)).trans (V8_arg3 m c),
    (h.1 c _ (Pipeline.devRef_mem_ucRefs rfl)).trans (V8_arg4 m c)⟩

/-- The idealized kernel's frame. -/
theorem frame_ideal : Cert.quiescent_KernelIdeal := fun m g _ =>
  (θ_run Cert.KernelIdeal.defs _ _).mono (fun _ h => ⟨kept m h, h.2⟩) (run_main (F := Ideal) m g)

/-- The printed kernel's frame: its text is the idealized one's (`Same.main_eq`, `Same.defs_eq`), so its run is that text's at the machine's floats. -/
theorem frame_kernel : Cert.quiescent_Kernel := by
  intro m g _
  rw [Same.main_eq, Same.defs_eq]
  exact (θ_run (Cert.KernelIdeal.defs (F := Bits)) _ _).mono (fun _ h => ⟨kept (F := Bits) m h, h.2⟩) (run_main (F := Bits) m g)

/-- The reference's frame: its generated run read at the arguments; it declares no counter. -/
theorem frame_reference : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

end Cert.Proof.Fox

end
-- ==== Proof.Stages.lean ====
/-
  The reference over the reals: its lines as stages, and each result as a composition of them.
-/
module

public import proofs.«01_k».proof.Proof.Gen.ReferenceIdeal.Run
public import Idealize.ShloMosaic.Lib.Pointwise
public import Idealize.ShloMosaic.Lib.ValueIdx
public import Idealize.ShloMosaic.PureOps.Ideal

@[expose] public section

set_option maxRecDepth 16384

noncomputable section

namespace Cert.Proof.Fox.Ref

open Cert.ReferenceIdeal Cert.ReferenceIdeal.Gen Cert.ReferenceIdeal.Value
open Idealize.ShloMosaic Idealize.ShloMosaic.TcCoe Idealize.ShloMosaic.Tactic

/-- An argument by heads. -/
def heads (x : FVec Ideal S4096x512 .bf16) : FVec Ideal S4096x8x64 .bf16 := shapeCast S4096x8x64 x shapeCasts_S4096x512_S4096x8x64
/-- The running sum of the forget gates' logarithms. -/
def cum (lf : FVec Ideal S4096x8 .f32) : FVec Ideal S4096x8 .f32 :=
  Host.reduceWindowAdd ![4096, 1] ![1, 1] ![4095, 0] ![0, 0] lf (broadcastInDim S_ ![] bcast_S_S_ (constant S_ .f32 0x00000000#32)) reduceWindows_S4096x8_S4096x8_w4096s1p4095_0_w1s1p0_0 h_S_
/-- Which keys a query sees. -/
def mask : IVec S8x4096x4096 1 :=
  broadcastInDim S8x4096x4096 ![0, 1, 2] bcast_S1x4096x4096_S8x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
/-- The scores, -/
def score (q k : FVec Ideal S4096x512 .bf16) (F : FVec Ideal S4096x8 .f32) : FVec Ideal S8x4096x4096 .f32 :=
  subf (addf (mulf (Host.dotGeneral dot_S4096x8x64_S4096x8x64_S8x4096x4096_2_2_0_0_1_1 none (heads q) (heads k)) (broadcastInDim S8x4096x4096 ![] bcast_S_S8x4096x4096 (constant S_ .f32 0x3E000000#32))) (broadcastInDim S8x4096x4096 ![0, 1, 2] bcast_S8x4096x1_S8x4096x4096_0_1_2 (broadcastInDim S8x4096x1 ![0, 1] bcast_S8x4096_S8x4096x1_0_1 (transpose S8x4096 [1, 0] F transposes_S4096x8_S8x4096_1_0)))) (broadcastInDim S8x4096x4096 ![0, 1, 2] bcast_S8x1x4096_S8x4096x4096_0_1_2 (broadcastInDim S8x1x4096 ![0, 2] bcast_S8x4096_S8x1x4096_0_2 (transpose S8x4096 [1, 0] F transposes_S4096x8_S8x4096_1_0)))
/-- those of the keys seen, -/
def seen (s : FVec Ideal S8x4096x4096 .f32) : FVec Ideal S8x4096x4096 .f32 :=
  select mask s (broadcastInDim S8x4096x4096 ![] bcast_S_S8x4096x4096 (id (constant S_ .f32 0xFF800000#32)))
/-- their greatest over the keys, -/
def top (z : FVec Ideal S8x4096x4096 .f32) : FVec Ideal S8x4096 .f32 :=
  Host.reduce FloatOps.maximumf z (constant S_ .f32 0xFF800000#32) reducesTo_S8x4096x4096_S8x4096_d2 h_S_
def col (x : FVec Ideal S8x4096 .f32) : FVec Ideal S8x4096x1 .f32 := broadcastInDim S8x4096x1 ![0, 1] bcast_S8x4096_S8x4096x1_0_1 x
def wide (x : FVec Ideal S8x4096x1 .f32) : FVec Ideal S8x4096x4096 .f32 := broadcastInDim S8x4096x4096 ![0, 1, 2] bcast_S8x4096x1_S8x4096x4096_0_1_2 x
/-- their exponentials less it, -/
def exAt (z : FVec Ideal S8x4096x4096 .f32) (t : FVec Ideal S8x4096 .f32) : FVec Ideal S8x4096x4096 .f32 :=
  Host.exp (subf z (wide (col (maximumf (broadcastInDim S8x4096 ![] bcast_S_S8x4096 (constant S_ .f32 0xFF800000#32)) t))))
def ex (z : FVec Ideal S8x4096x4096 .f32) : FVec Ideal S8x4096x4096 .f32 := exAt z (top z)
/-- a sum over the keys, -/
def overK (x : FVec Ideal S8x4096x4096 .f32) : FVec Ideal S8x4096 .f32 := Host.reduceAdd x (constant S_ .f32 0x00000000#32) reducesTo_S8x4096x4096_S8x4096_d2 h_S_
/-- and the weights. -/
def weightsAt (e : FVec Ideal S8x4096x4096 .f32) (L : FVec Ideal S8x4096 .f32) : FVec Ideal S8x4096x4096 .bf16 := truncf .bf16 (Host.divf e (wide (col L))) bitsLt_bf16_f32
def weights (e : FVec Ideal S8x4096x4096 .f32) : FVec Ideal S8x4096x4096 .bf16 := weightsAt e (overK e)
/-- The output's gradient by heads, lanes and rows. -/
def grad (g : FVec Ideal S4096x512 .bf16) : FVec Ideal S8x64x4096 .f32 :=
  transpose S8x64x4096 [1, 2, 0] (extf .f32 (heads g) bitsLt_bf16_f32) transposes_S4096x8x64_S8x64x4096_1_2_0
/-- The weights' gradient. -/
def dweights (v g : FVec Ideal S4096x512 .bf16) : FVec Ideal S8x4096x4096 .f32 :=
  extf .f32 (truncf .bf16 (Host.dotGeneral dot_S8x64x4096_S4096x8x64_S8x4096x4096_1_2_2_0_0_1 none (grad g) (heads v)) bitsLt_bf16_f32) bitsLt_bf16_f32
/-- The sum that a softmax's gradient takes off: its terms, -/
def offTerms (e dp : FVec Ideal S8x4096x4096 .f32) (L : FVec Ideal S8x4096 .f32) : FVec Ideal S8x4096x4096 .f32 :=
  mulf (mulf dp (wide (Host.divf (broadcastInDim S8x4096x1 ![] bcast_S_S8x4096x1 (constant S_ .f32 0x3F800000#32)) (mulf (col L) (col L))))) e
/-- and its negative. -/
def off (x : FVec Ideal S8x4096 .f32) : FVec Ideal S8x4096 .f32 :=
  Host.reduceAdd (Host.negf (shapeCast S8x4096x1 x shapeCasts_S8x4096_S8x4096x1)) (constant S_ .f32 0x00000000#32) reducesTo_S8x4096x1_S8x4096_d2 h_S_
/-- The scores' gradient. -/
def dscoreAt (e dp : FVec Ideal S8x4096x4096 .f32) (L o : FVec Ideal S8x4096 .f32) : FVec Ideal S8x4096x4096 .f32 :=
  select mask (mulf (addf (Host.divf dp (wide (col L))) (broadcastInDim S8x4096x4096 ![0, 1] bcast_S8x4096_S8x4096x4096_0_1 o)) e)
    (broadcastInDim S8x4096x4096 ![] bcast_S_S8x4096x4096 (constant S_ .f32 0x00000000#32))
def dscore (e dp : FVec Ideal S8x4096x4096 .f32) : FVec Ideal S8x4096x4096 .f32 :=
  dscoreAt e dp (overK e) (off (overK (offTerms e dp (overK e))))
def scaled (ds : FVec Ideal S8x4096x4096 .f32) : FVec Ideal S8x4096x4096 .f32 :=
  mulf ds (broadcastInDim S8x4096x4096 ![] bcast_S_S8x4096x4096 (constant S_ .f32 0x3E000000#32))
def flat (x : FVec Ideal S4096x8x64 .f32) : FVec Ideal S4096x512 .bf16 := shapeCast S4096x512 (truncf .bf16 x bitsLt_bf16_f32) shapeCasts_S4096x8x64_S4096x512
/-- The gradients of the queries, the keys and the values, -/
def dq (ds : FVec Ideal S8x4096x4096 .f32) (k : FVec Ideal S4096x512 .bf16) : FVec Ideal S4096x512 .bf16 :=
  flat (transpose S4096x8x64 [1, 0, 2] (Host.dotGeneral dot_S8x4096x4096_S4096x8x64_S8x4096x64_2_0_1_2_0_1 none (scaled ds) (heads k)) transposes_S8x4096x64_S4096x8x64_1_0_2)
def dk (ds : FVec Ideal S8x4096x4096 .f32) (q : FVec Ideal S4096x512 .bf16) : FVec Ideal S4096x512 .bf16 :=
  flat (transpose S4096x8x64 [1, 0, 2] (Host.dotGeneral dot_S8x4096x4096_S4096x8x64_S8x4096x64_1_0_2_2_0_1 none (scaled ds) (heads q)) transposes_S8x4096x64_S4096x8x64_1_0_2)
def dv (p : FVec Ideal S8x4096x4096 .bf16) (g : FVec Ideal S4096x512 .bf16) : FVec Ideal S4096x512 .bf16 :=
  flat (transpose S4096x8x64 [2, 0, 1] (Host.dotGeneral dot_S8x64x4096_S8x4096x4096_S8x64x4096_2_1_1_2_0_0 none (grad g) p) transposes_S8x64x4096_S4096x8x64_2_0_1)
/-- of the running sums, -/
def dF (ds : FVec Ideal S8x4096x4096 .f32) : FVec Ideal S4096x8 .f32 :=
  transpose S4096x8 [1, 0] (addf
    (Host.reduceAdd (shapeCast S8x1x4096 (Host.reduceAdd (Host.negf ds) (constant S_ .f32 0x00000000#32) reducesTo_S8x4096x4096_S8x4096_d1 h_S_) shapeCasts_S8x4096_S8x1x4096) (constant S_ .f32 0x00000000#32) reducesTo_S8x1x4096_S8x4096_d1 h_S_)
    (Host.reduceAdd (shapeCast S8x4096x1 (overK ds) shapeCasts_S8x4096_S8x4096x1) (constant S_ .f32 0x00000000#32) reducesTo_S8x4096x1_S8x4096_d2 h_S_)) transposes_S8x4096_S4096x8_1_0
/-- and of the logarithms. -/
def back (x : FVec Ideal S4096x8 .f32) : FVec Ideal S4096x8 .f32 :=
  Host.reduceWindowAdd ![4096, 1] ![1, 1] ![0, 0] ![4095, 0] x (broadcastInDim S_ ![] bcast_S_S_ (constant S_ .f32 0x00000000#32)) reduceWindows_S4096x8_S4096x8_w4096s1p0_4095_w1s1p0_0 h_S_

section Results

variable (m : (ℓ : Loc nD τ sig) → Buf (Elt Ideal) ℓ) (c : Dev nD)

def argQ : FVec Ideal S4096x512 .bf16 := m ((c.tc : Thread nD τ).loc main_arg0)
def argK : FVec Ideal S4096x512 .bf16 := m ((c.tc : Thread nD τ).loc main_arg1)
def argV : FVec Ideal S4096x512 .bf16 := m ((c.tc : Thread nD τ).loc main_arg2)
def argL : FVec Ideal S4096x8 .f32 := m ((c.tc : Thread nD τ).loc main_arg3)
def argG : FVec Ideal S4096x512 .bf16 := m ((c.tc : Thread nD τ).loc main_arg4)

/-- The exponentials and the scores' gradient. -/
def theE (q k : FVec Ideal S4096x512 .bf16) (lf : FVec Ideal S4096x8 .f32) : FVec Ideal S8x4096x4096 .f32 := ex (seen (score q k (cum lf)))
def theD (q k v : FVec Ideal S4096x512 .bf16) (lf : FVec Ideal S4096x8 .f32) (g : FVec Ideal S4096x512 .bf16) : FVec Ideal S8x4096x4096 .f32 :=
  dscore (theE q k lf) (dweights v g)

theorem res_dq : res_main_v97 m c = dq (theD (argQ m c) (argK m c) (argV m c) (argL m c) (argG m c)) (argK m c) := by
  unfold res_main_v97; rfl
theorem res_dk : res_main_v96 m c = dk (theD (argQ m c) (argK m c) (argV m c) (argL m c) (argG m c)) (argQ m c) := by
  unfold res_main_v96; rfl
theorem res_dv : res_main_v95 m c = dv (weights (theE (argQ m c) (argK m c) (argL m c))) (argG m c) := by
  unfold res_main_v95; rfl
theorem res_dl : res_main_v94 m c = back (dF (theD (argQ m c) (argK m c) (argV m c) (argL m c) (argG m c))) := by
  unfold res_main_v94; rfl

end Results

end Cert.Proof.Fox.Ref

end
-- ==== Proof.Model.lean ====
/-
  The gradients of causal softmax attention as real numbers, and facts on sums, greatest values and constants that both
  programs' lines need.
-/
module

public import Idealize.ShloMosaic.PureOps.Ideal.Laws
public import Idealize.ShloMosaic.Lib.IdealHost

@[expose] public section

noncomputable section

namespace Cert.Proof.Fox

open Idealize.ShloMosaic
open Finset

/-- A finite sum of reals, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The constants. -/
theorem eighth : Ideal.ofBits .f32 0x3E000000#32 = (((1 : ℝ) / 8 : ℝ) : EReal) := by
  simp [Ideal.ofBits, Ideal.ieee, -EReal.coe_mul]; norm_num
theorem minus_inf : Ideal.ofBits .f32 0xFF800000#32 = ⊥ := by
  simp [Ideal.ofBits, Ideal.ieee]

/-- The greatest of reals and minus infinities, one of them a real, is a real. -/
theorem fold_max_real {n : ℕ} (f : Fin n → EReal) (i : Fin n) (r : ℝ) (hi : f i = (r : EReal)) (ht : ∀ j, f j < ⊤) :
    ∃ M : ℝ, Finset.fold max (⊥ : EReal) f univ = (M : EReal) := by
  have h1 : Finset.fold max (⊥ : EReal) f univ < ⊤ := (Finset.fold_max_lt ⊤).mpr ⟨bot_lt_top, fun x _ => ht x⟩
  have h2 : ⊥ < Finset.fold max (⊥ : EReal) f univ := (Finset.lt_fold_max ⊥).mpr (Or.inr ⟨i, mem_univ i, by rw [hi]; exact EReal.bot_lt_coe r⟩)
  exact ⟨_, (EReal.coe_toReal h1.ne h2.ne').symm⟩

/-- A quotient of reals. -/
theorem div_real (x y : ℝ) (hy : y ≠ 0) : Ideal.div (x : EReal) (y : EReal) = ((x / y : ℝ) : EReal) := by
  rw [Ideal.div_coe hy, ← EReal.coe_mul, mul_one_div]

/-- A select by an order of small numbers. -/
theorem sle_select {α : Type} (i j : ℕ) (hi : i < 4096) (hj : j < 4096) (x y : α) :
    Scalar.select (IntOp.cmpi .sle (BitVec.ofNat 32 j) (BitVec.ofNat 32 i)) x y = if j ≤ i then x else y := by
  have h : (BitVec.ofNat 32 j).sle (BitVec.ofNat 32 i) = decide (j ≤ i) := by
    rw [BitVec.sle_eq_decide, BitVec.toInt_eq_toNat_of_lt (by simp; omega), BitVec.toInt_eq_toNat_of_lt (by simp; omega)]
    simp only [BitVec.toNat_ofNat]
    congr 1
    rw [Nat.mod_eq_of_lt (by omega), Nat.mod_eq_of_lt (a := i) (by omega)]
    exact propext Int.ofNat_le
  unfold Scalar.select IntOp.cmpi
  show (if BitVec.ofBool ((BitVec.ofNat 32 j).sle (BitVec.ofNat 32 i)) = 1 then x else y) = _
  rw [h]
  by_cases hji : j ≤ i
  · simp [hji]
  · simp [hji]

/-- A window's sum of reals is a real. -/
theorem windows_real {s t u : Shape} {φ : FTy} (window strides lo hi : Fin s.rank → ℕ) (x : FVec Ideal s φ) (init : u.Idx → EReal)
    (h : s.ReduceWindows window strides lo hi t) (hu : 0 < u.numel) (hx : ∀ y, ∃ r : ℝ, x y = (r : EReal))
    (h0 : ∃ r : ℝ, init (Shape.Idx.first hu) = (r : EReal)) (y : t.Idx) :
    ∃ r : ℝ, (Host.reduceWindowAdd (F := Ideal) window strides lo hi x init h hu y : EReal) = (r : EReal) := by
  show ∃ r : ℝ, (Host.reduceWindow (· + ·) window strides lo hi (x : s.Idx → EReal) (fun _ : (⟨0, ![]⟩ : Shape).Idx => init (Shape.Idx.first hu)) h (by decide) y : EReal) = _
  unfold Host.reduceWindow
  refine List.foldlRecOn (motive := fun x : EReal => ∃ r : ℝ, x = (r : EReal)) _ _ h0 fun b hb a _ => ?_
  obtain ⟨r, hr⟩ := hb
  dsimp only
  split
  · obtain ⟨w, hw⟩ := hx _
    exact ⟨r + w, by rw [hw, hr, EReal.coe_add]⟩
  · obtain ⟨w, hw⟩ := h0
    exact ⟨r + w, by rw [hw, hr, EReal.coe_add]⟩

section Model

variable (q k v g : Fin 4096 → Fin 512 → ℝ) (F : Fin 4096 → Fin 8 → ℝ)

/-- Lane `l` of head `h`. -/
def hd (h : Fin 8) (l : Fin 64) : Fin 512 := ⟨h.val * 64 + l.val, by omega⟩

/-- The score of query `i` against key `j`, -/
def mS (h : Fin 8) (i j : Fin 4096) : ℝ := (∑ l : Fin 64, q i (hd h l) * k j (hd h l)) * (1 / 8) + F i h - F j h
/-- the exponentials' sum over the keys seen, -/
def mZ (h : Fin 8) (i : Fin 4096) : ℝ := ∑ j : Fin 4096, if j ≤ i then Real.exp (mS q k F h i j) else 0
/-- the weights, -/
def mP (h : Fin 8) (i j : Fin 4096) : ℝ := if j ≤ i then Real.exp (mS q k F h i j) / mZ q k F h i else 0
/-- their gradient, -/
def mD (h : Fin 8) (i j : Fin 4096) : ℝ := ∑ l : Fin 64, g i (hd h l) * v j (hd h l)
/-- what a softmax's gradient takes off, -/
def mO (h : Fin 8) (i : Fin 4096) : ℝ := ∑ j : Fin 4096, mP q k F h i j * mD v g h i j
/-- and the scores' gradient. -/
def mG (h : Fin 8) (i j : Fin 4096) : ℝ := mP q k F h i j * (mD v g h i j - mO q k v g F h i)

theorem mZ_pos (h : Fin 8) (i : Fin 4096) : 0 < mZ q k F h i := by
  unfold mZ
  refine sum_pos' (fun j _ => ?_) ⟨i, mem_univ i, ?_⟩
  · split
    · exact (Real.exp_pos _).le
    · exact le_rfl
  · rw [if_pos le_rfl]; exact Real.exp_pos _

end Model

end Cert.Proof.Fox

end
-- ==== Proof.Tiles.lean ====
/-
  The tiles of the attention's backward kernel over the reals: each one's sums, element by element.
-/
module

public import proofs.«01_k».proof.Proof.Region
public import Idealize.ShloMosaic.Lib.Pointwise
public import Idealize.ShloMosaic.Lib.ValueIdx
public import Idealize.ShloMosaic.PureOps.Ideal

@[expose] public section

set_option maxRecDepth 16384

noncomputable section

namespace Cert.Proof.Fox

open Cert.KernelIdeal Cert.KernelIdeal.Gen
open Idealize.ShloMosaic Idealize.ShloMosaic.TcCoe
open Finset

/-- The words compared where a tile meets the diagonal: column at most row plus an offset. -/
theorem select_sle {α : Type} (i j c : ℕ) (hi : i < 512) (hj : j < 512) (hc : c < 512) (x y : α) :
    Scalar.select (IntOp.cmpi .sle (BitVec.ofNat 32 j) (IntOp.addi (BitVec.ofNat 32 i) (BitVec.ofNat 32 c))) x y
      = if j ≤ i + c then x else y := by
  have h : (BitVec.ofNat 32 j).sle (BitVec.ofNat 32 i + BitVec.ofNat 32 c) = decide (j ≤ i + c) := by
    rw [BitVec.sle_eq_decide, BitVec.toInt_eq_toNat_of_lt (by simp; omega), BitVec.toInt_eq_toNat_of_lt (by simp; omega)]
    simp only [BitVec.toNat_add, BitVec.toNat_ofNat]
    congr 1
    rw [Nat.mod_eq_of_lt (by omega), Nat.mod_eq_of_lt (a := i) (by omega), Nat.mod_eq_of_lt (a := c) (by omega), Nat.mod_eq_of_lt (by omega)]
    exact propext Int.ofNat_le
  unfold Scalar.select IntOp.cmpi
  show (if BitVec.ofBool ((BitVec.ofNat 32 j).sle (BitVec.ofNat 32 i + BitVec.ofNat 32 c)) = 1 then x else y) = _
  rw [h]
  by_cases hji : j ≤ i + c
  · simp [hji]
  · simp [hji]

/-- A row of one array against a row of another, over a head's lanes. -/
abbrev dotRow {n k : ℕ} {φ ψ : FTy} (a : FVec Ideal ⟨2, ![n, 128]⟩ φ) (b : FVec Ideal ⟨2, ![k, 128]⟩ ψ) (i : Fin n) (j : Fin k) : EReal :=
  ∑ l : Fin 128, a (ix2 i l) * b (ix2 j l)

theorem pF_apply (a b : FVec Ideal S512x128 .bf16) (i j : Fin 512) : pF a b (ix2 i j) = Ideal.exp (dotRow a b i j) := by
  unfold pF eF sF; pointwise
theorem dF_apply (a b g v : FVec Ideal S512x128 .bf16) (i j : Fin 512) :
    dF a b g v (ix2 i j) = Ideal.exp (dotRow a b i j) * dotRow g v i j := by
  unfold dF eF sF; pointwise
theorem rF_apply (p : FVec Ideal S512x512 .bf16) (b : FVec Ideal S512x128 .bf16) (X : FVec Ideal S512x128 .f32) (j : Fin 512) (l : Fin 128) :
    rF p b X (ix2 j l) = X (ix2 j l) + ∑ i : Fin 512, p (ix2 i j) * b (ix2 i l) := by
  unfold rF; pointwise
theorem cF_apply (p : FVec Ideal S512x512 .bf16) (b : FVec Ideal S512x128 .bf16) (X : FVec Ideal S512x128 .f32) (i : Fin 512) (l : Fin 128) :
    cF p b X (ix2 i l) = X (ix2 i l) + ∑ j : Fin 512, p (ix2 i j) * b (ix2 j l) := by
  unfold cF; pointwise

theorem pA_apply (a b : FVec Ideal S256x128 .bf16) (i j : Fin 256) :
    pA a b (ix2 i j) = if j.val ≤ i.val then Ideal.exp (dotRow a b i j) else 0 := by
  unfold pA eA sA; pointwise
  exact select_sle i.val j.val 0 (by omega) (by omega) (by omega) _ _
theorem dA_apply (a b g v : FVec Ideal S256x128 .bf16) (i j : Fin 256) :
    dA a b g v (ix2 i j) = if j.val ≤ i.val then Ideal.exp (dotRow a b i j) * dotRow g v i j else 0 := by
  unfold dA eA sA; pointwise
  exact select_sle i.val j.val 0 (by omega) (by omega) (by omega) _ _
theorem rA_apply (p : FVec Ideal S256x256 .bf16) (b : FVec Ideal S256x128 .bf16) (X : FVec Ideal S256x128 .f32) (j : Fin 256) (l : Fin 128) :
    rA p b X (ix2 j l) = X (ix2 j l) + ∑ i : Fin 256, p (ix2 i j) * b (ix2 i l) := by
  unfold rA; pointwise
theorem cA_apply (p : FVec Ideal S256x256 .bf16) (b : FVec Ideal S256x128 .bf16) (X : FVec Ideal S256x128 .f32) (i : Fin 256) (l : Fin 128) :
    cA p b X (ix2 i l) = X (ix2 i l) + ∑ j : Fin 256, p (ix2 i j) * b (ix2 j l) := by
  unfold cA; pointwise

theorem pB_apply (a : FVec Ideal S256x128 .bf16) (b : FVec Ideal S512x128 .bf16) (i : Fin 256) (j : Fin 512) :
    pB a b (ix2 i j) = if j.val ≤ i.val + 256 then Ideal.exp (dotRow a b i j) else 0 := by
  unfold pB eB sB; pointwise
  exact select_sle i.val j.val 256 (by omega) (by omega) (by omega) _ _
theorem dB_apply (a g : FVec Ideal S256x128 .bf16) (b v : FVec Ideal S512x128 .bf16) (i : Fin 256) (j : Fin 512) :
    dB a b g v (ix2 i j) = if j.val ≤ i.val + 256 then Ideal.exp (dotRow a b i j) * dotRow g v i j else 0 := by
  unfold dB eB sB; pointwise
  exact select_sle i.val j.val 256 (by omega) (by omega) (by omega) _ _
theorem rB_apply (p : FVec Ideal S256x512 .bf16) (b : FVec Ideal S256x128 .bf16) (X : FVec Ideal S512x128 .f32) (j : Fin 512) (l : Fin 128) :
    rB p b X (ix2 j l) = X (ix2 j l) + ∑ i : Fin 256, p (ix2 i j) * b (ix2 i l) := by
  unfold rB; pointwise
theorem cB_apply (p : FVec Ideal S256x512 .bf16) (b : FVec Ideal S512x128 .bf16) (X : FVec Ideal S256x128 .f32) (i : Fin 256) (l : Fin 128) :
    cB p b X (ix2 i l) = X (ix2 i l) + ∑ j : Fin 512, p (ix2 i j) * b (ix2 j l) := by
  unfold cB; pointwise

end Cert.Proof.Fox

end
-- ==== Proof.RefValues.lean ====
/-
  The reference over the reals at finite arguments: each result, element by element, as a real number.
-/
module

public import proofs.«01_k».proof.Proof.Stages
public import proofs.«01_k».proof.Proof.Model
public import proofs.«01_k».proof.Proof.Tiles

@[expose] public section

set_option maxRecDepth 16384

noncomputable section

namespace Cert.Proof.Fox.Ref

open Cert.ReferenceIdeal Cert.ReferenceIdeal.Gen
open Idealize.ShloMosaic Idealize.ShloMosaic.TcCoe Idealize.ShloMosaic.Tactic
open Finset

/-! ## The stages at an element -/

theorem score_at (q k : FVec Ideal S4096x512 .bf16) (F : FVec Ideal S4096x8 .f32) (h : Fin 8) (i j : Fin 4096) :
    score q k F (ix3 h i j) = (∑ l : Fin 64, q (ix2 i (hd h l)) * k (ix2 j (hd h l))) * Ideal.ofBits .f32 0x3E000000#32 + F (ix2 i h) - F (ix2 j h) := by
  unfold score heads hd; pointwise
theorem mask_at (h : Fin 8) (i j : Fin 4096) : mask (ix3 h i j) = IntOp.cmpi .sle (BitVec.ofNat 32 j.val) (BitVec.ofNat 32 i.val) := by
  unfold mask; pointwise
theorem seen_at (s : FVec Ideal S8x4096x4096 .f32) (h : Fin 8) (i j : Fin 4096) :
    seen s (ix3 h i j) = Scalar.select (mask (ix3 h i j)) (s (ix3 h i j)) (Ideal.ofBits .f32 0xFF800000#32) := by
  unfold seen; pointwise; rfl
theorem top_at (z : FVec Ideal S8x4096x4096 .f32) (h : Fin 8) (i : Fin 4096) :
    top z (ix2 h i) = Finset.fold max (Ideal.ofBits .f32 0xFF800000#32) (fun j : Fin 4096 => z (ix3 h i j)) Finset.univ := by
  unfold top; pointwise
theorem exAt_at (z : FVec Ideal S8x4096x4096 .f32) (t : FVec Ideal S8x4096 .f32) (h : Fin 8) (i j : Fin 4096) :
    exAt z t (ix3 h i j) = Ideal.exp (z (ix3 h i j) - max (Ideal.ofBits .f32 0xFF800000#32) (t (ix2 h i))) := by
  unfold exAt wide col; pointwise
theorem overK_at (x : FVec Ideal S8x4096x4096 .f32) (h : Fin 8) (i : Fin 4096) : overK x (ix2 h i) = ∑ j : Fin 4096, x (ix3 h i j) := by
  unfold overK; pointwise
theorem weightsAt_at (e : FVec Ideal S8x4096x4096 .f32) (L : FVec Ideal S8x4096 .f32) (h : Fin 8) (i j : Fin 4096) :
    weightsAt e L (ix3 h i j) = Ideal.div (e (ix3 h i j)) (L (ix2 h i)) := by
  unfold weightsAt wide col; pointwise
theorem dweights_at (v g : FVec Ideal S4096x512 .bf16) (h : Fin 8) (i j : Fin 4096) :
    dweights v g (ix3 h i j) = ∑ l : Fin 64, g (ix2 i (hd h l)) * v (ix2 j (hd h l)) := by
  unfold dweights grad heads hd; pointwise
theorem offTerms_at (e dp : FVec Ideal S8x4096x4096 .f32) (L : FVec Ideal S8x4096 .f32) (h : Fin 8) (i j : Fin 4096) :
    offTerms e dp L (ix3 h i j) = dp (ix3 h i j) * Ideal.div 1 (L (ix2 h i) * L (ix2 h i)) * e (ix3 h i j) := by
  unfold offTerms wide col; pointwise
theorem off_at (x : FVec Ideal S8x4096 .f32) (h : Fin 8) (i : Fin 4096) : off x (ix2 h i) = ∑ _u : Fin 1, - x (ix2 h i) := by
  unfold off; pointwise
theorem dscoreAt_at (e dp : FVec Ideal S8x4096x4096 .f32) (L o : FVec Ideal S8x4096 .f32) (h : Fin 8) (i j : Fin 4096) :
    dscoreAt e dp L o (ix3 h i j) = Scalar.select (mask (ix3 h i j)) ((Ideal.div (dp (ix3 h i j)) (L (ix2 h i)) + o (ix2 h i)) * e (ix3 h i j)) 0 := by
  unfold dscoreAt wide col; pointwise
theorem dq_lane (ds : FVec Ideal S8x4096x4096 .f32) (k : FVec Ideal S4096x512 .bf16) (i : Fin 4096) (x : Fin 512) :
    dq ds k (ix2 i x) = ∑ j : Fin 4096, ds (ix3 ⟨x.val / 64, by omega⟩ i j) * Ideal.ofBits .f32 0x3E000000#32 * k (ix2 j x) := by
  unfold dq flat scaled heads; pointwise
theorem dk_lane (ds : FVec Ideal S8x4096x4096 .f32) (q : FVec Ideal S4096x512 .bf16) (j : Fin 4096) (x : Fin 512) :
    dk ds q (ix2 j x) = ∑ i : Fin 4096, ds (ix3 ⟨x.val / 64, by omega⟩ i j) * Ideal.ofBits .f32 0x3E000000#32 * q (ix2 i x) := by
  unfold dk flat scaled heads; pointwise
theorem dv_lane (p : FVec Ideal S8x4096x4096 .bf16) (g : FVec Ideal S4096x512 .bf16) (j : Fin 4096) (x : Fin 512) :
    dv p g (ix2 j x) = ∑ i : Fin 4096, g (ix2 i x) * p (ix3 ⟨x.val / 64, by omega⟩ i j) := by
  unfold dv flat grad heads; pointwise
theorem head_of (h : Fin 8) (l : Fin 64) : (⟨(hd h l).val / 64, by omega⟩ : Fin 8) = h :=
  Fin.ext (by show (h.val * 64 + l.val) / 64 = h.val; omega)
theorem dq_at (ds : FVec Ideal S8x4096x4096 .f32) (k : FVec Ideal S4096x512 .bf16) (i : Fin 4096) (h : Fin 8) (l : Fin 64) :
    dq ds k (ix2 i (hd h l)) = ∑ j : Fin 4096, ds (ix3 h i j) * Ideal.ofBits .f32 0x3E000000#32 * k (ix2 j (hd h l)) := by
  rw [dq_lane, head_of]
theorem dk_at (ds : FVec Ideal S8x4096x4096 .f32) (q : FVec Ideal S4096x512 .bf16) (j : Fin 4096) (h : Fin 8) (l : Fin 64) :
    dk ds q (ix2 j (hd h l)) = ∑ i : Fin 4096, ds (ix3 h i j) * Ideal.ofBits .f32 0x3E000000#32 * q (ix2 i (hd h l)) := by
  rw [dk_lane, head_of]
theorem dv_at (p : FVec Ideal S8x4096x4096 .bf16) (g : FVec Ideal S4096x512 .bf16) (j : Fin 4096) (h : Fin 8) (l : Fin 64) :
    dv p g (ix2 j (hd h l)) = ∑ i : Fin 4096, g (ix2 i (hd h l)) * p (ix3 h i j) := by
  rw [dv_lane, head_of]
theorem dF_at (ds : FVec Ideal S8x4096x4096 .f32) (i : Fin 4096) (h : Fin 8) :
    dF ds (ix2 i h) = ∑ _u : Fin 1, ∑ i' : Fin 4096, - ds (ix3 h i' i) + ∑ _u : Fin 1, ∑ j : Fin 4096, ds (ix3 h i j) := by
  unfold dF overK; pointwise

/-- The running sums of reals are reals. -/
theorem cum_real (lf : FVec Ideal S4096x8 .f32) (hl : ∀ y, ∃ r : ℝ, lf y = (r : EReal)) (y : S4096x8.Idx) : ∃ r : ℝ, cum lf y = (r : EReal) :=
  windows_real _ _ _ _ lf _ _ _ hl ⟨0, Ideal.ofBits_zero_f32⟩ y

/-! ## At finite arguments -/

/-- The mask picks the keys up to the query. -/
theorem mask_select (h : Fin 8) (i j : Fin 4096) (x y : EReal) : Scalar.select (mask (ix3 h i j)) x y = if j ≤ i then x else y := by
  rw [mask_at, sle_select _ _ (by omega) (by omega)]; rfl

section Finite

variable (q k v g : FVec Ideal S4096x512 .bf16) (F : FVec Ideal S4096x8 .f32)
variable (q' k' v' g' : Fin 4096 → Fin 512 → ℝ) (F' : Fin 4096 → Fin 8 → ℝ)
variable (hq : ∀ i x, q (ix2 i x) = (q' i x : EReal)) (hk : ∀ i x, k (ix2 i x) = (k' i x : EReal)) (hv : ∀ i x, v (ix2 i x) = (v' i x : EReal))
variable (hg : ∀ i x, g (ix2 i x) = (g' i x : EReal)) (hF : ∀ i h, F (ix2 i h) = (F' i h : EReal))

include hq hk hF in
theorem score_real (h : Fin 8) (i j : Fin 4096) : score q k F (ix3 h i j) = (mS q' k' F' h i j : EReal) := by
  rw [score_at, eighth]
  unfold mS
  simp only [hq, hk, hF, EReal.coe_sub, EReal.coe_add, EReal.coe_mul, coe_sum]

include hq hk hF in
theorem seen_real (h : Fin 8) (i j : Fin 4096) : seen (score q k F) (ix3 h i j) = if j ≤ i then (mS q' k' F' h i j : EReal) else ⊥ := by
  rw [seen_at, mask_select, minus_inf, score_real q k F q' k' F' hq hk hF]

include hq hk hF in
theorem top_real (h : Fin 8) (i : Fin 4096) : ∃ M : ℝ, top (seen (score q k F)) (ix2 h i) = (M : EReal) := by
  rw [top_at, minus_inf]
  refine fold_max_real _ i (mS q' k' F' h i i) ?_ fun j => ?_
  · rw [seen_real q k F q' k' F' hq hk hF, if_pos le_rfl]
  · rw [seen_real q k F q' k' F' hq hk hF]
    split
    · exact EReal.coe_lt_top _
    · exact bot_lt_top

include hq hk hF in
/-- The exponentials, over some real shift of each row. -/
theorem ex_real (h : Fin 8) (i : Fin 4096) : ∃ M : ℝ, ∀ j, ex (seen (score q k F)) (ix3 h i j)
    = ((if j ≤ i then Real.exp (mS q' k' F' h i j) else 0) * Real.exp (-M) : ℝ) := by
  obtain ⟨M, hM⟩ := top_real q k F q' k' F' hq hk hF h i
  refine ⟨M, fun j => ?_⟩
  unfold ex
  rw [exAt_at, hM, minus_inf, max_eq_right bot_le, seen_real q k F q' k' F' hq hk hF]
  split
  · rw [← EReal.coe_sub, Ideal.exp_coe, ← Real.exp_add, sub_eq_add_neg]
  · rw [EReal.bot_sub, zero_mul]; rfl

include hq hk hF in
theorem sum_real (h : Fin 8) (i : Fin 4096) (M : ℝ) (hM : ∀ j, ex (seen (score q k F)) (ix3 h i j)
    = ((if j ≤ i then Real.exp (mS q' k' F' h i j) else 0) * Real.exp (-M) : ℝ)) :
    overK (ex (seen (score q k F))) (ix2 h i) = (mZ q' k' F' h i * Real.exp (-M) : ℝ) := by
  rw [overK_at]
  unfold mZ
  rw [sum_mul, coe_sum]
  exact sum_congr rfl fun j _ => hM j

theorem shift_ne (h : Fin 8) (i : Fin 4096) (M : ℝ) : mZ q' k' F' h i * Real.exp (-M) ≠ 0 :=
  (mul_pos (mZ_pos q' k' F' h i) (Real.exp_pos _)).ne'

include hq hk hF in
theorem weights_real (h : Fin 8) (i j : Fin 4096) : weights (ex (seen (score q k F))) (ix3 h i j) = (mP q' k' F' h i j : EReal) := by
  obtain ⟨M, hM⟩ := ex_real q k F q' k' F' hq hk hF h i
  unfold weights
  rw [weightsAt_at, hM, sum_real q k F q' k' F' hq hk hF h i M hM, div_real _ _ (shift_ne q' k' F' h i M), mul_div_mul_right _ _ (Real.exp_pos _).ne']
  unfold mP
  split
  · rfl
  · rw [zero_div]

include hv hg in
theorem dweights_real (h : Fin 8) (i j : Fin 4096) : dweights v g (ix3 h i j) = (mD v' g' h i j : EReal) := by
  rw [dweights_at]
  unfold mD
  simp only [hv, hg, EReal.coe_mul, coe_sum]

include hq hk hF hv hg in
theorem dscore_real (h : Fin 8) (i j : Fin 4096) :
    dscore (ex (seen (score q k F))) (dweights v g) (ix3 h i j) = (mG q' k' v' g' F' h i j : EReal) := by
  obtain ⟨M, hM⟩ := ex_real q k F q' k' F' hq hk hF h i
  have hL := sum_real q k F q' k' F' hq hk hF h i M hM
  have hne := shift_ne q' k' F' h i M
  have hZ := (mZ_pos q' k' F' h i).ne'
  have hX := (Real.exp_pos (-M)).ne'
  have ho : overK (offTerms (ex (seen (score q k F))) (dweights v g) (overK (ex (seen (score q k F))))) (ix2 h i)
      = ((mO q' k' v' g' F' h i / (mZ q' k' F' h i * Real.exp (-M)) : ℝ) : EReal) := by
    rw [overK_at]
    unfold mO
    rw [sum_div, coe_sum]
    refine sum_congr rfl fun j _ => ?_
    rw [offTerms_at, hL, hM, dweights_real v g v' g' hv hg, ← EReal.coe_mul, ← EReal.coe_one, div_real _ _ (mul_ne_zero hne hne), ← EReal.coe_mul, ← EReal.coe_mul]
    refine congrArg _ ?_
    unfold mP
    split
    · field_simp
    · simp
  unfold dscore
  rw [dscoreAt_at, mask_select, hL, off_at, ho, hM, dweights_real v g v' g' hv hg, div_real _ _ hne, Fin.sum_univ_one, ← EReal.coe_neg, ← EReal.coe_add, ← EReal.coe_mul]
  unfold mG mP
  split
  · refine congrArg _ ?_
    field_simp
    ring
  · rw [zero_mul]; rfl

include hq hk hF hv hg in
theorem dq_real (i : Fin 4096) (h : Fin 8) (l : Fin 64) :
    dq (dscore (ex (seen (score q k F))) (dweights v g)) k (ix2 i (hd h l)) = (∑ j, mG q' k' v' g' F' h i j * (1 / 8) * k' j (hd h l) : ℝ) := by
  rw [dq_at, eighth, coe_sum]
  exact sum_congr rfl fun j _ => by rw [dscore_real q k v g F q' k' v' g' F' hq hk hv hg hF, hk, EReal.coe_mul, EReal.coe_mul]
include hq hk hF hv hg in
theorem dk_real (j : Fin 4096) (h : Fin 8) (l : Fin 64) :
    dk (dscore (ex (seen (score q k F))) (dweights v g)) q (ix2 j (hd h l)) = (∑ i, mG q' k' v' g' F' h i j * (1 / 8) * q' i (hd h l) : ℝ) := by
  rw [dk_at, eighth, coe_sum]
  exact sum_congr rfl fun j _ => by rw [dscore_real q k v g F q' k' v' g' F' hq hk hv hg hF, hq, EReal.coe_mul, EReal.coe_mul]
include hq hk hF hg in
theorem dv_real (j : Fin 4096) (h : Fin 8) (l : Fin 64) :
    dv (weights (ex (seen (score q k F)))) g (ix2 j (hd h l)) = (∑ i, mP q' k' F' h i j * g' i (hd h l) : ℝ) := by
  rw [dv_at, coe_sum]
  exact sum_congr rfl fun j _ => by rw [weights_real q k F q' k' F' hq hk hF, hg, ← EReal.coe_mul, mul_comm]
include hq hk hF hv hg in
theorem dF_real (i : Fin 4096) (h : Fin 8) :
    dF (dscore (ex (seen (score q k F))) (dweights v g)) (ix2 i h) = ((∑ j, mG q' k' v' g' F' h i j) - ∑ i', mG q' k' v' g' F' h i' i : ℝ) := by
  rw [dF_at, Fin.sum_univ_one, Fin.sum_univ_one]
  simp only [dscore_real q k v g F q' k' v' g' F' hq hk hv hg hF, ← EReal.coe_neg, ← coe_sum, ← EReal.coe_add]
  refine congrArg _ ?_
  rw [sum_neg_distrib]; ring

end Finite

end Cert.Proof.Fox.Ref

end
-- ==== Proof.Packing.lean ====
/-
  The kernel's lines before its call, over the reals: the saved values and the arrays the call reads, as stages.
-/
module

public import proofs.«01_k».proof.Proof.Frames
public import proofs.«01_k».proof.Proof.RefValues

@[expose] public section

set_option maxRecDepth 16384

noncomputable section

namespace Cert.Proof.Fox

open Cert.KernelIdeal Cert.KernelIdeal.Gen
open Idealize.ShloMosaic Idealize.ShloMosaic.TcCoe Idealize.ShloMosaic.Tactic

/-! ## The stages -/

/-- The exponentials of the saved weights. -/
def sE (z : FVec Ideal S8x4096x4096 .f32) (t : FVec Ideal S8x4096 .f32) : FVec Ideal S8x4096x4096 .f32 := Host.exp (subf z (Ref.wide (Ref.col t)))
/-- The saved output, -/
def sO (e : FVec Ideal S8x4096x4096 .f32) (L : FVec Ideal S8x4096 .f32) (v : FVec Ideal S4096x512 .bf16) : FVec Ideal S4096x8x64 .f32 :=
  transpose S4096x8x64 [2, 0, 1] (Host.dotGeneral dot_S4096x8x64_S8x4096x4096_S8x64x4096_0_2_2_1_1_0 none (extf .f32 (Ref.heads v) bitsLt_bf16_f32) (Host.divf e (Ref.wide (Ref.col L)))) transposes_S8x64x4096_S4096x8x64_2_0_1
/-- the saved logarithms of the exponentials' sums, -/
def sL (t L : FVec Ideal S8x4096 .f32) : FVec Ideal S4096x8 .f32 := transpose S4096x8 [1, 0] (addf t (Host.log L)) transposes_S8x4096_S4096x8_1_0
/-- and the output's product with its gradient. -/
def sD (o : FVec Ideal S4096x8x64 .f32) (g : FVec Ideal S4096x512 .bf16) : FVec Ideal S4096x8 .f32 :=
  Host.reduceAdd (mulf o (extf .f32 (Ref.heads g) bitsLt_bf16_f32)) (constant S_ .f32 0x00000000#32) reducesTo_S4096x8x64_S4096x8_d2 h_S_
/-- A number as a sum of three narrower ones. -/
def part1 (x : FVec Ideal S4096x8 .f32) : FVec Ideal S4096x8 .f32 := extf .f32 (truncf .bf16 x bitsLt_bf16_f32) bitsLt_bf16_f32
def part2 (x : FVec Ideal S4096x8 .f32) : FVec Ideal S4096x8 .f32 := extf .f32 (truncf .bf16 (subf x (part1 x)) bitsLt_bf16_f32) bitsLt_bf16_f32
def part3 (x : FVec Ideal S4096x8 .f32) : FVec Ideal S4096x8 .f32 := extf .f32 (truncf .bf16 (subf (subf x (part1 x)) (part2 x)) bitsLt_bf16_f32) bitsLt_bf16_f32
def stack3 (a b c : FVec Ideal S4096x8 .f32) : FVec Ideal S4096x8x3 .f32 :=
  concatenate S4096x8x3 2 [⟨S4096x8x1, broadcastInDim S4096x8x1 ![0, 1] bcast_S4096x8_S4096x8x1_0_1 a⟩, ⟨S4096x8x1, broadcastInDim S4096x8x1 ![0, 1] bcast_S4096x8_S4096x8x1_0_1 b⟩, ⟨S4096x8x1, broadcastInDim S4096x8x1 ![0, 1] bcast_S4096x8_S4096x8x1_0_1 c⟩] concatenates_S4096x8x1_S4096x8x1_S4096x8x1_S4096x8x3_d2
def parts (x : FVec Ideal S4096x8 .f32) : FVec Ideal S4096x8x3 .f32 := stack3 (part1 x) (part2 x) (part3 x)
/-- The slots of the queries, the keys, the values and the output's gradient. -/
def slotQ (q : FVec Ideal S4096x8x64 .bf16) (a : FVec Ideal S4096x8x3 .f32) : FVec Ideal S4096x1024 .bf16 :=
  shapeCast S4096x1024 (concatenate S4096x8x128 2 [⟨S4096x8x64, truncf .bf16 (mulf (extf .f32 q bitsLt_bf16_f32) (broadcastInDim S4096x8x64 ![] bcast_S_S4096x8x64 (constant S_ .f32 0x3E000000#32))) bitsLt_bf16_f32⟩,
    ⟨S4096x8x3, truncf .bf16 a bitsLt_bf16_f32⟩, ⟨S4096x8x3, broadcastInDim S4096x8x3 ![] bcast_S_S4096x8x3 (constant S_ .bf16 0x3F80#16)⟩, ⟨S4096x8x58, broadcastInDim S4096x8x58 ![] bcast_S_S4096x8x58 (constant S_ .bf16 0x0000#16)⟩]
    concatenates_S4096x8x64_S4096x8x3_S4096x8x3_S4096x8x58_S4096x8x128_d2) shapeCasts_S4096x8x128_S4096x1024
def slotK (k : FVec Ideal S4096x8x64 .bf16) (a : FVec Ideal S4096x8x3 .f32) : FVec Ideal S4096x1024 .bf16 :=
  shapeCast S4096x1024 (concatenate S4096x8x128 2 [⟨S4096x8x64, k⟩, ⟨S4096x8x3, broadcastInDim S4096x8x3 ![] bcast_S_S4096x8x3 (constant S_ .bf16 0x3F80#16)⟩,
    ⟨S4096x8x3, truncf .bf16 (Host.negf a) bitsLt_bf16_f32⟩, ⟨S4096x8x58, broadcastInDim S4096x8x58 ![] bcast_S_S4096x8x58 (constant S_ .bf16 0x0000#16)⟩]
    concatenates_S4096x8x64_S4096x8x3_S4096x8x3_S4096x8x58_S4096x8x128_d2) shapeCasts_S4096x8x128_S4096x1024
def slotV (v : FVec Ideal S4096x8x64 .bf16) : FVec Ideal S4096x1024 .bf16 :=
  shapeCast S4096x1024 (concatenate S4096x8x128 2 [⟨S4096x8x64, v⟩, ⟨S4096x8x64, broadcastInDim S4096x8x64 ![] bcast_S_S4096x8x64 (constant S_ .bf16 0x3F80#16)⟩]
    concatenates_S4096x8x64_S4096x8x64_S4096x8x128_d2) shapeCasts_S4096x8x128_S4096x1024
def slotG (g : FVec Ideal S4096x8x64 .bf16) (a : FVec Ideal S4096x8x3 .f32) : FVec Ideal S4096x1024 .bf16 :=
  shapeCast S4096x1024 (concatenate S4096x8x128 2 [⟨S4096x8x64, g⟩, ⟨S4096x8x3, truncf .bf16 a bitsLt_bf16_f32⟩,
    ⟨S4096x8x61, broadcastInDim S4096x8x61 ![] bcast_S_S4096x8x61 (constant S_ .bf16 0x0000#16)⟩]
    concatenates_S4096x8x64_S4096x8x3_S4096x8x61_S4096x8x128_d2) shapeCasts_S4096x8x128_S4096x1024

/-- Three columns side by side, and the slots of the queries and of the gradient before their lanes are laid out in a row. -/
def stackRaw (a b c : FVec Ideal S4096x8x1 .f32) : FVec Ideal S4096x8x3 .f32 :=
  concatenate S4096x8x3 2 [⟨S4096x8x1, a⟩, ⟨S4096x8x1, b⟩, ⟨S4096x8x1, c⟩] concatenates_S4096x8x1_S4096x8x1_S4096x8x1_S4096x8x3_d2
def laneRaw (a : FVec Ideal S4096x8x64 .bf16) (b c : FVec Ideal S4096x8x3 .bf16) (d : FVec Ideal S4096x8x58 .bf16) : FVec Ideal S4096x8x128 .bf16 :=
  concatenate S4096x8x128 2 [⟨S4096x8x64, a⟩, ⟨S4096x8x3, b⟩, ⟨S4096x8x3, c⟩, ⟨S4096x8x58, d⟩] concatenates_S4096x8x64_S4096x8x3_S4096x8x3_S4096x8x58_S4096x8x128_d2
def gradRaw (a : FVec Ideal S4096x8x64 .bf16) (b : FVec Ideal S4096x8x3 .bf16) (c : FVec Ideal S4096x8x61 .bf16) : FVec Ideal S4096x8x128 .bf16 :=
  concatenate S4096x8x128 2 [⟨S4096x8x64, a⟩, ⟨S4096x8x3, b⟩, ⟨S4096x8x61, c⟩] concatenates_S4096x8x64_S4096x8x3_S4096x8x61_S4096x8x128_d2

/-- What the lines that lay arrays side by side leave. -/
theorem laid_v58 (hxs hy) (F : Valuation τ sig (Elt Ideal)) :
    (StableHlo.nary (τ := τ) ![main_v55, main_v56, main_v57] main_v58 (fun u => (concatenate S4096x8x3 2 [⟨S4096x8x1, (u 0 : (⟨S4096x8x1, .f32⟩ : BufTy).Contents (Elt Ideal))⟩, ⟨S4096x8x1, (u 1 : (⟨S4096x8x1, .f32⟩ : BufTy).Contents (Elt Ideal))⟩, ⟨S4096x8x1, (u 2 : (⟨S4096x8x1, .f32⟩ : BufTy).Contents (Elt Ideal))⟩] concatenates_S4096x8x1_S4096x8x1_S4096x8x1_S4096x8x3_d2 : (⟨S4096x8x3, .f32⟩ : BufTy).Contents (Elt Ideal))) hxs hy).result F (no_index (Proc.devRef .tc main_v58))
      = stackRaw (F (Proc.devRef .tc main_v55)) (F (Proc.devRef .tc main_v56)) (F (Proc.devRef .tc main_v57)) := by
  rw [StableHlo.nary_result']; rfl
theorem laid_v97 (hxs hy) (F : Valuation τ sig (Elt Ideal)) :
    (StableHlo.nary (τ := τ) ![main_v94, main_v95, main_v96] main_v97 (fun u => (concatenate S4096x8x3 2 [⟨S4096x8x1, (u 0 : (⟨S4096x8x1, .f32⟩ : BufTy).Contents (Elt Ideal))⟩, ⟨S4096x8x1, (u 1 : (⟨S4096x8x1, .f32⟩ : BufTy).Contents (Elt Ideal))⟩, ⟨S4096x8x1, (u 2 : (⟨S4096x8x1, .f32⟩ : BufTy).Contents (Elt Ideal))⟩] concatenates_S4096x8x1_S4096x8x1_S4096x8x1_S4096x8x3_d2 : (⟨S4096x8x3, .f32⟩ : BufTy).Contents (Elt Ideal))) hxs hy).result F (no_index (Proc.devRef .tc main_v97))
      = stackRaw (F (Proc.devRef .tc main_v94)) (F (Proc.devRef .tc main_v95)) (F (Proc.devRef .tc main_v96)) := by
  rw [StableHlo.nary_result']; rfl
theorem laid_v62 (hxs hy) (F : Valuation τ sig (Elt Ideal)) :
    (StableHlo.nary (τ := τ) ![main_v45, main_v59, main_v60, main_v61] main_v62 (fun u => (concatenate S4096x8x128 2 [⟨S4096x8x64, (u 0 : (⟨S4096x8x64, .bf16⟩ : BufTy).Contents (Elt Ideal))⟩, ⟨S4096x8x3, (u 1 : (⟨S4096x8x3, .bf16⟩ : BufTy).Contents (Elt Ideal))⟩, ⟨S4096x8x3, (u 2 : (⟨S4096x8x3, .bf16⟩ : BufTy).Contents (Elt Ideal))⟩, ⟨S4096x8x58, (u 3 : (⟨S4096x8x58, .bf16⟩ : BufTy).Contents (Elt Ideal))⟩] concatenates_S4096x8x64_S4096x8x3_S4096x8x3_S4096x8x58_S4096x8x128_d2 : (⟨S4096x8x128, .bf16⟩ : BufTy).Contents (Elt Ideal))) hxs hy).result F (no_index (Proc.devRef .tc main_v62))
      = laneRaw (F (Proc.devRef .tc main_v45)) (F (Proc.devRef .tc main_v59)) (F (Proc.devRef .tc main_v60)) (F (Proc.devRef .tc main_v61)) := by
  rw [StableHlo.nary_result']; rfl
theorem laid_v100 (hxs hy) (F : Valuation τ sig (Elt Ideal)) :
    (StableHlo.nary (τ := τ) ![main_v3, main_v98, main_v99] main_v100 (fun u => (concatenate S4096x8x128 2 [⟨S4096x8x64, (u 0 : (⟨S4096x8x64, .bf16⟩ : BufTy).Contents (Elt Ideal))⟩, ⟨S4096x8x3, (u 1 : (⟨S4096x8x3, .bf16⟩ : BufTy).Contents (Elt Ideal))⟩, ⟨S4096x8x61, (u 2 : (⟨S4096x8x61, .bf16⟩ : BufTy).Contents (Elt Ideal))⟩] concatenates_S4096x8x64_S4096x8x3_S4096x8x61_S4096x8x128_d2 : (⟨S4096x8x128, .bf16⟩ : BufTy).Contents (Elt Ideal))) hxs hy).result F (no_index (Proc.devRef .tc main_v100))
      = gradRaw (F (Proc.devRef .tc main_v3)) (F (Proc.devRef .tc main_v98)) (F (Proc.devRef .tc main_v99)) := by
  rw [StableHlo.nary_result']; rfl

section Lines

variable (m : (ℓ : Loc nD τ sig) → Buf (Elt Ideal) ℓ) (c : Dev nD)

def inQ : FVec Ideal S4096x512 .bf16 := m ((c.tc : Thread nD τ).loc main_arg0)
def inK : FVec Ideal S4096x512 .bf16 := m ((c.tc : Thread nD τ).loc main_arg1)
def inV : FVec Ideal S4096x512 .bf16 := m ((c.tc : Thread nD τ).loc main_arg2)
def inL : FVec Ideal S4096x8 .f32 := m ((c.tc : Thread nD τ).loc main_arg3)
def inG : FVec Ideal S4096x512 .bf16 := m ((c.tc : Thread nD τ).loc main_arg4)

/-- The saved values as the lines leave them. -/
def atZ : FVec Ideal S8x4096x4096 .f32 := Ref.seen (Ref.score (inQ m c) (inK m c) (Ref.cum (inL m c)))
def atE : FVec Ideal S8x4096x4096 .f32 := sE (atZ m c) (Ref.top (atZ m c))
def atS : FVec Ideal S8x4096 .f32 := Ref.overK (atE m c)
def atL : FVec Ideal S4096x8 .f32 := sL (Ref.top (atZ m c)) (atS m c)
def atD : FVec Ideal S4096x8 .f32 := sD (sO (atE m c) (atS m c) (inV m c)) (inG m c)

/-- The arrays the call reads. -/
theorem V5_v : V5 m c (Proc.devRef .tc main_v84) = slotV (Ref.heads (inV m c)) := by
  rw [V5_def]; after_reads_simp; rfl
theorem V5_k : V5 m c (Proc.devRef .tc main_v81) = slotK (Ref.heads (inK m c)) (parts (Ref.cum (inL m c))) := by
  rw [V5_def]; after_reads_simp; rfl
theorem V5_q : V5 m c (Proc.devRef .tc main_v63) = slotQ (Ref.heads (inQ m c)) (parts (subf (Ref.cum (inL m c)) (atL m c))) := by
  rw [V5_def]; simp (disch := decide) only [StableHlo.readAfter, StableHlo.readUpto, StableHlo.nullary_result', StableHlo.unary_result', StableHlo.binary_result', StableHlo.ternary_result', StableHlo.reshape_result', laid_v58, laid_v62]; rfl
theorem V5_g : V5 m c (Proc.devRef .tc main_v101) = slotG (Ref.heads (inG m c)) (parts (Host.negf (atD m c))) := by
  rw [V5_def]; simp (disch := decide) only [StableHlo.readAfter, StableHlo.readUpto, StableHlo.nullary_result', StableHlo.unary_result', StableHlo.binary_result', StableHlo.ternary_result', StableHlo.reshape_result', laid_v97, laid_v100]; rfl

end Lines

end Cert.Proof.Fox

end
-- ==== Proof.Lanes.lean ====
/-
  The kernel's lines before its call, at finite arguments: each element of the saved values and of the arrays the call reads, as a real number.
-/
module

public import proofs.«01_k».proof.Proof.Packing

@[expose] public section

set_option maxRecDepth 16384

noncomputable section

namespace Cert.Proof.Fox

open Cert.KernelIdeal Cert.KernelIdeal.Gen
open Idealize.ShloMosaic Idealize.ShloMosaic.TcCoe Idealize.ShloMosaic.Tactic
open Finset

/-! ## The stages at an element -/

theorem heads_at (q : FVec Ideal S4096x512 .bf16) (i : Fin 4096) (h : Fin 8) (l : Fin 64) : Ref.heads q (ix3 i h l) = q (ix2 i (hd h l)) := by
  unfold Ref.heads hd; pointwise
theorem sE_at (z : FVec Ideal S8x4096x4096 .f32) (t : FVec Ideal S8x4096 .f32) (h : Fin 8) (i j : Fin 4096) :
    sE z t (ix3 h i j) = Ideal.exp (z (ix3 h i j) - t (ix2 h i)) := by
  unfold sE Ref.wide Ref.col; pointwise
theorem sO_at (e : FVec Ideal S8x4096x4096 .f32) (L : FVec Ideal S8x4096 .f32) (v : FVec Ideal S4096x512 .bf16) (i : Fin 4096) (h : Fin 8) (l : Fin 64) :
    sO e L v (ix3 i h l) = ∑ j : Fin 4096, v (ix2 j (hd h l)) * Ideal.div (e (ix3 h i j)) (L (ix2 h i)) := by
  unfold sO Ref.wide Ref.col Ref.heads hd; pointwise
theorem sL_at (t L : FVec Ideal S8x4096 .f32) (i : Fin 4096) (h : Fin 8) : sL t L (ix2 i h) = t (ix2 h i) + Ideal.log (L (ix2 h i)) := by
  unfold sL; pointwise
theorem sD_at (o : FVec Ideal S4096x8x64 .f32) (g : FVec Ideal S4096x512 .bf16) (i : Fin 4096) (h : Fin 8) :
    sD o g (ix2 i h) = ∑ l : Fin 64, o (ix3 i h l) * g (ix2 i (hd h l)) := by
  unfold sD Ref.heads hd; pointwise

/-- Slot lane `l` of head `h`. -/
def ln (h : Fin 8) (l : Fin 128) : Fin 1024 := ⟨128 * h.val + l.val, by omega⟩

theorem parts_at (x : FVec Ideal S4096x8 .f32) (i : Fin 4096) (h : Fin 8) (s : Fin 3) :
    parts x (ix3 i h s) = if _ : s.val < 1 then x (ix2 i h) else if _ : s.val - 1 < 1 then x (ix2 i h) - x (ix2 i h) else x (ix2 i h) - x (ix2 i h) - (x (ix2 i h) - x (ix2 i h)) := by
  unfold parts stack3 part3 part2 part1; pointwise
theorem slotQ_at (q : FVec Ideal S4096x8x64 .bf16) (a : FVec Ideal S4096x8x3 .f32) (i : Fin 4096) (h : Fin 8) (l : Fin 128) :
    slotQ q a (ix2 i (ln h l)) = if hl : l.val < 64 then q (ix3 i h ⟨l.val, hl⟩) * Ideal.ofBits .f32 0x3E000000#32
      else if h3 : l.val - 64 < 3 then a (ix3 i h ⟨l.val - 64, h3⟩) else if _ : l.val - 64 - 3 < 3 then 1 else 0 := by
  unfold slotQ ln; pointwise
theorem slotK_at (k : FVec Ideal S4096x8x64 .bf16) (a : FVec Ideal S4096x8x3 .f32) (i : Fin 4096) (h : Fin 8) (l : Fin 128) :
    slotK k a (ix2 i (ln h l)) = if hl : l.val < 64 then k (ix3 i h ⟨l.val, hl⟩)
      else if _ : l.val - 64 < 3 then 1 else if h3 : l.val - 64 - 3 < 3 then - a (ix3 i h ⟨l.val - 64 - 3, h3⟩) else 0 := by
  unfold slotK ln; pointwise
theorem slotV_at (v : FVec Ideal S4096x8x64 .bf16) (i : Fin 4096) (h : Fin 8) (l : Fin 128) :
    slotV v (ix2 i (ln h l)) = if hl : l.val < 64 then v (ix3 i h ⟨l.val, hl⟩) else 1 := by
  unfold slotV ln; pointwise
theorem slotG_at (g : FVec Ideal S4096x8x64 .bf16) (a : FVec Ideal S4096x8x3 .f32) (i : Fin 4096) (h : Fin 8) (l : Fin 128) :
    slotG g a (ix2 i (ln h l)) = if hl : l.val < 64 then g (ix3 i h ⟨l.val, hl⟩)
      else if h3 : l.val - 64 < 3 then a (ix3 i h ⟨l.val - 64, h3⟩) else 0 := by
  unfold slotG ln; pointwise

/-! ## At finite arguments -/

/-- A real number is the first of its three parts. -/
theorem parts_real (x : FVec Ideal S4096x8 .f32) (i : Fin 4096) (h : Fin 8) (r : ℝ) (hx : x (ix2 i h) = (r : EReal)) (s : Fin 3) :
    parts x (ix3 i h s) = ((if s.val = 0 then r else 0 : ℝ) : EReal) := by
  rw [parts_at, hx, ← EReal.coe_sub, ← EReal.coe_sub]
  fin_cases s <;> simp

/-- The slots' lanes as reals: of the queries, the keys, the values and the output's gradient. -/
def rQ (q' : Fin 4096 → Fin 512 → ℝ) (a : Fin 4096 → Fin 8 → ℝ) (h : Fin 8) (i : Fin 4096) (l : ℕ) : ℝ :=
  if hl : l < 64 then q' i (hd h ⟨l, hl⟩) * (1 / 8) else if l = 64 then a i h else if l < 67 then 0 else if l < 70 then 1 else 0
def rK (k' : Fin 4096 → Fin 512 → ℝ) (a : Fin 4096 → Fin 8 → ℝ) (h : Fin 8) (i : Fin 4096) (l : ℕ) : ℝ :=
  if hl : l < 64 then k' i (hd h ⟨l, hl⟩) else if l < 67 then 1 else if l = 67 then - a i h else 0
def rV (v' : Fin 4096 → Fin 512 → ℝ) (h : Fin 8) (i : Fin 4096) (l : ℕ) : ℝ := if hl : l < 64 then v' i (hd h ⟨l, hl⟩) else 1
def rG (g' : Fin 4096 → Fin 512 → ℝ) (a : Fin 4096 → Fin 8 → ℝ) (h : Fin 8) (i : Fin 4096) (l : ℕ) : ℝ :=
  if hl : l < 64 then g' i (hd h ⟨l, hl⟩) else if l = 64 then a i h else 0

section Slots

variable (x : FVec Ideal S4096x512 .bf16) (b : FVec Ideal S4096x8 .f32) (x' : Fin 4096 → Fin 512 → ℝ) (a : Fin 4096 → Fin 8 → ℝ)
variable (hx : ∀ i y, x (ix2 i y) = (x' i y : EReal)) (hb : ∀ i h, b (ix2 i h) = (a i h : EReal))

include hx hb in
theorem slotQ_real (i : Fin 4096) (h : Fin 8) (l : Fin 128) : slotQ (Ref.heads x) (parts b) (ix2 i (ln h l)) = (rQ x' a h i l.val : EReal) := by
  rw [slotQ_at]
  unfold rQ
  split
  · rw [heads_at, hx, eighth, EReal.coe_mul]
  split
  · rw [parts_real b i h _ (hb i h)]
    by_cases h0 : l.val = 64
    · rw [if_pos (by show l.val - 64 = 0; omega), if_pos h0]
    · rw [if_neg (by show ¬ l.val - 64 = 0; omega), if_neg h0, if_pos (by omega)]
  split
  · rw [if_neg (by omega), if_neg (by omega), if_pos (by omega)]; rfl
  · rw [if_neg (by omega), if_neg (by omega), if_neg (by omega)]; rfl

include hx hb in
theorem slotK_real (i : Fin 4096) (h : Fin 8) (l : Fin 128) : slotK (Ref.heads x) (parts b) (ix2 i (ln h l)) = (rK x' a h i l.val : EReal) := by
  rw [slotK_at]
  unfold rK
  split
  · rw [heads_at, hx]
  split
  · rw [if_pos (by omega)]; rfl
  split
  · rw [parts_real b i h _ (hb i h), ← EReal.coe_neg]
    by_cases h0 : l.val = 67
    · rw [if_pos (by show l.val - 64 - 3 = 0; omega), if_neg (by omega), if_pos h0]
    · rw [if_neg (by show ¬ l.val - 64 - 3 = 0; omega), if_neg (by omega), if_neg h0, neg_zero]
  · rw [if_neg (by omega), if_neg (by omega)]; rfl

include hx in
theorem slotV_real (i : Fin 4096) (h : Fin 8) (l : Fin 128) : slotV (Ref.heads x) (ix2 i (ln h l)) = (rV x' h i l.val : EReal) := by
  rw [slotV_at]
  unfold rV
  split
  · rw [heads_at, hx]
  · rfl

include hx hb in
theorem slotG_real (i : Fin 4096) (h : Fin 8) (l : Fin 128) : slotG (Ref.heads x) (parts b) (ix2 i (ln h l)) = (rG x' a h i l.val : EReal) := by
  rw [slotG_at]
  unfold rG
  split
  · rw [heads_at, hx]
  split
  · rw [parts_real b i h _ (hb i h)]
    by_cases h0 : l.val = 64
    · rw [if_pos (by show l.val - 64 = 0; omega), if_pos h0]
    · rw [if_neg (by show ¬ l.val - 64 = 0; omega), if_neg h0]
  · rw [if_neg (by omega)]; rfl

end Slots

/-- A sum over a slot: its head's lanes and the rest. -/
theorem sum_slot (f : ℕ → ℝ) : ∑ l ∈ range 128, f l = (∑ l : Fin 64, f l.val) + ∑ l ∈ range 64, f (64 + l) := by
  rw [show 128 = 64 + 64 from rfl, sum_range_add, sum_range]

/-- The scores, less the logarithms that the queries' slots hold, -/
theorem lanes_score (q' k' : Fin 4096 → Fin 512 → ℝ) (a F' : Fin 4096 → Fin 8 → ℝ) (h : Fin 8) (i j : Fin 4096) :
    ∑ l ∈ range 128, rQ q' a h i l * rK k' F' h j l = (∑ l : Fin 64, q' i (hd h l) * k' j (hd h l)) * (1 / 8) + a i h - F' j h := by
  have ht : ∀ l : ℕ, rQ q' a h i (64 + l) * rK k' F' h j (64 + l) = (if l = 0 then a i h else 0) + (if l = 3 then - F' j h else 0) := fun l => by
    unfold rQ rK
    rw [dif_neg (by omega), dif_neg (by omega)]
    by_cases h0 : l = 0
    · rw [if_pos (by omega), if_pos (by omega), if_pos h0, if_neg (by omega)]; ring
    by_cases h1 : l < 3
    · rw [if_neg (by omega), if_pos (c := 64 + l < 67) (by omega), if_pos (c := 64 + l < 67) (by omega), if_neg h0, if_neg (by omega)]; ring
    by_cases h3 : l = 3
    · rw [if_neg (by omega), if_neg (by omega), if_pos (by omega), if_neg (by omega), if_pos (by omega), if_neg h0, if_pos h3]; ring
    · rw [if_neg (by omega), if_neg (c := 64 + l < 67) (by omega), if_neg (c := 64 + l < 67) (by omega), if_neg (c := 64 + l = 67) (by omega), if_neg h0, if_neg h3]; ring
  rw [sum_slot]
  simp only [ht, sum_add_distrib, sum_ite_eq']
  rw [if_pos (by simp), if_pos (by simp), sum_mul]
  have hh : ∀ l : Fin 64, rQ q' a h i l.val * rK k' F' h j l.val = q' i (hd h l) * k' j (hd h l) * (1 / 8) := fun l => by
    unfold rQ rK
    rw [dif_pos l.isLt, dif_pos l.isLt]; ring
  simp only [hh]
  ring

/-- and the weights' gradient with what the gradient's slots hold. -/
theorem lanes_grad (g' v' : Fin 4096 → Fin 512 → ℝ) (a : Fin 4096 → Fin 8 → ℝ) (h : Fin 8) (i j : Fin 4096) :
    ∑ l ∈ range 128, rG g' a h i l * rV v' h j l = (∑ l : Fin 64, g' i (hd h l) * v' j (hd h l)) + a i h := by
  have ht : ∀ l : ℕ, rG g' a h i (64 + l) * rV v' h j (64 + l) = (if l = 0 then a i h else 0) := fun l => by
    unfold rG rV
    rw [dif_neg (by omega), dif_neg (by omega)]
    by_cases h0 : l = 0
    · rw [if_pos (by omega), if_pos h0]; ring
    · rw [if_neg (by omega), if_neg h0]; ring
  rw [sum_slot]
  simp only [ht, sum_ite_eq']
  rw [if_pos (by simp)]
  refine congrArg (· + _) (sum_congr rfl fun l _ => ?_)
  unfold rG rV
  rw [dif_pos l.isLt, dif_pos l.isLt]

section Lines

variable (m : (ℓ : Loc nD τ sig) → Buf (Elt Ideal) ℓ) (c : Dev nD)
variable (q' k' v' g' : Fin 4096 → Fin 512 → ℝ) (F' : Fin 4096 → Fin 8 → ℝ)
variable (hq : ∀ i x, inQ m c (ix2 i x) = (q' i x : EReal)) (hk : ∀ i x, inK m c (ix2 i x) = (k' i x : EReal)) (hv : ∀ i x, inV m c (ix2 i x) = (v' i x : EReal))
variable (hg : ∀ i x, inG m c (ix2 i x) = (g' i x : EReal)) (hF : ∀ i h, Ref.cum (inL m c) (ix2 i h) = (F' i h : EReal))

include hq hk hF in
theorem atE_real (h : Fin 8) (i : Fin 4096) : ∃ M : ℝ, Ref.top (atZ m c) (ix2 h i) = (M : EReal)
    ∧ ∀ j, atE m c (ix3 h i j) = ((if j ≤ i then Real.exp (mS q' k' F' h i j) else 0) * Real.exp (-M) : ℝ) := by
  obtain ⟨M, hM⟩ := Ref.top_real (inQ m c) (inK m c) (Ref.cum (inL m c)) q' k' F' hq hk hF h i
  refine ⟨M, hM, fun j => ?_⟩
  have hM' : Ref.top (atZ m c) (ix2 h i) = (M : EReal) := hM
  unfold atE
  rw [sE_at, hM']
  unfold atZ
  rw [Ref.seen_real (inQ m c) (inK m c) (Ref.cum (inL m c)) q' k' F' hq hk hF]
  split
  · rw [← EReal.coe_sub, Ideal.exp_coe, ← Real.exp_add, sub_eq_add_neg]
  · rw [EReal.bot_sub, zero_mul]; rfl

include hq hk hF in
theorem atS_real (h : Fin 8) (i : Fin 4096) (M : ℝ)
    (hM : ∀ j, atE m c (ix3 h i j) = ((if j ≤ i then Real.exp (mS q' k' F' h i j) else 0) * Real.exp (-M) : ℝ)) :
    atS m c (ix2 h i) = (mZ q' k' F' h i * Real.exp (-M) : ℝ) := by
  unfold atS
  rw [Ref.overK_at]
  unfold mZ
  rw [sum_mul, coe_sum]
  exact sum_congr rfl fun j _ => hM j

include hq hk hF in
/-- The logarithms saved are those of the exponentials' sums. -/
theorem atL_real (i : Fin 4096) (h : Fin 8) : atL m c (ix2 i h) = (Real.log (mZ q' k' F' h i) : EReal) := by
  obtain ⟨M, ht, hM⟩ := atE_real m c q' k' F' hq hk hF h i
  unfold atL
  rw [sL_at, ht, atS_real m c q' k' F' hq hk hF h i M hM, Ideal.log_coe, if_neg (not_le.mpr (mul_pos (mZ_pos q' k' F' h i) (Real.exp_pos _))), ← EReal.coe_add,
    Real.log_mul (mZ_pos q' k' F' h i).ne' (Real.exp_pos _).ne', Real.log_exp]
  refine congrArg _ ?_
  ring

include hq hk hv hg hF in
/-- The output's product with its gradient. -/
theorem atD_real (i : Fin 4096) (h : Fin 8) : atD m c (ix2 i h) = (mO q' k' v' g' F' h i : EReal) := by
  obtain ⟨M, ht, hM⟩ := atE_real m c q' k' F' hq hk hF h i
  have hp : ∀ l : Fin 64, sO (atE m c) (atS m c) (inV m c) (ix3 i h l) = ((∑ j, v' j (hd h l) * mP q' k' F' h i j : ℝ) : EReal) := fun l => by
    rw [sO_at, coe_sum]
    refine sum_congr rfl fun j _ => ?_
    rw [hv, hM, atS_real m c q' k' F' hq hk hF h i M hM, div_real _ _ (Ref.shift_ne q' k' F' h i M), mul_div_mul_right _ _ (Real.exp_pos _).ne', ← EReal.coe_mul]
    unfold mP
    split
    · rfl
    · rw [zero_div]
  unfold atD
  rw [sD_at]
  simp only [hp, hg, ← EReal.coe_mul, ← coe_sum]
  refine congrArg _ ?_
  unfold mO mD
  simp only [sum_mul, mul_sum]
  rw [sum_comm]
  exact sum_congr rfl fun j _ => sum_congr rfl fun l _ => by ring

end Lines

end Cert.Proof.Fox

end
-- ==== Proof.Blocks.lean ====
/-
  One grid point of the attention's backward kernel over the reals: the three accumulators, element by element.
-/
module

public import proofs.«01_k».proof.Proof.Tiles
public import Idealize.ShloMosaic.Lib.Pipeline.ValueKit.Basic

@[expose] public section

set_option maxRecDepth 16384

noncomputable section

namespace Cert.Proof.Fox

open Cert.KernelIdeal Cert.KernelIdeal.Gen
open Idealize.ShloMosaic Idealize.ShloMosaic.TcCoe
open Finset

/-! ## Rectangles by head -/

/-- Lane `l` of head `h` of a block. -/
def hx (h : Fin 4) (l : Fin 128) : Fin 512 := ⟨128 * h.val + l.val, by omega⟩

theorem inb_w (h : Fin 4) : ∀ a, (![0, 128 * h.val] : Fin 2 → ℕ) a + S512x128.size a ≤ S512x512.size a := by
  revert h; decide
theorem inb_u (h : Fin 4) : ∀ a, (![0, 128 * h.val] : Fin 2 → ℕ) a + S256x128.size a ≤ S512x512.size a := by
  revert h; decide
theorem inb_l (h : Fin 4) : ∀ a, (![256, 128 * h.val] : Fin 2 → ℕ) a + S256x128.size a ≤ S512x512.size a := by
  revert h; decide

/-- A head's lanes of a block: all its rows, the upper half and the lower. -/
abbrev wR (h : Fin 4) : Rect S512x512 := Rect.unit (s := S512x512) ![0, 128 * h.val] S512x128.size (inb_w h)
abbrev uR (h : Fin 4) : Rect S512x512 := Rect.unit (s := S512x512) ![0, 128 * h.val] S256x128.size (inb_u h)
abbrev lR (h : Fin 4) : Rect S512x512 := Rect.unit (s := S512x512) ![256, 128 * h.val] S256x128.size (inb_l h)

/-- Row `i` of the upper half, and of the lower. -/
def up (i : Fin 256) : Fin 512 := ⟨i.val, by omega⟩
def lo (i : Fin 256) : Fin 512 := ⟨256 + i.val, by omega⟩

theorem wR_emb (h : Fin 4) (i : Fin 512) (l : Fin 128) : (wR h).emb (ix2 i l) = ix2 i (hx h l) := by
  funext a; apply Fin.ext
  match a with
  | ⟨0, _⟩ => show 0 + 1 * i.val = i.val; omega
  | ⟨1, _⟩ => show 128 * h.val + 1 * l.val = 128 * h.val + l.val; omega
theorem uR_emb (h : Fin 4) (i : Fin 256) (l : Fin 128) : (uR h).emb (ix2 i l) = ix2 (up i) (hx h l) := by
  funext a; apply Fin.ext
  match a with
  | ⟨0, _⟩ => show 0 + 1 * i.val = i.val; omega
  | ⟨1, _⟩ => show 128 * h.val + 1 * l.val = 128 * h.val + l.val; omega
theorem lR_emb (h : Fin 4) (i : Fin 256) (l : Fin 128) : (lR h).emb (ix2 i l) = ix2 (lo i) (hx h l) := by
  funext a; apply Fin.ext
  match a with
  | ⟨0, _⟩ => show 256 + 1 * i.val = 256 + i.val; omega
  | ⟨1, _⟩ => show 128 * h.val + 1 * l.val = 128 * h.val + l.val; omega

/-- A head's lanes of an array of a block's shape, all its rows, the upper half's and the lower half's. -/
def hdW {φ : FTy} (X : FVec Ideal S512x512 φ) (h : Fin 4) : FVec Ideal S512x128 φ := fun x => X (ix2 (x 0) (hx h (x 1)))
def hdU {φ : FTy} (X : FVec Ideal S512x512 φ) (h : Fin 4) : FVec Ideal S256x128 φ := fun x => X (ix2 (up (x 0)) (hx h (x 1)))
def hdL {φ : FTy} (X : FVec Ideal S512x512 φ) (h : Fin 4) : FVec Ideal S256x128 φ := fun x => X (ix2 (lo (x 0)) (hx h (x 1)))

theorem wR_emb' (h : Fin 4) (x : S512x128.Idx) : (wR h).emb x = ix2 (x 0) (hx h (x 1)) :=
  (congrArg (wR h).emb (ValueIdx.eq_ix2 (n0 := 512) (n1 := 128) x)).trans (wR_emb h (x 0) (x 1))
theorem uR_emb' (h : Fin 4) (x : S256x128.Idx) : (uR h).emb x = ix2 (up (x 0)) (hx h (x 1)) :=
  (congrArg (uR h).emb (ValueIdx.eq_ix2 (n0 := 256) (n1 := 128) x)).trans (uR_emb h (x 0) (x 1))
theorem lR_emb' (h : Fin 4) (x : S256x128.Idx) : (lR h).emb x = ix2 (lo (x 0)) (hx h (x 1)) :=
  (congrArg (lR h).emb (ValueIdx.eq_ix2 (n0 := 256) (n1 := 128) x)).trans (lR_emb h (x 0) (x 1))

theorem lb_w (X : FVec Ideal S512x512 .bf16) (h : Fin 4) : lb (F := Ideal) X (wR h) = hdW X h := funext fun x => congrArg X (wR_emb' h x)
theorem lb_u (X : FVec Ideal S512x512 .bf16) (h : Fin 4) : lb (F := Ideal) X (uR h) = hdU X h := funext fun x => congrArg X (uR_emb' h x)
theorem lb_l (X : FVec Ideal S512x512 .bf16) (h : Fin 4) : lb (F := Ideal) X (lR h) = hdL X h := funext fun x => congrArg X (lR_emb' h x)
theorem lx_w (X : FVec Ideal S512x512 .f32) (h : Fin 4) : lx (F := Ideal) X (wR h) = hdW X h := funext fun x => congrArg X (wR_emb' h x)
theorem lx_u (X : FVec Ideal S512x512 .f32) (h : Fin 4) : lx (F := Ideal) X (uR h) = hdU X h := funext fun x => congrArg X (uR_emb' h x)

/-- Writing a head's lanes: read there, and elsewhere. -/
theorem over_w (X : FVec Ideal S512x512 .f32) (h : Fin 4) (f : S512x128.Idx → EReal) (i : Fin 512) (l : Fin 128) :
    (wR h).overlay X f (ix2 i (hx h l)) = f (ix2 i l) := by
  rw [← wR_emb]; exact Rect.overlay_emb _ _ _ _
theorem over_w_ne (X : FVec Ideal S512x512 .f32) (h h' : Fin 4) (hn : h' ≠ h) (f : S512x128.Idx → EReal) (i : Fin 512) (l : Fin 128) :
    (wR h).overlay X f (ix2 i (hx h' l)) = X (ix2 i (hx h' l)) := by
  refine Rect.overlay_of_not_mem _ _ _ fun hm => ?_
  have h1 := (Rect.mem_set_unit.mp hm) 1
  have h2 : 128 * h.val ≤ 128 * h'.val + l.val ∧ 128 * h'.val + l.val < 128 * h.val + 128 := h1
  exact hn (Fin.ext (by omega))
theorem over_u (X : FVec Ideal S512x512 .f32) (h : Fin 4) (f : S256x128.Idx → EReal) (i : Fin 256) (l : Fin 128) :
    (uR h).overlay X f (ix2 (up i) (hx h l)) = f (ix2 i l) := by
  rw [← uR_emb]; exact Rect.overlay_emb _ _ _ _
theorem over_u_lo (X : FVec Ideal S512x512 .f32) (h : Fin 4) (f : S256x128.Idx → EReal) (i : Fin 512) (hi : 256 ≤ i.val) (l : Fin 128) :
    (uR h).overlay X f (ix2 i (hx h l)) = X (ix2 i (hx h l)) := by
  refine Rect.overlay_of_not_mem _ _ _ fun hm => ?_
  have h1 := (Rect.mem_set_unit.mp hm) 0
  have h2 : 0 ≤ i.val ∧ i.val < 0 + 256 := h1
  omega
theorem over_u_ne (X : FVec Ideal S512x512 .f32) (h h' : Fin 4) (hn : h' ≠ h) (f : S256x128.Idx → EReal) (i : Fin 512) (l : Fin 128) :
    (uR h).overlay X f (ix2 i (hx h' l)) = X (ix2 i (hx h' l)) := by
  refine Rect.overlay_of_not_mem _ _ _ fun hm => ?_
  have h1 := (Rect.mem_set_unit.mp hm) 1
  have h2 : 128 * h.val ≤ 128 * h'.val + l.val ∧ 128 * h'.val + l.val < 128 * h.val + 128 := h1
  exact hn (Fin.ext (by omega))

/-- Four heads written one after the other: each finds its own lanes as they were. -/
theorem heads4 {n : ℕ} (f : Fin 4 → FVec Ideal ⟨2, ![n, 512]⟩ .f32 → FVec Ideal ⟨2, ![n, 512]⟩ .f32)
    (own : Fin 4 → Fin n → Fin 128 → EReal)
    (hne : ∀ h h' X i l, h' ≠ h → f h X (ix2 i (hx h' l)) = X (ix2 i (hx h' l)))
    (hown : ∀ h X i l, f h X (ix2 i (hx h l)) = X (ix2 i (hx h l)) + own h i l)
    (X : FVec Ideal ⟨2, ![n, 512]⟩ .f32) (h : Fin 4) (i : Fin n) (l : Fin 128) :
    f 3 (f 2 (f 1 (f 0 X))) (ix2 i (hx h l)) = X (ix2 i (hx h l)) + own h i l := by
  match h with
  | 0 => rw [hne 3 0 _ _ _ (by decide), hne 2 0 _ _ _ (by decide), hne 1 0 _ _ _ (by decide), hown]
  | 1 => rw [hne 3 1 _ _ _ (by decide), hne 2 1 _ _ _ (by decide), hown, hne 0 1 _ _ _ (by decide)]
  | 2 => rw [hne 3 2 _ _ _ (by decide), hown, hne 1 2 _ _ _ (by decide), hne 0 2 _ _ _ (by decide)]
  | 3 => rw [hown, hne 2 3 _ _ _ (by decide), hne 1 3 _ _ _ (by decide), hne 0 3 _ _ _ (by decide)]

/-- A sum over a block's rows, its halves apart. -/
theorem sum_halves (f : Fin 512 → EReal) : ∑ i, f i = ∑ i : Fin 256, f (up i) + ∑ i : Fin 256, f (lo i) := by
  have h := Fin.sum_univ_add (a := 256) (b := 256) f
  exact h

/-! ## Of a block, at a head -/

/-- The score of a query row against a key row of a head, and the gradient of a weight. -/
abbrev sB4 (q k : FVec Ideal S512x512 .bf16) (h : Fin 4) (i j : Fin 512) : EReal := ∑ l : Fin 128, q (ix2 i (hx h l)) * k (ix2 j (hx h l))

/-- A weight and a score's gradient, zero past the diagonal. -/
abbrev eD (q k : FVec Ideal S512x512 .bf16) (h : Fin 4) (i j : Fin 512) : EReal :=
  if j.val ≤ i.val then Ideal.exp (sB4 q k h i j) else 0
abbrev dD (q k v g : FVec Ideal S512x512 .bf16) (h : Fin 4) (i j : Fin 512) : EReal :=
  if j.val ≤ i.val then Ideal.exp (sB4 q k h i j) * sB4 g v h i j else 0

/-! ## Past the diagonal -/

/-- The heads of `fullV` one after the other (each reads the lanes it writes, which no other head writes). -/
theorem fullV_apply (q k v g : FVec Ideal S512x512 .bf16) (X : FVec Ideal S512x512 .f32) (h : Fin 4) (j : Fin 512) (l : Fin 128) :
    fullV q k v g X (ix2 j (hx h l)) = X (ix2 j (hx h l)) + ∑ i : Fin 512, Ideal.exp (sB4 q k h i j) * g (ix2 i (hx h l)) := by
  have hv (h : Fin 4) : rF (pF (lb (F := Ideal) q (wR h)) (lb (F := Ideal) k (wR h))) (lb (F := Ideal) g (wR h)) (lx (F := Ideal) X (wR h)) (ix2 j l)
      = X (ix2 j (hx h l)) + ∑ i : Fin 512, Ideal.exp (sB4 q k h i j) * g (ix2 i (hx h l)) := by
    rw [lb_w q, lb_w k, lb_w g, lx_w X, rF_apply]; simp only [pF_apply]; rfl
  match h with
  | 0 => exact (over_w_ne _ 3 0 (by decide) _ _ _).trans <| (over_w_ne _ 2 0 (by decide) _ _ _).trans <| (over_w_ne _ 1 0 (by decide) _ _ _).trans <| (over_w _ 0 _ _ _).trans (hv 0)
  | 1 => exact (over_w_ne _ 3 1 (by decide) _ _ _).trans <| (over_w_ne _ 2 1 (by decide) _ _ _).trans <| (over_w _ 1 _ _ _).trans (hv 1)
  | 2 => exact (over_w_ne _ 3 2 (by decide) _ _ _).trans <| (over_w _ 2 _ _ _).trans (hv 2)
  | 3 => exact (over_w _ 3 _ _ _).trans (hv 3)

theorem fullK_apply (q k v g : FVec Ideal S512x512 .bf16) (X : FVec Ideal S512x512 .f32) (h : Fin 4) (j : Fin 512) (l : Fin 128) :
    fullK q k v g X (ix2 j (hx h l)) = X (ix2 j (hx h l)) + ∑ i : Fin 512, Ideal.exp (sB4 q k h i j) * sB4 g v h i j * q (ix2 i (hx h l)) := by
  have hv (h : Fin 4) : rF (dF (lb (F := Ideal) q (wR h)) (lb (F := Ideal) k (wR h)) (lb (F := Ideal) g (wR h)) (lb (F := Ideal) v (wR h))) (lb (F := Ideal) q (wR h)) (lx (F := Ideal) X (wR h)) (ix2 j l)
      = X (ix2 j (hx h l)) + ∑ i : Fin 512, Ideal.exp (sB4 q k h i j) * sB4 g v h i j * q (ix2 i (hx h l)) := by
    rw [lb_w q, lb_w k, lb_w g, lb_w v, lx_w X, rF_apply]; simp only [dF_apply]; rfl
  match h with
  | 0 => exact (over_w_ne _ 3 0 (by decide) _ _ _).trans <| (over_w_ne _ 2 0 (by decide) _ _ _).trans <| (over_w_ne _ 1 0 (by decide) _ _ _).trans <| (over_w _ 0 _ _ _).trans (hv 0)
  | 1 => exact (over_w_ne _ 3 1 (by decide) _ _ _).trans <| (over_w_ne _ 2 1 (by decide) _ _ _).trans <| (over_w _ 1 _ _ _).trans (hv 1)
  | 2 => exact (over_w_ne _ 3 2 (by decide) _ _ _).trans <| (over_w _ 2 _ _ _).trans (hv 2)
  | 3 => exact (over_w _ 3 _ _ _).trans (hv 3)

/-! ## On the diagonal -/

/-- A head's two tiles added to the values' accumulator. -/
def diagVh (h : Fin 4) (q k g : FVec Ideal S512x512 .bf16) (X : FVec Ideal S512x512 .f32) : FVec Ideal S512x512 .f32 :=
  have Y := (uR h).overlay X (rA (pA (lb (F := Ideal) q (uR h)) (lb (F := Ideal) k (uR h))) (lb (F := Ideal) g (uR h)) (lx (F := Ideal) X (uR h)))
  (wR h).overlay Y (rB (pB (lb (F := Ideal) q (lR h)) (lb (F := Ideal) k (wR h))) (lb (F := Ideal) g (lR h)) (lx (F := Ideal) Y (wR h)))
/-- and to the keys'. -/
def diagKh (h : Fin 4) (q k v g : FVec Ideal S512x512 .bf16) (X : FVec Ideal S512x512 .f32) : FVec Ideal S512x512 .f32 :=
  have Y := (uR h).overlay X (rA (dA (lb (F := Ideal) q (uR h)) (lb (F := Ideal) k (uR h)) (lb (F := Ideal) g (uR h)) (lb (F := Ideal) v (uR h))) (lb (F := Ideal) q (uR h)) (lx (F := Ideal) X (uR h)))
  (wR h).overlay Y (rB (dB (lb (F := Ideal) q (lR h)) (lb (F := Ideal) k (wR h)) (lb (F := Ideal) g (lR h)) (lb (F := Ideal) v (wR h))) (lb (F := Ideal) q (lR h)) (lx (F := Ideal) Y (wR h)))

theorem row_cases (j : Fin 512) : (∃ j' : Fin 256, j = up j') ∨ 256 ≤ j.val := by
  by_cases hj : j.val < 256
  · exact Or.inl ⟨⟨j.val, hj⟩, rfl⟩
  · exact Or.inr (by omega)

theorem diagVh_own (h : Fin 4) (q k g : FVec Ideal S512x512 .bf16) (X : FVec Ideal S512x512 .f32) (j : Fin 512) (l : Fin 128) :
    diagVh h q k g X (ix2 j (hx h l)) = X (ix2 j (hx h l)) + ∑ i : Fin 512, eD q k h i j * g (ix2 i (hx h l)) := by
  rw [sum_halves, ← add_assoc]
  unfold diagVh
  refine (over_w _ h _ _ _).trans ?_
  rw [lb_l q, lb_w k, lb_l g, lx_w, rB_apply]; simp only [pB_apply]
  refine congrArg₂ (· + ·) ?_ (sum_congr rfl fun i _ => ?_)
  · show (uR h).overlay X _ (ix2 j (hx h l)) = _
    rcases row_cases j with ⟨j', rfl⟩ | hj
    · refine (over_u _ h _ _ _).trans ?_
      rw [lb_u q, lb_u k, lb_u g, lx_u X, rA_apply]; simp only [pA_apply]; rfl
    · refine (over_u_lo _ h _ _ hj _).trans ?_
      rw [sum_eq_zero fun i _ => ?_, add_zero]
      have : ¬ j.val ≤ (up i).val := by have := i.isLt; show ¬ j.val ≤ i.val; omega
      simp only [eD, if_neg this, zero_mul]
  · have : (lo i).val = i.val + 256 := by show 256 + i.val = _; omega
    simp only [eD, this]; rfl

theorem diagKh_own (h : Fin 4) (q k v g : FVec Ideal S512x512 .bf16) (X : FVec Ideal S512x512 .f32) (j : Fin 512) (l : Fin 128) :
    diagKh h q k v g X (ix2 j (hx h l)) = X (ix2 j (hx h l)) + ∑ i : Fin 512, dD q k v g h i j * q (ix2 i (hx h l)) := by
  rw [sum_halves, ← add_assoc]
  unfold diagKh
  refine (over_w _ h _ _ _).trans ?_
  rw [lb_l q, lb_w k, lb_l g, lb_w v, lx_w, rB_apply]; simp only [dB_apply]
  refine congrArg₂ (· + ·) ?_ (sum_congr rfl fun i _ => ?_)
  · show (uR h).overlay X _ (ix2 j (hx h l)) = _
    rcases row_cases j with ⟨j', rfl⟩ | hj
    · refine (over_u _ h _ _ _).trans ?_
      rw [lb_u q, lb_u k, lb_u g, lb_u v, lx_u X, rA_apply]; simp only [dA_apply]; rfl
    · refine (over_u_lo _ h _ _ hj _).trans ?_
      rw [sum_eq_zero fun i _ => ?_, add_zero]
      have : ¬ j.val ≤ (up i).val := by have := i.isLt; show ¬ j.val ≤ i.val; omega
      simp only [dD, if_neg this, zero_mul]
  · have : (lo i).val = i.val + 256 := by show 256 + i.val = _; omega
    simp only [dD, this]; rfl

theorem diagVh_ne (h h' : Fin 4) (q k g : FVec Ideal S512x512 .bf16) (X : FVec Ideal S512x512 .f32) (j : Fin 512) (l : Fin 128) (hn : h' ≠ h) :
    diagVh h q k g X (ix2 j (hx h' l)) = X (ix2 j (hx h' l)) := by
  unfold diagVh; exact (over_w_ne _ h h' hn _ _ _).trans (over_u_ne _ h h' hn _ _ _)
theorem diagKh_ne (h h' : Fin 4) (q k v g : FVec Ideal S512x512 .bf16) (X : FVec Ideal S512x512 .f32) (j : Fin 512) (l : Fin 128) (hn : h' ≠ h) :
    diagKh h q k v g X (ix2 j (hx h' l)) = X (ix2 j (hx h' l)) := by
  unfold diagKh; exact (over_w_ne _ h h' hn _ _ _).trans (over_u_ne _ h h' hn _ _ _)

/-- An accumulator set to zero. -/
theorem zeroV_apply (y : S512x512.Idx) : (View.canon (Val := Elt Ideal) (e := .f32) [⟨wAll, (k0_pay3 : FVec Ideal S512x512 .f32)⟩]) y = 0 :=
  (congrFun (View.canon_cons_unit_lit (Val := Elt Ideal) (e := .f32) (S := S512x512) inb_S512x512_S512x512_0_0 (k0_pay3 : FVec Ideal S512x512 .f32) [] (by decide)) y).trans
    (by unfold k0_pay3; pointwise)
theorem zeroK_apply (y : S512x512.Idx) : (View.canon (Val := Elt Ideal) (e := .f32) [⟨wAll, (k0_pay2 : FVec Ideal S512x512 .f32)⟩]) y = 0 :=
  (congrFun (View.canon_cons_unit_lit (Val := Elt Ideal) (e := .f32) (S := S512x512) inb_S512x512_S512x512_0_0 (k0_pay2 : FVec Ideal S512x512 .f32) [] (by decide)) y).trans
    (by unfold k0_pay2; pointwise)

theorem diagV_apply (q k v g : FVec Ideal S512x512 .bf16) (h : Fin 4) (j : Fin 512) (l : Fin 128) :
    diagV q k v g (ix2 j (hx h l)) = ∑ i : Fin 512, eD q k h i j * g (ix2 i (hx h l)) := by
  have e := heads4 (fun h X => diagVh h q k g X) (fun h j l => ∑ i : Fin 512, eD q k h i j * g (ix2 i (hx h l)))
    (fun h h' X i l hn => diagVh_ne h h' q k g X i l hn) (fun h X i l => diagVh_own h q k g X i l)
    (View.canon (Val := Elt Ideal) (e := .f32) [⟨wAll, (k0_pay3 : FVec Ideal S512x512 .f32)⟩]) h j l
  rw [zeroV_apply, zero_add] at e
  exact e
theorem diagK_apply (q k v g : FVec Ideal S512x512 .bf16) (h : Fin 4) (j : Fin 512) (l : Fin 128) :
    diagK q k v g (ix2 j (hx h l)) = ∑ i : Fin 512, dD q k v g h i j * q (ix2 i (hx h l)) := by
  have e := heads4 (fun h X => diagKh h q k v g X) (fun h j l => ∑ i : Fin 512, dD q k v g h i j * q (ix2 i (hx h l)))
    (fun h h' X i l hn => diagKh_ne h h' q k v g X i l hn) (fun h X i l => diagKh_own h q k v g X i l)
    (View.canon (Val := Elt Ideal) (e := .f32) [⟨wAll, (k0_pay2 : FVec Ideal S512x512 .f32)⟩]) h j l
  rw [zeroK_apply, zero_add] at e
  exact e

end Cert.Proof.Fox

end
-- ==== Proof.Queries.lean ====
/-
  One grid point of the attention's backward kernel over the reals: the accumulator of the queries' gradient.
-/
module

public import proofs.«01_k».proof.Proof.Blocks

@[expose] public section

set_option maxRecDepth 16384

noncomputable section

namespace Cert.Proof.Fox

open Cert.KernelIdeal Cert.KernelIdeal.Gen
open Idealize.ShloMosaic Idealize.ShloMosaic.TcCoe
open Finset

/-! ## Rectangles of the query accumulator -/

theorem inb_z (r : ℕ) (hr : r + 512 ≤ 4096) (h : Fin 4) : ∀ a, (![r, 128 * h.val] : Fin 2 → ℕ) a + S512x128.size a ≤ S4096x512.size a := by
  intro a; match a with
  | ⟨0, _⟩ => show r + 512 ≤ 4096; omega
  | ⟨1, _⟩ => show 128 * h.val + 128 ≤ 512; omega
theorem inb_y (r : ℕ) (hr : r + 256 ≤ 4096) (h : Fin 4) : ∀ a, (![r, 128 * h.val] : Fin 2 → ℕ) a + S256x128.size a ≤ S4096x512.size a := by
  intro a; match a with
  | ⟨0, _⟩ => show r + 256 ≤ 4096; omega
  | ⟨1, _⟩ => show 128 * h.val + 128 ≤ 512; omega

/-- A head's lanes of 512 rows, and of 256. -/
abbrev zR (r : ℕ) (hr : r + 512 ≤ 4096) (h : Fin 4) : Rect S4096x512 := Rect.unit (s := S4096x512) ![r, 128 * h.val] S512x128.size (inb_z r hr h)
abbrev yR (r : ℕ) (hr : r + 256 ≤ 4096) (h : Fin 4) : Rect S4096x512 := Rect.unit (s := S4096x512) ![r, 128 * h.val] S256x128.size (inb_y r hr h)

def zr (r : ℕ) (hr : r + 512 ≤ 4096) (i : Fin 512) : Fin 4096 := ⟨r + i.val, by omega⟩
def yr (r : ℕ) (hr : r + 256 ≤ 4096) (i : Fin 256) : Fin 4096 := ⟨r + i.val, by omega⟩

theorem zR_emb (r : ℕ) (hr : r + 512 ≤ 4096) (h : Fin 4) (x : S512x128.Idx) : (zR r hr h).emb x = ix2 (zr r hr (x 0)) (hx h (x 1)) := by
  funext a; apply Fin.ext
  match a with
  | ⟨0, _⟩ => show r + 1 * (x 0).val = r + (x 0).val; omega
  | ⟨1, _⟩ => show 128 * h.val + 1 * (x 1).val = 128 * h.val + (x 1).val; omega
theorem yR_emb (r : ℕ) (hr : r + 256 ≤ 4096) (h : Fin 4) (x : S256x128.Idx) : (yR r hr h).emb x = ix2 (yr r hr (x 0)) (hx h (x 1)) := by
  funext a; apply Fin.ext
  match a with
  | ⟨0, _⟩ => show r + 1 * (x 0).val = r + (x 0).val; omega
  | ⟨1, _⟩ => show 128 * h.val + 1 * (x 1).val = 128 * h.val + (x 1).val; omega

def hdZ (X : FVec Ideal S4096x512 .f32) (r : ℕ) (hr : r + 512 ≤ 4096) (h : Fin 4) : FVec Ideal S512x128 .f32 := fun x => X (ix2 (zr r hr (x 0)) (hx h (x 1)))
def hdY (X : FVec Ideal S4096x512 .f32) (r : ℕ) (hr : r + 256 ≤ 4096) (h : Fin 4) : FVec Ideal S256x128 .f32 := fun x => X (ix2 (yr r hr (x 0)) (hx h (x 1)))

theorem lz_z (X : FVec Ideal S4096x512 .f32) (r : ℕ) (hr : r + 512 ≤ 4096) (h : Fin 4) : lz (F := Ideal) X (zR r hr h) = hdZ X r hr h :=
  funext fun x => congrArg X (zR_emb r hr h x)
theorem lz_y (X : FVec Ideal S4096x512 .f32) (r : ℕ) (hr : r + 256 ≤ 4096) (h : Fin 4) : lz (F := Ideal) X (yR r hr h) = hdY X r hr h :=
  funext fun x => congrArg X (yR_emb r hr h x)

theorem over_z (X : FVec Ideal S4096x512 .f32) (r : ℕ) (hr : r + 512 ≤ 4096) (h : Fin 4) (f : S512x128.Idx → EReal) (i : Fin 512) (l : Fin 128) :
    (zR r hr h).overlay X f (ix2 (zr r hr i) (hx h l)) = f (ix2 i l) :=
  (congrArg ((zR r hr h).overlay X f) (zR_emb r hr h (ix2 i l)).symm).trans (Rect.overlay_emb _ _ _ _)
theorem over_y (X : FVec Ideal S4096x512 .f32) (r : ℕ) (hr : r + 256 ≤ 4096) (h : Fin 4) (f : S256x128.Idx → EReal) (i : Fin 256) (l : Fin 128) :
    (yR r hr h).overlay X f (ix2 (yr r hr i) (hx h l)) = f (ix2 i l) :=
  (congrArg ((yR r hr h).overlay X f) (yR_emb r hr h (ix2 i l)).symm).trans (Rect.overlay_emb _ _ _ _)
theorem over_z_ne (X : FVec Ideal S4096x512 .f32) (r : ℕ) (hr : r + 512 ≤ 4096) (h h' : Fin 4) (f : S512x128.Idx → EReal) (i : Fin 4096) (l : Fin 128)
    (hn : h' ≠ h ∨ ¬ (r ≤ i.val ∧ i.val < r + 512)) : (zR r hr h).overlay X f (ix2 i (hx h' l)) = X (ix2 i (hx h' l)) := by
  refine Rect.overlay_of_not_mem _ _ _ fun hm => ?_
  have h0 : r ≤ i.val ∧ i.val < r + 512 := (Rect.mem_set_unit.mp hm) 0
  have h1 : 128 * h.val ≤ 128 * h'.val + l.val ∧ 128 * h'.val + l.val < 128 * h.val + 128 := (Rect.mem_set_unit.mp hm) 1
  rcases hn with hn | hn
  · exact hn (Fin.ext (by omega))
  · exact hn h0
theorem over_y_ne (X : FVec Ideal S4096x512 .f32) (r : ℕ) (hr : r + 256 ≤ 4096) (h h' : Fin 4) (f : S256x128.Idx → EReal) (i : Fin 4096) (l : Fin 128)
    (hn : h' ≠ h ∨ ¬ (r ≤ i.val ∧ i.val < r + 256)) : (yR r hr h).overlay X f (ix2 i (hx h' l)) = X (ix2 i (hx h' l)) := by
  refine Rect.overlay_of_not_mem _ _ _ fun hm => ?_
  have h0 : r ≤ i.val ∧ i.val < r + 256 := (Rect.mem_set_unit.mp hm) 0
  have h1 : 128 * h.val ≤ 128 * h'.val + l.val ∧ 128 * h'.val + l.val < 128 * h.val + 128 := (Rect.mem_set_unit.mp hm) 1
  rcases hn with hn | hn
  · exact hn (Fin.ext (by omega))
  · exact hn h0

/-! ## Past the diagonal -/

/-- A head's tile added to the queries' accumulator. -/
def fullQh (r : ℕ) (hr : r + 512 ≤ 4096) (q k v g : FVec Ideal S512x512 .bf16) (h : Fin 4) (X : FVec Ideal S4096x512 .f32) : FVec Ideal S4096x512 .f32 :=
  (zR r hr h).overlay X (cF (dF (lb (F := Ideal) q (wR h)) (lb (F := Ideal) k (wR h)) (lb (F := Ideal) g (wR h)) (lb (F := Ideal) v (wR h))) (lb (F := Ideal) k (wR h)) (lz (F := Ideal) X (zR r hr h)))

/-- The share of a row: of the point's own rows, the keys weighed by the scores' gradients. -/
def shareF (r : ℕ) (q k v g : FVec Ideal S512x512 .bf16) (h : Fin 4) (i : Fin 4096) (l : Fin 128) : EReal :=
  if hi : r ≤ i.val ∧ i.val < r + 512 then
    ∑ j : Fin 512, Ideal.exp (sB4 q k h ⟨i.val - r, by omega⟩ j) * sB4 g v h ⟨i.val - r, by omega⟩ j * k (ix2 j (hx h l))
  else 0
def shareD (r : ℕ) (q k v g : FVec Ideal S512x512 .bf16) (h : Fin 4) (i : Fin 4096) (l : Fin 128) : EReal :=
  if hi : r ≤ i.val ∧ i.val < r + 512 then
    ∑ j : Fin 512, dD q k v g h ⟨i.val - r, by omega⟩ j * k (ix2 j (hx h l))
  else 0

theorem fullQh_ne (r : ℕ) (hr : r + 512 ≤ 4096) (q k v g : FVec Ideal S512x512 .bf16) (h h' : Fin 4) (X : FVec Ideal S4096x512 .f32) (i : Fin 4096) (l : Fin 128)
    (hn : h' ≠ h) : fullQh r hr q k v g h X (ix2 i (hx h' l)) = X (ix2 i (hx h' l)) := by
  unfold fullQh; exact over_z_ne _ r hr h h' _ _ _ (Or.inl hn)

theorem fullQh_own (r : ℕ) (hr : r + 512 ≤ 4096) (q k v g : FVec Ideal S512x512 .bf16) (h : Fin 4) (X : FVec Ideal S4096x512 .f32) (i : Fin 4096) (l : Fin 128) :
    fullQh r hr q k v g h X (ix2 i (hx h l)) = X (ix2 i (hx h l)) + shareF r q k v g h i l := by
  unfold fullQh shareF
  split
  · next hi =>
    obtain ⟨i', rfl⟩ : ∃ i' : Fin 512, i = zr r hr i' := ⟨⟨i.val - r, by omega⟩, Fin.ext (by show i.val = r + (i.val - r); omega)⟩
    refine (over_z _ r hr h _ _ _).trans ?_
    have hs : (⟨(zr r hr i').val - r, by have := i'.isLt; show r + i'.val - r < 512; omega⟩ : Fin 512) = i' := Fin.ext (by show r + i'.val - r = i'.val; omega)
    rw [lb_w q, lb_w k, lb_w g, lb_w v, lz_z X, cF_apply]; simp only [dF_apply, hs]; rfl
  · next hi => rw [add_zero]; exact over_z_ne _ r hr h h _ _ _ (Or.inr hi)

theorem z_head (off : Fin 2 → ℕ) (inb : ∀ a, off a + S512x128.size a ≤ S4096x512.size a) (r : ℕ) (hr : r + 512 ≤ 4096) (h : Fin 4) (ho : off = ![r, 128 * h.val])
    (D : FVec Ideal S512x512 .bf16) (B : FVec Ideal S512x128 .bf16) (X : FVec Ideal S4096x512 .f32) :
    (Rect.unit (s := S4096x512) off S512x128.size inb).overlay X (cF D B (lz (F := Ideal) X (Rect.unit (s := S4096x512) off S512x128.size inb)))
      = (zR r hr h).overlay X (cF D B (lz (F := Ideal) X (zR r hr h))) := by
  subst ho; rfl

/-! ## On the diagonal -/

def diagQh (r : ℕ) (hr : r + 512 ≤ 4096) (q k v g : FVec Ideal S512x512 .bf16) (h : Fin 4) (X : FVec Ideal S4096x512 .f32) : FVec Ideal S4096x512 .f32 :=
  have Y : FVec Ideal S4096x512 .f32 := (yR r (by omega) h).overlay X (cA (dA (lb (F := Ideal) q (uR h)) (lb (F := Ideal) k (uR h)) (lb (F := Ideal) g (uR h)) (lb (F := Ideal) v (uR h))) (lb (F := Ideal) k (uR h)) (lz (F := Ideal) X (yR r (by omega) h)))
  (yR (r + 256) (by omega) h).overlay Y (cB (dB (lb (F := Ideal) q (lR h)) (lb (F := Ideal) k (wR h)) (lb (F := Ideal) g (lR h)) (lb (F := Ideal) v (wR h))) (lb (F := Ideal) k (wR h)) (lz (F := Ideal) Y (yR (r + 256) (by omega) h)))

theorem diagQh_ne (r : ℕ) (hr : r + 512 ≤ 4096) (q k v g : FVec Ideal S512x512 .bf16) (h h' : Fin 4) (X : FVec Ideal S4096x512 .f32) (i : Fin 4096) (l : Fin 128)
    (hn : h' ≠ h) : diagQh r hr q k v g h X (ix2 i (hx h' l)) = X (ix2 i (hx h' l)) := by
  unfold diagQh; exact (over_y_ne _ _ _ h h' _ _ _ (Or.inl hn)).trans (over_y_ne _ _ _ h h' _ _ _ (Or.inl hn))

theorem diagQh_own (r : ℕ) (hr : r + 512 ≤ 4096) (q k v g : FVec Ideal S512x512 .bf16) (h : Fin 4) (X : FVec Ideal S4096x512 .f32) (i : Fin 4096) (l : Fin 128) :
    diagQh r hr q k v g h X (ix2 i (hx h l)) = X (ix2 i (hx h l)) + shareD r q k v g h i l := by
  have ha : r + 256 ≤ 4096 := by omega
  unfold diagQh shareD
  split
  · next hi =>
    by_cases hl : i.val < r + 256
    · obtain ⟨i', rfl⟩ : ∃ i' : Fin 256, i = yr r ha i' := ⟨⟨i.val - r, by omega⟩, Fin.ext (by show i.val = r + (i.val - r); omega)⟩
      have hs : (⟨(yr r ha i').val - r, by have := i'.isLt; show r + i'.val - r < 512; omega⟩ : Fin 512) = up i' := Fin.ext (by show r + i'.val - r = i'.val; omega)
      refine (over_y_ne _ _ _ h h _ _ _ (Or.inr (by omega))).trans ?_
      refine (over_y _ r _ h _ _ _).trans ?_
      rw [lb_u q, lb_u k, lb_u g, lb_u v, lz_y X, cA_apply]; simp only [dA_apply, hs]
      rw [sum_halves]
      have hz : ∑ j : Fin 256, dD q k v g h (up i') (lo j) * k (ix2 (lo j) (hx h l)) = 0 := sum_eq_zero fun j _ => by
        have : ¬ (lo j).val ≤ (up i').val := by have := i'.isLt; show ¬ 256 + j.val ≤ i'.val; omega
        simp only [dD, if_neg this, zero_mul]
      rw [hz, add_zero]; rfl
    · obtain ⟨i', rfl⟩ : ∃ i' : Fin 256, i = yr (r + 256) hr i' := ⟨⟨i.val - (r + 256), by omega⟩, Fin.ext (by show i.val = r + 256 + (i.val - (r + 256)); omega)⟩
      have hs : (⟨(yr (r + 256) hr i').val - r, by have := i'.isLt; show r + 256 + i'.val - r < 512; omega⟩ : Fin 512) = lo i' := Fin.ext (by show r + 256 + i'.val - r = 256 + i'.val; omega)
      refine (over_y _ (r + 256) _ h _ _ _).trans ?_
      rw [lb_l q, lb_w k, lb_l g, lb_w v, lz_y, cB_apply]; simp only [dB_apply, hs]
      refine congrArg₂ (· + ·) ?_ (sum_congr rfl fun j _ => ?_)
      · exact over_y_ne _ r _ h h _ (yr (r + 256) hr i') l (Or.inr (by have : (yr (r + 256) hr i').val = r + 256 + i'.val := rfl; omega))
      · have : (lo i').val = i'.val + 256 := by show 256 + i'.val = _; omega
        simp only [dD, this]; rfl
  · next hi =>
    rw [add_zero]
    exact (over_y_ne _ _ _ h h _ _ _ (Or.inr (by omega))).trans (over_y_ne _ _ _ h h _ _ _ (Or.inr (by omega)))

theorem y_head (off off' : Fin 2 → ℕ) (inb : ∀ a, off a + S256x128.size a ≤ S4096x512.size a) (inb' : ∀ a, off' a + S256x128.size a ≤ S4096x512.size a)
    (r : ℕ) (hr : r + 512 ≤ 4096) (h : Fin 4) (ho : off = ![r, 128 * h.val]) (ho' : off' = ![r + 256, 128 * h.val])
    (D : FVec Ideal S256x256 .bf16) (B : FVec Ideal S256x128 .bf16) (D' : FVec Ideal S256x512 .bf16) (B' : FVec Ideal S512x128 .bf16) (X : FVec Ideal S4096x512 .f32) :
    (have Y := (Rect.unit (s := S4096x512) off S256x128.size inb).overlay X (cA D B (lz (F := Ideal) X (Rect.unit (s := S4096x512) off S256x128.size inb)))
     (Rect.unit (s := S4096x512) off' S256x128.size inb').overlay Y (cB D' B' (lz (F := Ideal) Y (Rect.unit (s := S4096x512) off' S256x128.size inb'))))
      = (have Y := (yR r (by omega) h).overlay X (cA D B (lz (F := Ideal) X (yR r (by omega) h)))
         (yR (r + 256) (by omega) h).overlay Y (cB D' B' (lz (F := Ideal) Y (yR (r + 256) (by omega) h)))) := by
  subst ho; subst ho'; rfl

/-! ## At a grid point -/

theorem off_z (i : grid0.Coords) : k0_off2 (qw i) = ![512 * (qw i).toNat, 0] ∧ k0_off3 (qw i) = ![512 * (qw i).toNat, 128]
    ∧ k0_off4 (qw i) = ![512 * (qw i).toNat, 256] ∧ k0_off5 (qw i) = ![512 * (qw i).toNat, 384] := by revert i; decide +kernel
theorem off_u (i : grid0.Coords) : k0_off6 (qw i) 0#32 = ![512 * (qw i).toNat, 0] ∧ k0_off7 (qw i) 0#32 = ![512 * (qw i).toNat, 128]
    ∧ k0_off8 (qw i) 0#32 = ![512 * (qw i).toNat, 256] ∧ k0_off9 (qw i) 0#32 = ![512 * (qw i).toNat, 384] := by revert i; decide +kernel
theorem off_l (i : grid0.Coords) : k0_off6 (qw i) 256#32 = ![512 * (qw i).toNat + 256, 0] ∧ k0_off7 (qw i) 256#32 = ![512 * (qw i).toNat + 256, 128]
    ∧ k0_off8 (qw i) 256#32 = ![512 * (qw i).toNat + 256, 256] ∧ k0_off9 (qw i) 256#32 = ![512 * (qw i).toNat + 256, 384] := by revert i; decide +kernel

theorem row_ok (i : grid0.Coords) : 512 * (qw i).toNat + 512 ≤ 4096 := by have := qw_lt i; omega

theorem fullQ_eq (i : grid0.Coords) (hk : k0_chk1 (qw i) (kw i)) (hc : k0_cond3 (qw i) (kw i) = 1#1) (q k v g : FVec Ideal S512x512 .bf16) (X : FVec Ideal S4096x512 .f32) :
    fullQ (qw i) (kw i) hk hc q k v g X = fullQh (512 * (qw i).toNat) (row_ok i) q k v g 3 (fullQh (512 * (qw i).toNat) (row_ok i) q k v g 2
      (fullQh (512 * (qw i).toNat) (row_ok i) q k v g 1 (fullQh (512 * (qw i).toNat) (row_ok i) q k v g 0 X))) := by
  have h0 (X) : fullQ0 (F := Ideal) (qw i) (kw i) hk hc q k v g X = fullQh (512 * (qw i).toNat) (row_ok i) q k v g 0 X := z_head _ _ _ (row_ok i) 0 (off_z i).1 _ _ X
  have h1 (X) : fullQ1 (F := Ideal) (qw i) (kw i) hk hc q k v g X = fullQh (512 * (qw i).toNat) (row_ok i) q k v g 1 X := z_head _ _ _ (row_ok i) 1 (off_z i).2.1 _ _ X
  have h2 (X) : fullQ2 (F := Ideal) (qw i) (kw i) hk hc q k v g X = fullQh (512 * (qw i).toNat) (row_ok i) q k v g 2 X := z_head _ _ _ (row_ok i) 2 (off_z i).2.2.1 _ _ X
  have h3 (X) : fullQ3 (F := Ideal) (qw i) (kw i) hk hc q k v g X = fullQh (512 * (qw i).toNat) (row_ok i) q k v g 3 X := z_head _ _ _ (row_ok i) 3 (off_z i).2.2.2 _ _ X
  unfold fullQ; rw [h0, h1, h2, h3]

theorem diagQ_eq (i : grid0.Coords) (hk : k0_chk1 (qw i) (kw i)) (hc : k0_cond4 (qw i) (kw i) = 1#1) (q k v g : FVec Ideal S512x512 .bf16) (X : FVec Ideal S4096x512 .f32) :
    diagQ (qw i) (kw i) hk hc q k v g X = diagQh (512 * (qw i).toNat) (row_ok i) q k v g 3 (diagQh (512 * (qw i).toNat) (row_ok i) q k v g 2
      (diagQh (512 * (qw i).toNat) (row_ok i) q k v g 1 (diagQh (512 * (qw i).toNat) (row_ok i) q k v g 0 X))) := by
  have h0 (X) : diagQ0 (F := Ideal) (qw i) (kw i) hk hc q k v g X = diagQh (512 * (qw i).toNat) (row_ok i) q k v g 0 X := y_head _ _ _ _ _ (row_ok i) 0 (off_u i).1 (off_l i).1 _ _ _ _ X
  have h1 (X) : diagQ1 (F := Ideal) (qw i) (kw i) hk hc q k v g X = diagQh (512 * (qw i).toNat) (row_ok i) q k v g 1 X := y_head _ _ _ _ _ (row_ok i) 1 (off_u i).2.1 (off_l i).2.1 _ _ _ _ X
  have h2 (X) : diagQ2 (F := Ideal) (qw i) (kw i) hk hc q k v g X = diagQh (512 * (qw i).toNat) (row_ok i) q k v g 2 X := y_head _ _ _ _ _ (row_ok i) 2 (off_u i).2.2.1 (off_l i).2.2.1 _ _ _ _ X
  have h3 (X) : diagQ3 (F := Ideal) (qw i) (kw i) hk hc q k v g X = diagQh (512 * (qw i).toNat) (row_ok i) q k v g 3 X := y_head _ _ _ _ _ (row_ok i) 3 (off_u i).2.2.2 (off_l i).2.2.2 _ _ _ _ X
  unfold diagQ; rw [h0, h1, h2, h3]

/-- What a point past the diagonal adds to the queries' accumulator, -/
theorem fullQ_apply (i : grid0.Coords) (hk : k0_chk1 (qw i) (kw i)) (hc : k0_cond3 (qw i) (kw i) = 1#1) (q k v g : FVec Ideal S512x512 .bf16) (X : FVec Ideal S4096x512 .f32)
    (h : Fin 4) (y : Fin 4096) (l : Fin 128) :
    fullQ (qw i) (kw i) hk hc q k v g X (ix2 y (hx h l)) = X (ix2 y (hx h l)) + shareF (512 * (qw i).toNat) q k v g h y l := by
  rw [fullQ_eq]
  exact heads4 (fun h X => fullQh (512 * (qw i).toNat) (row_ok i) q k v g h X) (shareF (512 * (qw i).toNat) q k v g)
    (fun h h' X i' l hn => fullQh_ne _ _ q k v g h h' X i' l hn) (fun h X i' l => fullQh_own _ _ q k v g h X i' l) X h y l
/-- and a point on it. -/
theorem diagQ_apply (i : grid0.Coords) (hk : k0_chk1 (qw i) (kw i)) (hc : k0_cond4 (qw i) (kw i) = 1#1) (q k v g : FVec Ideal S512x512 .bf16) (X : FVec Ideal S4096x512 .f32)
    (h : Fin 4) (y : Fin 4096) (l : Fin 128) :
    diagQ (qw i) (kw i) hk hc q k v g X (ix2 y (hx h l)) = X (ix2 y (hx h l)) + shareD (512 * (qw i).toNat) q k v g h y l := by
  rw [diagQ_eq]
  exact heads4 (fun h X => diagQh (512 * (qw i).toNat) (row_ok i) q k v g h X) (shareD (512 * (qw i).toNat) q k v g)
    (fun h h' X i' l hn => diagQh_ne _ _ q k v g h h' X i' l hn) (fun h X i' l => diagQh_own _ _ q k v g h X i' l) X h y l

/-- The queries' accumulator starts at zero. -/
theorem zeroQ_apply (y : S4096x512.Idx) : (zeroQ : FVec Ideal S4096x512 .f32) y = 0 :=
  (congrFun (View.canon_cons_unit_lit (Val := Elt Ideal) (e := .f32) (S := S4096x512) inb_S4096x512_S4096x512_0_0 (k0_pay1 : FVec Ideal S4096x512 .f32) [] (by decide)) y).trans
    (by unfold k0_pay1; pointwise)

end Cert.Proof.Fox

end
-- ==== Proof.Slots.lean ====
/-
  The attention's backward kernel over the reals: what its accumulators hold after each grid point, as sums over rows of the
  arrays it is called on.
-/
module

public import proofs.«01_k».proof.Proof.Queries

@[expose] public section

set_option maxRecDepth 16384

noncomputable section

namespace Cert.Proof.Fox

open Cert.KernelIdeal Cert.KernelIdeal.Gen
open Idealize.ShloMosaic Idealize.ShloMosaic.TcCoe
open Finset

/-! ## The call's arrays at natural coordinates -/

/-- An element of one of the call's arrays. -/
def at2 {φ : FTy} (X : FVec Ideal S4096x1024 φ) (i x : ℕ) : EReal := X (ix2 (Fin.ofNat 4096 i) (Fin.ofNat 1024 x))

/-- The score of row `i` of `X` against row `j` of `Y` over the lanes of head `H`. -/
def sc (X Y : FVec Ideal S4096x1024 .bf16) (H i j : ℕ) : EReal := ∑ l ∈ range 128, at2 X i (128 * H + l) * at2 Y j (128 * H + l)
/-- The weight of key `j` for query `i`, -/
def wt (Q K : FVec Ideal S4096x1024 .bf16) (H i j : ℕ) : EReal := if j ≤ i then Ideal.exp (sc Q K H i j) else 0
/-- and the gradient of their score. -/
def dw (Q K V G : FVec Ideal S4096x1024 .bf16) (H i j : ℕ) : EReal := if j ≤ i then Ideal.exp (sc Q K H i j) * sc G V H i j else 0

/-- The gradients' sums: of the values and of the keys over the queries before `n`, of the queries over the keys before `n`. -/
def sumV (Q K V G : FVec Ideal S4096x1024 .bf16) (n H l j : ℕ) : EReal := ∑ i ∈ range n, wt Q K H i j * at2 G i (128 * H + l)
def sumK (Q K V G : FVec Ideal S4096x1024 .bf16) (n H l j : ℕ) : EReal := ∑ i ∈ range n, dw Q K V G H i j * at2 Q i (128 * H + l)
def sumQ (Q K V G : FVec Ideal S4096x1024 .bf16) (n H l i : ℕ) : EReal := ∑ j ∈ range n, dw Q K V G H i j * at2 K j (128 * H + l)

section Data

variable (W : Dev nD → Valuation τ sig (Elt Ideal)) (c : Dev nD)

/-- The arrays the call reads. -/
def aQ : FVec Ideal S4096x1024 .bf16 := W c (Proc.devRef .tc (Pipeline.arrRef spec0 0))
def aK : FVec Ideal S4096x1024 .bf16 := W c (Proc.devRef .tc (Pipeline.arrRef spec0 1))
def aV : FVec Ideal S4096x1024 .bf16 := W c (Proc.devRef .tc (Pipeline.arrRef spec0 2))
def aG : FVec Ideal S4096x1024 .bf16 := W c (Proc.devRef .tc (Pipeline.arrRef spec0 3))

/-- A point's half of the lanes, query block and key block. -/
def pp (t : Fin grid0.N) : ℕ := (grid0.coords t 0).val
def qb (t : Fin grid0.N) : ℕ := (qw (grid0.coords t)).toNat
def kb (t : Fin grid0.N) : ℕ := (kw (grid0.coords t)).toNat

theorem at2_of {φ : FTy} (X : FVec Ideal S4096x1024 φ) (y : S4096x1024.Idx) (i x : ℕ) (h0 : (y 0).val = i) (h1 : (y 1).val = x) : X y = at2 X i x := by
  unfold at2
  refine congrArg X (funext fun a => Fin.ext ?_)
  match a with
  | ⟨0, _⟩ => show (y 0).val = i % 4096; rw [← h0]; exact (Nat.mod_eq_of_lt (ValueIdx.idx2_lt0 y)).symm
  | ⟨1, _⟩ => show (y 1).val = x % 1024; rw [← h1]; exact (Nat.mod_eq_of_lt (ValueIdx.idx2_lt1 y)).symm

theorem index_q (t : Fin (cfg (F := Ideal)).N) : ((cfg (F := Ideal)).win 0).index t = ![(qw (grid0.coords t)).toNat, (grid0.coords t 0).val] := ix_q _
theorem index_k (t : Fin (cfg (F := Ideal)).N) : ((cfg (F := Ideal)).win 1).index t = ![(kw (grid0.coords t)).toNat, (grid0.coords t 0).val] := ix_k _
theorem index_v (t : Fin (cfg (F := Ideal)).N) : ((cfg (F := Ideal)).win 2).index t = ![(kw (grid0.coords t)).toNat, (grid0.coords t 0).val] := ix_v _
theorem index_g (t : Fin (cfg (F := Ideal)).N) : ((cfg (F := Ideal)).win 3).index t = ![(qw (grid0.coords t)).toNat, (grid0.coords t 0).val] := ix_g _

theorem bq_apply (t : Fin grid0.N) (h : Fin 4) (i : Fin 512) (l : Fin 128) :
    bq W c t (ix2 i (hx h l)) = at2 (aQ W c) (512 * qb t + i.val) (128 * (4 * pp t + h.val) + l.val) := by
  refine at2_of (aQ W c) ((((cfg (F := Ideal)).win 0).blk t).view.emb (ix2 i (hx h l))) _ _ ?_ ?_
  · show ((cfg (F := Ideal)).win 0).index t 0 * 512 + 1 * i.val = _
    rw [index_q]; show qb t * 512 + 1 * i.val = _; omega
  · show ((cfg (F := Ideal)).win 0).index t 1 * 512 + 1 * (128 * h.val + l.val) = _
    rw [index_q]; show pp t * 512 + 1 * (128 * h.val + l.val) = _; omega
theorem bk_apply (t : Fin grid0.N) (h : Fin 4) (i : Fin 512) (l : Fin 128) :
    bk W c t (ix2 i (hx h l)) = at2 (aK W c) (512 * kb t + i.val) (128 * (4 * pp t + h.val) + l.val) := by
  refine at2_of (aK W c) ((((cfg (F := Ideal)).win 1).blk t).view.emb (ix2 i (hx h l))) _ _ ?_ ?_
  · show ((cfg (F := Ideal)).win 1).index t 0 * 512 + 1 * i.val = _
    rw [index_k]; show kb t * 512 + 1 * i.val = _; omega
  · show ((cfg (F := Ideal)).win 1).index t 1 * 512 + 1 * (128 * h.val + l.val) = _
    rw [index_k]; show pp t * 512 + 1 * (128 * h.val + l.val) = _; omega
theorem bv_apply (t : Fin grid0.N) (h : Fin 4) (i : Fin 512) (l : Fin 128) :
    bv W c t (ix2 i (hx h l)) = at2 (aV W c) (512 * kb t + i.val) (128 * (4 * pp t + h.val) + l.val) := by
  refine at2_of (aV W c) ((((cfg (F := Ideal)).win 2).blk t).view.emb (ix2 i (hx h l))) _ _ ?_ ?_
  · show ((cfg (F := Ideal)).win 2).index t 0 * 512 + 1 * i.val = _
    rw [index_v]; show kb t * 512 + 1 * i.val = _; omega
  · show ((cfg (F := Ideal)).win 2).index t 1 * 512 + 1 * (128 * h.val + l.val) = _
    rw [index_v]; show pp t * 512 + 1 * (128 * h.val + l.val) = _; omega
theorem bg_apply (t : Fin grid0.N) (h : Fin 4) (i : Fin 512) (l : Fin 128) :
    bg W c t (ix2 i (hx h l)) = at2 (aG W c) (512 * qb t + i.val) (128 * (4 * pp t + h.val) + l.val) := by
  refine at2_of (aG W c) ((((cfg (F := Ideal)).win 3).blk t).view.emb (ix2 i (hx h l))) _ _ ?_ ?_
  · show ((cfg (F := Ideal)).win 3).index t 0 * 512 + 1 * i.val = _
    rw [index_g]; show qb t * 512 + 1 * i.val = _; omega
  · show ((cfg (F := Ideal)).win 3).index t 1 * 512 + 1 * (128 * h.val + l.val) = _
    rw [index_g]; show pp t * 512 + 1 * (128 * h.val + l.val) = _; omega

/-- The scores within the point's blocks are those of the arrays. -/
theorem sc_qk (t : Fin grid0.N) (h : Fin 4) (i j : Fin 512) :
    sB4 (bq W c t) (bk W c t) h i j = sc (aQ W c) (aK W c) (4 * pp t + h.val) (512 * qb t + i.val) (512 * kb t + j.val) := by
  unfold sc; rw [sum_range]; exact sum_congr rfl fun l _ => by rw [bq_apply, bk_apply]
theorem sc_gv (t : Fin grid0.N) (h : Fin 4) (i j : Fin 512) :
    sB4 (bg W c t) (bv W c t) h i j = sc (aG W c) (aV W c) (4 * pp t + h.val) (512 * qb t + i.val) (512 * kb t + j.val) := by
  unfold sc; rw [sum_range]; exact sum_congr rfl fun l _ => by rw [bg_apply, bv_apply]

/-- Past the diagonal every query of the block comes after every key. -/
theorem wt_full (t : Fin grid0.N) (hb : kb t < qb t) (h : Fin 4) (i j : Fin 512) :
    Ideal.exp (sB4 (bq W c t) (bk W c t) h i j) = wt (aQ W c) (aK W c) (4 * pp t + h.val) (512 * qb t + i.val) (512 * kb t + j.val) := by
  unfold wt; rw [if_pos (by omega), sc_qk]
theorem dw_full (t : Fin grid0.N) (hb : kb t < qb t) (h : Fin 4) (i j : Fin 512) :
    Ideal.exp (sB4 (bq W c t) (bk W c t) h i j) * sB4 (bg W c t) (bv W c t) h i j
      = dw (aQ W c) (aK W c) (aV W c) (aG W c) (4 * pp t + h.val) (512 * qb t + i.val) (512 * kb t + j.val) := by
  unfold dw; rw [if_pos (by omega), sc_qk, sc_gv]
theorem wt_diag (t : Fin grid0.N) (hb : qb t = kb t) (h : Fin 4) (i j : Fin 512) :
    eD (bq W c t) (bk W c t) h i j = wt (aQ W c) (aK W c) (4 * pp t + h.val) (512 * qb t + i.val) (512 * kb t + j.val) := by
  unfold wt eD; rw [sc_qk]
  by_cases hj : j.val ≤ i.val
  · rw [if_pos hj, if_pos (by omega)]
  · rw [if_neg hj, if_neg (by omega)]
theorem dw_diag (t : Fin grid0.N) (hb : qb t = kb t) (h : Fin 4) (i j : Fin 512) :
    dD (bq W c t) (bk W c t) (bv W c t) (bg W c t) h i j
      = dw (aQ W c) (aK W c) (aV W c) (aG W c) (4 * pp t + h.val) (512 * qb t + i.val) (512 * kb t + j.val) := by
  unfold dw dD; rw [sc_qk, sc_gv]
  by_cases hj : j.val ≤ i.val
  · rw [if_pos hj, if_pos (by omega)]
  · rw [if_neg hj, if_neg (by omega)]

/-! ## The order of the points -/

theorem on_diag : ∀ t : Fin grid0.N, ¬ k0_cond3 (qw (grid0.coords t)) (kw (grid0.coords t)) = 1#1 →
    k0_cond4 (qw (grid0.coords t)) (kw (grid0.coords t)) = 1#1 ∧ qb t = kb t := by decide +kernel
theorem past_diag : ∀ t : Fin grid0.N, k0_cond3 (qw (grid0.coords t)) (kw (grid0.coords t)) = 1#1 →
    kb t < qb t ∧ ¬ k0_cond1 (grid0.coords t) = 1#1 := by decide +kernel
theorem at_first : ∀ t : Fin grid0.N, k0_cond1 (grid0.coords t) = 1#1 →
    ¬ k0_cond3 (qw (grid0.coords t)) (kw (grid0.coords t)) = 1#1 ∧ qb t = 0 ∧ kb t = 0 := by decide +kernel
theorem pred_full : ∀ t : Fin grid0.N, k0_cond3 (qw (grid0.coords t)) (kw (grid0.coords t)) = 1#1 →
    t.val ≠ 0 ∧ pp t = pp ⟨t.val - 1, Nat.lt_of_le_of_lt (Nat.sub_le _ _) t.isLt⟩ ∧ kb t = kb ⟨t.val - 1, Nat.lt_of_le_of_lt (Nat.sub_le _ _) t.isLt⟩
      ∧ qb t = qb ⟨t.val - 1, Nat.lt_of_le_of_lt (Nat.sub_le _ _) t.isLt⟩ + 1 := by decide +kernel
theorem pred_diag : ∀ t : Fin grid0.N, ¬ k0_cond1 (grid0.coords t) = 1#1 → ¬ k0_cond3 (qw (grid0.coords t)) (kw (grid0.coords t)) = 1#1 →
    t.val ≠ 0 ∧ pp t = pp ⟨t.val - 1, Nat.lt_of_le_of_lt (Nat.sub_le _ _) t.isLt⟩ ∧ kb t = kb ⟨t.val - 1, Nat.lt_of_le_of_lt (Nat.sub_le _ _) t.isLt⟩ + 1
      ∧ qb ⟨t.val - 1, Nat.lt_of_le_of_lt (Nat.sub_le _ _) t.isLt⟩ = 7 := by decide +kernel

/-! ## After each point -/

/-- How many keys a query's sum has taken after a point. -/
def bound (t : Fin grid0.N) (i : ℕ) : ℕ := 512 * (kb t + if i < 512 * (qb t + 1) then 1 else 0)

/-- What the three accumulators hold after a point. -/
structure Inv (t : Fin grid0.N) (A : Acc Ideal) : Prop where
  dv : ∀ (h : Fin 4) (j : Fin 512) (l : Fin 128), (A.dv : FVec Ideal S512x512 .f32) (ix2 j (hx h l))
    = sumV (aQ W c) (aK W c) (aV W c) (aG W c) (512 * (qb t + 1)) (4 * pp t + h.val) l.val (512 * kb t + j.val)
  dk : ∀ (h : Fin 4) (j : Fin 512) (l : Fin 128), (A.dk : FVec Ideal S512x512 .f32) (ix2 j (hx h l))
    = sumK (aQ W c) (aK W c) (aV W c) (aG W c) (512 * (qb t + 1)) (4 * pp t + h.val) l.val (512 * kb t + j.val)
  dq : ∀ (h : Fin 4) (i : Fin 4096) (l : Fin 128), (A.dq : FVec Ideal S4096x512 .f32) (ix2 i (hx h l))
    = sumQ (aQ W c) (aK W c) (aV W c) (aG W c) (bound t i.val) (4 * pp t + h.val) l.val i.val

theorem diag_zero_wt (Q K : FVec Ideal S4096x1024 .bf16) (H n j : ℕ) (hn : n ≤ j) (f : ℕ → EReal) : ∑ i ∈ range n, wt Q K H i j * f i = 0 :=
  sum_eq_zero fun i hi => by rw [mem_range] at hi; unfold wt; rw [if_neg (by omega), zero_mul]
theorem diag_zero_dw (Q K V G : FVec Ideal S4096x1024 .bf16) (H n j : ℕ) (hn : n ≤ j) (f : ℕ → EReal) : ∑ i ∈ range n, dw Q K V G H i j * f i = 0 :=
  sum_eq_zero fun i hi => by rw [mem_range] at hi; unfold dw; rw [if_neg (by omega), zero_mul]

theorem inv_full (t s : Fin grid0.N) (hc : k0_cond3 (qw (grid0.coords t)) (kw (grid0.coords t)) = 1#1)
    (hp : pp t = pp s) (hk : kb t = kb s) (hq : qb t = qb s + 1) (A : Acc Ideal) (hA : Inv W c s A) :
    Inv W c t (step (grid0.coords t) (bq W c t) (bk W c t) (bv W c t) (bg W c t) A) := by
  have hb := (past_diag t hc).1
  rw [step_full hc]
  refine ⟨fun h j l => ?_, fun h j l => ?_, fun h i l => ?_⟩
  · refine (fullV_apply _ _ (bv W c t) _ _ h j l).trans ?_
    rw [hA.dv, ← hp, ← hk, ← hq]
    unfold sumV
    rw [show 512 * (qb t + 1) = 512 * qb t + 512 from by omega, sum_range_add]
    refine congrArg _ ?_
    rw [sum_range]; exact sum_congr rfl fun i _ => by rw [wt_full W c t hb, bg_apply]
  · refine (fullK_apply _ _ _ _ _ h j l).trans ?_
    rw [hA.dk, ← hp, ← hk, ← hq]
    unfold sumK
    rw [show 512 * (qb t + 1) = 512 * qb t + 512 from by omega, sum_range_add]
    refine congrArg _ ?_
    rw [sum_range]; exact sum_congr rfl fun i _ => by rw [dw_full W c t hb, bq_apply]
  · refine (fullQ_apply _ _ hc _ _ _ _ _ h i l).trans ?_
    rw [hA.dq, ← hp]
    unfold shareF
    split
    · next hi =>
      change 512 * qb t ≤ i.val ∧ i.val < 512 * qb t + 512 at hi
      have e1 : bound s i.val = 512 * kb t := by unfold bound; rw [if_neg (by omega), hk]; omega
      have e2 : bound t i.val = 512 * kb t + 512 := by unfold bound; rw [if_pos (by omega)]; omega
      rw [e1, e2]; unfold sumQ
      rw [sum_range_add]
      refine congrArg _ ?_
      rw [sum_range]; refine sum_congr rfl fun j _ => ?_
      rw [dw_full W c t hb, bk_apply]
      have : 512 * qb t + (i.val - 512 * (qw (grid0.coords t)).toNat) = i.val := by show 512 * qb t + (i.val - 512 * qb t) = _; omega
      simp only [this]
    · next hi =>
      change ¬ (512 * qb t ≤ i.val ∧ i.val < 512 * qb t + 512) at hi
      have e1 : bound s i.val = bound t i.val := by
        unfold bound; rw [hk]; congr 2
        by_cases h1 : i.val < 512 * (qb s + 1)
        · rw [if_pos h1, if_pos (by omega)]
        · rw [if_neg h1, if_neg (by omega)]
      rw [e1, add_zero]

theorem inv_diag (t : Fin grid0.N) (hc : ¬ k0_cond3 (qw (grid0.coords t)) (kw (grid0.coords t)) = 1#1) (A : Acc Ideal) (X : FVec Ideal S4096x512 .f32)
    (hX : ∀ (h : Fin 4) (i : Fin 4096) (l : Fin 128), X (ix2 i (hx h l)) = sumQ (aQ W c) (aK W c) (aV W c) (aG W c) (512 * kb t) (4 * pp t + h.val) l.val i.val)
    (hs : step (grid0.coords t) (bq W c t) (bk W c t) (bv W c t) (bg W c t) A
      = ⟨diagQ (qw (grid0.coords t)) (kw (grid0.coords t)) (cases_at (grid0.coords t)).1 (on_diag t hc).1 (bq W c t) (bk W c t) (bv W c t) (bg W c t) X,
          diagK (bq W c t) (bk W c t) (bv W c t) (bg W c t), diagV (bq W c t) (bk W c t) (bv W c t) (bg W c t)⟩) :
    Inv W c t (step (grid0.coords t) (bq W c t) (bk W c t) (bv W c t) (bg W c t) A) := by
  have hb := (on_diag t hc).2
  rw [hs]
  refine ⟨fun h j l => ?_, fun h j l => ?_, fun h i l => ?_⟩
  · refine (diagV_apply _ _ (bv W c t) _ h j l).trans ?_
    unfold sumV
    rw [show 512 * (qb t + 1) = 512 * qb t + 512 from by omega, sum_range_add, diag_zero_wt _ _ _ _ _ (by omega), zero_add]
    rw [sum_range]; exact sum_congr rfl fun i _ => by rw [wt_diag W c t hb, bg_apply]
  · refine (diagK_apply _ _ _ _ h j l).trans ?_
    unfold sumK
    rw [show 512 * (qb t + 1) = 512 * qb t + 512 from by omega, sum_range_add, diag_zero_dw _ _ _ _ _ _ _ (by omega), zero_add]
    rw [sum_range]; exact sum_congr rfl fun i _ => by rw [dw_diag W c t hb, bq_apply]
  · refine (diagQ_apply _ _ (on_diag t hc).1 _ _ _ _ _ h i l).trans ?_
    rw [hX]
    unfold shareD
    split
    · next hi =>
      change 512 * qb t ≤ i.val ∧ i.val < 512 * qb t + 512 at hi
      have e2 : bound t i.val = 512 * kb t + 512 := by unfold bound; rw [if_pos (by omega)]; omega
      rw [e2]; unfold sumQ
      rw [sum_range_add]
      refine congrArg _ ?_
      rw [sum_range]; refine sum_congr rfl fun j _ => ?_
      rw [dw_diag W c t hb, bk_apply]
      have : 512 * qb t + (i.val - 512 * (qw (grid0.coords t)).toNat) = i.val := by show 512 * qb t + (i.val - 512 * qb t) = _; omega
      simp only [this]
    · next hi =>
      change ¬ (512 * qb t ≤ i.val ∧ i.val < 512 * qb t + 512) at hi
      rw [add_zero]
      by_cases h1 : i.val < 512 * (qb t + 1)
      · have e2 : bound t i.val = 512 * kb t + 512 := by unfold bound; rw [if_pos h1]; omega
        rw [e2]; unfold sumQ
        rw [sum_range_add, sum_eq_zero (s := range 512), add_zero]
        intro j _
        unfold dw; rw [if_neg (by omega), zero_mul]
      · have e2 : bound t i.val = 512 * kb t := by unfold bound; rw [if_neg h1]; omega
        rw [e2]

/-- A first point of a half of the lanes finds nothing it needs. -/
theorem inv_first (t : Fin grid0.N) (h1 : k0_cond1 (grid0.coords t) = 1#1) (A : Acc Ideal) :
    Inv W c t (step (grid0.coords t) (bq W c t) (bk W c t) (bv W c t) (bg W c t) A) := by
  have h := at_first t h1
  refine inv_diag W c t h.1 A zeroQ (fun h' i l => ?_) (step_first h1 h.1 (on_diag t h.1).1 _ _ _ _ A)
  rw [zeroQ_apply, h.2.2]; unfold sumQ; rw [Nat.mul_zero, range_zero, sum_empty]

/-- Any other point goes on from the one before. -/
theorem inv_next (t : Fin grid0.N) (h1 : ¬ k0_cond1 (grid0.coords t) = 1#1) (A : Acc Ideal)
    (hA : Inv W c ⟨t.val - 1, Nat.lt_of_le_of_lt (Nat.sub_le _ _) t.isLt⟩ A) :
    Inv W c t (step (grid0.coords t) (bq W c t) (bk W c t) (bv W c t) (bg W c t) A) := by
  by_cases hc : k0_cond3 (qw (grid0.coords t)) (kw (grid0.coords t)) = 1#1
  · obtain ⟨_, hp, hk, hq⟩ := pred_full t hc
    exact inv_full W c t _ hc hp hk hq A hA
  · obtain ⟨_, hp, hk, hq⟩ := pred_diag t h1 hc
    refine inv_diag W c t hc A A.dq (fun h i l => ?_) (step_diag h1 hc (on_diag t hc).1 _ _ _ _ A)
    rw [hA.dq, ← hp]
    have : bound ⟨t.val - 1, Nat.lt_of_le_of_lt (Nat.sub_le _ _) t.isLt⟩ i.val = 512 * kb t := by
      unfold bound; rw [hq, if_pos (by have := i.isLt; omega), hk]
    rw [this]

/-- The grid's first point is one. -/
theorem starts : k0_cond1 (grid0.coords ⟨0, by decide⟩) = 1#1 := by decide +kernel

/-- The accumulators after a point. -/
theorem inv : ∀ (n : ℕ) (hn : n < grid0.N), Inv W c ⟨n, hn⟩ (acc W c n hn) := by
  intro n
  induction n with
  | zero =>
    intro hn
    rw [acc_zero W c hn]
    exact inv_first W c ⟨0, hn⟩ starts _
  | succ n ih =>
    intro hn
    rw [acc_succ W c n hn]
    by_cases h1 : k0_cond1 (grid0.coords ⟨n + 1, hn⟩) = 1#1
    · exact inv_first W c ⟨n + 1, hn⟩ h1 _
    · exact inv_next W c ⟨n + 1, hn⟩ h1 _ (ih (Nat.lt_of_succ_lt hn))

end Data

end Cert.Proof.Fox

end
-- ==== Proof.Arrays.lean ====
/-
  The attention's backward kernel over the reals: the three arrays it leaves, as sums over rows of the arrays it is called on.
-/
module

public import proofs.«01_k».proof.Proof.Slots
public import Idealize.ShloMosaic.Lib.Pipeline.ValueKit

@[expose] public section

set_option maxRecDepth 16384

noncomputable section

namespace Cert.Proof.Fox

open Cert.KernelIdeal Cert.KernelIdeal.Gen
open Idealize.ShloMosaic Idealize.ShloMosaic.TcCoe
open Idealize.ShloMosaic.Pipeline (Dat Cfg Window)

section Data

variable (W : Dev nD → Valuation τ sig (Elt Ideal)) (c : Dev nD)

/-- The arrays the call leaves: the gradients of the values, of the keys and of the queries. -/
def arrV : FVec Ideal S4096x1024 .f32 := fun y => sumV (aQ W c) (aK W c) (aV W c) (aG W c) 4096 ((y 1).val / 128) ((y 1).val % 128) (y 0).val
def arrK : FVec Ideal S4096x1024 .f32 := fun y => sumK (aQ W c) (aK W c) (aV W c) (aG W c) 4096 ((y 1).val / 128) ((y 1).val % 128) (y 0).val
def arrQ : FVec Ideal S4096x1024 .f32 := fun y => sumQ (aQ W c) (aK W c) (aV W c) (aG W c) 4096 ((y 1).val / 128) ((y 1).val % 128) (y 0).val

/-! ## When the blocks are written back -/

/-- An output's block is written back at the last point and where the next point has another. -/
theorem flush_iff {G : Pipeline.Grid} (w : Window sig G) (t : Fin G.N) (ho : w.isOut = true) :
    w.flush t = true ↔ (t.val + 1 = G.N ∨ ∃ h : t.val + 1 < G.N, w.index ⟨t.val + 1, h⟩ ≠ w.index t) := by
  unfold Window.flush
  rw [ho, Bool.true_and, Bool.or_eq_true, decide_eq_true_iff, decide_eq_true_iff]

theorem goes_on : ∀ t : Fin grid0.N, qb t ≠ 7 → ∃ h : t.val + 1 < grid0.N, kb ⟨t.val + 1, h⟩ = kb t ∧ pp ⟨t.val + 1, h⟩ = pp t := by decide +kernel
theorem half_goes_on : ∀ t : Fin grid0.N, kb t ≠ 7 → ∃ h : t.val + 1 < grid0.N, pp ⟨t.val + 1, h⟩ = pp t := by decide +kernel
theorem last_key : ∀ t : Fin grid0.N, kb t = 7 → qb t = 7 := by decide +kernel
/-- Some point ends each block of keys, -/
theorem ends : ∀ (k : Fin 8) (p : Fin 2), ∃ t : Fin grid0.N, kb t = k.val ∧ pp t = p.val ∧ qb t = 7
    ∧ (t.val + 1 = grid0.N ∨ ∃ h : t.val + 1 < grid0.N, kb ⟨t.val + 1, h⟩ ≠ kb t ∨ pp ⟨t.val + 1, h⟩ ≠ pp t) := by decide +kernel
/-- and each half of the lanes. -/
theorem half_ends : ∀ p : Fin 2, ∃ t : Fin grid0.N, pp t = p.val ∧ kb t = 7
    ∧ (t.val + 1 = grid0.N ∨ ∃ h : t.val + 1 < grid0.N, pp ⟨t.val + 1, h⟩ ≠ pp t) := by decide +kernel

theorem flush_key (w : Window sig grid0) (ho : w.isOut = true) (t : Fin grid0.N)
    (hi : ∀ s s' : Fin grid0.N, kb s = kb s' → pp s = pp s' → w.index s = w.index s') (hf : w.flush t = true) : qb t = 7 := by
  by_contra hq
  obtain ⟨h, h1, h2⟩ := goes_on t hq
  rcases (flush_iff w t ho).mp hf with h0 | ⟨h', h0⟩
  · omega
  · exact h0 (hi _ _ h1 h2)

/-! ## The arrays -/

/-- A lane of a block is a lane of one of its four heads. -/
theorem lane (x : Fin 512) : ∃ (h : Fin 4) (l : Fin 128), x = hx h l :=
  ⟨⟨x.val / 128, by omega⟩, ⟨x.val % 128, by omega⟩, Fin.ext (by show x.val = 128 * (x.val / 128) + x.val % 128; omega)⟩

theorem final_dv : (dats W 0 c).arrAt 6 (cfg (F := Ideal)).N = arrV W c := by
  refine (dats W 0 c).arrAt_eq_of_cover 6 (arrV W c) (fun t hf => ?_) fun i => ?_
  · have hq : qb t = 7 := flush_key ((cfg (F := Ideal)).win 6) rfl t (fun s s' h1 h2 => by
      rw [index_dv, index_dv]; change ![kb s, pp s] = ![kb s', pp s']; rw [h1, h2]) hf
    refine Eq.trans (b := (acc W c t.val t.isLt).dv) ?_ ?_
    · show ((cfg (F := Ideal)).win 6).cut (grid0.coords t) ((dats W 0 c).after 6 t) = _
      rw [after_dv]; rfl
    · funext y
      obtain ⟨h, l, hl⟩ := lane (y 1)
      have hy : y = ix2 (y 0) (hx h l) := by
        refine (ValueIdx.eq_ix2 (n0 := 512) (n1 := 512) y).trans ?_
        rw [← hl]; rfl
      rw [hy]
      refine ((inv W c t.val t.isLt).dv h (y 0) l).trans ?_
      have e0 : (((((cfg (F := Ideal)).win 6).blk t).view.emb (ix2 (y 0) (hx h l))) 0).val = 512 * kb t + (y 0).val := by
        show ((cfg (F := Ideal)).win 6).index t 0 * 512 + 1 * (y 0).val = _
        rw [index_dv]; show kb t * 512 + 1 * (y 0).val = _; omega
      have e1 : (((((cfg (F := Ideal)).win 6).blk t).view.emb (ix2 (y 0) (hx h l))) 1).val = 128 * (4 * pp t + h.val) + l.val := by
        show ((cfg (F := Ideal)).win 6).index t 1 * 512 + 1 * (128 * h.val + l.val) = _
        rw [index_dv]; show pp t * 512 + 1 * (128 * h.val + l.val) = _; omega
      show _ = arrV W c ((((cfg (F := Ideal)).win 6).blk t).view.emb (ix2 (y 0) (hx h l)))
      unfold arrV
      rw [e0, e1]
      change sumV _ _ _ _ (512 * (qb t + 1)) _ _ (512 * kb t + (y 0).val) = _
      rw [hq, show (128 * (4 * pp t + h.val) + l.val) / 128 = 4 * pp t + h.val from by omega, show (128 * (4 * pp t + h.val) + l.val) % 128 = l.val from by omega]
  · have h0 : (i 0).val < 4096 := (i 0).isLt
    have h1 : (i 1).val < 1024 := (i 1).isLt
    obtain ⟨t, hk, hp, hq, ht⟩ := ends ⟨(i 0).val / 512, by omega⟩ ⟨(i 1).val / 512, by omega⟩
    have hfl : ((cfg (F := Ideal)).win 6).flush t = true := (flush_iff ((cfg (F := Ideal)).win 6) t rfl).mpr (ht.imp id fun ⟨h, hne⟩ => ⟨h, fun e => by
      rw [index_dv, index_dv] at e
      exact hne.elim (fun hn => hn (congrFun e 0)) (fun hn => hn (congrFun e 1))⟩)
    refine ⟨t, hfl, ?_⟩
    · refine (ValueKit.mem_set_slice_whole_iff (Pipeline.arrRef spec0 6) (((cfg (F := Ideal)).win 6).rect t) i (Pipeline.Window.mem_rect_iff ((cfg (F := Ideal)).win 6) t i rfl)).mpr ?_
      intro a
      match a with
      | ⟨0, _⟩ =>
        show ((cfg (F := Ideal)).win 6).index t 0 * 512 ≤ (i 0).val ∧ (i 0).val < ((cfg (F := Ideal)).win 6).index t 0 * 512 + 512
        rw [index_dv]; show kb t * 512 ≤ (i 0).val ∧ (i 0).val < kb t * 512 + 512; rw [hk]; dsimp only; omega
      | ⟨1, _⟩ =>
        show ((cfg (F := Ideal)).win 6).index t 1 * 512 ≤ (i 1).val ∧ (i 1).val < ((cfg (F := Ideal)).win 6).index t 1 * 512 + 512
        rw [index_dv]; show pp t * 512 ≤ (i 1).val ∧ (i 1).val < pp t * 512 + 512; rw [hp]; dsimp only; omega

theorem final_dk : (dats W 0 c).arrAt 5 (cfg (F := Ideal)).N = arrK W c := by
  refine (dats W 0 c).arrAt_eq_of_cover 5 (arrK W c) (fun t hf => ?_) fun i => ?_
  · have hq : qb t = 7 := flush_key ((cfg (F := Ideal)).win 5) rfl t (fun s s' h1 h2 => by
      rw [index_dk, index_dk]; change ![kb s, pp s] = ![kb s', pp s']; rw [h1, h2]) hf
    refine Eq.trans (b := (acc W c t.val t.isLt).dk) ?_ ?_
    · show ((cfg (F := Ideal)).win 5).cut (grid0.coords t) ((dats W 0 c).after 5 t) = _
      rw [after_dk]; rfl
    · funext y
      obtain ⟨h, l, hl⟩ := lane (y 1)
      have hy : y = ix2 (y 0) (hx h l) := by
        refine (ValueIdx.eq_ix2 (n0 := 512) (n1 := 512) y).trans ?_
        rw [← hl]; rfl
      rw [hy]
      refine ((inv W c t.val t.isLt).dk h (y 0) l).trans ?_
      have e0 : (((((cfg (F := Ideal)).win 5).blk t).view.emb (ix2 (y 0) (hx h l))) 0).val = 512 * kb t + (y 0).val := by
        show ((cfg (F := Ideal)).win 5).index t 0 * 512 + 1 * (y 0).val = _
        rw [index_dk]; show kb t * 512 + 1 * (y 0).val = _; omega
      have e1 : (((((cfg (F := Ideal)).win 5).blk t).view.emb (ix2 (y 0) (hx h l))) 1).val = 128 * (4 * pp t + h.val) + l.val := by
        show ((cfg (F := Ideal)).win 5).index t 1 * 512 + 1 * (128 * h.val + l.val) = _
        rw [index_dk]; show pp t * 512 + 1 * (128 * h.val + l.val) = _; omega
      show _ = arrK W c ((((cfg (F := Ideal)).win 5).blk t).view.emb (ix2 (y 0) (hx h l)))
      unfold arrK
      rw [e0, e1]
      change sumK _ _ _ _ (512 * (qb t + 1)) _ _ (512 * kb t + (y 0).val) = _
      rw [hq, show (128 * (4 * pp t + h.val) + l.val) / 128 = 4 * pp t + h.val from by omega, show (128 * (4 * pp t + h.val) + l.val) % 128 = l.val from by omega]
  · have h0 : (i 0).val < 4096 := (i 0).isLt
    have h1 : (i 1).val < 1024 := (i 1).isLt
    obtain ⟨t, hk, hp, hq, ht⟩ := ends ⟨(i 0).val / 512, by omega⟩ ⟨(i 1).val / 512, by omega⟩
    have hfl : ((cfg (F := Ideal)).win 5).flush t = true := (flush_iff ((cfg (F := Ideal)).win 5) t rfl).mpr (ht.imp id fun ⟨h, hne⟩ => ⟨h, fun e => by
      rw [index_dk, index_dk] at e
      exact hne.elim (fun hn => hn (congrFun e 0)) (fun hn => hn (congrFun e 1))⟩)
    refine ⟨t, hfl, ?_⟩
    · refine (ValueKit.mem_set_slice_whole_iff (Pipeline.arrRef spec0 5) (((cfg (F := Ideal)).win 5).rect t) i (Pipeline.Window.mem_rect_iff ((cfg (F := Ideal)).win 5) t i rfl)).mpr ?_
      intro a
      match a with
      | ⟨0, _⟩ =>
        show ((cfg (F := Ideal)).win 5).index t 0 * 512 ≤ (i 0).val ∧ (i 0).val < ((cfg (F := Ideal)).win 5).index t 0 * 512 + 512
        rw [index_dk]; show kb t * 512 ≤ (i 0).val ∧ (i 0).val < kb t * 512 + 512; rw [hk]; dsimp only; omega
      | ⟨1, _⟩ =>
        show ((cfg (F := Ideal)).win 5).index t 1 * 512 ≤ (i 1).val ∧ (i 1).val < ((cfg (F := Ideal)).win 5).index t 1 * 512 + 512
        rw [index_dk]; show pp t * 512 ≤ (i 1).val ∧ (i 1).val < pp t * 512 + 512; rw [hp]; dsimp only; omega

theorem final_dq : (dats W 0 c).arrAt 4 (cfg (F := Ideal)).N = arrQ W c := by
  refine (dats W 0 c).arrAt_eq_of_cover 4 (arrQ W c) (fun t hf => ?_) fun i => ?_
  · have hk : kb t = 7 := by
      by_contra hk
      obtain ⟨h, h2⟩ := half_goes_on t hk
      rcases (flush_iff ((cfg (F := Ideal)).win 4) t rfl).mp hf with h0 | ⟨h', h0⟩
      · exact absurd h0 (Nat.ne_of_lt h)
      · refine h0 ?_
        rw [index_dq, index_dq]; change ![0, pp _] = ![0, pp t]; rw [h2]
    have hq := last_key t hk
    refine Eq.trans (b := (acc W c t.val t.isLt).dq) ?_ ?_
    · show ((cfg (F := Ideal)).win 4).cut (grid0.coords t) ((dats W 0 c).after 4 t) = _
      rw [after_dq]; rfl
    · funext y
      obtain ⟨h, l, hl⟩ := lane (y 1)
      have hy : y = ix2 (y 0) (hx h l) := by
        refine (ValueIdx.eq_ix2 (n0 := 4096) (n1 := 512) y).trans ?_
        rw [← hl]; rfl
      rw [hy]
      refine ((inv W c t.val t.isLt).dq h (y 0) l).trans ?_
      have e0 : (((((cfg (F := Ideal)).win 4).blk t).view.emb (ix2 (y 0) (hx h l))) 0).val = (y 0).val := by
        show ((cfg (F := Ideal)).win 4).index t 0 * 4096 + 1 * (y 0).val = _
        rw [index_dq]; show 0 * 4096 + 1 * (y 0).val = _; omega
      have e1 : (((((cfg (F := Ideal)).win 4).blk t).view.emb (ix2 (y 0) (hx h l))) 1).val = 128 * (4 * pp t + h.val) + l.val := by
        show ((cfg (F := Ideal)).win 4).index t 1 * 512 + 1 * (128 * h.val + l.val) = _
        rw [index_dq]; show pp t * 512 + 1 * (128 * h.val + l.val) = _; omega
      show _ = arrQ W c ((((cfg (F := Ideal)).win 4).blk t).view.emb (ix2 (y 0) (hx h l)))
      unfold arrQ
      rw [e0, e1]
      change sumQ _ _ _ _ (bound t (y 0).val) _ _ (y 0).val = _
      have h0 : (y 0).val < 4096 := (y 0).isLt
      rw [show bound t (y 0).val = 4096 from by unfold bound; rw [hq, hk, if_pos (by omega)], show (128 * (4 * pp t + h.val) + l.val) / 128 = 4 * pp t + h.val from by omega, show (128 * (4 * pp t + h.val) + l.val) % 128 = l.val from by omega]
  · have h0 : (i 0).val < 4096 := (i 0).isLt
    have h1 : (i 1).val < 1024 := (i 1).isLt
    obtain ⟨t, hp, hk, ht⟩ := half_ends ⟨(i 1).val / 512, by omega⟩
    have hfl : ((cfg (F := Ideal)).win 4).flush t = true := (flush_iff ((cfg (F := Ideal)).win 4) t rfl).mpr (ht.imp id fun ⟨h, hne⟩ => ⟨h, fun e => by
      rw [index_dq, index_dq] at e
      exact hne (congrFun e 1)⟩)
    refine ⟨t, hfl, ?_⟩
    · refine (ValueKit.mem_set_slice_whole_iff (Pipeline.arrRef spec0 4) (((cfg (F := Ideal)).win 4).rect t) i (Pipeline.Window.mem_rect_iff ((cfg (F := Ideal)).win 4) t i rfl)).mpr ?_
      intro a
      match a with
      | ⟨0, _⟩ =>
        show ((cfg (F := Ideal)).win 4).index t 0 * 4096 ≤ (i 0).val ∧ (i 0).val < ((cfg (F := Ideal)).win 4).index t 0 * 4096 + 4096
        rw [index_dq]; show 0 * 4096 ≤ (i 0).val ∧ (i 0).val < 0 * 4096 + 4096; omega
      | ⟨1, _⟩ =>
        show ((cfg (F := Ideal)).win 4).index t 1 * 512 ≤ (i 1).val ∧ (i 1).val < ((cfg (F := Ideal)).win 4).index t 1 * 512 + 512
        rw [index_dq]; show pp t * 512 ≤ (i 1).val ∧ (i 1).val < pp t * 512 + 512; rw [hp]; dsimp only; omega

end Data

end Cert.Proof.Fox

end
-- ==== Proof.Values.lean ====
/-
  The kernel over the reals at finite arguments: each result, element by element, as a real number.
-/
module

public import proofs.«01_k».proof.Proof.Lanes
public import proofs.«01_k».proof.Proof.Arrays

@[expose] public section

set_option maxRecDepth 16384

noncomputable section

namespace Cert.Proof.Fox

open Cert.KernelIdeal Cert.KernelIdeal.Gen
open Idealize.ShloMosaic Idealize.ShloMosaic.TcCoe Idealize.ShloMosaic.Tactic
open Finset

/-! ## The lines after the call -/

/-- The results from the arrays the call leaves: of the queries, of the keys and the values, and of the running sums. -/
def resQ (X : FVec Ideal S4096x1024 .f32) : FVec Ideal S4096x512 .bf16 :=
  truncf .bf16 (shapeCast S4096x512 (mulf (extractStridedSlice S4096x8x64 ![0, 0, 0] (shapeCast S4096x8x128 X shapeCasts_S4096x1024_S4096x8x128) slices_S4096x8x128_S4096x8x64_0_0_0)
    (broadcastInDim S4096x8x64 ![] bcast_S_S4096x8x64 (constant S_ .f32 0x3E000000#32))) shapeCasts_S4096x8x64_S4096x512) bitsLt_bf16_f32
def resKV (X : FVec Ideal S4096x1024 .f32) : FVec Ideal S4096x512 .bf16 :=
  truncf .bf16 (shapeCast S4096x512 (extractStridedSlice S4096x8x64 ![0, 0, 0] (shapeCast S4096x8x128 X shapeCasts_S4096x1024_S4096x8x128) slices_S4096x8x128_S4096x8x64_0_0_0)
    shapeCasts_S4096x8x64_S4096x512) bitsLt_bf16_f32
def resF (X Y : FVec Ideal S4096x1024 .f32) : FVec Ideal S4096x8 .f32 :=
  subf (shapeCast S4096x8 (extractStridedSlice S4096x8x1 ![0, 0, 64] (shapeCast S4096x8x128 X shapeCasts_S4096x1024_S4096x8x128) slices_S4096x8x128_S4096x8x1_0_0_64) shapeCasts_S4096x8x1_S4096x8)
    (shapeCast S4096x8 (extractStridedSlice S4096x8x1 ![0, 0, 67] (shapeCast S4096x8x128 Y shapeCasts_S4096x1024_S4096x8x128) slices_S4096x8x128_S4096x8x1_0_0_67) shapeCasts_S4096x8x1_S4096x8)

/-- Lane `l` of head `h` in a slot, and a flat lane's slot lane. -/
def slotLane (l : Fin 64) : Fin 128 := ⟨l.val, by omega⟩
theorem resQ_lane (X : FVec Ideal S4096x1024 .f32) (i : Fin 4096) (x : Fin 512) :
    resQ X (ix2 i x) = X (ix2 i ⟨x.val / 64 * 128 + x.val % 64, by omega⟩) * Ideal.ofBits .f32 0x3E000000#32 := by
  unfold resQ; pointwise
theorem resKV_lane (X : FVec Ideal S4096x1024 .f32) (i : Fin 4096) (x : Fin 512) :
    resKV X (ix2 i x) = X (ix2 i ⟨x.val / 64 * 128 + x.val % 64, by omega⟩) := by
  unfold resKV; pointwise
theorem resF_lane (X Y : FVec Ideal S4096x1024 .f32) (i : Fin 4096) (h : Fin 8) :
    resF X Y (ix2 i h) = X (ix2 i ⟨h.val * 128 + 64, by omega⟩) - Y (ix2 i ⟨h.val * 128 + 67, by omega⟩) := by
  unfold resF; pointwise
theorem slot_lane (h : Fin 8) (l : Fin 64) : (⟨(hd h l).val / 64 * 128 + (hd h l).val % 64, by omega⟩ : Fin 1024) = ln h (slotLane l) :=
  Fin.ext (by show (h.val * 64 + l.val) / 64 * 128 + (h.val * 64 + l.val) % 64 = 128 * h.val + l.val; omega)
theorem resQ_at (X : FVec Ideal S4096x1024 .f32) (i : Fin 4096) (h : Fin 8) (l : Fin 64) :
    resQ X (ix2 i (hd h l)) = X (ix2 i (ln h (slotLane l))) * Ideal.ofBits .f32 0x3E000000#32 := by
  rw [resQ_lane, slot_lane]
theorem resKV_at (X : FVec Ideal S4096x1024 .f32) (i : Fin 4096) (h : Fin 8) (l : Fin 64) : resKV X (ix2 i (hd h l)) = X (ix2 i (ln h (slotLane l))) := by
  rw [resKV_lane, slot_lane]
theorem resF_at (X Y : FVec Ideal S4096x1024 .f32) (i : Fin 4096) (h : Fin 8) : resF X Y (ix2 i h) = X (ix2 i (ln h 64)) - Y (ix2 i (ln h 67)) := by
  rw [resF_lane]
  have e (n : ℕ) (hn : n < 128) : (⟨h.val * 128 + n, by omega⟩ : Fin 1024) = ln h ⟨n, hn⟩ := Fin.ext (by show h.val * 128 + n = 128 * h.val + n; omega)
  rw [e 64 (by omega), e 67 (by omega)]; rfl

section Results

variable (m : (ℓ : Loc nD τ sig) → Buf (Elt Ideal) ℓ) (c : Dev nD)

theorem arrays_inj : Function.Injective (Pipeline.arrRef spec0) := by decide

theorem V6_q : V6 m c (Proc.devRef .tc main_v102_0) = arrQ (V5 m) c :=
  (Pipeline.afterRegion_arr (dats (V5 m) 0 c) (V5 m c) arrays_inj 4).trans (final_dq (V5 m) c)
theorem V6_k : V6 m c (Proc.devRef .tc main_v102_1) = arrK (V5 m) c :=
  (Pipeline.afterRegion_arr (dats (V5 m) 0 c) (V5 m c) arrays_inj 5).trans (final_dk (V5 m) c)
theorem V6_v : V6 m c (Proc.devRef .tc main_v102_2) = arrV (V5 m) c :=
  (Pipeline.afterRegion_arr (dats (V5 m) 0 c) (V5 m c) arrays_inj 6).trans (final_dv (V5 m) c)

theorem V8_dq : V8 m c (Proc.devRef .tc main_v115) = resQ (arrQ (V5 m) c) := by
  rw [← V6_q, V8_def]; after_reads_simp; rfl
theorem V8_dk : V8 m c (Proc.devRef .tc main_v118) = resKV (arrK (V5 m) c) := by
  rw [← V6_k, V8_def]; after_reads_simp; rfl
theorem V8_dv : V8 m c (Proc.devRef .tc main_v121) = resKV (arrV (V5 m) c) := by
  rw [← V6_v, V8_def]; after_reads_simp; rfl
theorem V8_dl : V8 m c (Proc.devRef .tc main_v122) = Ref.back (resF (arrQ (V5 m) c) (arrK (V5 m) c)) := by
  rw [← V6_q, ← V6_k, V8_def]; after_reads_simp; rfl

end Results

/-! ## Sums over the slots -/

theorem at2_ln {φ : FTy} (X : FVec Ideal S4096x1024 φ) (i : Fin 4096) (h : Fin 8) (l : ℕ) (hl : l < 128) :
    at2 X i.val (128 * h.val + l) = X (ix2 i (ln h ⟨l, hl⟩)) := (at2_of X (ix2 i (ln h ⟨l, hl⟩)) _ _ rfl rfl).symm

theorem sc_real (X Y : FVec Ideal S4096x1024 .bf16) (f g : Fin 8 → Fin 4096 → ℕ → ℝ) (hX : ∀ i h (l : Fin 128), X (ix2 i (ln h l)) = (f h i l.val : EReal))
    (hY : ∀ i h (l : Fin 128), Y (ix2 i (ln h l)) = (g h i l.val : EReal)) (h : Fin 8) (i j : Fin 4096) :
    sc X Y h.val i.val j.val = ((∑ l ∈ range 128, f h i l * g h j l : ℝ) : EReal) := by
  unfold sc
  rw [coe_sum]
  refine sum_congr rfl fun l hl => ?_
  have hl' := mem_range.mp hl
  rw [at2_ln X i h l hl', at2_ln Y j h l hl', hX, hY, EReal.coe_mul]

section Lines

variable (m : (ℓ : Loc nD τ sig) → Buf (Elt Ideal) ℓ) (c : Dev nD)
variable (q' k' v' g' : Fin 4096 → Fin 512 → ℝ) (F' : Fin 4096 → Fin 8 → ℝ)

/-- What the queries' and the gradient's slots hold beside their heads. -/
def qa (i : Fin 4096) (h : Fin 8) : ℝ := F' i h - Real.log (mZ q' k' F' h i)
def ga (i : Fin 4096) (h : Fin 8) : ℝ := - mO q' k' v' g' F' h i

variable (hq : ∀ i x, inQ m c (ix2 i x) = (q' i x : EReal)) (hk : ∀ i x, inK m c (ix2 i x) = (k' i x : EReal)) (hv : ∀ i x, inV m c (ix2 i x) = (v' i x : EReal))
variable (hg : ∀ i x, inG m c (ix2 i x) = (g' i x : EReal)) (hF : ∀ i h, Ref.cum (inL m c) (ix2 i h) = (F' i h : EReal))

include hq hk hF in
theorem aQ_real (i : Fin 4096) (h : Fin 8) (l : Fin 128) : aQ (V5 m) c (ix2 i (ln h l)) = (rQ q' (qa q' k' F') h i l.val : EReal) := by
  have e : aQ (V5 m) c = slotQ (Ref.heads (inQ m c)) (parts (subf (Ref.cum (inL m c)) (atL m c))) := V5_q m c
  rw [e]
  refine slotQ_real (inQ m c) _ q' (qa q' k' F') hq (fun i h => ?_) i h l
  show Ref.cum (inL m c) (ix2 i h) - atL m c (ix2 i h) = _
  rw [hF, atL_real m c q' k' F' hq hk hF, ← EReal.coe_sub]; rfl
include hk hF in
theorem aK_real (i : Fin 4096) (h : Fin 8) (l : Fin 128) : aK (V5 m) c (ix2 i (ln h l)) = (rK k' F' h i l.val : EReal) := by
  have e : aK (V5 m) c = slotK (Ref.heads (inK m c)) (parts (Ref.cum (inL m c))) := V5_k m c
  rw [e]
  exact slotK_real (inK m c) _ k' F' hk hF i h l
include hv in
theorem aV_real (i : Fin 4096) (h : Fin 8) (l : Fin 128) : aV (V5 m) c (ix2 i (ln h l)) = (rV v' h i l.val : EReal) := by
  have e : aV (V5 m) c = slotV (Ref.heads (inV m c)) := V5_v m c
  rw [e]
  exact slotV_real (inV m c) v' hv i h l
include hq hk hv hg hF in
theorem aG_real (i : Fin 4096) (h : Fin 8) (l : Fin 128) : aG (V5 m) c (ix2 i (ln h l)) = (rG g' (ga q' k' v' g' F') h i l.val : EReal) := by
  have e : aG (V5 m) c = slotG (Ref.heads (inG m c)) (parts (Host.negf (atD m c))) := V5_g m c
  rw [e]
  refine slotG_real (inG m c) _ g' (ga q' k' v' g' F') hg (fun i h => ?_) i h l
  show - atD m c (ix2 i h) = _
  rw [atD_real m c q' k' v' g' F' hq hk hv hg hF, ← EReal.coe_neg]; rfl

include hq hk hF in
theorem score_slots (h : Fin 8) (i j : Fin 4096) :
    sc (aQ (V5 m) c) (aK (V5 m) c) h.val i.val j.val = ((mS q' k' F' h i j - Real.log (mZ q' k' F' h i) : ℝ) : EReal) := by
  rw [sc_real _ _ (fun h i l => rQ q' (qa q' k' F') h i l) (fun h i l => rK k' F' h i l) (aQ_real m c q' k' F' hq hk hF) (aK_real m c k' F' hk hF), lanes_score]
  refine congrArg _ ?_
  unfold qa mS; ring
include hq hk hv hg hF in
theorem grad_slots (h : Fin 8) (i j : Fin 4096) :
    sc (aG (V5 m) c) (aV (V5 m) c) h.val i.val j.val = ((mD v' g' h i j - mO q' k' v' g' F' h i : ℝ) : EReal) := by
  rw [sc_real _ _ (fun h i l => rG g' (ga q' k' v' g' F') h i l) (fun h i l => rV v' h i l) (aG_real m c q' k' v' g' F' hq hk hv hg hF) (aV_real m c v' hv), lanes_grad]
  rfl
include hq hk hF in
theorem wt_real (h : Fin 8) (i j : Fin 4096) : wt (aQ (V5 m) c) (aK (V5 m) c) h.val i.val j.val = (mP q' k' F' h i j : EReal) := by
  unfold wt mP
  rw [score_slots m c q' k' F' hq hk hF]
  by_cases hj : j ≤ i
  · rw [if_pos (show j.val ≤ i.val from hj), if_pos hj, Ideal.exp_coe, Real.exp_sub, Real.exp_log (mZ_pos q' k' F' h i)]
  · rw [if_neg (show ¬ j.val ≤ i.val from hj), if_neg hj]; rfl
include hq hk hv hg hF in
theorem dw_real (h : Fin 8) (i j : Fin 4096) :
    dw (aQ (V5 m) c) (aK (V5 m) c) (aV (V5 m) c) (aG (V5 m) c) h.val i.val j.val = (mG q' k' v' g' F' h i j : EReal) := by
  unfold dw mG mP
  rw [score_slots m c q' k' F' hq hk hF, grad_slots m c q' k' v' g' F' hq hk hv hg hF]
  by_cases hj : j ≤ i
  · rw [if_pos (show j.val ≤ i.val from hj), if_pos hj, Ideal.exp_coe, Real.exp_sub, Real.exp_log (mZ_pos q' k' F' h i), ← EReal.coe_mul]
  · rw [if_neg (show ¬ j.val ≤ i.val from hj), if_neg hj, zero_mul]; rfl

/-- The arrays the call leaves, at slot lane `l` of head `h`. -/
theorem lane_div (h : Fin 8) (l : Fin 128) : (ln h l).val / 128 = h.val := by show (128 * h.val + l.val) / 128 = h.val; omega
theorem lane_mod (h : Fin 8) (l : Fin 128) : (ln h l).val % 128 = l.val := by show (128 * h.val + l.val) % 128 = l.val; omega

include hq hk hv hg hF in
theorem arrQ_real (i : Fin 4096) (h : Fin 8) (l : Fin 128) : arrQ (V5 m) c (ix2 i (ln h l)) = ((∑ j, mG q' k' v' g' F' h i j * rK k' F' h j l.val : ℝ) : EReal) := by
  show sumQ _ _ _ _ 4096 ((ln h l).val / 128) ((ln h l).val % 128) i.val = _
  rw [lane_div, lane_mod, coe_sum]
  unfold sumQ
  rw [sum_range]
  exact sum_congr rfl fun j _ => by rw [dw_real m c q' k' v' g' F' hq hk hv hg hF, at2_ln _ j h l.val l.isLt, aK_real m c k' F' hk hF, EReal.coe_mul]
include hq hk hv hg hF in
theorem arrK_real (j : Fin 4096) (h : Fin 8) (l : Fin 128) :
    arrK (V5 m) c (ix2 j (ln h l)) = ((∑ i, mG q' k' v' g' F' h i j * rQ q' (qa q' k' F') h i l.val : ℝ) : EReal) := by
  show sumK _ _ _ _ 4096 ((ln h l).val / 128) ((ln h l).val % 128) j.val = _
  rw [lane_div, lane_mod, coe_sum]
  unfold sumK
  rw [sum_range]
  exact sum_congr rfl fun i _ => by rw [dw_real m c q' k' v' g' F' hq hk hv hg hF, at2_ln _ i h l.val l.isLt, aQ_real m c q' k' F' hq hk hF, EReal.coe_mul]
include hq hk hv hg hF in
theorem arrV_real (j : Fin 4096) (h : Fin 8) (l : Fin 128) :
    arrV (V5 m) c (ix2 j (ln h l)) = ((∑ i, mP q' k' F' h i j * rG g' (ga q' k' v' g' F') h i l.val : ℝ) : EReal) := by
  show sumV _ _ _ _ 4096 ((ln h l).val / 128) ((ln h l).val % 128) j.val = _
  rw [lane_div, lane_mod, coe_sum]
  unfold sumV
  rw [sum_range]
  exact sum_congr rfl fun i _ => by rw [wt_real m c q' k' F' hq hk hF, at2_ln _ i h l.val l.isLt, aG_real m c q' k' v' g' F' hq hk hv hg hF, EReal.coe_mul]

/-! ## The results -/

/-- Every lane is one of a head. -/
theorem lane_split (X Y : FVec Ideal S4096x512 .bf16) (h : ∀ i h l, X (ix2 i (hd h l)) = Y (ix2 i (hd h l))) : X = Y := by
  funext y
  rw [ValueIdx.eq_ix2 (n0 := 4096) (n1 := 512) y]
  have e : (y 1 : Fin 512) = hd ⟨(y 1).val / 64, by have := ValueIdx.idx2_lt1 y; omega⟩ ⟨(y 1).val % 64, by omega⟩ :=
    Fin.ext (by show (y 1).val = (y 1).val / 64 * 64 + (y 1).val % 64; omega)
  have := h (y 0) ⟨(y 1).val / 64, by have := ValueIdx.idx2_lt1 y; omega⟩ ⟨(y 1).val % 64, by omega⟩
  rw [← e] at this
  exact this

theorem heads_split (X Y : FVec Ideal S4096x8 .f32) (h : ∀ i h, X (ix2 i h) = Y (ix2 i h)) : X = Y :=
  funext fun y => (congrArg X (ValueIdx.eq_ix2 (n0 := 4096) (n1 := 8) y)).trans ((h (y 0) (y 1)).trans (congrArg Y (ValueIdx.eq_ix2 (n0 := 4096) (n1 := 8) y)).symm)

theorem rK_head (h : Fin 8) (j : Fin 4096) (l : Fin 64) : rK k' F' h j (slotLane l).val = k' j (hd h l) := by unfold rK slotLane; rw [dif_pos l.isLt]
theorem rQ_head (a : Fin 4096 → Fin 8 → ℝ) (h : Fin 8) (j : Fin 4096) (l : Fin 64) : rQ q' a h j (slotLane l).val = q' j (hd h l) * (1 / 8) := by unfold rQ slotLane; rw [dif_pos l.isLt]
theorem rG_head (a : Fin 4096 → Fin 8 → ℝ) (h : Fin 8) (j : Fin 4096) (l : Fin 64) : rG g' a h j (slotLane l).val = g' j (hd h l) := by unfold rG slotLane; rw [dif_pos l.isLt]

include hq hk hv hg hF in
/-- The queries' gradient is the reference's, -/
theorem dq_eq : resQ (arrQ (V5 m) c) = Ref.dq (Ref.theD (inQ m c) (inK m c) (inV m c) (inL m c) (inG m c)) (inK m c) := by
  refine lane_split _ _ fun i h l => ?_
  unfold Ref.theD Ref.theE
  rw [Ref.dq_real _ _ _ _ _ q' k' v' g' F' hq hk hv hg hF, resQ_at, arrQ_real m c q' k' v' g' F' hq hk hv hg hF, eighth, ← EReal.coe_mul, sum_mul]
  refine congrArg _ (sum_congr rfl fun j _ => ?_)
  rw [rK_head]; ring
include hq hk hv hg hF in
/-- the keys', -/
theorem dk_eq : resKV (arrK (V5 m) c) = Ref.dk (Ref.theD (inQ m c) (inK m c) (inV m c) (inL m c) (inG m c)) (inQ m c) := by
  refine lane_split _ _ fun i h l => ?_
  unfold Ref.theD Ref.theE
  rw [Ref.dk_real _ _ _ _ _ q' k' v' g' F' hq hk hv hg hF, resKV_at, arrK_real m c q' k' v' g' F' hq hk hv hg hF]
  refine congrArg _ (sum_congr rfl fun j _ => ?_)
  rw [rQ_head]; ring
include hq hk hv hg hF in
/-- the values' -/
theorem dv_eq : resKV (arrV (V5 m) c) = Ref.dv (Ref.weights (Ref.theE (inQ m c) (inK m c) (inL m c))) (inG m c) := by
  refine lane_split _ _ fun i h l => ?_
  unfold Ref.theE
  rw [Ref.dv_real _ _ _ _ q' k' g' F' hq hk hg hF, resKV_at, arrV_real m c q' k' v' g' F' hq hk hv hg hF]
  exact congrArg _ (sum_congr rfl fun j _ => by rw [rG_head])
include hq hk hv hg hF in
/-- and the forget gates'. -/
theorem dF_eq : resF (arrQ (V5 m) c) (arrK (V5 m) c) = Ref.dF (Ref.theD (inQ m c) (inK m c) (inV m c) (inL m c) (inG m c)) := by
  refine heads_split _ _ fun i h => ?_
  unfold Ref.theD Ref.theE
  rw [Ref.dF_real _ _ _ _ _ q' k' v' g' F' hq hk hv hg hF, resF_at, arrQ_real m c q' k' v' g' F' hq hk hv hg hF, arrK_real m c q' k' v' g' F' hq hk hv hg hF, ← EReal.coe_sub]
  have h1 (h : Fin 8) (j : Fin 4096) : rK k' F' h j (64 : Fin 128).val = 1 := by unfold rK; simp
  have h2 (h : Fin 8) (j : Fin 4096) : rQ q' (qa q' k' F') h j (67 : Fin 128).val = 1 := by unfold rQ; simp
  simp only [h1, h2, mul_one]

end Lines

end Cert.Proof.Fox

end
-- ==== Proof.Agree.lean ====
/-
  The value claim: at finite arguments the kernel and the reference leave the same gradients.
-/
module

public import proofs.«01_k».proof.Defs
public import proofs.«01_k».proof.Proof.Values

@[expose] public section

set_option maxRecDepth 16384

noncomputable section

namespace Cert.Proof.Fox

open Cert.KernelIdeal Cert.KernelIdeal.Gen
open Idealize.ShloMosaic Idealize.ShloMosaic.TcCoe Idealize.ShloMosaic.Tactic Idealize.SL.Sem

/-- The precondition's shapes. -/
theorem finite_facts : Cert.Pre_finite.Facts where
  bcast_S_S4096x512 := by decide
  bcast_S_S4096x8 := by decide

/-- A number whose absolute value is below infinity is real. -/
theorem real_of (x t : EReal) (ht : t = ⊤) (h : Ideal.cmp .olt (max x (-x)) t = 1#1) : ∃ r : ℝ, x = (r : EReal) := by
  subst ht
  have h1 : max x (-x) < ⊤ := by
    by_contra hn
    have : Ideal.cmp .olt (max x (-x)) ⊤ = 0#1 := by simp [Ideal.cmp, hn]
    rw [this] at h
    exact absurd h (by decide)
  have hx : x ≠ ⊤ := fun e => by rw [e] at h1; simp at h1
  have hb : x ≠ ⊥ := fun e => by rw [e] at h1; simp at h1
  exact ⟨x.toReal, (EReal.coe_toReal hx hb).symm⟩
theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

section Pre

variable [hf : Cert.Pre_finite.Facts] (m : (ℓ : Loc nD τ sig) → Buf (Elt Ideal) ℓ) (hpre : Cert.Pre_KernelIdeal_finite m) (c : Dev nD)

include hpre
theorem realQ (y : S4096x512.Idx) : ∃ r : ℝ, inQ m c y = (r : EReal) := real_of _ _ inf_bf16 (congrFun (hpre c).1 y)
theorem realK (y : S4096x512.Idx) : ∃ r : ℝ, inK m c y = (r : EReal) := real_of _ _ inf_bf16 (congrFun (hpre c).2.1 y)
theorem realV (y : S4096x512.Idx) : ∃ r : ℝ, inV m c y = (r : EReal) := real_of _ _ inf_bf16 (congrFun (hpre c).2.2.1 y)
theorem realL (y : S4096x8.Idx) : ∃ r : ℝ, inL m c y = (r : EReal) := real_of _ _ inf_f32 (congrFun (hpre c).2.2.2.1 y)
theorem realG (y : S4096x512.Idx) : ∃ r : ℝ, inG m c y = (r : EReal) := real_of _ _ inf_bf16 (congrFun (hpre c).2.2.2.2 y)

/-- The four results are the reference's at the kernel's arguments. -/
theorem results_eq :
    resQ (arrQ (V5 m) c) = Ref.dq (Ref.theD (inQ m c) (inK m c) (inV m c) (inL m c) (inG m c)) (inK m c)
    ∧ resKV (arrK (V5 m) c) = Ref.dk (Ref.theD (inQ m c) (inK m c) (inV m c) (inL m c) (inG m c)) (inQ m c)
    ∧ resKV (arrV (V5 m) c) = Ref.dv (Ref.weights (Ref.theE (inQ m c) (inK m c) (inL m c))) (inG m c)
    ∧ resF (arrQ (V5 m) c) (arrK (V5 m) c) = Ref.dF (Ref.theD (inQ m c) (inK m c) (inV m c) (inL m c) (inG m c)) := by
  choose q' hq using realQ m hpre c
  choose k' hk using realK m hpre c
  choose v' hv using realV m hpre c
  choose g' hg using realG m hpre c
  choose F' hF using Ref.cum_real (inL m c) (realL m hpre c)
  have a := fun i x => hq (ix2 i x)
  have b := fun i x => hk (ix2 i x)
  have d := fun i x => hv (ix2 i x)
  have e := fun i x => hg (ix2 i x)
  have f := fun i h => hF (ix2 i h)
  exact ⟨dq_eq m c (fun i x => q' (ix2 i x)) (fun i x => k' (ix2 i x)) (fun i x => v' (ix2 i x)) (fun i x => g' (ix2 i x)) (fun i h => F' (ix2 i h)) a b d e f,
    dk_eq m c (fun i x => q' (ix2 i x)) (fun i x => k' (ix2 i x)) (fun i x => v' (ix2 i x)) (fun i x => g' (ix2 i x)) (fun i h => F' (ix2 i h)) a b d e f,
    dv_eq m c (fun i x => q' (ix2 i x)) (fun i x => k' (ix2 i x)) (fun i x => v' (ix2 i x)) (fun i x => g' (ix2 i x)) (fun i h => F' (ix2 i h)) a b d e f,
    dF_eq m c (fun i x => q' (ix2 i x)) (fun i x => k' (ix2 i x)) (fun i x => v' (ix2 i x)) (fun i x => g' (ix2 i x)) (fun i h => F' (ix2 i h)) a b d e f⟩

end Pre

/-- The kernel and the reference leave equal gradients of the queries, the keys, the values and the forget gates' logarithms. -/
theorem value : Cert.algebraic_KernelIdeal_ReferenceIdeal_pre_finite (hPre_finite := finite_facts) := by
  intro m g m' g' hpre hagree
  haveI := finite_facts
  refine ⟨fun c => resQ (arrQ (V5 m) c), fun c => resKV (arrK (V5 m) c), fun c => resKV (arrV (V5 m) c),
    fun c => Ref.back (resF (arrQ (V5 m) c) (arrK (V5 m) c)), ?_, ?_⟩
  · refine (θ_run Cert.KernelIdeal.defs _ _).mono (fun r h c => ?_) (run_main (F := Ideal) m g)
    exact ⟨(h.1 c _ (Pipeline.devRef_mem_ucRefs rfl)).trans (V8_dq m c), (h.1 c _ (Pipeline.devRef_mem_ucRefs rfl)).trans (V8_dk m c),
      (h.1 c _ (Pipeline.devRef_mem_ucRefs rfl)).trans (V8_dv m c), (h.1 c _ (Pipeline.devRef_mem_ucRefs rfl)).trans (V8_dl m c), kept m h c⟩
  · refine (θ_run Cert.ReferenceIdeal.defs _ _).mono (fun r h c => ?_) (Cert.ReferenceIdeal.Value.run (F := Ideal) m' g')
    obtain ⟨hq, hk, hv, hl, hkept⟩ := h c
    obtain ⟨e0, e1, e2, e3, e4⟩ := hagree c
    have a0 : Ref.argQ m' c = inQ m c := e0
    have a1 : Ref.argK m' c = inK m c := e1
    have a2 : Ref.argV m' c = inV m c := e2
    have a3 : Ref.argL m' c = inL m c := e3
    have a4 : Ref.argG m' c = inG m c := e4
    obtain ⟨r0, r1, r2, r3⟩ := results_eq m hpre c
    rw [Ref.res_dq, a0, a1, a2, a3, a4, ← r0] at hq
    rw [Ref.res_dk, a0, a1, a2, a3, a4, ← r1] at hk
    rw [Ref.res_dv, a0, a1, a3, a4, ← r2] at hv
    rw [Ref.res_dl, a0, a1, a2, a3, a4, ← r3] at hl
    exact ⟨hq, hk, hv, hl, hkept⟩

end Cert.Proof.Fox

end
-- ==== Proof.UpProducts.lean ====
/-
  The feed-forward's products of the backward pass: the gradient of its input, of `w_up` and of `w_down`.
-/
module

public import proofs.«01_k».proof.Defs
public import proofs.«01_k».proof.Proof.Products
public import proofs.«01_k».proof.Proof.Gen.Kernel2Ideal.Value
public import proofs.«01_k».proof.Proof.Gen.Kernel3Ideal.Value
public import proofs.«01_k».proof.Proof.Gen.Kernel6Ideal.Value
public import proofs.«01_k».proof.Proof.Gen.Reference2Ideal.Run
public import proofs.«01_k».proof.Proof.Gen.Reference3Ideal.Run
public import proofs.«01_k».proof.Proof.Gen.Reference6Ideal.Run

@[expose] public section

set_option maxRecDepth 16384

noncomputable section

open Idealize.ShloMosaic Idealize.ShloMosaic.TcCoe Idealize.ShloMosaic.Tactic Idealize.SL.Sem

/-! ## The gradient of the input -/

namespace Cert.Proof.UpInput

open Cert.Kernel2Ideal Cert.Kernel2Ideal.Gen Products

/-- The body's product is `a · bᵀ` of its tiles. -/
theorem tile (a : FVec Ideal S512x5632 .bf16) (b : FVec Ideal S1024x5632 .bf16) : k0_pay1 (F := Ideal) a b = mulRows a b := by
  funext y
  rw [ValueIdx.eq_ix2 y]
  unfold k0_pay1 mulRows
  pointwise

/-- The reference's product. -/
theorem whole (a : FVec Ideal S4096x5632 .bf16) (b : FVec Ideal S1024x5632 .bf16) :
    truncf .bf16 (Host.dotGeneral Cert.Reference2Ideal.dot_S4096x5632_S1024x5632_S4096x1024_1_1_0_0_n_n none
      (extf .f32 a Cert.Reference2Ideal.Gen.bitsLt_bf16_f32) b) Cert.Reference2Ideal.Gen.bitsLt_bf16_f32 = mulRows a b := by
  funext y
  rw [ValueIdx.eq_ix2 y]
  unfold mulRows
  pointwise

/-- Where each point's tiles are. -/
theorem places : ∀ t : Fin cfg0.N, win0_0.index t 0 = win0_2.index t 0 ∧ win0_0.index t 1 = 0
    ∧ win0_1.index t 0 = win0_2.index t 1 ∧ win0_1.index t 1 = 0 := by decide +kernel

/-- What the call leaves. -/
theorem result (m : (ℓ : Loc nD τ sig) → Buf (Elt Ideal) ℓ) (c : Dev nD) :
    (dats m 0 c).arrAt 2 cfg0.N = mulRows (m ((c : Thread nD τ).loc main_arg1)) (m ((c : Thread nD τ).loc main_arg0)) := by
  refine (dats m 0 c).arrAt_eq_of_covers 2 _ (by decide +kernel) fun t hf y => ?_
  blk_simp
  rw [after0_2]
  frame_out
  obtain ⟨e0, e1, e2, e3⟩ := places t
  refine (congrFun (tile _ _) y).trans (mulRows_at (fun k => ?_) fun k => ?_)
  · exact (congrFun (V_main_arg1 m c) _).trans (congrArg _ (same_place (abreast e0) (spanning e1)))
  · exact (congrFun (V_main_arg0 m c) _).trans (congrArg _ (same_place (abreast e2) (spanning e3)))

theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem value : Cert.algebraic_Kernel2Ideal_Reference2Ideal := by
  pair_intro
  · run_from Cert.Kernel2Ideal.Value.run_blocks m g
  · run_from Cert.Reference2Ideal.Value.run m' g'
    exact (whole _ _).trans (result m c).symm

end Cert.Proof.UpInput

/-! ## The gradient of `w_up` -/

namespace Cert.Proof.UpWeight

open Cert.Kernel3Ideal Cert.Kernel3Ideal.Gen Products

/-- The body's product is `aᵀ · b` of its tiles. -/
theorem tile (a : FVec Ideal S4096x1024 .bf16) (b : FVec Ideal S4096x1408 .bf16) : k0_pay1 (F := Ideal) a b = mulCols a b := by
  funext y
  rw [ValueIdx.eq_ix2 y]
  unfold k0_pay1 mulCols
  pointwise

/-- The reference's product. -/
theorem whole (a : FVec Ideal S4096x1024 .bf16) (b : FVec Ideal S4096x5632 .bf16) :
    truncf .bf16 (transpose S1024x5632 [1, 0] (Host.dotGeneral Cert.Reference3Ideal.dot_S4096x5632_S4096x1024_S5632x1024_0_0_1_1_n_n none
      (extf .f32 b Cert.Reference3Ideal.Gen.bitsLt_bf16_f32) a) Cert.Reference3Ideal.Gen.transposes_S5632x1024_S1024x5632_1_0)
        Cert.Reference3Ideal.Gen.bitsLt_bf16_f32 = mulCols a b := by
  funext y
  rw [mulCols_comm, ValueIdx.eq_ix2 y]
  pointwise

/-- Where each point's tiles are. -/
theorem places : ∀ t : Fin cfg0.N, win0_0.index t 0 = 0 ∧ win0_0.index t 1 = win0_2.index t 0
    ∧ win0_1.index t 0 = 0 ∧ win0_1.index t 1 = win0_2.index t 1 := by decide +kernel

/-- What the call leaves. -/
theorem result (m : (ℓ : Loc nD τ sig) → Buf (Elt Ideal) ℓ) (c : Dev nD) :
    (dats m 0 c).arrAt 2 cfg0.N = mulCols (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3⟩ := places t
  refine (congrFun (tile _ _) y).trans (mulCols_at (fun k => ?_) fun k => ?_)
  · exact (congrFun (V_main_arg0 m c) _).trans (congrArg _ (same_place (spanning e0) (abreast e1)))
  · exact (congrFun (V_main_arg1 m c) _).trans (congrArg _ (same_place (spanning e2) (abreast e3)))

theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem value : Cert.algebraic_Kernel3Ideal_Reference3Ideal := by
  pair_intro
  · run_from Cert.Kernel3Ideal.Value.run_blocks m g
  · run_from Cert.Reference3Ideal.Value.run m' g'
    exact (whole _ _).trans (result m c).symm

end Cert.Proof.UpWeight

/-! ## The gradient of `w_down` -/

namespace Cert.Proof.DownWeight

open Cert.Kernel6Ideal Cert.Kernel6Ideal.Gen Products

/-- The body's product is `aᵀ · b` of its tiles. -/
theorem tile (a : FVec Ideal S4096x1408 .bf16) (b : FVec Ideal S4096x1024 .bf16) : k0_pay1 (F := Ideal) a b = mulCols a b := by
  funext y
  rw [ValueIdx.eq_ix2 y]
  unfold k0_pay1 mulCols
  pointwise

/-- The reference's product. -/
theorem whole (a : FVec Ideal S4096x2816 .bf16) (b : FVec Ideal S4096x1024 .bf16) :
    truncf .bf16 (transpose S2816x1024 [1, 0] (Host.dotGeneral Cert.Reference6Ideal.dot_S4096x1024_S4096x2816_S1024x2816_0_0_1_1_n_n none
      (extf .f32 b Cert.Reference6Ideal.Gen.bitsLt_bf16_f32) a) Cert.Reference6Ideal.Gen.transposes_S1024x2816_S2816x1024_1_0)
        Cert.Reference6Ideal.Gen.bitsLt_bf16_f32 = mulCols a b := by
  funext y
  rw [mulCols_comm, ValueIdx.eq_ix2 y]
  pointwise

/-- Where each point's tiles are. -/
theorem places : ∀ t : Fin cfg0.N, win0_0.index t 0 = 0 ∧ win0_0.index t 1 = win0_2.index t 0
    ∧ win0_1.index t 0 = 0 ∧ win0_1.index t 1 = win0_2.index t 1 := by decide +kernel

/-- What the call leaves. -/
theorem result (m : (ℓ : Loc nD τ sig) → Buf (Elt Ideal) ℓ) (c : Dev nD) :
    (dats m 0 c).arrAt 2 cfg0.N = mulCols (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3⟩ := places t
  refine (congrFun (tile _ _) y).trans (mulCols_at (fun k => ?_) fun k => ?_)
  · exact (congrFun (V_main_arg0 m c) _).trans (congrArg _ (same_place (spanning e0) (abreast e1)))
  · exact (congrFun (V_main_arg1 m c) _).trans (congrArg _ (same_place (spanning e2) (abreast e3)))

theorem frame_reference : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem value : Cert.algebraic_Kernel6Ideal_Reference6Ideal := by
  pair_intro
  · run_from Cert.Kernel6Ideal.Value.run_blocks m g
  · run_from Cert.Reference6Ideal.Value.run m' g'
    exact (whole _ _).trans (result m c).symm

end Cert.Proof.DownWeight

end
-- ==== Proof.InProducts.lean ====
/-
  The mixer's input projection: its product, the gradient of its input and of `w_in`.
-/
module

public import proofs.«01_k».proof.Defs
public import proofs.«01_k».proof.Proof.Products
public import proofs.«01_k».proof.Proof.Gen.Kernel4Ideal.Value
public import proofs.«01_k».proof.Proof.Gen.Kernel5Ideal.Value
public import proofs.«01_k».proof.Proof.Gen.Kernel9Ideal.Value
public import proofs.«01_k».proof.Proof.Gen.Reference4Ideal.Run
public import proofs.«01_k».proof.Proof.Gen.Reference5Ideal.Run
public import proofs.«01_k».proof.Proof.Gen.Reference9Ideal.Run

@[expose] public section

set_option maxRecDepth 16384

noncomputable section

open Idealize.ShloMosaic Idealize.ShloMosaic.TcCoe Idealize.ShloMosaic.Tactic Idealize.SL.Sem

/-! ## The gradient of the input -/

namespace Cert.Proof.InInput

open Cert.Kernel4Ideal Cert.Kernel4Ideal.Gen Products

/-- The body's product is `a · bᵀ` of its tiles. -/
theorem tile (a : FVec Ideal S512x5120 .bf16) (b : FVec Ideal S1024x5120 .bf16) : k0_pay1 (F := Ideal) a b = mulRows a b := by
  funext y
  rw [ValueIdx.eq_ix2 y]
  unfold k0_pay1 mulRows
  pointwise

/-- The reference's product. -/
theorem whole (a : FVec Ideal S4096x5120 .bf16) (b : FVec Ideal S1024x5120 .bf16) :
    truncf .bf16 (Host.dotGeneral Cert.Reference4Ideal.dot_S4096x5120_S1024x5120_S4096x1024_1_1_0_0_n_n none
      (extf .f32 a Cert.Reference4Ideal.Gen.bitsLt_bf16_f32) b) Cert.Reference4Ideal.Gen.bitsLt_bf16_f32 = mulRows a b := by
  funext y
  rw [ValueIdx.eq_ix2 y]
  unfold mulRows
  pointwise

/-- Where each point's tiles are. -/
theorem places : ∀ t : Fin cfg0.N, win0_0.index t 0 = win0_2.index t 0 ∧ win0_0.index t 1 = 0
    ∧ win0_1.index t 0 = win0_2.index t 1 ∧ win0_1.index t 1 = 0 := by decide +kernel

/-- What the call leaves. -/
theorem result (m : (ℓ : Loc nD τ sig) → Buf (Elt Ideal) ℓ) (c : Dev nD) :
    (dats m 0 c).arrAt 2 cfg0.N = mulRows (m ((c : Thread nD τ).loc main_arg1)) (m ((c : Thread nD τ).loc main_arg0)) := by
  refine (dats m 0 c).arrAt_eq_of_covers 2 _ (by decide +kernel) fun t hf y => ?_
  blk_simp
  rw [after0_2]
  frame_out
  obtain ⟨e0, e1, e2, e3⟩ := places t
  refine (congrFun (tile _ _) y).trans (mulRows_at (fun k => ?_) fun k => ?_)
  · exact (congrFun (V_main_arg1 m c) _).trans (congrArg _ (same_place (abreast e0) (spanning e1)))
  · exact (congrFun (V_main_arg0 m c) _).trans (congrArg _ (same_place (abreast e2) (spanning e3)))

theorem frame_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem value : Cert.algebraic_Kernel4Ideal_Reference4Ideal := by
  pair_intro
  · run_from Cert.Kernel4Ideal.Value.run_blocks m g
  · run_from Cert.Reference4Ideal.Value.run m' g'
    exact (whole _ _).trans (result m c).symm

end Cert.Proof.InInput

/-! ## The gradient of `w_in` -/

namespace Cert.Proof.InWeight

open Cert.Kernel5Ideal Cert.Kernel5Ideal.Gen Products

/-- The body's product is `aᵀ · b` of its tiles. -/
theorem tile (a : FVec Ideal S4096x1024 .bf16) (b : FVec Ideal S4096x1280 .bf16) : k0_pay1 (F := Ideal) a b = mulCols a b := by
  funext y
  rw [ValueIdx.eq_ix2 y]
  unfold k0_pay1 mulCols
  pointwise

/-- The reference's product. -/
theorem whole (a : FVec Ideal S4096x1024 .bf16) (b : FVec Ideal S4096x5120 .bf16) :
    truncf .bf16 (transpose S1024x5120 [1, 0] (Host.dotGeneral Cert.Reference5Ideal.dot_S4096x5120_S4096x1024_S5120x1024_0_0_1_1_n_n none
      (extf .f32 b Cert.Reference5Ideal.Gen.bitsLt_bf16_f32) a) Cert.Reference5Ideal.Gen.transposes_S5120x1024_S1024x5120_1_0)
        Cert.Reference5Ideal.Gen.bitsLt_bf16_f32 = mulCols a b := by
  funext y
  rw [mulCols_comm, ValueIdx.eq_ix2 y]
  pointwise

/-- Where each point's tiles are. -/
theorem places : ∀ t : Fin cfg0.N, win0_0.index t 0 = 0 ∧ win0_0.index t 1 = win0_2.index t 0
    ∧ win0_1.index t 0 = 0 ∧ win0_1.index t 1 = win0_2.index t 1 := by decide +kernel

/-- What the call leaves. -/
theorem result (m : (ℓ : Loc nD τ sig) → Buf (Elt Ideal) ℓ) (c : Dev nD) :
    (dats m 0 c).arrAt 2 cfg0.N = mulCols (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3⟩ := places t
  refine (congrFun (tile _ _) y).trans (mulCols_at (fun k => ?_) fun k => ?_)
  · exact (congrFun (V_main_arg0 m c) _).trans (congrArg _ (same_place (spanning e0) (abreast e1)))
  · exact (congrFun (V_main_arg1 m c) _).trans (congrArg _ (same_place (spanning e2) (abreast e3)))

theorem frame_reference : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem value : Cert.algebraic_Kernel5Ideal_Reference5Ideal := by
  pair_intro
  · run_from Cert.Kernel5Ideal.Value.run_blocks m g
  · run_from Cert.Reference5Ideal.Value.run m' g'
    exact (whole _ _).trans (result m c).symm

end Cert.Proof.InWeight

/-! ## The forward product -/

namespace Cert.Proof.InForward

open Cert.Kernel9Ideal Cert.Kernel9Ideal.Gen Products

/-- The body's product is `a · b` of its tiles. -/
theorem tile (a : FVec Ideal S2048x1024 .bf16) (b : FVec Ideal S1024x1024 .bf16) : k0_pay1 (F := Ideal) a b = mul a b := by
  funext y
  rw [ValueIdx.eq_ix2 y]
  unfold k0_pay1 mul
  pointwise

/-- The reference's product. -/
theorem whole (a : FVec Ideal S4096x1024 .bf16) (b : FVec Ideal S1024x5120 .bf16) :
    truncf .bf16 (Host.dotGeneral Cert.Reference9Ideal.dot_S4096x1024_S1024x5120_S4096x5120_1_0_0_1_n_n none a b)
      Cert.Reference9Ideal.Gen.bitsLt_bf16_f32 = mul a b := by
  funext y
  rw [ValueIdx.eq_ix2 y]
  unfold mul
  pointwise

/-- Where each point's tiles are. -/
theorem places : ∀ t : Fin cfg0.N, win0_0.index t 0 = win0_2.index t 0 ∧ win0_0.index t 1 = 0
    ∧ win0_1.index t 0 = 0 ∧ win0_1.index t 1 = win0_2.index t 1 := by decide +kernel

/-- What the call leaves. -/
theorem result (m : (ℓ : Loc nD τ sig) → Buf (Elt Ideal) ℓ) (c : Dev nD) :
    (dats m 0 c).arrAt 2 cfg0.N = mul (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3⟩ := places t
  refine (congrFun (tile _ _) y).trans (mul_at (fun k => ?_) fun k => ?_)
  · exact (congrFun (V_main_arg0 m c) _).trans (congrArg _ (same_place (abreast e0) (spanning e1)))
  · exact (congrFun (V_main_arg1 m c) _).trans (congrArg _ (same_place (spanning e2) (abreast e3)))

theorem frame_reference : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

theorem value : Cert.algebraic_Kernel9Ideal_Reference9Ideal := by
  pair_intro
  · run_from Cert.Kernel9Ideal.Value.run_blocks m g
  · run_from Cert.Reference9Ideal.Value.run m' g'
    exact (whole _ _).trans (result m c).symm

end Cert.Proof.InForward

end
-- ==== Proof.OutProducts.lean ====
/-
  The mixer's output projections: the gradients of their inputs and of `w_out`.
-/
module

public import proofs.«01_k».proof.Defs
public import proofs.«01_k».proof.Proof.Products
public import proofs.«01_k».proof.Proof.Gen.Kernel7Ideal.Value
public import proofs.«01_k».proof.Proof.Gen.Kernel8Ideal.Value
public import proofs.«01_k».proof.Proof.Gen.Kernel10Ideal.Value
public import proofs.«01_k».proof.Proof.Gen.Reference7Ideal.Run
public import proofs.«01_k».proof.Proof.Gen.Reference8Ideal.Run
public import proofs.«01_k».proof.Proof.Gen.Reference10Ideal.Run

@[expose] public section

set_option maxRecDepth 16384

noncomputable section

open Idealize.ShloMosaic Idealize.ShloMosaic.TcCoe Idealize.ShloMosaic.Tactic Idealize.SL.Sem

/-! ## The gradient of the mixed branches -/

namespace Cert.Proof.MixedInput

open Cert.Kernel7Ideal Cert.Kernel7Ideal.Gen Products

/-- The body's product is `a · bᵀ` of its tiles. -/
theorem tile (a : FVec Ideal S2048x1024 .bf16) (b : FVec Ideal S1024x1024 .bf16) : k0_pay1 (F := Ideal) a b = mulRows a b := by
  funext y
  rw [ValueIdx.eq_ix2 y]
  unfold k0_pay1 mulRows
  pointwise

/-- The reference's product. -/
theorem whole (a : FVec Ideal S4096x1024 .bf16) (b : FVec Ideal S1024x1024 .bf16) :
    truncf .bf16 (Host.dotGeneral Cert.Reference7Ideal.dot_S4096x1024_S1024x1024_S4096x1024_1_1_0_0_n_n none
      (extf .f32 a Cert.Reference7Ideal.Gen.bitsLt_bf16_f32) b) Cert.Reference7Ideal.Gen.bitsLt_bf16_f32 = mulRows a b := by
  funext y
  rw [ValueIdx.eq_ix2 y]
  unfold mulRows
  pointwise

/-- Where each point's tiles are. -/
theorem places : ∀ t : Fin cfg0.N, win0_0.index t 0 = win0_2.index t 0 ∧ win0_0.index t 1 = 0
    ∧ win0_1.index t 0 = win0_2.index t 1 ∧ win0_1.index t 1 = 0 := by decide +kernel

/-- What the call leaves. -/
theorem result (m : (ℓ : Loc nD τ sig) → Buf (Elt Ideal) ℓ) (c : Dev nD) :
    (dats m 0 c).arrAt 2 cfg0.N = mulRows (m ((c : Thread nD τ).loc main_arg1)) (m ((c : Thread nD τ).loc main_arg0)) := by
  refine (dats m 0 c).arrAt_eq_of_covers 2 _ (by decide +kernel) fun t hf y => ?_
  blk_simp
  rw [after0_2]
  frame_out
  obtain ⟨e0, e1, e2, e3⟩ := places t
  refine (congrFun (tile _ _) y).trans (mulRows_at (fun k => ?_) fun k => ?_)
  · exact (congrFun (V_main_arg1 m c) _).trans (congrArg _ (same_place (abreast e0) (spanning e1)))
  · exact (congrFun (V_main_arg0 m c) _).trans (congrArg _ (same_place (abreast e2) (spanning e3)))

theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem value : Cert.algebraic_Kernel7Ideal_Reference7Ideal := by
  pair_intro
  · run_from Cert.Kernel7Ideal.Value.run_blocks m g
  · run_from Cert.Reference7Ideal.Value.run m' g'
    exact (whole _ _).trans (result m c).symm

end Cert.Proof.MixedInput

/-! ## The gradient of `w_out` -/

namespace Cert.Proof.MixedWeight

open Cert.Kernel8Ideal Cert.Kernel8Ideal.Gen Products

/-- The body's product is `aᵀ · b` of its tiles. -/
theorem tile (a : FVec Ideal S4096x1024 .bf16) (b : FVec Ideal S4096x1024 .bf16) : k0_pay1 (F := Ideal) a b = mulCols a b := by
  funext y
  rw [ValueIdx.eq_ix2 y]
  unfold k0_pay1 mulCols
  pointwise

/-- The reference's product. -/
theorem whole (a : FVec Ideal S4096x1024 .bf16) (b : FVec Ideal S4096x1024 .bf16) :
    truncf .bf16 (transpose S1024x1024 [1, 0] (Host.dotGeneral Cert.Reference8Ideal.dot_S4096x1024_S4096x1024_S1024x1024_0_0_1_1_n_n none
      (extf .f32 b Cert.Reference8Ideal.Gen.bitsLt_bf16_f32) a) Cert.Reference8Ideal.Gen.transposes_S1024x1024_S1024x1024_1_0)
        Cert.Reference8Ideal.Gen.bitsLt_bf16_f32 = mulCols a b := by
  funext y
  rw [mulCols_comm, ValueIdx.eq_ix2 y]
  pointwise

/-- Where each point's tiles are. -/
theorem places : ∀ t : Fin cfg0.N, win0_0.index t 0 = 0 ∧ win0_0.index t 1 = win0_2.index t 0
    ∧ win0_1.index t 0 = 0 ∧ win0_1.index t 1 = win0_2.index t 1 := by decide +kernel

/-- What the call leaves. -/
theorem result (m : (ℓ : Loc nD τ sig) → Buf (Elt Ideal) ℓ) (c : Dev nD) :
    (dats m 0 c).arrAt 2 cfg0.N = mulCols (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2, e3⟩ := places t
  refine (congrFun (tile _ _) y).trans (mulCols_at (fun k => ?_) fun k => ?_)
  · exact (congrFun (V_main_arg0 m c) _).trans (congrArg _ (same_place (spanning e0) (abreast e1)))
  · exact (congrFun (V_main_arg1 m c) _).trans (congrArg _ (same_place (spanning e2) (abreast e3)))

theorem frame_reference : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem value : Cert.algebraic_Kernel8Ideal_Reference8Ideal := by
  pair_intro
  · run_from Cert.Kernel8Ideal.Value.run_blocks m g
  · run_from Cert.Reference8Ideal.Value.run m' g'
    exact (whole _ _).trans (result m c).symm

end Cert.Proof.MixedWeight

/-! ## The gradient of one branch -/

namespace Cert.Proof.BranchInput

open Cert.Kernel10Ideal Cert.Kernel10Ideal.Gen Products

/-- The body's product is `a · bᵀ` of its tiles. -/
theorem tile (a : FVec Ideal S2048x1024 .bf16) (b : FVec Ideal S512x1024 .bf16) : k0_pay1 (F := Ideal) a b = mulRows a b := by
  funext y
  rw [ValueIdx.eq_ix2 y]
  unfold k0_pay1 mulRows
  pointwise

/-- The reference's product. -/
theorem whole (a : FVec Ideal S4096x1024 .bf16) (b : FVec Ideal S512x1024 .bf16) :
    truncf .bf16 (Host.dotGeneral Cert.Reference10Ideal.dot_S4096x1024_S512x1024_S4096x512_1_1_0_0_n_n none
      (extf .f32 a Cert.Reference10Ideal.Gen.bitsLt_bf16_f32) b) Cert.Reference10Ideal.Gen.bitsLt_bf16_f32 = mulRows a b := by
  funext y
  rw [ValueIdx.eq_ix2 y]
  unfold mulRows
  pointwise

/-- Where each point's tiles are. -/
theorem places : ∀ t : Fin cfg0.N, win0_0.index t 0 = win0_2.index t 0 ∧ win0_0.index t 1 = 0
    ∧ win0_1.index t 0 = win0_2.index t 1 ∧ win0_1.index t 1 = 0 := by decide +kernel

/-- What the call leaves. -/
theorem result (m : (ℓ : Loc nD τ sig) → Buf (Elt Ideal) ℓ) (c : Dev nD) :
    (dats m 0 c).arrAt 2 cfg0.N = mulRows (m ((c : Thread nD τ).loc main_arg1)) (m ((c : Thread nD τ).loc main_arg0)) := by
  refine (dats m 0 c).arrAt_eq_of_covers 2 _ (by decide +kernel) fun t hf y => ?_
  blk_simp
  rw [after0_2]
  frame_out
  obtain ⟨e0, e1, e2, e3⟩ := places t
  refine (congrFun (tile _ _) y).trans (mulRows_at (fun k => ?_) fun k => ?_)
  · exact (congrFun (V_main_arg1 m c) _).trans (congrArg _ (same_place (abreast e0) (spanning e1)))
  · exact (congrFun (V_main_arg0 m c) _).trans (congrArg _ (same_place (abreast e2) (spanning e3)))

theorem frame_reference : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem value : Cert.algebraic_Kernel10Ideal_Reference10Ideal := by
  pair_intro
  · run_from Cert.Kernel10Ideal.Value.run_blocks m g
  · run_from Cert.Reference10Ideal.Value.run m' g'
    exact (whole _ _).trans (result m c).symm

end Cert.Proof.BranchInput

end
-- ==== Proof.Gates.lean ====
/-
  The backward call of the second branch's gate. A tile of the gate's input and of the two products it multiplies is read,
  and two arrays are left: the gradient of the branch, and one block of columns of the gradient that the caller hands over,
  whose other columns stay as they were.
-/
module

public import proofs.«01_k».proof.Proof.Products
public import proofs.«01_k».proof.Defs
public import proofs.«01_k».proof.Proof.Gen.Kernel13Ideal.Value
public import proofs.«01_k».proof.Proof.Gen.Reference13Ideal.Run

@[expose] public section

noncomputable section

namespace Cert.Proof.Gate

open Idealize.ShloMosaic Idealize.ShloMosaic.Pipeline Idealize.ShloMosaic.TcCoe
open Cert.Kernel13Ideal Cert.Kernel13Ideal.Gen Products

/-- The logistic function. -/
def gate (z : EReal) : EReal := Ideal.div 1 (1 + Ideal.exp (-z))

/-- The gradient of the branch. -/
def branch {p q : ℕ} (d z : Mat p q) : Mat p q := fun y => d y * gate (z y)
/-- The gradient of the gate's input. -/
def input {p q : ℕ} (d z b : Mat p q) : Mat p q := fun y => d y * b y * gate (z y) * (1 - gate (z y))

/-- An entry needs the same entry of each only. -/
theorem input_at {p q p' q' : ℕ} {d z b : Mat p q} {D Z B : Mat p' q'} {y : (⟨2, ![p, q]⟩ : Shape).Idx} {i : (⟨2, ![p', q']⟩ : Shape).Idx}
    (hd : d y = D i) (hz : z y = Z i) (hb : b y = B i) : input d z b y = input D Z B i := by
  unfold input
  rw [hd, hz, hb]

/-- The body's two results from its tiles. -/
theorem tile_branch (d z : FVec Ideal S512x1024 .bf16) : k0_pay3 (F := Ideal) d z = branch d z := by
  funext y
  rw [ValueIdx.eq_ix2 y]
  unfold k0_pay3 k0_pay2 k0_pay1 branch gate
  pointwise
  rw [zero_sub]
theorem tile_input (d z b : FVec Ideal S512x1024 .bf16) : k0_pay4 (F := Ideal) d z b = input d z b := by
  funext y
  rw [ValueIdx.eq_ix2 y]
  unfold k0_pay4 k0_pay2 k0_pay1 input gate
  pointwise
  rw [zero_sub]

/-- The last 1024 columns, where the gate's input is. -/
def last (z : Mat 4096 5120) : Mat 4096 1024 := fun y => z (ix2 (y 0) ⟨4096 + (y 1).val, by have : (y 1).val < 1024 := (y 1).isLt; omega⟩)

/-- The array handed over, its last 1024 columns replaced. -/
def replaced (a : Mat 4096 5120) (x : Mat 4096 1024) : Mat 4096 5120 := fun i =>
  if h : (i 1).val < 4096 then a i else x (ix2 (i 0) ⟨(i 1).val - 4096, by have : (i 1).val < 5120 := (i 1).isLt; omega⟩)

/-- The array handed over, as the call finds it. -/
theorem handed (m : (ℓ : Loc nD τ sig) → Buf (Elt Ideal) ℓ) (c : Dev nD) : V m c main_v0_1 = m ((c : Thread nD τ).loc main_arg3) := by
  unfold V hostOps0
  after_results
  rfl

/-- Where each point's tiles are. -/
theorem places : ∀ t : Fin cfg0.N, win0_0.index t 0 = win0_3.index t 0 ∧ win0_0.index t 1 = win0_3.index t 1
    ∧ win0_1.index t 0 = win0_3.index t 0 ∧ win0_1.index t 1 = 4
    ∧ win0_2.index t 0 = win0_3.index t 0 ∧ win0_2.index t 1 = 0 ∧ win0_3.index t 1 = 0
    ∧ win0_4.index t 0 = win0_3.index t 0 ∧ win0_4.index t 1 = 4 := by decide +kernel

/-- The branch's gradient, as the call leaves it. -/
theorem result_branch (m : (ℓ : Loc nD τ sig) → Buf (Elt Ideal) ℓ) (c : Dev nD) :
    (dats m 0 c).arrAt 3 cfg0.N = branch (m ((c : Thread nD τ).loc main_arg0)) (last (m ((c : Thread nD τ).loc main_arg1))) := by
  refine (dats m 0 c).arrAt_eq_of_covers 3 _ (by decide +kernel) fun t hf y => ?_
  blk_simp
  rw [after0_3]
  simp only [outsAt0]
  frame_out
  obtain ⟨e0, e1, e2, e3, -, -, e6, -, -⟩ := places t
  refine (congrFun (tile_branch _ _) y).trans ?_
  unfold branch
  refine congrArg₂ (fun u v => u * gate v) ?_ ?_
  · exact (congrFun (V_main_arg0 m c) _).trans (congrArg _ (same_place (abreast e0) (abreast e1)))
  · refine (congrFun (V_main_arg1 m c) _).trans (congrArg _ (same_place (abreast e2) ?_))
    show win0_1.index t 1 * 1024 + 1 * (y 1).val = 4096 + (win0_3.index t 1 * 1024 + 1 * (y 1).val)
    omega

/-- The array handed over, as the call leaves it. -/
theorem result_input (m : (ℓ : Loc nD τ sig) → Buf (Elt Ideal) ℓ) (c : Dev nD) :
    (dats m 0 c).arrAt 4 cfg0.N = replaced (m ((c : Thread nD τ).loc main_arg3))
      (input (m ((c : Thread nD τ).loc main_arg0)) (last (m ((c : Thread nD τ).loc main_arg1))) (m ((c : Thread nD τ).loc main_arg2))) := by
  refine (dats m 0 c).arrAt_eq_of_coversWhere_of_agree 4 _ (fun β => β 1 = 4) (by decide +kernel) (fun t hf y => ?_) fun j hj => ?_
  · blk_simp
    rw [after0_4]
    simp only [outsAt0]
    frame_out
    obtain ⟨e0, e1, e2, e3, e4, e5, e6, e7, e8⟩ := places t
    refine (congrFun (tile_input _ _ _) y).trans ?_
    unfold replaced
    rw [dif_neg (by show ¬ win0_4.index t 1 * 1024 + 1 * (y 1).val < 4096; omega)]
    refine input_at ?_ ?_ ?_
    · refine (congrFun (V_main_arg0 m c) _).trans (congrArg _ (same_place (abreast (e0.trans e7.symm)) ?_))
      show win0_0.index t 1 * 1024 + 1 * (y 1).val = win0_4.index t 1 * 1024 + 1 * (y 1).val - 4096
      omega
    · refine (congrFun (V_main_arg1 m c) _).trans (congrArg _ (same_place (abreast (e2.trans e7.symm)) ?_))
      show win0_1.index t 1 * 1024 + 1 * (y 1).val = 4096 + (win0_4.index t 1 * 1024 + 1 * (y 1).val - 4096)
      omega
    · refine (congrFun (V_main_arg2 m c) _).trans (congrArg _ (same_place (abreast (e4.trans e7.symm)) ?_))
      show win0_2.index t 1 * 1024 + 1 * (y 1).val = win0_4.index t 1 * 1024 + 1 * (y 1).val - 4096
      omega
  · blk_simp [Pipeline.Window.cell_apply] at hj ⊢
    have hb : (j 1).val < 5120 := (j 1).isLt
    unfold replaced
    rw [dif_pos (by omega)]
    exact (congrFun (A_eq m c 4) j).trans (congrFun (handed m c) j)

theorem whole_branch (d : FVec Ideal S4096x1024 .bf16) (z : FVec Ideal S4096x5120 .bf16) :
    truncf .bf16 (mulf (Host.divf (broadcastInDim S4096x1024 ![] Reference13Ideal.Gen.bcast_S_S4096x1024 (constant Reference13Ideal.S_ .f32 0x3F800000#32))
      (addf (broadcastInDim S4096x1024 ![] Reference13Ideal.Gen.bcast_S_S4096x1024 (constant Reference13Ideal.S_ .f32 0x3F800000#32))
        (Host.exp (Host.negf (extf .f32 (extractStridedSlice S4096x1024 ![0, 4096] z Reference13Ideal.Gen.slices_S4096x5120_S4096x1024_0_4096)
          Reference13Ideal.Gen.bitsLt_bf16_f32))))) (extf .f32 d Reference13Ideal.Gen.bitsLt_bf16_f32)) Reference13Ideal.Gen.bitsLt_bf16_f32
      = branch d (last z) := by
  funext y
  rw [ValueIdx.eq_ix2 y]
  unfold branch gate last
  pointwise
  exact mul_comm _ _

theorem frame_reference : Cert.quiescent_Reference13Ideal := fun m g _ =>
  (θ_run Cert.Reference13Ideal.defs _ _).mono (fun r h => ⟨fun c => (h c).2.2, sem_eq_zero_of_no_sems (by decide) r.2⟩)
    (Cert.Reference13Ideal.Value.run (F := Ideal) m g)

theorem value : Cert.algebraic_Kernel13Ideal_Reference13Ideal := by
  pair_intro
  · run_from Cert.Kernel13Ideal.Value.run_blocks m g
  · run_from Cert.Reference13Ideal.Value.run m' g'
    · exact (whole_branch _ _).trans (result_branch m c).symm
    · refine Eq.trans ?_ (result_input m c).symm
      funext i
      rw [ValueIdx.eq_ix2 i]
      unfold replaced input gate last
      pointwise
      exact dite_congr rfl (fun _ => congrFun (hagree c).2.2.2 _) fun _ => (mul_assoc (G := EReal) _ _ _).symm

end Cert.Proof.Gate

end
-- ==== Proof.Spread.lean ====
/-
  The gradient of a branch's output weight, its columns dealt out to the devices: part `s` of the result is the `s`-th run of
  128 columns of the product.
-/
module

public import proofs.«01_k».proof.Proof.Products
public import proofs.«01_k».proof.Defs
public import proofs.«01_k».proof.Proof.Gen.Kernel14Ideal.Value
public import proofs.«01_k».proof.Proof.Gen.Reference14Ideal.Run

@[expose] public section

noncomputable section

namespace Cert.Proof.BranchWeight

open Idealize.ShloMosaic Idealize.ShloMosaic.Pipeline Idealize.ShloMosaic.TcCoe
open Cert.Kernel14Ideal Cert.Kernel14Ideal.Gen Products

/-- Where an entry of part `s` is in the matrix. -/
def column (y : S8x512x128.Idx) : Fin 1024 := ⟨(y 0).val * 128 + (y 2).val, by
  have h0 : (y 0).val < 8 := (y 0).isLt
  have h2 : (y 2).val < 128 := (y 2).isLt
  omega⟩

/-- A matrix of 1024 columns in eight parts. -/
def parts (w : Mat 512 1024) : S8x512x128.Idx → EReal := fun y => w (ix2 (y 1) (column y))

/-- The body's product is `aᵀ · b`. -/
theorem tile (a : FVec Ideal S4096x512 .bf16) (b : FVec Ideal S4096x1024 .bf16) : k0_pay4 (F := Ideal) a b = mulCols a b := by
  funext y
  rw [ValueIdx.eq_ix2 y]
  unfold k0_pay4 mulCols
  pointwise

/-- The product as the frame names it. -/
theorem product_eq (a : FVec Ideal S4096x512 .bf16) (b : FVec Ideal S4096x1024 .bf16) : k0_pay11 (F := Ideal) a b = mulCols a b :=
  by
  unfold k0_pay11
  exact (congrArg₂ (k0_pay4 (F := Ideal)) (View.ld_unit_zero (S := S4096x512) Cert.Kernel14Ideal.Value.hz0 _ a)
    (View.ld_unit_zero (S := S4096x1024) Cert.Kernel14Ideal.Value.hz1 _ b)).trans (tile a b)

/-- What the call leaves. -/
theorem result (m : (ℓ : Loc nD τ sig) → Buf (Elt Ideal) ℓ) (c : Dev nD) :
    (dats m 0 c).arrAt 2 cfg0.N = parts (mulCols (m ((c : Thread nD τ).loc main_arg0)) (m ((c : Thread nD τ).loc main_arg1))) := by
  rw [Cert.Kernel14Ideal.Value.final2, Cert.Kernel14Ideal.Value.G2, product_eq, ← tile]
  funext y
  rw [Cert.Kernel14Ideal.Value.canon2_eq (F := Ideal)]
  exact congrArg (k0_pay4 (F := Ideal) _ _) (same_place rfl rfl)

/-- The reference's product. -/
theorem product (a : FVec Ideal S4096x512 .bf16) (b : FVec Ideal S4096x1024 .bf16) :
    truncf .bf16 (transpose S512x1024 [1, 0] (Host.dotGeneral Cert.Reference14Ideal.dot_S4096x1024_S4096x512_S1024x512_0_0_1_1_n_n none
      (extf .f32 b Cert.Reference14Ideal.Gen.bitsLt_bf16_f32) a) Cert.Reference14Ideal.Gen.transposes_S1024x512_S512x1024_1_0)
        Cert.Reference14Ideal.Gen.bitsLt_bf16_f32 = mulCols a b := by
  funext y
  rw [mulCols_comm, ValueIdx.eq_ix2 y]
  pointwise

theorem whole (m : (ℓ : Loc Cert.Reference14Ideal.nD Cert.Reference14Ideal.τ Cert.Reference14Ideal.sig) → Buf (Elt Ideal) ℓ) (c : Dev nD) :
    Cert.Reference14Ideal.Value.res_main_v23 (F := Ideal) m c = parts (mulCols (m (c.tc.loc Cert.Reference14Ideal.main_arg0)) (m (c.tc.loc Cert.Reference14Ideal.main_arg1))) := by
  unfold Cert.Reference14Ideal.Value.res_main_v23
  rw [product]
  funext y
  concat_tiles
  all_goals
    rw [ValueIdx.eq_ix3 i]
    unfold parts
    pointwise
    refine congrArg _ (same_place h1 ?_)
    show _ = (y 0).val * 128 + (y 2).val
    rw [h, ← h2]
    first | rfl | exact (Nat.zero_add _).symm

theorem frame_reference : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

theorem value : Cert.algebraic_Kernel14Ideal_Reference14Ideal := by
  pair_intro
  · run_from Cert.Kernel14Ideal.Value.run_blocks m g
  · run_from Cert.Reference14Ideal.Value.run m' g'
    rw [whole, (hagree c).1, (hagree c).2]
    exact (result m c).symm

end Cert.Proof.BranchWeight

end
-- ==== Proof.NormHost.lean ====
/-
  The derivative of the root-mean-square norm over whole arrays, as the references have it.
-/
module

public import proofs.«01_k».proof.Proof.Norms
public import proofs.«01_k».proof.Proof.Gen.Reference11Ideal.Run

@[expose] public section

set_option maxRecDepth 16384

noncomputable section

namespace Cert.Proof.Norms

open Idealize.ShloMosaic Products Cert.Reference11Ideal Cert.Reference11Ideal.Gen

/-- The mean squares of the rows. -/
def squares (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
/-- The gradient times the norm's weight. -/
def weigh (d : FVec Ideal S4096x1024 .f32) (g : FVec Ideal S1x1024 .f32) : FVec Ideal S4096x1024 .f32 :=
  mulf d (broadcastInDim S4096x1024 ![0, 1] bcast_S1x1024_S4096x1024_0_1 g)
/-- The rows divided by their norms' share. -/
def scales (x : FVec Ideal S4096x1024 .f32) : FVec Ideal S4096x1024 .f32 :=
  broadcastInDim S4096x1024 ![0, 1] bcast_S4096x1_S4096x1024_0_1 (Host.rsqrt (squares x))
/-- What the derivative of the scale adds, up to the entry. -/
def alongs (x d : FVec Ideal S4096x1024 .f32) (g : FVec Ideal S1x1024 .f32) : FVec Ideal S4096x1024 .f32 :=
  broadcastInDim S4096x1024 ![0] bcast_S4096_S4096x1024_0 (Host.reduceAdd (Host.divf (mulf (shapeCast S4096x1
    (Host.reduceAdd (mulf x (weigh d g)) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (squares x)) (squares x))))
    (broadcastInDim S4096x1 ![] bcast_S_S4096x1 (constant S_ .f32 0x44800000#32))) (constant S_ .f32 0x00000000#32) reducesTo_S4096x1_S4096_d1 h_S_)
/-- The derivative. -/
def derivative (x d : FVec Ideal S4096x1024 .f32) (g : FVec Ideal S1x1024 .f32) : FVec Ideal S4096x1024 .f32 :=
  addf (addf (mulf (weigh d g) (scales x)) (mulf x (alongs x d g))) (mulf (alongs x d g) x)
/-- The derivative, added to another gradient. -/
def derivativeOnto (a x d : FVec Ideal S4096x1024 .f32) (g : FVec Ideal S1x1024 .f32) : FVec Ideal S4096x1024 .f32 :=
  addf (addf (addf a (mulf (weigh d g) (scales x))) (mulf x (alongs x d g))) (mulf (alongs x d g) x)
/-- The derivative with respect to the norm's weight. -/
def derivativeWeight (x d : FVec Ideal S4096x1024 .f32) : FVec Ideal S1x1024 .f32 :=
  shapeCast S1x1024 (Host.reduceAdd (mulf (mulf x (scales x)) d) (constant S_ .f32 0x00000000#32) reducesTo_S4096x1024_S1024_d0 h_S_) shapeCasts_S1024_S1x1024

theorem squares_at (x : FVec Ideal S4096x1024 .f32) (y : S4096x1.Idx) : squares x y = square (row x (y 0)) := by
  rw [ValueIdx.eq_ix2 y]
  unfold squares square
  pointwise
theorem scales_at (x : FVec Ideal S4096x1024 .f32) (y : S4096x1024.Idx) : scales x y = scale (row x (y 0)) := by
  rw [ValueIdx.eq_ix2 y]
  unfold scales scale
  pointwise
  rw [squares_at]
  rfl
theorem weigh_at (d : FVec Ideal S4096x1024 .f32) (g : FVec Ideal S1x1024 .f32) (y : S4096x1024.Idx) : weigh d g y = weighted d g y := by
  rw [ValueIdx.eq_ix2 y]
  unfold weigh weighted
  pointwise
theorem alongs_at (x d : FVec Ideal S4096x1024 .f32) (g : FVec Ideal S1x1024 .f32) (y : S4096x1024.Idx) :
    alongs x d g y = along (row x (y 0)) (row (weighted d g) (y 0)) := by
  rw [ValueIdx.eq_ix2 y]
  unfold alongs along
  pointwise
  simp only [squares_at, weigh_at]
  exact Fin.sum_univ_one _
theorem derivative_eq (x d : FVec Ideal S4096x1024 .f32) (g : FVec Ideal S1x1024 .f32) : derivative x d g = grad x d g := by
  funext y
  obtain ⟨i, j, rfl⟩ : ∃ i j, y = ix2 i j := ⟨_, _, ValueIdx.eq_ix2 y⟩
  show weigh d g (ix2 i j) * scales x (ix2 i j) + x (ix2 i j) * alongs x d g (ix2 i j) + alongs x d g (ix2 i j) * x (ix2 i j) = grad x d g (ix2 i j)
  rw [weigh_at, scales_at, alongs_at]
  exact back_eq (row x i) (row (weighted d g) i) j
theorem derivativeOnto_eq (a x d : FVec Ideal S4096x1024 .f32) (g : FVec Ideal S1x1024 .f32) : derivativeOnto a x d g = fun y => grad x d g y + a y := by
  funext y
  rw [← derivative_eq]
  show a y + weigh d g y * scales x y + x y * alongs x d g y + alongs x d g y * x y = weigh d g y * scales x y + x y * alongs x d g y + alongs x d g y * x y + a y
  rw [add_comm _ (a y), ← add_assoc, ← add_assoc]
theorem derivativeWeight_eq (x d : FVec Ideal S4096x1024 .f32) : derivativeWeight x d = gradWeight x d := by
  funext y
  rw [ValueIdx.eq_ix2 y]
  unfold derivativeWeight gradWeight term
  pointwise
  refine Finset.sum_congr rfl fun k _ => ?_
  rw [scales_at, mul_comm]
  rfl

end Cert.Proof.Norms

end
-- ==== Proof.NormCalls.lean ====
/-
  The backward call of the norm in front of the mixer, and the sums over rows that both norm calls run.
-/
module

public import proofs.«01_k».proof.Defs
public import proofs.«01_k».proof.Proof.NormHost
public import proofs.«01_k».proof.Proof.Gen.Kernel11Ideal.Value

@[expose] public section

set_option maxRecDepth 16384

noncomputable section

open Idealize.ShloMosaic Idealize.ShloMosaic.TcCoe Idealize.ShloMosaic.Tactic Idealize.SL.Sem

namespace Cert.Proof.Norms

open Products

/-- A row's part of the weight's gradient, by the row's number. -/
def part (x d : Mat 4096 1024) (j : Fin 1024) (i : ℕ) : EReal := if h : i < 4096 then term x d ⟨i, h⟩ j else 0

theorem part_at {x d : Mat 4096 1024} {a b : Mat 512 1024} {r : Fin 512} {i : ℕ} {h : i < 4096} {j : Fin 1024}
    (ha : row a r = row x ⟨i, h⟩) (hb : row b r = row d ⟨i, h⟩) : term a b r j = part x d j i := by
  unfold part
  rw [dif_pos h]
  exact term_at ha hb rfl
theorem part_sum (x d : Mat 4096 1024) {j : Fin 1024} {y : (⟨2, ![1, 1024]⟩ : Shape).Idx} (hj : (y 1).val = j.val) :
    ∑ i ∈ Finset.range ((7 + 1) * 512), part x d j i = gradWeight x d y := by
  unfold gradWeight
  rw [show (7 + 1) * 512 = 4096 from rfl, Finset.sum_range]
  refine Finset.sum_congr rfl fun i _ => ?_
  unfold part
  rw [dif_pos i.isLt]
  exact term_at rfl rfl (Fin.ext hj.symm)

end Cert.Proof.Norms

/-! ## The norm in front of the mixer -/

namespace Cert.Proof.PreMix

open Cert.Kernel11Ideal Cert.Kernel11Ideal.Gen Products Norms

/-- The gradient that reaches the norm. -/
abbrev both {p q : ℕ} (a b : Mat p q) : Mat p q := fun y => a y + b y

/-- The gradient of the input, from a tile. -/
theorem tile (a b : FVec Ideal S512x1024 .bf16) (x : FVec Ideal S512x1024 .f32) (g : FVec Ideal S1x1024 .f32) (d : FVec Ideal S512x1024 .f32) :
    k0_pay1 (F := Ideal) (k0_pay3 x) (k0_pay7 a b x g) d = fun y => grad x (both a b) g y + d y := by
  funext y
  rw [ValueIdx.eq_ix2 y]
  unfold k0_pay1 k0_pay7 k0_pay4 k0_pay3 k0_pay2
  pointwise
  rfl
/-- A tile's part of the gradient of the weight. -/
theorem tile_weight (a b : FVec Ideal S512x1024 .bf16) (x : FVec Ideal S512x1024 .f32) (g : FVec Ideal S1x1024 .f32) :
    k0_pay6 (F := Ideal) a b x g = fun y => g y + ∑ r, term x (both a b) r (y 1) := by
  funext y
  rw [ValueIdx.eq_ix2 y]
  unfold k0_pay6 k0_pay4 k0_pay3 k0_pay2
  pointwise
  rfl
theorem start (y : S1x1024.Idx) : k0_pay5 (F := Ideal) y = 0 := by
  rw [ValueIdx.eq_ix2 y]
  unfold k0_pay5
  pointwise

/-- Where each point's tiles are. -/
theorem places : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = 0 ∧ win0_6.index t 1 = 0 := by decide +kernel

variable (m : (ℓ : Loc nD τ sig) → Buf (Elt Ideal) ℓ) (c : Dev nD)

/-- The arguments: the two parts of the gradient, the norm's input, its weight, and the gradient of the other uses. -/
abbrev inD : Mat 4096 1024 := both (m ((c : Thread nD τ).loc main_arg0)) (m ((c : Thread nD τ).loc main_arg1))
abbrev inX : Mat 4096 1024 := m ((c : Thread nD τ).loc main_arg2)
abbrev inG : Mat 1 1024 := m ((c : Thread nD τ).loc main_arg3)
abbrev inR : Mat 4096 1024 := m ((c : Thread nD τ).loc main_arg4)

/-- Row `r` of point `t`'s tiles. -/
theorem at_lt (t : Fin cfg0.N) (r : Fin 512) : t.val * 512 + r.val < 4096 := by
  have h : t.val < 8 := t.isLt
  omega
abbrev at_ (t : Fin cfg0.N) (r : Fin 512) : Fin 4096 := ⟨t.val * 512 + r.val, at_lt t r⟩

theorem row_x (t : Fin cfg0.N) (r : Fin 512) : row (iblk m c 2 t : Mat 512 1024) r = row (inX m c) (at_ t r) := by
  obtain ⟨-, -, -, -, e0, e1, -⟩ := places t
  funext k
  exact (congrFun (V_main_arg2 m c) _).trans (congrArg _ (same_place (by show win0_2.index t 0 * 512 + 1 * r.val = t.val * 512 + r.val; omega) (spanning e1)))
theorem row_d (t : Fin cfg0.N) (r : Fin 512) : row (both (iblk m c 0 t : Mat 512 1024) (iblk m c 1 t)) r = row (inD m c) (at_ t r) := by
  obtain ⟨e0, e1, e2, e3, -⟩ := places t
  funext k
  refine congrArg₂ (fun u v : EReal => u + v) ?_ ?_
  · exact (congrFun (V_main_arg0 m c) _).trans (congrArg _ (same_place (by show win0_0.index t 0 * 512 + 1 * r.val = t.val * 512 + r.val; omega) (spanning e1)))
  · exact (congrFun (V_main_arg1 m c) _).trans (congrArg _ (same_place (by show win0_1.index t 0 * 512 + 1 * r.val = t.val * 512 + r.val; omega) (spanning e3)))
theorem weight (t : Fin cfg0.N) : (iblk m c 3 t : Mat 1 1024) = inG m c := by
  obtain ⟨-, -, -, -, -, -, e0, e1, -⟩ := places t
  funext y
  exact (congrFun (V_main_arg3 m c) _).trans (congrArg _ (same_place (spanning e0) (spanning e1)))

/-- What each point leaves of the input's gradient. -/
theorem out (t : Fin cfg0.N) : (outsAt0 m c t.val t.isLt).1
    = fun y => grad (iblk m c 2 t : Mat 512 1024) (both (iblk m c 0 t : Mat 512 1024) (iblk m c 1 t)) (iblk m c 3 t) y + (iblk m c 4 t : Mat 512 1024) y := by
  by_cases h : t.val % 8 = 0
  · rw [outsAt0_A m c t h]
    dsimp only
    funext y
    frame_out
    exact congrFun (tile _ _ _ _ _) y
  · rw [outsAt0_B m c t h]
    dsimp only
    funext y
    frame_out
    exact congrFun (tile _ _ _ _ _) y

/-- The gradient of the input, as the call leaves it. -/
theorem result : (dats m 0 c).arrAt 5 cfg0.N = fun y => grad (inX m c) (inD m c) (inG m c) y + inR m c y := by
  refine (dats m 0 c).arrAt_eq_of_covers 5 _ (by decide +kernel) fun t hf y => ?_
  blk_simp
  rw [after0_5, out]
  obtain ⟨-, -, -, -, -, -, -, -, e8, e9, e10, e11, -⟩ := places t
  refine congrArg₂ (fun u v : EReal => u + v) (grad_at ?_ ?_ (weight m c t) ?_) ?_
  · refine (row_x m c t _).trans (congrArg (row _) (Fin.ext ?_))
    show t.val * 512 + (y 0).val = win0_5.index t 0 * 512 + 1 * (y 0).val
    omega
  · refine (row_d m c t _).trans (congrArg (row _) (Fin.ext ?_))
    show t.val * 512 + (y 0).val = win0_5.index t 0 * 512 + 1 * (y 0).val
    omega
  · exact Fin.ext (spanning e11).symm
  · exact (congrFun (V_main_arg4 m c) _).trans (congrArg _ (same_place (abreast (e8.trans e10.symm)) (abreast (e9.trans e11.symm))))

/-- What the points up to `t` leave of the weight's gradient. -/
theorem sums (o : Fin 1) (j : Fin 1024) : ∀ t (h : t < cfg0.N), (outsAt0 m c t h).2 (ix2 o j) = ∑ i ∈ Finset.range ((t + 1) * 512), part (inX m c) (inD m c) j i := by
  refine sum_tiles 512 (part (inX m c) (inD m c) j) cfg0.N (fun t h => (outsAt0 m c t h).2 (ix2 o j)) (fun h => ?_) fun t h => ?_
  · rw [outsAt0_A m c ⟨0, h⟩ (Nat.zero_mod 8)]
    dsimp only
    frame_out
    refine (congrFun (tile_weight _ _ _ _) (ix2 o j)).trans ?_
    rw [start, zero_add]
    exact Finset.sum_congr rfl fun r _ => part_at (row_x m c ⟨0, h⟩ r) (row_d m c ⟨0, h⟩ r)
  · have hN : t + 1 < 8 := h
    rw [outsAt0_B m c ⟨t + 1, h⟩ (by dsimp only; omega)]
    dsimp only
    frame_out
    refine (congrFun (tile_weight _ _ _ _) (ix2 o j)).trans ?_
    exact congrArg₂ (fun u v : EReal => u + v) rfl (Finset.sum_congr rfl fun r _ => part_at (row_x m c ⟨t + 1, h⟩ r) (row_d m c ⟨t + 1, h⟩ r))

/-- The gradient of the weight, as the call leaves it. -/
theorem result_weight : (dats m 0 c).arrAt 6 cfg0.N = gradWeight (inX m c) (inD m c) := by
  refine (dats m 0 c).arrAt_eq_of_covers 6 _ (by decide +kernel) fun t hf y => ?_
  blk_simp
  rw [after0_6]
  obtain ⟨o, j, rfl⟩ : ∃ o j, y = ix2 o j := ⟨_, _, ValueIdx.eq_ix2 y⟩
  obtain ⟨-, -, -, -, -, -, -, -, -, -, -, -, e12, e13⟩ := places t
  have h7 : t.val = 7 := by have := (flush0_6 t).mp hf; have h8 : t.val < 8 := t.isLt; omega
  refine (sums m c o j t.val t.isLt).trans ?_
  rw [h7]
  exact part_sum _ _ (spanning e13)

theorem frame_reference : Cert.quiescent_Reference11Ideal := fun m g _ =>
  (θ_run Cert.Reference11Ideal.defs _ _).mono (fun r h => ⟨fun c => (h c).2.2, sem_eq_zero_of_no_sems (by decide) r.2⟩)
    (Cert.Reference11Ideal.Value.run (F := Ideal) m g)

theorem value : Cert.algebraic_Kernel11Ideal_Reference11Ideal := by
  pair_intro
  · run_from Cert.Kernel11Ideal.Value.run_blocks m g
  · refine (θ_run Cert.Reference11Ideal.defs _ _).mono (fun r h c => ?_) (Cert.Reference11Ideal.Value.run (F := Ideal) m' g')
    have e0 := (hagree c).1
    have e1 := (hagree c).2.1
    have e2 := (hagree c).2.2.1
    have e3 := (hagree c).2.2.2.1
    have e4 := (hagree c).2.2.2.2
    refine ⟨(h c).1.trans ?_, (h c).2.1.trans ?_, (h c).2.2⟩
    · unfold Cert.Reference11Ideal.Value.res_main_v37
      rw [e0, e1, e2, e3, e4]
      exact (derivativeOnto_eq (inR m c) (inX m c) (inD m c) (inG m c)).trans (result m c).symm
    · rw [e0, e1, e2]
      exact (derivativeWeight_eq (inX m c) (inD m c)).trans (result_weight m c).symm

end Cert.Proof.PreMix

end
-- ==== Proof.NormPair.lean ====
/-
  The backward call of the two norms in front of the feed-forward: the pre-norm's gradient joins the residual's and goes on
  into the norm after the mixer.
-/
module

public import proofs.«01_k».proof.Proof.NormCalls
public import proofs.«01_k».proof.Proof.Gen.Kernel12Ideal.Value
public import proofs.«01_k».proof.Proof.Gen.Reference12Ideal.Run

@[expose] public section

set_option maxRecDepth 16384

noncomputable section

open Idealize.ShloMosaic Idealize.ShloMosaic.TcCoe Idealize.ShloMosaic.Tactic Idealize.SL.Sem

namespace Cert.Proof.PreFfn

open Cert.Kernel12Ideal Cert.Kernel12Ideal.Gen Products Norms

/-- The gradient between the two norms: what comes back through the first one, and the residual's. -/
abbrev between {p : ℕ} (x d : Mat p 1024) (g : Mat 1 1024) (e : Mat p 1024) : Mat p 1024 := fun y => grad x d g y + e y

theorem tile_between (a : FVec Ideal S512x1024 .bf16) (x : FVec Ideal S512x1024 .f32) (g : FVec Ideal S1x1024 .f32) (e : FVec Ideal S512x1024 .f32) :
    k0_pay1 (F := Ideal) e (k0_pay12 a x g) = between x a g e := by
  funext y
  rw [ValueIdx.eq_ix2 y]
  unfold k0_pay1 k0_pay12 k0_pay10 k0_pay9 k0_pay8
  pointwise
  exact add_comm _ _
theorem tile_weight (a : FVec Ideal S512x1024 .bf16) (x : FVec Ideal S512x1024 .f32) (s : FVec Ideal S1x1024 .f32) :
    k0_pay11 (F := Ideal) a x s = fun y => s y + ∑ r, term x (a : Mat 512 1024) r (y 1) := by
  funext y
  rw [ValueIdx.eq_ix2 y]
  unfold k0_pay11 k0_pay10 k0_pay9 k0_pay8
  pointwise
  rfl
theorem tile_after (e v : FVec Ideal S512x1024 .f32) (x : FVec Ideal S512x1024 .f32) (g : FVec Ideal S1x1024 .f32) :
    k0_pay5 (F := Ideal) e v x g = grad x (k0_pay1 e v) g := by
  funext y
  rw [ValueIdx.eq_ix2 y]
  unfold k0_pay5 k0_pay3 k0_pay2
  pointwise
  rfl
theorem tile_weight_after (e v : FVec Ideal S512x1024 .f32) (x : FVec Ideal S512x1024 .f32) (s : FVec Ideal S1x1024 .f32) :
    k0_pay4 (F := Ideal) e v x s = fun y => s y + ∑ r, term x (k0_pay1 (F := Ideal) e v) r (y 1) := by
  funext y
  rw [ValueIdx.eq_ix2 y]
  unfold k0_pay4 k0_pay3 k0_pay2
  pointwise
  rfl
theorem start (y : S1x1024.Idx) : k0_pay6 (F := Ideal) y = 0 := by
  rw [ValueIdx.eq_ix2 y]
  unfold k0_pay6
  pointwise
theorem start_after (y : S1x1024.Idx) : k0_pay7 (F := Ideal) y = 0 := by
  rw [ValueIdx.eq_ix2 y]
  unfold k0_pay7
  pointwise

/-- Where each point's tiles are. -/
theorem places : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0 := by decide +kernel
theorem places_out : ∀ t : Fin cfg0.N, win0_6.index t 0 = t.val ∧ win0_6.index t 1 = 0 ∧ win0_7.index t 0 = t.val ∧ win0_7.index t 1 = 0
    ∧ win0_8.index t 0 = 0 ∧ win0_8.index t 1 = 0 ∧ win0_9.index t 0 = 0 ∧ win0_9.index t 1 = 0 := by decide +kernel

variable (m : (ℓ : Loc nD τ sig) → Buf (Elt Ideal) ℓ) (c : Dev nD)

/-- The arguments: the gradient that reaches the first norm, that norm's input and weight, the residual's gradient, the second norm's
    input and weight. -/
abbrev inD : Mat 4096 1024 := m ((c : Thread nD τ).loc main_arg0)
abbrev inX : Mat 4096 1024 := m ((c : Thread nD τ).loc main_arg1)
abbrev inG : Mat 1 1024 := m ((c : Thread nD τ).loc main_arg2)
abbrev inR : Mat 4096 1024 := m ((c : Thread nD τ).loc main_arg3)
abbrev inY : Mat 4096 1024 := m ((c : Thread nD τ).loc main_arg4)
abbrev inH : Mat 1 1024 := m ((c : Thread nD τ).loc main_arg5)
abbrev mid : Mat 4096 1024 := between (inX m c) (inD m c) (inG m c) (inR m c)

theorem at_lt (t : Fin cfg0.N) (r : Fin 512) : t.val * 512 + r.val < 4096 := by
  have h : t.val < 8 := t.isLt
  omega
/-- Row `r` of point `t`'s tiles. -/
abbrev at_ (t : Fin cfg0.N) (r : Fin 512) : Fin 4096 := ⟨t.val * 512 + r.val, at_lt t r⟩
/-- Point `t`'s tile of the gradient between the norms. -/
abbrev midTile (t : Fin cfg0.N) : Mat 512 1024 := between (iblk m c 1 t : Mat 512 1024) (iblk m c 0 t : Mat 512 1024) (iblk m c 2 t) (iblk m c 3 t)

theorem row_d (t : Fin cfg0.N) (r : Fin 512) : row (iblk m c 0 t : Mat 512 1024) r = row (inD m c) (at_ t r) := by
  obtain ⟨e0, e1, -⟩ := places t
  funext k
  exact (congrFun (V_main_arg0 m c) _).trans (congrArg _ (same_place (by show win0_0.index t 0 * 512 + 1 * r.val = t.val * 512 + r.val; omega) (spanning e1)))
theorem row_x (t : Fin cfg0.N) (r : Fin 512) : row (iblk m c 1 t : Mat 512 1024) r = row (inX m c) (at_ t r) := by
  obtain ⟨-, -, e0, e1, -⟩ := places t
  funext k
  exact (congrFun (V_main_arg1 m c) _).trans (congrArg _ (same_place (by show win0_1.index t 0 * 512 + 1 * r.val = t.val * 512 + r.val; omega) (spanning e1)))
theorem weight (t : Fin cfg0.N) : (iblk m c 2 t : Mat 1 1024) = inG m c := by
  obtain ⟨-, -, -, -, e0, e1, -⟩ := places t
  funext y
  exact (congrFun (V_main_arg2 m c) _).trans (congrArg _ (same_place (spanning e0) (spanning e1)))
theorem row_r (t : Fin cfg0.N) (r : Fin 512) : row (iblk m c 3 t : Mat 512 1024) r = row (inR m c) (at_ t r) := by
  obtain ⟨-, -, -, -, -, -, e0, e1, -⟩ := places t
  funext k
  exact (congrFun (V_main_arg3 m c) _).trans (congrArg _ (same_place (by show win0_3.index t 0 * 512 + 1 * r.val = t.val * 512 + r.val; omega) (spanning e1)))
theorem row_y (t : Fin cfg0.N) (r : Fin 512) : row (iblk m c 4 t : Mat 512 1024) r = row (inY m c) (at_ t r) := by
  obtain ⟨-, -, -, -, -, -, -, -, e0, e1, -⟩ := places t
  funext k
  exact (congrFun (V_main_arg4 m c) _).trans (congrArg _ (same_place (by show win0_4.index t 0 * 512 + 1 * r.val = t.val * 512 + r.val; omega) (spanning e1)))
theorem weight_after (t : Fin cfg0.N) : (iblk m c 5 t : Mat 1 1024) = inH m c := by
  obtain ⟨-, -, -, -, -, -, -, -, -, -, e0, e1⟩ := places t
  funext y
  exact (congrFun (V_main_arg5 m c) _).trans (congrArg _ (same_place (spanning e0) (spanning e1)))
theorem row_mid (t : Fin cfg0.N) (r : Fin 512) : row (midTile m c t) r = row (mid m c) (at_ t r) := by
  funext k
  exact congrArg₂ (fun u v : EReal => u + v) (grad_at (row_x m c t r) (row_d m c t r) (weight m c t) rfl) (congrFun (row_r m c t r) k)

/-- What each point leaves. -/
theorem out (t : Fin cfg0.N) : (outsAt0 m c t.val t.isLt).1 = midTile m c t := by
  by_cases h : t.val % 8 = 0
  · rw [outsAt0_A m c t h]
    dsimp only
    funext y
    frame_out
    exact congrFun (tile_between _ _ _ _) y
  · rw [outsAt0_B m c t h]
    dsimp only
    funext y
    frame_out
    exact congrFun (tile_between _ _ _ _) y
theorem out_after (t : Fin cfg0.N) : (outsAt0 m c t.val t.isLt).2.1 = grad (iblk m c 4 t : Mat 512 1024) (midTile m c t) (iblk m c 5 t) := by
  by_cases h : t.val % 8 = 0
  · rw [outsAt0_A m c t h]
    dsimp only
    funext y
    frame_out
    refine (congrFun (tile_after _ _ _ _) y).trans ?_
    rw [tile_between]
  · rw [outsAt0_B m c t h]
    dsimp only
    funext y
    frame_out
    refine (congrFun (tile_after _ _ _ _) y).trans ?_
    rw [tile_between]

/-- The first norm's input gradient with the residual's, as the call leaves it. -/
theorem result : (dats m 0 c).arrAt 6 cfg0.N = mid m c := by
  refine (dats m 0 c).arrAt_eq_of_covers 6 _ (by decide +kernel) fun t hf y => ?_
  blk_simp
  rw [after0_6, out]
  obtain ⟨e0, e1, -⟩ := places_out t
  refine ((congrArg (midTile m c t) (ValueIdx.eq_ix2 y)).trans (congrFun (row_mid m c t (y 0)) (y 1))).trans (congrArg (mid m c) (same_place ?_ ?_))
  · show t.val * 512 + (y 0).val = win0_6.index t 0 * 512 + 1 * (y 0).val
    omega
  · show (y 1).val = win0_6.index t 1 * 1024 + 1 * (y 1).val
    omega
/-- The second norm's input gradient, as the call leaves it. -/
theorem result_after : (dats m 0 c).arrAt 7 cfg0.N = grad (inY m c) (mid m c) (inH m c) := by
  refine (dats m 0 c).arrAt_eq_of_covers 7 _ (by decide +kernel) fun t hf y => ?_
  blk_simp
  rw [after0_7, out_after]
  obtain ⟨-, -, e0, e1, -⟩ := places_out t
  refine grad_at ?_ ?_ (weight_after m c t) (Fin.ext (spanning e1).symm)
  · refine (row_y m c t _).trans (congrArg (row _) (Fin.ext ?_))
    show t.val * 512 + (y 0).val = win0_7.index t 0 * 512 + 1 * (y 0).val
    omega
  · refine (row_mid m c t _).trans (congrArg (row _) (Fin.ext ?_))
    show t.val * 512 + (y 0).val = win0_7.index t 0 * 512 + 1 * (y 0).val
    omega

/-- What the points up to `t` leave of the first weight's gradient. -/
theorem sums (o : Fin 1) (j : Fin 1024) : ∀ t (h : t < cfg0.N), (outsAt0 m c t h).2.2.1 (ix2 o j) = ∑ i ∈ Finset.range ((t + 1) * 512), part (inX m c) (inD m c) j i := by
  refine sum_tiles 512 (part (inX m c) (inD m c) j) cfg0.N (fun t h => (outsAt0 m c t h).2.2.1 (ix2 o j)) (fun h => ?_) fun t h => ?_
  · rw [outsAt0_A m c ⟨0, h⟩ (Nat.zero_mod 8)]
    dsimp only
    frame_out
    refine (congrFun (tile_weight _ _ _) (ix2 o j)).trans ?_
    rw [start, zero_add]
    exact Finset.sum_congr rfl fun r _ => part_at (row_x m c ⟨0, h⟩ r) (row_d m c ⟨0, h⟩ r)
  · have hN : t + 1 < 8 := h
    rw [outsAt0_B m c ⟨t + 1, h⟩ (by dsimp only; omega)]
    dsimp only
    frame_out
    refine (congrFun (tile_weight _ _ _) (ix2 o j)).trans ?_
    exact congrArg₂ (fun u v : EReal => u + v) rfl (Finset.sum_congr rfl fun r _ => part_at (row_x m c ⟨t + 1, h⟩ r) (row_d m c ⟨t + 1, h⟩ r))
/-- What they leave of the second's. -/
theorem sums_after (o : Fin 1) (j : Fin 1024) : ∀ t (h : t < cfg0.N), (outsAt0 m c t h).2.2.2 (ix2 o j) = ∑ i ∈ Finset.range ((t + 1) * 512), part (inY m c) (mid m c) j i := by
  refine sum_tiles 512 (part (inY m c) (mid m c) j) cfg0.N (fun t h => (outsAt0 m c t h).2.2.2 (ix2 o j)) (fun h => ?_) fun t h => ?_
  · rw [outsAt0_A m c ⟨0, h⟩ (Nat.zero_mod 8)]
    dsimp only
    frame_out
    refine (congrFun (tile_weight_after _ _ _ _) (ix2 o j)).trans ?_
    rw [start_after, zero_add, tile_between]
    exact Finset.sum_congr rfl fun r _ => part_at (row_y m c ⟨0, h⟩ r) (row_mid m c ⟨0, h⟩ r)
  · have hN : t + 1 < 8 := h
    rw [outsAt0_B m c ⟨t + 1, h⟩ (by dsimp only; omega)]
    dsimp only
    frame_out
    refine (congrFun (tile_weight_after _ _ _ _) (ix2 o j)).trans ?_
    rw [tile_between]
    exact congrArg₂ (fun u v : EReal => u + v) rfl (Finset.sum_congr rfl fun r _ => part_at (row_y m c ⟨t + 1, h⟩ r) (row_mid m c ⟨t + 1, h⟩ r))

/-- The weights' gradients, as the call leaves them. -/
theorem result_weight : (dats m 0 c).arrAt 8 cfg0.N = gradWeight (inX m c) (inD m c) := by
  refine (dats m 0 c).arrAt_eq_of_covers 8 _ (by decide +kernel) fun t hf y => ?_
  blk_simp
  rw [after0_8]
  obtain ⟨o, j, rfl⟩ : ∃ o j, y = ix2 o j := ⟨_, _, ValueIdx.eq_ix2 y⟩
  obtain ⟨-, -, -, -, e0, e1, -⟩ := places_out t
  have h7 : t.val = 7 := by have := (flush0_8 t).mp hf; have h8 : t.val < 8 := t.isLt; omega
  refine (sums m c o j t.val t.isLt).trans ?_
  rw [h7]
  exact part_sum _ _ (spanning e1)
theorem result_weight_after : (dats m 0 c).arrAt 9 cfg0.N = gradWeight (inY m c) (mid m c) := by
  refine (dats m 0 c).arrAt_eq_of_covers 9 _ (by decide +kernel) fun t hf y => ?_
  blk_simp
  rw [after0_9]
  obtain ⟨o, j, rfl⟩ : ∃ o j, y = ix2 o j := ⟨_, _, ValueIdx.eq_ix2 y⟩
  obtain ⟨-, -, -, -, -, -, e0, e1⟩ := places_out t
  have h7 : t.val = 7 := by have := (flush0_9 t).mp hf; have h8 : t.val < 8 := t.isLt; omega
  refine (sums_after m c o j t.val t.isLt).trans ?_
  rw [h7]
  exact part_sum _ _ (spanning e1)

theorem frame_reference : Cert.quiescent_Reference12Ideal := fun m g _ =>
  (θ_run Cert.Reference12Ideal.defs _ _).mono (fun r h => ⟨fun c => (h c).2.2.2.2, sem_eq_zero_of_no_sems (by decide) r.2⟩)
    (Cert.Reference12Ideal.Value.run (F := Ideal) m g)

theorem value : Cert.algebraic_Kernel12Ideal_Reference12Ideal := by
  pair_intro
  · run_from Cert.Kernel12Ideal.Value.run_blocks m g
  · refine (θ_run Cert.Reference12Ideal.defs _ _).mono (fun r h c => ?_) (Cert.Reference12Ideal.Value.run (F := Ideal) m' g')
    have e0 := (hagree c).1
    have e1 := (hagree c).2.1
    have e2 := (hagree c).2.2.1
    have e3 := (hagree c).2.2.2.1
    have e4 := (hagree c).2.2.2.2.1
    have e5 := (hagree c).2.2.2.2.2
    have onto := derivativeOnto_eq (inR m c) (inX m c) (inD m c) (inG m c)
    refine ⟨(h c).1.trans ?_, (h c).2.1.trans ?_, (h c).2.2.1.trans ?_, (h c).2.2.2.1.trans ?_, (h c).2.2.2.2⟩
    · rw [e0, e1, e2, e3]
      exact onto.trans (result m c).symm
    · unfold Cert.Reference12Ideal.Value.res_main_v70
      rw [e0, e1, e2, e3, e4, e5]
      refine (derivative_eq (inY m c) (derivativeOnto (inR m c) (inX m c) (inD m c) (inG m c)) (inH m c)).trans ?_
      rw [onto]
      exact (result_after m c).symm
    · rw [e0, e1]
      exact (derivativeWeight_eq (inX m c) (inD m c)).trans (result_weight m c).symm
    · unfold Cert.Reference12Ideal.Value.res_main_v53
      rw [e0, e1, e2, e3, e4]
      refine (derivativeWeight_eq (inY m c) (derivativeOnto (inR m c) (inX m c) (inD m c) (inG m c))).trans ?_
      rw [onto]
      exact (result_weight_after m c).symm

end Cert.Proof.PreFfn

end
-- ==== Proof.AdamIn.lean ====
/-
  The optimiser's step of `w_in`.
-/
module

public import proofs.«01_k».proof.Defs
public import proofs.«01_k».proof.Proof.Adam
public import proofs.«01_k».proof.Proof.Gen.Kernel15Ideal.Frame
public import proofs.«01_k».proof.Proof.Gen.Reference15Ideal.Run

@[expose] public section

set_option maxRecDepth 16384

noncomputable section

open Idealize.ShloMosaic Idealize.ShloMosaic.TcCoe Idealize.ShloMosaic.Tactic Idealize.SL.Sem

namespace Cert.Proof.AdamIn

open Cert.Kernel15Ideal Cert.Kernel15Ideal.Gen Products Adam

/-- The body's sum of the parts' tiles. -/
theorem tile (x : FVec Ideal S4x256x641 .bf16) :
    k0_pay2 (F := Ideal) (View.ld x r0_0) (View.ld x r0_1) (View.ld x r0_2) (View.ld x r0_3) = total x := by
  funext y
  rw [ValueIdx.eq_ix2 y]
  unfold k0_pay2 total
  pointwise
  exact (Fin.sum_univ_four (M := EReal) fun s => x (ix3 s (y 0) (y 1))).symm

theorem read (v : Vec Ideal S256x641 .f32) : View.ld v r0_4 = v := View.ld_unit_lit _ _ (by decide)

/-- What a point writes. -/
theorem tile_total (x : FVec Ideal S4x256x641 .bf16) (w m v : FVec Ideal S256x641 .f32) : out0_4 (F := Ideal) x w m v = total x :=
  (View.canon_cons_unit_lit _ _ _ (by decide)).trans (tile x)
theorem tile_means (x : FVec Ideal S4x256x641 .bf16) (w m v : FVec Ideal S256x641 .f32) : out0_6 (F := Ideal) x w m v = means (total x) m := by
  refine (View.canon_cons_unit_lit _ _ _ (by decide)).trans ?_
  unfold k0_pay3
  rw [tile, read]
  rfl
theorem tile_squares (x : FVec Ideal S4x256x641 .bf16) (w m v : FVec Ideal S256x641 .f32) : k0_pay5 (F := Ideal) x w m v = meanSquares (total x) v := by
  unfold k0_pay5 k0_pay4
  rw [tile, read]
  rfl
theorem tile_meanSquares (x : FVec Ideal S4x256x641 .bf16) (w m v : FVec Ideal S256x641 .f32) :
    out0_7 (F := Ideal) x w m v = meanSquares (total x) v :=
  (View.canon_cons_unit_lit _ _ _ (by decide)).trans (tile_squares x w m v)
theorem tile_changes (x : FVec Ideal S4x256x641 .bf16) (w m v : FVec Ideal S256x641 .f32) :
    out0_5 (F := Ideal) x w m v = changes (total x) w m v := by
  refine (View.canon_cons_unit_lit _ _ _ (by decide)).trans ?_
  unfold k0_pay1 k0_pay3
  rw [tile_squares, tile, read, read]
  rfl

/-- The reference's sum of the parts. -/
theorem whole (x : FVec Ideal S4x1024x641 .bf16) :
    Host.reduceAdd (extf .f32 x Cert.Reference15Ideal.Gen.bitsLt_bf16_f32) (constant Cert.Reference15Ideal.S_ .f32 0x00000000#32)
      Cert.Reference15Ideal.Gen.reducesTo_S4x1024x641_S1024x641_d0 Cert.Reference15Ideal.Gen.h_S_ = total x := by
  funext y
  rw [ValueIdx.eq_ix2 y]
  unfold total
  pointwise

/-- Where each point's tiles are. -/
theorem places : ∀ t : Fin cfg0.N, win0_0.index t 0 = 0 ∧ win0_0.index t 1 = t.val ∧ win0_0.index t 2 = 0
    ∧ (win0_1.index t 0 = t.val ∧ win0_2.index t 0 = t.val ∧ win0_3.index t 0 = t.val ∧ win0_4.index t 0 = t.val
      ∧ win0_5.index t 0 = t.val ∧ win0_6.index t 0 = t.val ∧ win0_7.index t 0 = t.val)
    ∧ win0_1.index t 1 = 0 ∧ win0_2.index t 1 = 0 ∧ win0_3.index t 1 = 0 ∧ win0_4.index t 1 = 0
      ∧ win0_5.index t 1 = 0 ∧ win0_6.index t 1 = 0 ∧ win0_7.index t 1 = 0 := by decide +kernel

/-- Entry `y` of a point's tiles is entry `z` of the arrays. -/
theorem total_at (m : (ℓ : Loc nD τ sig) → Buf (Elt Ideal) ℓ) (c : Dev nD) (t : Fin cfg0.N)
    {y : S256x641.Idx} {z : S1024x641.Idx}
    (h0 : (z 0).val = t.val * 256 + 1 * (y 0).val) (h1 : (z 1).val = (y 1).val) :
    total (iblk m c 0 t) y = total (m ((c : Thread nD τ).loc main_arg0)) z := by
  obtain ⟨e0, e1, e2, -⟩ := places t
  exact Finset.sum_congr rfl fun s _ => (congrFun (V_main_arg0 m c) _).trans (congrArg _ (same_place3 (spanning e0)
    ((abreast e1).trans h0.symm) ((spanning e2).trans h1.symm)))
theorem inputs_at (m : (ℓ : Loc nD τ sig) → Buf (Elt Ideal) ℓ) (c : Dev nD) (t : Fin cfg0.N)
    {y : S256x641.Idx} {z : S1024x641.Idx}
    (h0 : (z 0).val = t.val * 256 + 1 * (y 0).val) (h1 : (z 1).val = (y 1).val) :
    (iblk m c 1 t : Mat 256 641) y = (m ((c : Thread nD τ).loc main_arg1) : Mat 1024 641) z
      ∧ (iblk m c 2 t : Mat 256 641) y = (m ((c : Thread nD τ).loc main_arg2) : Mat 1024 641) z
      ∧ (iblk m c 3 t : Mat 256 641) y = (m ((c : Thread nD τ).loc main_arg3) : Mat 1024 641) z := by
  obtain ⟨-, -, -, ⟨a1, a2, a3, -⟩, b1, b2, b3, -⟩ := places t
  exact ⟨(congrFun (V_main_arg1 m c) _).trans (congrArg _ (same_place ((abreast a1).trans h0.symm) ((spanning b1).trans h1.symm))),
    (congrFun (V_main_arg2 m c) _).trans (congrArg _ (same_place ((abreast a2).trans h0.symm) ((spanning b2).trans h1.symm))),
    (congrFun (V_main_arg3 m c) _).trans (congrArg _ (same_place ((abreast a3).trans h0.symm) ((spanning b3).trans h1.symm)))⟩

/-- What the call leaves. -/
theorem result_total (m : (ℓ : Loc nD τ sig) → Buf (Elt Ideal) ℓ) (c : Dev nD) :
    (dats m 0 c).arrAt 4 cfg0.N = total (m ((c : Thread nD τ).loc main_arg0)) := by
  refine (dats m 0 c).arrAt_eq_of_covers 4 _ (by decide +kernel) fun t hf y => ?_
  blk_simp
  rw [after0_4, tile_total]
  obtain ⟨-, -, -, ⟨-, -, -, a, -⟩, -, -, -, b, -⟩ := places t
  exact total_at m c t (abreast a) (spanning b)
theorem result_changes (m : (ℓ : Loc nD τ sig) → Buf (Elt Ideal) ℓ) (c : Dev nD) :
    (dats m 0 c).arrAt 5 cfg0.N = changes (total (m ((c : Thread nD τ).loc main_arg0))) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, tile_changes]
  obtain ⟨-, -, -, ⟨-, -, -, -, a, -⟩, -, -, -, -, b, -⟩ := places t
  exact changes_at (total_at m c t (abreast a) (spanning b)) (inputs_at m c t (abreast a) (spanning b)).1
    (inputs_at m c t (abreast a) (spanning b)).2.1 (inputs_at m c t (abreast a) (spanning b)).2.2
theorem result_means (m : (ℓ : Loc nD τ sig) → Buf (Elt Ideal) ℓ) (c : Dev nD) :
    (dats m 0 c).arrAt 6 cfg0.N = means (total (m ((c : Thread nD τ).loc main_arg0))) (m ((c : Thread nD τ).loc main_arg2)) := by
  refine (dats m 0 c).arrAt_eq_of_covers 6 _ (by decide +kernel) fun t hf y => ?_
  blk_simp
  rw [after0_6, tile_means]
  obtain ⟨-, -, -, ⟨-, -, -, -, -, a, -⟩, -, -, -, -, -, b, -⟩ := places t
  exact means_at (total_at m c t (abreast a) (spanning b)) (inputs_at m c t (abreast a) (spanning b)).2.1
theorem result_meanSquares (m : (ℓ : Loc nD τ sig) → Buf (Elt Ideal) ℓ) (c : Dev nD) :
    (dats m 0 c).arrAt 7 cfg0.N = meanSquares (total (m ((c : Thread nD τ).loc main_arg0))) (m ((c : Thread nD τ).loc main_arg3)) := by
  refine (dats m 0 c).arrAt_eq_of_covers 7 _ (by decide +kernel) fun t hf y => ?_
  blk_simp
  rw [after0_7, tile_meanSquares]
  obtain ⟨-, -, -, ⟨-, -, -, -, -, -, a⟩, -, -, -, -, -, -, b⟩ := places t
  exact meanSquares_at (total_at m c t (abreast a) (spanning b)) (inputs_at m c t (abreast a) (spanning b)).2.2

theorem frame_reference : Cert.quiescent_Reference15Ideal := fun m g _ =>
  (θ_run Cert.Reference15Ideal.defs _ _).mono (fun r h => ⟨fun c => (h c).2.2.2.2, sem_eq_zero_of_no_sems (by decide) r.2⟩)
    (Cert.Reference15Ideal.Value.run (F := Ideal) m g)

theorem value : Cert.algebraic_Kernel15Ideal_Reference15Ideal := by
  pair_intro
  · run_from Cert.Kernel15Ideal.Gen.run_main m g
  · refine (θ_run Cert.Reference15Ideal.defs _ _).mono (fun r h c => ?_) (Cert.Reference15Ideal.Value.run (F := Ideal) m' g')
    obtain ⟨e0, e1, e2, e3⟩ := hagree c
    refine ⟨(h c).1.trans ?_, (h c).2.1.trans ?_, (h c).2.2.1.trans ?_, (h c).2.2.2.1.trans ?_, (h c).2.2.2.2⟩
    · rw [e0, whole]
      exact (result_total m c).symm
    · rw [e0, e1, e2, e3, whole]
      exact (result_changes m c).symm
    · rw [e0, e2, whole]
      exact (result_means m c).symm
    · rw [e0, e3, whole]
      exact (result_meanSquares m c).symm

end Cert.Proof.AdamIn
-- ==== Proof.AdamBranch.lean ====
/-
  The optimiser's step of `w_o_fox`, and of `w_o_dil`, which is the same call.
-/
module

public import proofs.«01_k».proof.Defs
public import proofs.«01_k».proof.Proof.Adam
public import proofs.«01_k».proof.Proof.Gen.Kernel16Ideal.Frame
public import proofs.«01_k».proof.Proof.Gen.Reference16Ideal.Run

@[expose] public section

set_option maxRecDepth 16384

noncomputable section

open Idealize.ShloMosaic Idealize.ShloMosaic.TcCoe Idealize.ShloMosaic.Tactic Idealize.SL.Sem

namespace Cert.Proof.AdamBranch

open Cert.Kernel16Ideal Cert.Kernel16Ideal.Gen Products Adam

/-- The body's sum of the parts' tiles. -/
theorem tile (x : FVec Ideal S8x512x128 .bf16) :
    k0_pay4 (F := Ideal) (View.ld x r0_0) (View.ld x r0_1) (View.ld x r0_2) (View.ld x r0_3)
      (View.ld x r0_4) (View.ld x r0_5) (View.ld x r0_6) (View.ld x r0_7) = total x := by
  funext y
  rw [ValueIdx.eq_ix2 y]
  unfold k0_pay4 total
  pointwise
  exact (Fin.sum_univ_eight (M := EReal) fun s => x (ix3 s (y 0) (y 1))).symm

theorem read (v : Vec Ideal S512x128 .f32) : View.ld v r0_8 = v := View.ld_unit_lit _ _ (by decide)

/-- What a point writes. -/
theorem tile_total (x : FVec Ideal S8x512x128 .bf16) (w m v : FVec Ideal S512x128 .f32) : out0_4 (F := Ideal) x w m v = total x :=
  (View.canon_cons_unit_lit _ _ _ (by decide)).trans (tile x)
theorem tile_means (x : FVec Ideal S8x512x128 .bf16) (w m v : FVec Ideal S512x128 .f32) : out0_6 (F := Ideal) x w m v = means (total x) m := by
  refine (View.canon_cons_unit_lit _ _ _ (by decide)).trans ?_
  unfold k0_pay1 k0_pay5
  rw [tile, read]
  rfl
theorem tile_meanSquares (x : FVec Ideal S8x512x128 .bf16) (w m v : FVec Ideal S512x128 .f32) :
    out0_7 (F := Ideal) x w m v = meanSquares (total x) v := by
  refine (View.canon_cons_unit_lit _ _ _ (by decide)).trans ?_
  unfold k0_pay2 k0_pay5
  rw [tile, read]
  rfl
theorem tile_changes (x : FVec Ideal S8x512x128 .bf16) (w m v : FVec Ideal S512x128 .f32) :
    out0_5 (F := Ideal) x w m v = changes (total x) w m v := by
  refine (View.canon_cons_unit_lit _ _ _ (by decide)).trans ?_
  unfold k0_pay3 k0_pay1 k0_pay2 k0_pay5
  rw [tile, read, read, read]
  rfl

/-- The reference's sum of the parts. -/
theorem whole (x : FVec Ideal S8x512x128 .bf16) :
    Host.reduceAdd (extf .f32 x Cert.Reference16Ideal.Gen.bitsLt_bf16_f32) (constant Cert.Reference16Ideal.S_ .f32 0x00000000#32)
      Cert.Reference16Ideal.Gen.reducesTo_S8x512x128_S512x128_d0 Cert.Reference16Ideal.Gen.h_S_ = total x := by
  funext y
  rw [ValueIdx.eq_ix2 y]
  unfold total
  pointwise

/-- Where each point's tiles are. -/
theorem places : ∀ t : Fin cfg0.N, win0_0.index t 0 = 0 ∧ win0_0.index t 1 = t.val ∧ win0_0.index t 2 = 0
    ∧ (win0_1.index t 0 = t.val ∧ win0_2.index t 0 = t.val ∧ win0_3.index t 0 = t.val ∧ win0_4.index t 0 = t.val
      ∧ win0_5.index t 0 = t.val ∧ win0_6.index t 0 = t.val ∧ win0_7.index t 0 = t.val)
    ∧ win0_1.index t 1 = 0 ∧ win0_2.index t 1 = 0 ∧ win0_3.index t 1 = 0 ∧ win0_4.index t 1 = 0
      ∧ win0_5.index t 1 = 0 ∧ win0_6.index t 1 = 0 ∧ win0_7.index t 1 = 0 := by decide +kernel

/-- Entry `y` of a point's tiles is entry `z` of the arrays. -/
theorem total_at (m : (ℓ : Loc nD τ sig) → Buf (Elt Ideal) ℓ) (c : Dev nD) (t : Fin cfg0.N)
    {y : S512x128.Idx} {z : S512x128.Idx}
    (h0 : (z 0).val = t.val * 512 + 1 * (y 0).val) (h1 : (z 1).val = (y 1).val) :
    total (iblk m c 0 t) y = total (m ((c : Thread nD τ).loc main_arg0)) z := by
  obtain ⟨e0, e1, e2, -⟩ := places t
  exact Finset.sum_congr rfl fun s _ => (congrFun (V_main_arg0 m c) _).trans (congrArg _ (same_place3 (spanning e0)
    ((abreast e1).trans h0.symm) ((spanning e2).trans h1.symm)))
theorem inputs_at (m : (ℓ : Loc nD τ sig) → Buf (Elt Ideal) ℓ) (c : Dev nD) (t : Fin cfg0.N)
    {y : S512x128.Idx} {z : S512x128.Idx}
    (h0 : (z 0).val = t.val * 512 + 1 * (y 0).val) (h1 : (z 1).val = (y 1).val) :
    (iblk m c 1 t : Mat 512 128) y = (m ((c : Thread nD τ).loc main_arg1) : Mat 512 128) z
      ∧ (iblk m c 2 t : Mat 512 128) y = (m ((c : Thread nD τ).loc main_arg2) : Mat 512 128) z
      ∧ (iblk m c 3 t : Mat 512 128) y = (m ((c : Thread nD τ).loc main_arg3) : Mat 512 128) z := by
  obtain ⟨-, -, -, ⟨a1, a2, a3, -⟩, b1, b2, b3, -⟩ := places t
  exact ⟨(congrFun (V_main_arg1 m c) _).trans (congrArg _ (same_place ((abreast a1).trans h0.symm) ((spanning b1).trans h1.symm))),
    (congrFun (V_main_arg2 m c) _).trans (congrArg _ (same_place ((abreast a2).trans h0.symm) ((spanning b2).trans h1.symm))),
    (congrFun (V_main_arg3 m c) _).trans (congrArg _ (same_place ((abreast a3).trans h0.symm) ((spanning b3).trans h1.symm)))⟩

/-- What the call leaves. -/
theorem result_total (m : (ℓ : Loc nD τ sig) → Buf (Elt Ideal) ℓ) (c : Dev nD) :
    (dats m 0 c).arrAt 4 cfg0.N = total (m ((c : Thread nD τ).loc main_arg0)) := by
  refine (dats m 0 c).arrAt_eq_of_covers 4 _ (by decide +kernel) fun t hf y => ?_
  blk_simp
  rw [after0_4, tile_total]
  obtain ⟨-, -, -, ⟨-, -, -, a, -⟩, -, -, -, b, -⟩ := places t
  exact total_at m c t (abreast a) (spanning b)
theorem result_changes (m : (ℓ : Loc nD τ sig) → Buf (Elt Ideal) ℓ) (c : Dev nD) :
    (dats m 0 c).arrAt 5 cfg0.N = changes (total (m ((c : Thread nD τ).loc main_arg0))) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, tile_changes]
  obtain ⟨-, -, -, ⟨-, -, -, -, a, -⟩, -, -, -, -, b, -⟩ := places t
  exact changes_at (total_at m c t (abreast a) (spanning b)) (inputs_at m c t (abreast a) (spanning b)).1
    (inputs_at m c t (abreast a) (spanning b)).2.1 (inputs_at m c t (abreast a) (spanning b)).2.2
theorem result_means (m : (ℓ : Loc nD τ sig) → Buf (Elt Ideal) ℓ) (c : Dev nD) :
    (dats m 0 c).arrAt 6 cfg0.N = means (total (m ((c : Thread nD τ).loc main_arg0))) (m ((c : Thread nD τ).loc main_arg2)) := by
  refine (dats m 0 c).arrAt_eq_of_covers 6 _ (by decide +kernel) fun t hf y => ?_
  blk_simp
  rw [after0_6, tile_means]
  obtain ⟨-, -, -, ⟨-, -, -, -, -, a, -⟩, -, -, -, -, -, b, -⟩ := places t
  exact means_at (total_at m c t (abreast a) (spanning b)) (inputs_at m c t (abreast a) (spanning b)).2.1
theorem result_meanSquares (m : (ℓ : Loc nD τ sig) → Buf (Elt Ideal) ℓ) (c : Dev nD) :
    (dats m 0 c).arrAt 7 cfg0.N = meanSquares (total (m ((c : Thread nD τ).loc main_arg0))) (m ((c : Thread nD τ).loc main_arg3)) := by
  refine (dats m 0 c).arrAt_eq_of_covers 7 _ (by decide +kernel) fun t hf y => ?_
  blk_simp
  rw [after0_7, tile_meanSquares]
  obtain ⟨-, -, -, ⟨-, -, -, -, -, -, a⟩, -, -, -, -, -, -, b⟩ := places t
  exact meanSquares_at (total_at m c t (abreast a) (spanning b)) (inputs_at m c t (abreast a) (spanning b)).2.2

theorem frame_reference : Cert.quiescent_Reference16Ideal := fun m g _ =>
  (θ_run Cert.Reference16Ideal.defs _ _).mono (fun r h => ⟨fun c => (h c).2.2.2.2, sem_eq_zero_of_no_sems (by decide) r.2⟩)
    (Cert.Reference16Ideal.Value.run (F := Ideal) m g)

theorem value : Cert.algebraic_Kernel16Ideal_Reference16Ideal := by
  pair_intro
  · run_from Cert.Kernel16Ideal.Gen.run_main m g
  · refine (θ_run Cert.Reference16Ideal.defs _ _).mono (fun r h c => ?_) (Cert.Reference16Ideal.Value.run (F := Ideal) m' g')
    obtain ⟨e0, e1, e2, e3⟩ := hagree c
    refine ⟨(h c).1.trans ?_, (h c).2.1.trans ?_, (h c).2.2.1.trans ?_, (h c).2.2.2.1.trans ?_, (h c).2.2.2.2⟩
    · rw [e0, whole]
      exact (result_total m c).symm
    · rw [e0, e1, e2, e3, whole]
      exact (result_changes m c).symm
    · rw [e0, e2, whole]
      exact (result_means m c).symm
    · rw [e0, e3, whole]
      exact (result_meanSquares m c).symm

end Cert.Proof.AdamBranch
-- ==== Proof.AdamOut.lean ====
/-
  The optimiser's step of `w_out`.
-/
module

public import proofs.«01_k».proof.Defs
public import proofs.«01_k».proof.Proof.Adam
public import proofs.«01_k».proof.Proof.Gen.Kernel17Ideal.Frame
public import proofs.«01_k».proof.Proof.Gen.Reference17Ideal.Run

@[expose] public section

set_option maxRecDepth 16384

noncomputable section

open Idealize.ShloMosaic Idealize.ShloMosaic.TcCoe Idealize.ShloMosaic.Tactic Idealize.SL.Sem

namespace Cert.Proof.AdamOut

open Cert.Kernel17Ideal Cert.Kernel17Ideal.Gen Products Adam

/-- The body's sum of the parts' tiles. -/
theorem tile (x : FVec Ideal S8x128x1024 .bf16) :
    k0_pay4 (F := Ideal) (View.ld x r0_0) (View.ld x r0_1) (View.ld x r0_2) (View.ld x r0_3)
      (View.ld x r0_4) (View.ld x r0_5) (View.ld x r0_6) (View.ld x r0_7) = total x := by
  funext y
  rw [ValueIdx.eq_ix2 y]
  unfold k0_pay4 total
  pointwise
  exact (Fin.sum_univ_eight (M := EReal) fun s => x (ix3 s (y 0) (y 1))).symm

theorem read (v : Vec Ideal S128x1024 .f32) : View.ld v r0_8 = v := View.ld_unit_lit _ _ (by decide)

/-- What a point writes. -/
theorem tile_total (x : FVec Ideal S8x128x1024 .bf16) (w m v : FVec Ideal S128x1024 .f32) : out0_4 (F := Ideal) x w m v = total x :=
  (View.canon_cons_unit_lit _ _ _ (by decide)).trans (tile x)
theorem tile_means (x : FVec Ideal S8x128x1024 .bf16) (w m v : FVec Ideal S128x1024 .f32) : out0_6 (F := Ideal) x w m v = means (total x) m := by
  refine (View.canon_cons_unit_lit _ _ _ (by decide)).trans ?_
  unfold k0_pay1 k0_pay5
  rw [tile, read]
  rfl
theorem tile_meanSquares (x : FVec Ideal S8x128x1024 .bf16) (w m v : FVec Ideal S128x1024 .f32) :
    out0_7 (F := Ideal) x w m v = meanSquares (total x) v := by
  refine (View.canon_cons_unit_lit _ _ _ (by decide)).trans ?_
  unfold k0_pay2 k0_pay5
  rw [tile, read]
  rfl
theorem tile_changes (x : FVec Ideal S8x128x1024 .bf16) (w m v : FVec Ideal S128x1024 .f32) :
    out0_5 (F := Ideal) x w m v = changes (total x) w m v := by
  refine (View.canon_cons_unit_lit _ _ _ (by decide)).trans ?_
  unfold k0_pay3 k0_pay1 k0_pay2 k0_pay5
  rw [tile, read, read, read]
  rfl

/-- The reference's sum of the parts. -/
theorem whole (x : FVec Ideal S8x128x1024 .bf16) :
    Host.reduceAdd (extf .f32 x Cert.Reference17Ideal.Gen.bitsLt_bf16_f32) (constant Cert.Reference17Ideal.S_ .f32 0x00000000#32)
      Cert.Reference17Ideal.Gen.reducesTo_S8x128x1024_S128x1024_d0 Cert.Reference17Ideal.Gen.h_S_ = total x := by
  funext y
  rw [ValueIdx.eq_ix2 y]
  unfold total
  pointwise

/-- Where each point's tiles are. -/
theorem places : ∀ t : Fin cfg0.N, win0_0.index t 0 = 0 ∧ win0_0.index t 1 = t.val ∧ win0_0.index t 2 = 0
    ∧ (win0_1.index t 0 = t.val ∧ win0_2.index t 0 = t.val ∧ win0_3.index t 0 = t.val ∧ win0_4.index t 0 = t.val
      ∧ win0_5.index t 0 = t.val ∧ win0_6.index t 0 = t.val ∧ win0_7.index t 0 = t.val)
    ∧ win0_1.index t 1 = 0 ∧ win0_2.index t 1 = 0 ∧ win0_3.index t 1 = 0 ∧ win0_4.index t 1 = 0
      ∧ win0_5.index t 1 = 0 ∧ win0_6.index t 1 = 0 ∧ win0_7.index t 1 = 0 := by decide +kernel

/-- Entry `y` of a point's tiles is entry `z` of the arrays. -/
theorem total_at (m : (ℓ : Loc nD τ sig) → Buf (Elt Ideal) ℓ) (c : Dev nD) (t : Fin cfg0.N)
    {y : S128x1024.Idx} {z : S128x1024.Idx}
    (h0 : (z 0).val = t.val * 128 + 1 * (y 0).val) (h1 : (z 1).val = (y 1).val) :
    total (iblk m c 0 t) y = total (m ((c : Thread nD τ).loc main_arg0)) z := by
  obtain ⟨e0, e1, e2, -⟩ := places t
  exact Finset.sum_congr rfl fun s _ => (congrFun (V_main_arg0 m c) _).trans (congrArg _ (same_place3 (spanning e0)
    ((abreast e1).trans h0.symm) ((spanning e2).trans h1.symm)))
theorem inputs_at (m : (ℓ : Loc nD τ sig) → Buf (Elt Ideal) ℓ) (c : Dev nD) (t : Fin cfg0.N)
    {y : S128x1024.Idx} {z : S128x1024.Idx}
    (h0 : (z 0).val = t.val * 128 + 1 * (y 0).val) (h1 : (z 1).val = (y 1).val) :
    (iblk m c 1 t : Mat 128 1024) y = (m ((c : Thread nD τ).loc main_arg1) : Mat 128 1024) z
      ∧ (iblk m c 2 t : Mat 128 1024) y = (m ((c : Thread nD τ).loc main_arg2) : Mat 128 1024) z
      ∧ (iblk m c 3 t : Mat 128 1024) y = (m ((c : Thread nD τ).loc main_arg3) : Mat 128 1024) z := by
  obtain ⟨-, -, -, ⟨a1, a2, a3, -⟩, b1, b2, b3, -⟩ := places t
  exact ⟨(congrFun (V_main_arg1 m c) _).trans (congrArg _ (same_place ((abreast a1).trans h0.symm) ((spanning b1).trans h1.symm))),
    (congrFun (V_main_arg2 m c) _).trans (congrArg _ (same_place ((abreast a2).trans h0.symm) ((spanning b2).trans h1.symm))),
    (congrFun (V_main_arg3 m c) _).trans (congrArg _ (same_place ((abreast a3).trans h0.symm) ((spanning b3).trans h1.symm)))⟩

/-- What the call leaves. -/
theorem result_total (m : (ℓ : Loc nD τ sig) → Buf (Elt Ideal) ℓ) (c : Dev nD) :
    (dats m 0 c).arrAt 4 cfg0.N = total (m ((c : Thread nD τ).loc main_arg0)) := by
  refine (dats m 0 c).arrAt_eq_of_covers 4 _ (by decide +kernel) fun t hf y => ?_
  blk_simp
  rw [after0_4, tile_total]
  obtain ⟨-, -, -, ⟨-, -, -, a, -⟩, -, -, -, b, -⟩ := places t
  exact total_at m c t (abreast a) (spanning b)
theorem result_changes (m : (ℓ : Loc nD τ sig) → Buf (Elt Ideal) ℓ) (c : Dev nD) :
    (dats m 0 c).arrAt 5 cfg0.N = changes (total (m ((c : Thread nD τ).loc main_arg0))) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, tile_changes]
  obtain ⟨-, -, -, ⟨-, -, -, -, a, -⟩, -, -, -, -, b, -⟩ := places t
  exact changes_at (total_at m c t (abreast a) (spanning b)) (inputs_at m c t (abreast a) (spanning b)).1
    (inputs_at m c t (abreast a) (spanning b)).2.1 (inputs_at m c t (abreast a) (spanning b)).2.2
theorem result_means (m : (ℓ : Loc nD τ sig) → Buf (Elt Ideal) ℓ) (c : Dev nD) :
    (dats m 0 c).arrAt 6 cfg0.N = means (total (m ((c : Thread nD τ).loc main_arg0))) (m ((c : Thread nD τ).loc main_arg2)) := by
  refine (dats m 0 c).arrAt_eq_of_covers 6 _ (by decide +kernel) fun t hf y => ?_
  blk_simp
  rw [after0_6, tile_means]
  obtain ⟨-, -, -, ⟨-, -, -, -, -, a, -⟩, -, -, -, -, -, b, -⟩ := places t
  exact means_at (total_at m c t (abreast a) (spanning b)) (inputs_at m c t (abreast a) (spanning b)).2.1
theorem result_meanSquares (m : (ℓ : Loc nD τ sig) → Buf (Elt Ideal) ℓ) (c : Dev nD) :
    (dats m 0 c).arrAt 7 cfg0.N = meanSquares (total (m ((c : Thread nD τ).loc main_arg0))) (m ((c : Thread nD τ).loc main_arg3)) := by
  refine (dats m 0 c).arrAt_eq_of_covers 7 _ (by decide +kernel) fun t hf y => ?_
  blk_simp
  rw [after0_7, tile_meanSquares]
  obtain ⟨-, -, -, ⟨-, -, -, -, -, -, a⟩, -, -, -, -, -, -, b⟩ := places t
  exact meanSquares_at (total_at m c t (abreast a) (spanning b)) (inputs_at m c t (abreast a) (spanning b)).2.2

theorem frame_reference : Cert.quiescent_Reference17Ideal := fun m g _ =>
  (θ_run Cert.Reference17Ideal.defs _ _).mono (fun r h => ⟨fun c => (h c).2.2.2.2, sem_eq_zero_of_no_sems (by decide) r.2⟩)
    (Cert.Reference17Ideal.Value.run (F := Ideal) m g)

theorem value : Cert.algebraic_Kernel17Ideal_Reference17Ideal := by
  pair_intro
  · run_from Cert.Kernel17Ideal.Gen.run_main m g
  · refine (θ_run Cert.Reference17Ideal.defs _ _).mono (fun r h c => ?_) (Cert.Reference17Ideal.Value.run (F := Ideal) m' g')
    obtain ⟨e0, e1, e2, e3⟩ := hagree c
    refine ⟨(h c).1.trans ?_, (h c).2.1.trans ?_, (h c).2.2.1.trans ?_, (h c).2.2.2.1.trans ?_, (h c).2.2.2.2⟩
    · rw [e0, whole]
      exact (result_total m c).symm
    · rw [e0, e1, e2, e3, whole]
      exact (result_changes m c).symm
    · rw [e0, e2, whole]
      exact (result_means m c).symm
    · rw [e0, e3, whole]
      exact (result_meanSquares m c).symm

end Cert.Proof.AdamOut
-- ==== Proof.AdamUp.lean ====
/-
  The optimiser's step of `w_up`.
-/
module

public import proofs.«01_k».proof.Defs
public import proofs.«01_k».proof.Proof.Adam
public import proofs.«01_k».proof.Proof.Gen.Kernel18Ideal.Frame
public import proofs.«01_k».proof.Proof.Gen.Reference18Ideal.Run

@[expose] public section

set_option maxRecDepth 16384

noncomputable section

open Idealize.ShloMosaic Idealize.ShloMosaic.TcCoe Idealize.ShloMosaic.Tactic Idealize.SL.Sem

namespace Cert.Proof.AdamUp

open Cert.Kernel18Ideal Cert.Kernel18Ideal.Gen Products Adam

/-- The body's sum of the parts' tiles. -/
theorem tile (x : FVec Ideal S8x256x704 .bf16) :
    k0_pay4 (F := Ideal) (View.ld x r0_0) (View.ld x r0_1) (View.ld x r0_2) (View.ld x r0_3)
      (View.ld x r0_4) (View.ld x r0_5) (View.ld x r0_6) (View.ld x r0_7) = total x := by
  funext y
  rw [ValueIdx.eq_ix2 y]
  unfold k0_pay4 total
  pointwise
  exact (Fin.sum_univ_eight (M := EReal) fun s => x (ix3 s (y 0) (y 1))).symm

theorem read (v : Vec Ideal S256x704 .f32) : View.ld v r0_8 = v := View.ld_unit_lit _ _ (by decide)

/-- What a point writes. -/
theorem tile_total (x : FVec Ideal S8x256x704 .bf16) (w m v : FVec Ideal S256x704 .f32) : out0_4 (F := Ideal) x w m v = total x :=
  (View.canon_cons_unit_lit _ _ _ (by decide)).trans (tile x)
theorem tile_means (x : FVec Ideal S8x256x704 .bf16) (w m v : FVec Ideal S256x704 .f32) : out0_6 (F := Ideal) x w m v = means (total x) m := by
  refine (View.canon_cons_unit_lit _ _ _ (by decide)).trans ?_
  unfold k0_pay1 k0_pay5
  rw [tile, read]
  rfl
theorem tile_meanSquares (x : FVec Ideal S8x256x704 .bf16) (w m v : FVec Ideal S256x704 .f32) :
    out0_7 (F := Ideal) x w m v = meanSquares (total x) v := by
  refine (View.canon_cons_unit_lit _ _ _ (by decide)).trans ?_
  unfold k0_pay2 k0_pay5
  rw [tile, read]
  rfl
theorem tile_changes (x : FVec Ideal S8x256x704 .bf16) (w m v : FVec Ideal S256x704 .f32) :
    out0_5 (F := Ideal) x w m v = changes (total x) w m v := by
  refine (View.canon_cons_unit_lit _ _ _ (by decide)).trans ?_
  unfold k0_pay3 k0_pay1 k0_pay2 k0_pay5
  rw [tile, read, read, read]
  rfl

/-- The reference's sum of the parts. -/
theorem whole (x : FVec Ideal S8x1024x704 .bf16) :
    Host.reduceAdd (extf .f32 x Cert.Reference18Ideal.Gen.bitsLt_bf16_f32) (constant Cert.Reference18Ideal.S_ .f32 0x00000000#32)
      Cert.Reference18Ideal.Gen.reducesTo_S8x1024x704_S1024x704_d0 Cert.Reference18Ideal.Gen.h_S_ = total x := by
  funext y
  rw [ValueIdx.eq_ix2 y]
  unfold total
  pointwise

/-- Where each point's tiles are. -/
theorem places : ∀ t : Fin cfg0.N, win0_0.index t 0 = 0 ∧ win0_0.index t 1 = t.val ∧ win0_0.index t 2 = 0
    ∧ (win0_1.index t 0 = t.val ∧ win0_2.index t 0 = t.val ∧ win0_3.index t 0 = t.val ∧ win0_4.index t 0 = t.val
      ∧ win0_5.index t 0 = t.val ∧ win0_6.index t 0 = t.val ∧ win0_7.index t 0 = t.val)
    ∧ win0_1.index t 1 = 0 ∧ win0_2.index t 1 = 0 ∧ win0_3.index t 1 = 0 ∧ win0_4.index t 1 = 0
      ∧ win0_5.index t 1 = 0 ∧ win0_6.index t 1 = 0 ∧ win0_7.index t 1 = 0 := by decide +kernel

/-- Entry `y` of a point's tiles is entry `z` of the arrays. -/
theorem total_at (m : (ℓ : Loc nD τ sig) → Buf (Elt Ideal) ℓ) (c : Dev nD) (t : Fin cfg0.N)
    {y : S256x704.Idx} {z : S1024x704.Idx}
    (h0 : (z 0).val = t.val * 256 + 1 * (y 0).val) (h1 : (z 1).val = (y 1).val) :
    total (iblk m c 0 t) y = total (m ((c : Thread nD τ).loc main_arg0)) z := by
  obtain ⟨e0, e1, e2, -⟩ := places t
  exact Finset.sum_congr rfl fun s _ => (congrFun (V_main_arg0 m c) _).trans (congrArg _ (same_place3 (spanning e0)
    ((abreast e1).trans h0.symm) ((spanning e2).trans h1.symm)))
theorem inputs_at (m : (ℓ : Loc nD τ sig) → Buf (Elt Ideal) ℓ) (c : Dev nD) (t : Fin cfg0.N)
    {y : S256x704.Idx} {z : S1024x704.Idx}
    (h0 : (z 0).val = t.val * 256 + 1 * (y 0).val) (h1 : (z 1).val = (y 1).val) :
    (iblk m c 1 t : Mat 256 704) y = (m ((c : Thread nD τ).loc main_arg1) : Mat 1024 704) z
      ∧ (iblk m c 2 t : Mat 256 704) y = (m ((c : Thread nD τ).loc main_arg2) : Mat 1024 704) z
      ∧ (iblk m c 3 t : Mat 256 704) y = (m ((c : Thread nD τ).loc main_arg3) : Mat 1024 704) z := by
  obtain ⟨-, -, -, ⟨a1, a2, a3, -⟩, b1, b2, b3, -⟩ := places t
  exact ⟨(congrFun (V_main_arg1 m c) _).trans (congrArg _ (same_place ((abreast a1).trans h0.symm) ((spanning b1).trans h1.symm))),
    (congrFun (V_main_arg2 m c) _).trans (congrArg _ (same_place ((abreast a2).trans h0.symm) ((spanning b2).trans h1.symm))),
    (congrFun (V_main_arg3 m c) _).trans (congrArg _ (same_place ((abreast a3).trans h0.symm) ((spanning b3).trans h1.symm)))⟩

/-- What the call leaves. -/
theorem result_total (m : (ℓ : Loc nD τ sig) → Buf (Elt Ideal) ℓ) (c : Dev nD) :
    (dats m 0 c).arrAt 4 cfg0.N = total (m ((c : Thread nD τ).loc main_arg0)) := by
  refine (dats m 0 c).arrAt_eq_of_covers 4 _ (by decide +kernel) fun t hf y => ?_
  blk_simp
  rw [after0_4, tile_total]
  obtain ⟨-, -, -, ⟨-, -, -, a, -⟩, -, -, -, b, -⟩ := places t
  exact total_at m c t (abreast a) (spanning b)
theorem result_changes (m : (ℓ : Loc nD τ sig) → Buf (Elt Ideal) ℓ) (c : Dev nD) :
    (dats m 0 c).arrAt 5 cfg0.N = changes (total (m ((c : Thread nD τ).loc main_arg0))) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, tile_changes]
  obtain ⟨-, -, -, ⟨-, -, -, -, a, -⟩, -, -, -, -, b, -⟩ := places t
  exact changes_at (total_at m c t (abreast a) (spanning b)) (inputs_at m c t (abreast a) (spanning b)).1
    (inputs_at m c t (abreast a) (spanning b)).2.1 (inputs_at m c t (abreast a) (spanning b)).2.2
theorem result_means (m : (ℓ : Loc nD τ sig) → Buf (Elt Ideal) ℓ) (c : Dev nD) :
    (dats m 0 c).arrAt 6 cfg0.N = means (total (m ((c : Thread nD τ).loc main_arg0))) (m ((c : Thread nD τ).loc main_arg2)) := by
  refine (dats m 0 c).arrAt_eq_of_covers 6 _ (by decide +kernel) fun t hf y => ?_
  blk_simp
  rw [after0_6, tile_means]
  obtain ⟨-, -, -, ⟨-, -, -, -, -, a, -⟩, -, -, -, -, -, b, -⟩ := places t
  exact means_at (total_at m c t (abreast a) (spanning b)) (inputs_at m c t (abreast a) (spanning b)).2.1
theorem result_meanSquares (m : (ℓ : Loc nD τ sig) → Buf (Elt Ideal) ℓ) (c : Dev nD) :
    (dats m 0 c).arrAt 7 cfg0.N = meanSquares (total (m ((c : Thread nD τ).loc main_arg0))) (m ((c : Thread nD τ).loc main_arg3)) := by
  refine (dats m 0 c).arrAt_eq_of_covers 7 _ (by decide +kernel) fun t hf y => ?_
  blk_simp
  rw [after0_7, tile_meanSquares]
  obtain ⟨-, -, -, ⟨-, -, -, -, -, -, a⟩, -, -, -, -, -, -, b⟩ := places t
  exact meanSquares_at (total_at m c t (abreast a) (spanning b)) (inputs_at m c t (abreast a) (spanning b)).2.2

theorem frame_reference : Cert.quiescent_Reference18Ideal := fun m g _ =>
  (θ_run Cert.Reference18Ideal.defs _ _).mono (fun r h => ⟨fun c => (h c).2.2.2.2, sem_eq_zero_of_no_sems (by decide) r.2⟩)
    (Cert.Reference18Ideal.Value.run (F := Ideal) m g)

theorem value : Cert.algebraic_Kernel18Ideal_Reference18Ideal := by
  pair_intro
  · run_from Cert.Kernel18Ideal.Gen.run_main m g
  · refine (θ_run Cert.Reference18Ideal.defs _ _).mono (fun r h c => ?_) (Cert.Reference18Ideal.Value.run (F := Ideal) m' g')
    obtain ⟨e0, e1, e2, e3⟩ := hagree c
    refine ⟨(h c).1.trans ?_, (h c).2.1.trans ?_, (h c).2.2.1.trans ?_, (h c).2.2.2.1.trans ?_, (h c).2.2.2.2⟩
    · rw [e0, whole]
      exact (result_total m c).symm
    · rw [e0, e1, e2, e3, whole]
      exact (result_changes m c).symm
    · rw [e0, e2, whole]
      exact (result_means m c).symm
    · rw [e0, e3, whole]
      exact (result_meanSquares m c).symm

end Cert.Proof.AdamUp
-- ==== Proof.AdamDown.lean ====
/-
  The optimiser's step of `w_down`.
-/
module

public import proofs.«01_k».proof.Defs
public import proofs.«01_k».proof.Proof.Adam
public import proofs.«01_k».proof.Proof.Gen.Kernel19Ideal.Frame
public import proofs.«01_k».proof.Proof.Gen.Reference19Ideal.Run

@[expose] public section

set_option maxRecDepth 16384

noncomputable section

open Idealize.ShloMosaic Idealize.ShloMosaic.TcCoe Idealize.ShloMosaic.Tactic Idealize.SL.Sem

namespace Cert.Proof.AdamDown

open Cert.Kernel19Ideal Cert.Kernel19Ideal.Gen Products Adam

/-- The body's sum of the parts' tiles. -/
theorem tile (x : FVec Ideal S8x176x1024 .bf16) :
    k0_pay4 (F := Ideal) (View.ld x r0_0) (View.ld x r0_1) (View.ld x r0_2) (View.ld x r0_3)
      (View.ld x r0_4) (View.ld x r0_5) (View.ld x r0_6) (View.ld x r0_7) = total x := by
  funext y
  rw [ValueIdx.eq_ix2 y]
  unfold k0_pay4 total
  pointwise
  exact (Fin.sum_univ_eight (M := EReal) fun s => x (ix3 s (y 0) (y 1))).symm

theorem read (v : Vec Ideal S176x1024 .f32) : View.ld v r0_8 = v := View.ld_unit_lit _ _ (by decide)

/-- What a point writes. -/
theorem tile_total (x : FVec Ideal S8x176x1024 .bf16) (w m v : FVec Ideal S176x1024 .f32) : out0_4 (F := Ideal) x w m v = total x :=
  (View.canon_cons_unit_lit _ _ _ (by decide)).trans (tile x)
theorem tile_means (x : FVec Ideal S8x176x1024 .bf16) (w m v : FVec Ideal S176x1024 .f32) : out0_6 (F := Ideal) x w m v = means (total x) m := by
  refine (View.canon_cons_unit_lit _ _ _ (by decide)).trans ?_
  unfold k0_pay1 k0_pay5
  rw [tile, read]
  rfl
theorem tile_meanSquares (x : FVec Ideal S8x176x1024 .bf16) (w m v : FVec Ideal S176x1024 .f32) :
    out0_7 (F := Ideal) x w m v = meanSquares (total x) v := by
  refine (View.canon_cons_unit_lit _ _ _ (by decide)).trans ?_
  unfold k0_pay2 k0_pay5
  rw [tile, read]
  rfl
theorem tile_changes (x : FVec Ideal S8x176x1024 .bf16) (w m v : FVec Ideal S176x1024 .f32) :
    out0_5 (F := Ideal) x w m v = changes (total x) w m v := by
  refine (View.canon_cons_unit_lit _ _ _ (by decide)).trans ?_
  unfold k0_pay3 k0_pay1 k0_pay2 k0_pay5
  rw [tile, read, read, read]
  rfl

/-- The reference's sum of the parts. -/
theorem whole (x : FVec Ideal S8x352x1024 .bf16) :
    Host.reduceAdd (extf .f32 x Cert.Reference19Ideal.Gen.bitsLt_bf16_f32) (constant Cert.Reference19Ideal.S_ .f32 0x00000000#32)
      Cert.Reference19Ideal.Gen.reducesTo_S8x352x1024_S352x1024_d0 Cert.Reference19Ideal.Gen.h_S_ = total x := by
  funext y
  rw [ValueIdx.eq_ix2 y]
  unfold total
  pointwise

/-- Where each point's tiles are. -/
theorem places : ∀ t : Fin cfg0.N, win0_0.index t 0 = 0 ∧ win0_0.index t 1 = t.val ∧ win0_0.index t 2 = 0
    ∧ (win0_1.index t 0 = t.val ∧ win0_2.index t 0 = t.val ∧ win0_3.index t 0 = t.val ∧ win0_4.index t 0 = t.val
      ∧ win0_5.index t 0 = t.val ∧ win0_6.index t 0 = t.val ∧ win0_7.index t 0 = t.val)
    ∧ win0_1.index t 1 = 0 ∧ win0_2.index t 1 = 0 ∧ win0_3.index t 1 = 0 ∧ win0_4.index t 1 = 0
      ∧ win0_5.index t 1 = 0 ∧ win0_6.index t 1 = 0 ∧ win0_7.index t 1 = 0 := by decide +kernel

/-- Entry `y` of a point's tiles is entry `z` of the arrays. -/
theorem total_at (m : (ℓ : Loc nD τ sig) → Buf (Elt Ideal) ℓ) (c : Dev nD) (t : Fin cfg0.N)
    {y : S176x1024.Idx} {z : S352x1024.Idx}
    (h0 : (z 0).val = t.val * 176 + 1 * (y 0).val) (h1 : (z 1).val = (y 1).val) :
    total (iblk m c 0 t) y = total (m ((c : Thread nD τ).loc main_arg0)) z := by
  obtain ⟨e0, e1, e2, -⟩ := places t
  exact Finset.sum_congr rfl fun s _ => (congrFun (V_main_arg0 m c) _).trans (congrArg _ (same_place3 (spanning e0)
    ((abreast e1).trans h0.symm) ((spanning e2).trans h1.symm)))
theorem inputs_at (m : (ℓ : Loc nD τ sig) → Buf (Elt Ideal) ℓ) (c : Dev nD) (t : Fin cfg0.N)
    {y : S176x1024.Idx} {z : S352x1024.Idx}
    (h0 : (z 0).val = t.val * 176 + 1 * (y 0).val) (h1 : (z 1).val = (y 1).val) :
    (iblk m c 1 t : Mat 176 1024) y = (m ((c : Thread nD τ).loc main_arg1) : Mat 352 1024) z
      ∧ (iblk m c 2 t : Mat 176 1024) y = (m ((c : Thread nD τ).loc main_arg2) : Mat 352 1024) z
      ∧ (iblk m c 3 t : Mat 176 1024) y = (m ((c : Thread nD τ).loc main_arg3) : Mat 352 1024) z := by
  obtain ⟨-, -, -, ⟨a1, a2, a3, -⟩, b1, b2, b3, -⟩ := places t
  exact ⟨(congrFun (V_main_arg1 m c) _).trans (congrArg _ (same_place ((abreast a1).trans h0.symm) ((spanning b1).trans h1.symm))),
    (congrFun (V_main_arg2 m c) _).trans (congrArg _ (same_place ((abreast a2).trans h0.symm) ((spanning b2).trans h1.symm))),
    (congrFun (V_main_arg3 m c) _).trans (congrArg _ (same_place ((abreast a3).trans h0.symm) ((spanning b3).trans h1.symm)))⟩

/-- What the call leaves. -/
theorem result_total (m : (ℓ : Loc nD τ sig) → Buf (Elt Ideal) ℓ) (c : Dev nD) :
    (dats m 0 c).arrAt 4 cfg0.N = total (m ((c : Thread nD τ).loc main_arg0)) := by
  refine (dats m 0 c).arrAt_eq_of_covers 4 _ (by decide +kernel) fun t hf y => ?_
  blk_simp
  rw [after0_4, tile_total]
  obtain ⟨-, -, -, ⟨-, -, -, a, -⟩, -, -, -, b, -⟩ := places t
  exact total_at m c t (abreast a) (spanning b)
theorem result_changes (m : (ℓ : Loc nD τ sig) → Buf (Elt Ideal) ℓ) (c : Dev nD) :
    (dats m 0 c).arrAt 5 cfg0.N = changes (total (m ((c : Thread nD τ).loc main_arg0))) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, tile_changes]
  obtain ⟨-, -, -, ⟨-, -, -, -, a, -⟩, -, -, -, -, b, -⟩ := places t
  exact changes_at (total_at m c t (abreast a) (spanning b)) (inputs_at m c t (abreast a) (spanning b)).1
    (inputs_at m c t (abreast a) (spanning b)).2.1 (inputs_at m c t (abreast a) (spanning b)).2.2
theorem result_means (m : (ℓ : Loc nD τ sig) → Buf (Elt Ideal) ℓ) (c : Dev nD) :
    (dats m 0 c).arrAt 6 cfg0.N = means (total (m ((c : Thread nD τ).loc main_arg0))) (m ((c : Thread nD τ).loc main_arg2)) := by
  refine (dats m 0 c).arrAt_eq_of_covers 6 _ (by decide +kernel) fun t hf y => ?_
  blk_simp
  rw [after0_6, tile_means]
  obtain ⟨-, -, -, ⟨-, -, -, -, -, a, -⟩, -, -, -, -, -, b, -⟩ := places t
  exact means_at (total_at m c t (abreast a) (spanning b)) (inputs_at m c t (abreast a) (spanning b)).2.1
theorem result_meanSquares (m : (ℓ : Loc nD τ sig) → Buf (Elt Ideal) ℓ) (c : Dev nD) :
    (dats m 0 c).arrAt 7 cfg0.N = meanSquares (total (m ((c : Thread nD τ).loc main_arg0))) (m ((c : Thread nD τ).loc main_arg3)) := by
  refine (dats m 0 c).arrAt_eq_of_covers 7 _ (by decide +kernel) fun t hf y => ?_
  blk_simp
  rw [after0_7, tile_meanSquares]
  obtain ⟨-, -, -, ⟨-, -, -, -, -, -, a⟩, -, -, -, -, -, -, b⟩ := places t
  exact meanSquares_at (total_at m c t (abreast a) (spanning b)) (inputs_at m c t (abreast a) (spanning b)).2.2

theorem frame_reference : Cert.quiescent_Reference19Ideal := fun m g _ =>
  (θ_run Cert.Reference19Ideal.defs _ _).mono (fun r h => ⟨fun c => (h c).2.2.2.2, sem_eq_zero_of_no_sems (by decide) r.2⟩)
    (Cert.Reference19Ideal.Value.run (F := Ideal) m g)

theorem value : Cert.algebraic_Kernel19Ideal_Reference19Ideal := by
  pair_intro
  · run_from Cert.Kernel19Ideal.Gen.run_main m g
  · refine (θ_run Cert.Reference19Ideal.defs _ _).mono (fun r h c => ?_) (Cert.Reference19Ideal.Value.run (F := Ideal) m' g')
    obtain ⟨e0, e1, e2, e3⟩ := hagree c
    refine ⟨(h c).1.trans ?_, (h c).2.1.trans ?_, (h c).2.2.1.trans ?_, (h c).2.2.2.1.trans ?_, (h c).2.2.2.2⟩
    · rw [e0, whole]
      exact (result_total m c).symm
    · rw [e0, e1, e2, e3, whole]
      exact (result_changes m c).symm
    · rw [e0, e2, whole]
      exact (result_means m c).symm
    · rw [e0, e3, whole]
      exact (result_meanSquares m c).symm

end Cert.Proof.AdamDown
-- ==== Proof.AdamConv.lean ====
/-
  The optimiser's step of `conv_w`.
-/
module

public import proofs.«01_k».proof.Defs
public import proofs.«01_k».proof.Proof.Adam
public import proofs.«01_k».proof.Proof.Gen.Kernel20Ideal.Frame
public import proofs.«01_k».proof.Proof.Gen.Reference20Ideal.Run

@[expose] public section

set_option maxRecDepth 16384

noncomputable section

open Idealize.ShloMosaic Idealize.ShloMosaic.TcCoe Idealize.ShloMosaic.Tactic Idealize.SL.Sem

namespace Cert.Proof.AdamConv

open Cert.Kernel20Ideal Cert.Kernel20Ideal.Gen Products Adam

/-- The body's sum of the parts' tiles. -/
theorem tile (x : FVec Ideal S8x3x704 .f32) :
    k0_pay4 (F := Ideal) (View.ld x r0_0) (View.ld x r0_1) (View.ld x r0_2) (View.ld x r0_3)
      (View.ld x r0_4) (View.ld x r0_5) (View.ld x r0_6) (View.ld x r0_7) = total x := by
  funext y
  rw [ValueIdx.eq_ix2 y]
  unfold k0_pay4 total
  pointwise
  exact (Fin.sum_univ_eight (M := EReal) fun s => x (ix3 s (y 0) (y 1))).symm

theorem read (v : Vec Ideal S3x704 .f32) : View.ld v r0_8 = v := View.ld_unit_lit _ _ (by decide)

/-- What a point writes. -/
theorem tile_total (x : FVec Ideal S8x3x704 .f32) (w m v : FVec Ideal S3x704 .f32) : out0_4 (F := Ideal) x w m v = total x :=
  (View.canon_cons_unit_lit _ _ _ (by decide)).trans (tile x)
theorem tile_means (x : FVec Ideal S8x3x704 .f32) (w m v : FVec Ideal S3x704 .f32) : out0_6 (F := Ideal) x w m v = means (total x) m := by
  refine (View.canon_cons_unit_lit _ _ _ (by decide)).trans ?_
  unfold k0_pay1 k0_pay7 k0_pay8
  rw [tile, read]
  rfl
theorem tile_meanSquares (x : FVec Ideal S8x3x704 .f32) (w m v : FVec Ideal S3x704 .f32) :
    out0_7 (F := Ideal) x w m v = meanSquares (total x) v := by
  refine (View.canon_cons_unit_lit _ _ _ (by decide)).trans ?_
  unfold k0_pay2 k0_pay7
  rw [tile, read]
  rfl
theorem tile_changes (x : FVec Ideal S8x3x704 .f32) (w m v : FVec Ideal S3x704 .f32) :
    out0_5 (F := Ideal) x w m v = changes (total x) w m v := by
  refine (View.canon_cons_unit_lit _ _ _ (by decide)).trans ?_
  unfold k0_pay3 k0_pay1 k0_pay2 k0_pay7 k0_pay8
  rw [tile, read, read, read]
  rfl

/-- The reference's sum of the parts. -/
theorem whole (x : FVec Ideal S8x3x704 .f32) :
    Host.reduceAdd x (constant Cert.Reference20Ideal.S_ .f32 0x00000000#32)
      Cert.Reference20Ideal.Gen.reducesTo_S8x3x704_S3x704_d0 Cert.Reference20Ideal.Gen.h_S_ = total x := by
  funext y
  rw [ValueIdx.eq_ix2 y]
  unfold total
  pointwise

/-- Where each point's tiles are. -/
theorem places : ∀ t : Fin cfg0.N, win0_0.index t 0 = 0 ∧ win0_0.index t 1 = t.val ∧ win0_0.index t 2 = 0
    ∧ (win0_1.index t 0 = t.val ∧ win0_2.index t 0 = t.val ∧ win0_3.index t 0 = t.val ∧ win0_4.index t 0 = t.val
      ∧ win0_5.index t 0 = t.val ∧ win0_6.index t 0 = t.val ∧ win0_7.index t 0 = t.val)
    ∧ win0_1.index t 1 = 0 ∧ win0_2.index t 1 = 0 ∧ win0_3.index t 1 = 0 ∧ win0_4.index t 1 = 0
      ∧ win0_5.index t 1 = 0 ∧ win0_6.index t 1 = 0 ∧ win0_7.index t 1 = 0 := by decide +kernel

/-- Entry `y` of a point's tiles is entry `z` of the arrays. -/
theorem total_at (m : (ℓ : Loc nD τ sig) → Buf (Elt Ideal) ℓ) (c : Dev nD) (t : Fin cfg0.N)
    {y : S3x704.Idx} {z : S3x704.Idx}
    (h0 : (z 0).val = t.val * 3 + 1 * (y 0).val) (h1 : (z 1).val = (y 1).val) :
    total (iblk m c 0 t) y = total (m ((c : Thread nD τ).loc main_arg0)) z := by
  obtain ⟨e0, e1, e2, -⟩ := places t
  exact Finset.sum_congr rfl fun s _ => (congrFun (V_main_arg0 m c) _).trans (congrArg _ (same_place3 (spanning e0)
    ((abreast e1).trans h0.symm) ((spanning e2).trans h1.symm)))
theorem inputs_at (m : (ℓ : Loc nD τ sig) → Buf (Elt Ideal) ℓ) (c : Dev nD) (t : Fin cfg0.N)
    {y : S3x704.Idx} {z : S3x704.Idx}
    (h0 : (z 0).val = t.val * 3 + 1 * (y 0).val) (h1 : (z 1).val = (y 1).val) :
    (iblk m c 1 t : Mat 3 704) y = (m ((c : Thread nD τ).loc main_arg1) : Mat 3 704) z
      ∧ (iblk m c 2 t : Mat 3 704) y = (m ((c : Thread nD τ).loc main_arg2) : Mat 3 704) z
      ∧ (iblk m c 3 t : Mat 3 704) y = (m ((c : Thread nD τ).loc main_arg3) : Mat 3 704) z := by
  obtain ⟨-, -, -, ⟨a1, a2, a3, -⟩, b1, b2, b3, -⟩ := places t
  exact ⟨(congrFun (V_main_arg1 m c) _).trans (congrArg _ (same_place ((abreast a1).trans h0.symm) ((spanning b1).trans h1.symm))),
    (congrFun (V_main_arg2 m c) _).trans (congrArg _ (same_place ((abreast a2).trans h0.symm) ((spanning b2).trans h1.symm))),
    (congrFun (V_main_arg3 m c) _).trans (congrArg _ (same_place ((abreast a3).trans h0.symm) ((spanning b3).trans h1.symm)))⟩

/-- What the call leaves. -/
theorem result_total (m : (ℓ : Loc nD τ sig) → Buf (Elt Ideal) ℓ) (c : Dev nD) :
    (dats m 0 c).arrAt 4 cfg0.N = total (m ((c : Thread nD τ).loc main_arg0)) := by
  refine (dats m 0 c).arrAt_eq_of_covers 4 _ (by decide +kernel) fun t hf y => ?_
  blk_simp
  rw [after0_4, tile_total]
  obtain ⟨-, -, -, ⟨-, -, -, a, -⟩, -, -, -, b, -⟩ := places t
  exact total_at m c t (abreast a) (spanning b)
theorem result_changes (m : (ℓ : Loc nD τ sig) → Buf (Elt Ideal) ℓ) (c : Dev nD) :
    (dats m 0 c).arrAt 5 cfg0.N = changes (total (m ((c : Thread nD τ).loc main_arg0))) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, tile_changes]
  obtain ⟨-, -, -, ⟨-, -, -, -, a, -⟩, -, -, -, -, b, -⟩ := places t
  exact changes_at (total_at m c t (abreast a) (spanning b)) (inputs_at m c t (abreast a) (spanning b)).1
    (inputs_at m c t (abreast a) (spanning b)).2.1 (inputs_at m c t (abreast a) (spanning b)).2.2
theorem result_means (m : (ℓ : Loc nD τ sig) → Buf (Elt Ideal) ℓ) (c : Dev nD) :
    (dats m 0 c).arrAt 6 cfg0.N = means (total (m ((c : Thread nD τ).loc main_arg0))) (m ((c : Thread nD τ).loc main_arg2)) := by
  refine (dats m 0 c).arrAt_eq_of_covers 6 _ (by decide +kernel) fun t hf y => ?_
  blk_simp
  rw [after0_6, tile_means]
  obtain ⟨-, -, -, ⟨-, -, -, -, -, a, -⟩, -, -, -, -, -, b, -⟩ := places t
  exact means_at (total_at m c t (abreast a) (spanning b)) (inputs_at m c t (abreast a) (spanning b)).2.1
theorem result_meanSquares (m : (ℓ : Loc nD τ sig) → Buf (Elt Ideal) ℓ) (c : Dev nD) :
    (dats m 0 c).arrAt 7 cfg0.N = meanSquares (total (m ((c : Thread nD τ).loc main_arg0))) (m ((c : Thread nD τ).loc main_arg3)) := by
  refine (dats m 0 c).arrAt_eq_of_covers 7 _ (by decide +kernel) fun t hf y => ?_
  blk_simp
  rw [after0_7, tile_meanSquares]
  obtain ⟨-, -, -, ⟨-, -, -, -, -, -, a⟩, -, -, -, -, -, -, b⟩ := places t
  exact meanSquares_at (total_at m c t (abreast a) (spanning b)) (inputs_at m c t (abreast a) (spanning b)).2.2

theorem frame_reference : Cert.quiescent_Reference20Ideal := fun m g _ =>
  (θ_run Cert.Reference20Ideal.defs _ _).mono (fun r h => ⟨fun c => (h c).2.2.2.2, sem_eq_zero_of_no_sems (by decide) r.2⟩)
    (Cert.Reference20Ideal.Value.run (F := Ideal) m g)

theorem value : Cert.algebraic_Kernel20Ideal_Reference20Ideal := by
  pair_intro
  · run_from Cert.Kernel20Ideal.Gen.run_main m g
  · refine (θ_run Cert.Reference20Ideal.defs _ _).mono (fun r h c => ?_) (Cert.Reference20Ideal.Value.run (F := Ideal) m' g')
    obtain ⟨e0, e1, e2, e3⟩ := hagree c
    refine ⟨(h c).1.trans ?_, (h c).2.1.trans ?_, (h c).2.2.1.trans ?_, (h c).2.2.2.1.trans ?_, (h c).2.2.2.2⟩
    · rw [e0, whole]
      exact (result_total m c).symm
    · rw [e0, e1, e2, e3, whole]
      exact (result_changes m c).symm
    · rw [e0, e2, whole]
      exact (result_means m c).symm
    · rw [e0, e3, whole]
      exact (result_meanSquares m c).symm

end Cert.Proof.AdamConv
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21
public import proofs.«01_k».proof.Proof.Gen.Reference21Ideal.Run
public import proofs.«01_k».proof.Proof.SmallKernel
public import proofs.«01_k».proof.Proof.SmallValue
public import proofs.«01_k».proof.Proof.Frames
public import proofs.«01_k».proof.Proof.Agree
public import proofs.«01_k».proof.Proof.UpProducts
public import proofs.«01_k».proof.Proof.InProducts
public import proofs.«01_k».proof.Proof.OutProducts
public import proofs.«01_k».proof.Proof.Gates
public import proofs.«01_k».proof.Proof.Spread
public import proofs.«01_k».proof.Proof.NormPair
public import proofs.«01_k».proof.Proof.AdamIn
public import proofs.«01_k».proof.Proof.AdamBranch
public import proofs.«01_k».proof.Proof.AdamOut
public import proofs.«01_k».proof.Proof.AdamUp
public import proofs.«01_k».proof.Proof.AdamDown
public import proofs.«01_k».proof.Proof.AdamConv

@[expose] public section

noncomputable section

namespace Cert.Proof

open Idealize.ShloMosaic Idealize.SL.Sem

/-- The claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Fox.finite_facts,
    Fox.frame_kernel, Fox.frame_ideal, fun m g _ => Fox.frame_ideal m g trivial, Fox.frame_reference, fun m g _ => Fox.frame_reference m g trivial,
    fun m g _ => Cert.Kernel2.Gen.frame m g, fun m g _ => Cert.Kernel2Ideal.Gen.frame m g, UpInput.frame_reference,
    fun m g _ => Cert.Kernel3.Gen.frame m g, fun m g _ => Cert.Kernel3Ideal.Gen.frame m g, UpWeight.frame_reference,
    fun m g _ => Cert.Kernel4.Gen.frame m g, fun m g _ => Cert.Kernel4Ideal.Gen.frame m g, InInput.frame_reference,
    fun m g _ => Cert.Kernel5.Gen.frame m g, fun m g _ => Cert.Kernel5Ideal.Gen.frame m g, InWeight.frame_reference,
    fun m g _ => Cert.Kernel6.Gen.frame m g, fun m g _ => Cert.Kernel6Ideal.Gen.frame m g, DownWeight.frame_reference,
    fun m g _ => Cert.Kernel7.Gen.frame m g, fun m g _ => Cert.Kernel7Ideal.Gen.frame m g, MixedInput.frame_reference,
    fun m g _ => Cert.Kernel8.Gen.frame m g, fun m g _ => Cert.Kernel8Ideal.Gen.frame m g, MixedWeight.frame_reference,
    fun m g _ => Cert.Kernel9.Gen.frame m g, fun m g _ => Cert.Kernel9Ideal.Gen.frame m g, InForward.frame_reference,
    fun m g _ => Cert.Kernel10.Gen.frame m g, fun m g _ => Cert.Kernel10Ideal.Gen.frame m g, BranchInput.frame_reference,
    fun m g _ => Cert.Kernel11.Gen.frame m g, fun m g _ => Cert.Kernel11Ideal.Gen.frame m g, PreMix.frame_reference,
    fun m g _ => Cert.Kernel12.Gen.frame m g, fun m g _ => Cert.Kernel12Ideal.Gen.frame m g, PreFfn.frame_reference,
    fun m g _ => Cert.Kernel13.Gen.frame m g, fun m g _ => Cert.Kernel13Ideal.Gen.frame m g, Gate.frame_reference,
    fun m g _ => Cert.Kernel14.Gen.frame m g, fun m g _ => Cert.Kernel14Ideal.Gen.frame m g, BranchWeight.frame_reference,
    fun m g _ => Cert.Kernel15.Gen.frame m g, fun m g _ => Cert.Kernel15Ideal.Gen.frame m g, AdamIn.frame_reference,
    fun m g _ => Cert.Kernel16.Gen.frame m g, fun m g _ => Cert.Kernel16Ideal.Gen.frame m g, AdamBranch.frame_reference,
    fun m g _ => Cert.Kernel17.Gen.frame m g, fun m g _ => Cert.Kernel17Ideal.Gen.frame m g, AdamOut.frame_reference,
    fun m g _ => Cert.Kernel18.Gen.frame m g, fun m g _ => Cert.Kernel18Ideal.Gen.frame m g, AdamUp.frame_reference,
    fun m g _ => Cert.Kernel19.Gen.frame m g, fun m g _ => Cert.Kernel19Ideal.Gen.frame m g, AdamDown.frame_reference,
    fun m g _ => Cert.Kernel20.Gen.frame m g, fun m g _ => Cert.Kernel20Ideal.Gen.frame m g, AdamConv.frame_reference,
    Small.frame_kernel, Small.frame_ideal, Small.frame_reference,
    trivial, Fox.value,
    trivial, UpInput.value,
    trivial, UpWeight.value,
    trivial, InInput.value,
    trivial, InWeight.value,
    trivial, DownWeight.value,
    trivial, MixedInput.value,
    trivial, MixedWeight.value,
    trivial, InForward.value,
    trivial, BranchInput.value,
    trivial, PreMix.value,
    trivial, PreFfn.value,
    trivial, Gate.value,
    trivial, BranchWeight.value,
    trivial, AdamIn.value,
    trivial, AdamBranch.value,
    trivial, AdamOut.value,
    trivial, AdamUp.value,
    trivial, AdamDown.value,
    trivial, AdamConv.value,
    trivial, Small.value⟩

end Cert.Proof

end
